-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  IdealRules.named_const.Statement Cert.Kernel2Ideal.κ "log2e" .f32 0x3FB8AA3B#32 (((Real.log 2)⁻¹ : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v30)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v30) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v171) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
-- ==== Pre_finite.lean ====
abbrev S8x4096x1024 : Shape := ⟨3, ![8, 4096, 1024]⟩
abbrev S4x1024 : Shape := ⟨2, ![4, 1024]⟩
abbrev S2x1024x6144 : Shape := ⟨3, ![2, 1024, 6144]⟩
abbrev S2x2048 : Shape := ⟨2, ![2, 2048]⟩
abbrev S2x8x128x128 : Shape := ⟨4, ![2, 8, 128, 128]⟩
abbrev S2x8x128 : Shape := ⟨3, ![2, 8, 128]⟩
abbrev S2x2048x1024 : Shape := ⟨3, ![2, 2048, 1024]⟩
abbrev S1x1024 : Shape := ⟨2, ![1, 1024]⟩
abbrev S1024 : Shape := ⟨1, ![1024]⟩
abbrev S_ : Shape := ⟨0, ![]⟩
abbrev S1x1024x2048 : Shape := ⟨3, ![1, 1024, 2048]⟩
abbrev S1024x2048 : Shape := ⟨2, ![1024, 2048]⟩

class Facts : Prop where
  slices_S4x1024_S1x1024_0_0 : S4x1024.Slices ![0, 0] S1x1024
  shapeCasts_S1x1024_S1024 : S1x1024.ShapeCasts S1024
  bcast_S_S1024 : S_.BroadcastsInDim S1024 (![] : Fin 0 → Fin S1024.rank)
  slices_S2x1024x6144_S1x1024x2048_0_0_0 : S2x1024x6144.Slices ![0, 0, 0] S1x1024x2048
  shapeCasts_S1x1024x2048_S1024x2048 : S1x1024x2048.ShapeCasts S1024x2048
  bcast_S_S1024x2048 : S_.BroadcastsInDim S1024x2048 (![] : Fin 0 → Fin S1024x2048.rank)

variable [Facts]

def fn {F : FTy → Type} [FloatOps F] (main_arg0 : FVec F S8x4096x1024 .f32) (main_arg1 : FVec F S4x1024 .f32) (main_arg2 : FVec F S2x1024x6144 .f32) (main_arg3 : FVec F S2x2048 .f32) (main_arg4 : FVec F S2x2048 .f32) (main_arg5 : FVec F S2x8x128x128 .f32) (main_arg6 : FVec F S2x8x128 .f32) (main_arg7 : FVec F S2x2048x1024 .f32) : IVec S1024 1 × IVec S1024x2048 1 :=
  let main_v0 : FVec F S1x1024 .f32 := (extractStridedSlice S1x1024 ![0, 0] · slices_S4x1024_S1x1024_0_0) main_arg1
  let main_v1 : FVec F S1024 .f32 := shapeCast S1024 main_v0 shapeCasts_S1x1024_S1024
  let main_v2 : FVec F S1024 .f32 := Host.absf main_v1
  let main_cst : FVec F S_ .f32 := constant S_ .f32 0x7F800000#32
  let main_v3 : FVec F S1024 .f32 := broadcastInDim S1024 ![] bcast_S_S1024 main_cst
  let main_v4 : IVec S1024 1 := cmpf .olt main_v2 main_v3
  let main_v5 : FVec F S1x1024x2048 .f32 := (extractStridedSlice S1x1024x2048 ![0, 0, 0] · slices_S2x1024x6144_S1x1024x2048_0_0_0) main_arg2
  let main_v6 : FVec F S1024x2048 .f32 := shapeCast S1024x2048 main_v5 shapeCasts_S1x1024x2048_S1024x2048
  let main_v7 : FVec F S1024x2048 .f32 := Host.absf main_v6
  let main_cst_0 : FVec F S_ .f32 := constant S_ .f32 0x7F800000#32
  let main_v8 : FVec F S1024x2048 .f32 := broadcastInDim S1024x2048 ![] bcast_S_S1024x2048 main_cst_0
  let main_v9 : IVec S1024x2048 1 := cmpf .olt main_v7 main_v8
  (main_v4, main_v9)
-- ==== Pre_finite2.lean ====
abbrev S8x4096x1024 : Shape := ⟨3, ![8, 4096, 1024]⟩
abbrev S4x1024 : Shape := ⟨2, ![4, 1024]⟩
abbrev S1024 : Shape := ⟨1, ![1024]⟩
abbrev S2x1024x6176 : Shape := ⟨3, ![2, 1024, 6176]⟩
abbrev S2x4x4096 : Shape := ⟨3, ![2, 4, 4096]⟩
abbrev S2x4096 : Shape := ⟨2, ![2, 4096]⟩
abbrev S2x32 : Shape := ⟨2, ![2, 32]⟩
abbrev S2x2048 : Shape := ⟨2, ![2, 2048]⟩
abbrev S2x2048x1024 : Shape := ⟨3, ![2, 2048, 1024]⟩
abbrev S1x1024 : Shape := ⟨2, ![1, 1024]⟩
abbrev S_ : Shape := ⟨0, ![]⟩
abbrev S1x1024x6144 : Shape := ⟨3, ![1, 1024, 6144]⟩
abbrev S1024x6144 : Shape := ⟨2, ![1024, 6144]⟩
abbrev S1x4x4096 : Shape := ⟨3, ![1, 4, 4096]⟩
abbrev S4x4096 : Shape := ⟨2, ![4, 4096]⟩
abbrev S1x4096 : Shape := ⟨2, ![1, 4096]⟩
abbrev S4096 : Shape := ⟨1, ![4096]⟩

class Facts : Prop where
  slices_S4x1024_S1x1024_3_0 : S4x1024.Slices ![3, 0] S1x1024
  shapeCasts_S1x1024_S1024 : S1x1024.ShapeCasts S1024
  bcast_S_S1024 : S_.BroadcastsInDim S1024 (![] : Fin 0 → Fin S1024.rank)
  slices_S2x1024x6176_S1x1024x6144_1_0_0 : S2x1024x6176.Slices ![1, 0, 0] S1x1024x6144
  shapeCasts_S1x1024x6144_S1024x6144 : S1x1024x6144.ShapeCasts S1024x6144
  bcast_S_S1024x6144 : S_.BroadcastsInDim S1024x6144 (![] : Fin 0 → Fin S1024x6144.rank)
  slices_S2x4x4096_S1x4x4096_1_0_0 : S2x4x4096.Slices ![1, 0, 0] S1x4x4096
  shapeCasts_S1x4x4096_S4x4096 : S1x4x4096.ShapeCasts S4x4096
  bcast_S_S4x4096 : S_.BroadcastsInDim S4x4096 (![] : Fin 0 → Fin S4x4096.rank)
  slices_S2x4096_S1x4096_1_0 : S2x4096.Slices ![1, 0] S1x4096
  shapeCasts_S1x4096_S4096 : S1x4096.ShapeCasts S4096
  bcast_S_S4096 : S_.BroadcastsInDim S4096 (![] : Fin 0 → Fin S4096.rank)

variable [Facts]

def fn {F : FTy → Type} [FloatOps F] (main_arg0 : FVec F S8x4096x1024 .f32) (main_arg1 : FVec F S4x1024 .f32) (main_arg2 : FVec F S1024 .f32) (main_arg3 : FVec F S2x1024x6176 .f32) (main_arg4 : FVec F S2x4x4096 .f32) (main_arg5 : FVec F S2x4096 .f32) (main_arg6 : FVec F S2x32 .f32) (main_arg7 : FVec F S2x32 .f32) (main_arg8 : FVec F S2x32 .f32) (main_arg9 : FVec F S2x2048 .f32) (main_arg10 : FVec F S2x2048x1024 .f32) : IVec S1024 1 × IVec S1024x6144 1 × IVec S4x4096 1 × IVec S4096 1 :=
  let main_v0 : FVec F S1x1024 .f32 := (extractStridedSlice S1x1024 ![3, 0] · slices_S4x1024_S1x1024_3_0) main_arg1
  let main_v1 : FVec F S1024 .f32 := shapeCast S1024 main_v0 shapeCasts_S1x1024_S1024
  let main_v2 : FVec F S1024 .f32 := Host.absf main_v1
  let main_cst : FVec F S_ .f32 := constant S_ .f32 0x7F800000#32
  let main_v3 : FVec F S1024 .f32 := broadcastInDim S1024 ![] bcast_S_S1024 main_cst
  let main_v4 : IVec S1024 1 := cmpf .olt main_v2 main_v3
  let main_v5 : FVec F S1x1024x6144 .f32 := (extractStridedSlice S1x1024x6144 ![1, 0, 0] · slices_S2x1024x6176_S1x1024x6144_1_0_0) main_arg3
  let main_v6 : FVec F S1024x6144 .f32 := shapeCast S1024x6144 main_v5 shapeCasts_S1x1024x6144_S1024x6144
  let main_v7 : FVec F S1024x6144 .f32 := Host.absf main_v6
  let main_cst_0 : FVec F S_ .f32 := constant S_ .f32 0x7F800000#32
  let main_v8 : FVec F S1024x6144 .f32 := broadcastInDim S1024x6144 ![] bcast_S_S1024x6144 main_cst_0
  let main_v9 : IVec S1024x6144 1 := cmpf .olt main_v7 main_v8
  let main_v10 : FVec F S1x4x4096 .f32 := (extractStridedSlice S1x4x4096 ![1, 0, 0] · slices_S2x4x4096_S1x4x4096_1_0_0) main_arg4
  let main_v11 : FVec F S4x4096 .f32 := shapeCast S4x4096 main_v10 shapeCasts_S1x4x4096_S4x4096
  let main_v12 : FVec F S4x4096 .f32 := Host.absf main_v11
  let main_cst_1 : FVec F S_ .f32 := constant S_ .f32 0x7F800000#32
  let main_v13 : FVec F S4x4096 .f32 := broadcastInDim S4x4096 ![] bcast_S_S4x4096 main_cst_1
  let main_v14 : IVec S4x4096 1 := cmpf .olt main_v12 main_v13
  let main_v15 : FVec F S1x4096 .f32 := (extractStridedSlice S1x4096 ![1, 0] · slices_S2x4096_S1x4096_1_0) main_arg5
  let main_v16 : FVec F S4096 .f32 := shapeCast S4096 main_v15 shapeCasts_S1x4096_S4096
  let main_v17 : FVec F S4096 .f32 := Host.absf main_v16
  let main_cst_2 : FVec F S_ .f32 := constant S_ .f32 0x7F800000#32
  let main_v18 : FVec F S4096 .f32 := broadcastInDim S4096 ![] bcast_S_S4096 main_cst_2
  let main_v19 : IVec S4096 1 := cmpf .olt main_v17 main_v18
  (main_v4, main_v9, main_v14, main_v19)
-- ==== Kernel.lean ====
abbrev S8x4096x1024 : Shape := ⟨3, ![8, 4096, 1024]⟩
abbrev S4x1024 : Shape := ⟨2, ![4, 1024]⟩
abbrev S2x1024x6144 : Shape := ⟨3, ![2, 1024, 6144]⟩
abbrev S2x2048 : Shape := ⟨2, ![2, 2048]⟩
abbrev S2x8x128x128 : Shape := ⟨4, ![2, 8, 128, 128]⟩
abbrev S2x8x128 : Shape := ⟨3, ![2, 8, 128]⟩
abbrev S2x2048x1024 : Shape := ⟨3, ![2, 2048, 1024]⟩
abbrev S1x1024 : Shape := ⟨2, ![1, 1024]⟩
abbrev S1024 : Shape := ⟨1, ![1024]⟩
abbrev S1x2048 : Shape := ⟨2, ![1, 2048]⟩
abbrev S2048 : Shape := ⟨1, ![2048]⟩
abbrev S1x8x128x128 : Shape := ⟨4, ![1, 8, 128, 128]⟩
abbrev S8x128x128 : Shape := ⟨3, ![8, 128, 128]⟩
abbrev S1x8x128 : Shape := ⟨3, ![1, 8, 128]⟩
abbrev S8x128 : Shape := ⟨2, ![8, 128]⟩
abbrev S128x8 : Shape := ⟨2, ![128, 8]⟩
abbrev S1x512x1024 : Shape := ⟨3, ![1, 512, 1024]⟩
abbrev S1x1024x6144 : Shape := ⟨3, ![1, 1024, 6144]⟩
abbrev S1x2048x1024 : Shape := ⟨3, ![1, 2048, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S1x1024x2048 : Shape := ⟨3, ![1, 1024, 2048]⟩
abbrev S1024x2048 : Shape := ⟨2, ![1024, 2048]⟩
abbrev S128x128 : Shape := ⟨2, ![128, 128]⟩
abbrev S1x1024x256 : Shape := ⟨3, ![1, 1024, 256]⟩
abbrev S1024x256 : Shape := ⟨2, ![1024, 256]⟩
abbrev S512x256 : Shape := ⟨2, ![512, 256]⟩
abbrev S1x128x128 : Shape := ⟨3, ![1, 128, 128]⟩
abbrev S128x1 : Shape := ⟨2, ![128, 1]⟩
abbrev S128x256 : Shape := ⟨2, ![128, 256]⟩
abbrev S2048x1024 : Shape := ⟨2, ![2048, 1024]⟩

abbrev nBuf : Space → Nat
  | .hbm => 25
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S4x1024, .f32⟩
  | .hbm, ⟨2, _⟩ => ⟨S2x1024x6144, .f32⟩
  | .hbm, ⟨3, _⟩ => ⟨S2x2048, .f32⟩
  | .hbm, ⟨4, _⟩ => ⟨S2x2048, .f32⟩
  | .hbm, ⟨5, _⟩ => ⟨S2x8x128x128, .f32⟩
  | .hbm, ⟨6, _⟩ => ⟨S2x8x128, .f32⟩
  | .hbm, ⟨7, _⟩ => ⟨S2x2048x1024, .f32⟩
  | .hbm, ⟨8, _⟩ => ⟨S2x1024x6144, .bf16⟩
  | .hbm, ⟨9, _⟩ => ⟨S2x2048x1024, .bf16⟩
  | .hbm, ⟨10, _⟩ => ⟨S1x1024, .f32⟩
  | .hbm, ⟨11, _⟩ => ⟨S1024, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S2048, .f32⟩
  | .hbm, ⟨16, _⟩ => ⟨S1x8x128x128, .f32⟩
  | .hbm, ⟨17, _⟩ => ⟨S8x128x128, .f32⟩
  | .hbm, ⟨18, _⟩ => ⟨S1x8x128, .f32⟩
  | .hbm, ⟨19, _⟩ => ⟨S8x128, .f32⟩
  | .hbm, ⟨20, _⟩ => ⟨S1x1024, .f32⟩
  | .hbm, ⟨21, _⟩ => ⟨S1x2048, .f32⟩
  | .hbm, ⟨22, _⟩ => ⟨S1x2048, .f32⟩
  | .hbm, ⟨23, _⟩ => ⟨S128x8, .f32⟩
  | .hbm, ⟨24, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1024x6144, .bf16⟩
  | .local _ .vmem, ⟨4, _⟩ => ⟨S1x2048, .f32⟩
  | .local _ .vmem, ⟨5, _⟩ => ⟨S1x2048, .f32⟩
  | .local _ .vmem, ⟨6, _⟩ => ⟨S8x128x128, .f32⟩
  | .local _ .vmem, ⟨7, _⟩ => ⟨S128x8, .f32⟩
  | .local _ .vmem, ⟨8, _⟩ => ⟨S1x2048x1024, .bf16⟩
  | .local _ .vmem, ⟨9, _⟩ => ⟨S1x512x1024, .f32⟩
  | .local _ .vmem, ⟨10, _⟩ => ⟨S1x512x1024, .f32⟩
  | .local _ .vmem, ⟨11, _⟩ => ⟨S512x2048, .bf16⟩
  | .local _ .vmem, ⟨12, _⟩ => ⟨S512x2048, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8x4096x1024 : Shape := ⟨3, ![8, 4096, 1024]⟩
abbrev S4x1024 : Shape := ⟨2, ![4, 1024]⟩
abbrev S2x1024x6144 : Shape := ⟨3, ![2, 1024, 6144]⟩
abbrev S2x2048 : Shape := ⟨2, ![2, 2048]⟩
abbrev S2x8x128x128 : Shape := ⟨4, ![2, 8, 128, 128]⟩
abbrev S2x8x128 : Shape := ⟨3, ![2, 8, 128]⟩
abbrev S2x2048x1024 : Shape := ⟨3, ![2, 2048, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x6144 : Shape := ⟨3, ![1, 1024, 6144]⟩
abbrev S1024x6144 : Shape := ⟨2, ![1024, 6144]⟩
abbrev S1x2048 : Shape := ⟨2, ![1, 2048]⟩
abbrev S2048 : Shape := ⟨1, ![2048]⟩
abbrev S1x8x128x128 : Shape := ⟨4, ![1, 8, 128, 128]⟩
abbrev S8x128x128 : Shape := ⟨3, ![8, 128, 128]⟩
abbrev S1x8x128 : Shape := ⟨3, ![1, 8, 128]⟩
abbrev S8x128 : Shape := ⟨2, ![8, 128]⟩
abbrev S1x2048x1024 : Shape := ⟨3, ![1, 2048, 1024]⟩
abbrev S2048x1024 : Shape := ⟨2, ![2048, 1024]⟩
abbrev S8x4096x6144 : Shape := ⟨3, ![8, 4096, 6144]⟩
abbrev S8x4096x2048 : Shape := ⟨3, ![8, 4096, 2048]⟩
abbrev S1x1x2048 : Shape := ⟨3, ![1, 1, 2048]⟩
abbrev S8x32x128x8x256 : Shape := ⟨5, ![8, 32, 128, 8, 256]⟩
abbrev S128x128 : Shape := ⟨2, ![128, 128]⟩
abbrev S1x128x128 : Shape := ⟨3, ![1, 128, 128]⟩
abbrev S8x8x32x256x128 : Shape := ⟨5, ![8, 8, 32, 256, 128]⟩
abbrev S128x8 : Shape := ⟨2, ![128, 8]⟩
abbrev S1x1x128x8x1 : Shape := ⟨5, ![1, 1, 128, 8, 1]⟩

abbrev nBuf : Space → Nat
  | .hbm => 108
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S4x1024, .f32⟩
  | .hbm, ⟨2, _⟩ => ⟨S2x1024x6144, .f32⟩
  | .hbm, ⟨3, _⟩ => ⟨S2x2048, .f32⟩
  | .hbm, ⟨4, _⟩ => ⟨S2x2048, .f32⟩
  | .hbm, ⟨5, _⟩ => ⟨S2x8x128x128, .f32⟩
  | .hbm, ⟨6, _⟩ => ⟨S2x8x128, .f32⟩
  | .hbm, ⟨7, _⟩ => ⟨S2x2048x1024, .f32⟩
  | .hbm, ⟨8, _⟩ => ⟨S1x1024, .f32⟩
  | .hbm, ⟨9, _⟩ => ⟨S1024, .f32⟩
  | .hbm, ⟨10, _⟩ => ⟨S8x4096x1024, .f32⟩
  | .hbm, ⟨11, _⟩ => ⟨S_, .f32⟩
  | .hbm, ⟨12, _⟩ => ⟨S8x4096, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S8x4096x1, .f32⟩
  | .hbm, ⟨21, _⟩ => ⟨S8x4096x1024, .f32⟩
  | .hbm, ⟨22, _⟩ => ⟨S8x4096x1024, .f32⟩
  | .hbm, ⟨23, _⟩ => ⟨S1x1x1024, .f32⟩
  | .hbm, ⟨24, _⟩ => ⟨S8x4096x1024, .f32⟩
  | .hbm, ⟨25, _⟩ => ⟨S8x4096x1024, .f32⟩
  | .hbm, ⟨26, _⟩ => ⟨S1x1024x6144, .f32⟩
  | .hbm, ⟨27, _⟩ => ⟨S1024x6144, .f32⟩
  | .hbm, ⟨28, _⟩ => ⟨S1x2048, .f32⟩
  | .hbm, ⟨29, _⟩ => ⟨S2048, .f32⟩
  | .hbm, ⟨30, _⟩ => ⟨S1x2048, .f32⟩
  | .hbm, ⟨31, _⟩ => ⟨S2048, .f32⟩
  | .hbm, ⟨32, _⟩ => ⟨S1x8x128x128, .f32⟩
  | .hbm, ⟨33, _⟩ => ⟨S8x128x128, .f32⟩
  | .hbm, ⟨34, _⟩ => ⟨S1x8x128, .f32⟩
  | .hbm, ⟨35, _⟩ => ⟨S8x128, .f32⟩
  | .hbm, ⟨36, _⟩ => ⟨S1x2048x1024, .f32⟩
  | .hbm, ⟨37, _⟩ => ⟨S2048x1024, .f32⟩
  | .hbm, ⟨38, _⟩ => ⟨S8x4096x6144, .f32⟩
  | .hbm, ⟨39, _⟩ => ⟨S8x4096x2048, .f32⟩
  | .hbm, ⟨40, _⟩ => ⟨S8x4096x2048, .f32⟩
  | .hbm, ⟨41, _⟩ => ⟨S8x4096x2048, .f32⟩
  | .hbm, ⟨42, _⟩ => ⟨S_, .f32⟩
  | .hbm, ⟨43, _⟩ => ⟨S8x4096, .f32⟩
  | .hbm, ⟨44, _⟩ => ⟨S8x4096x1, .f32⟩
  | .hbm, ⟨45, _⟩ => ⟨S_, .f32⟩
  | .hbm, ⟨46, _⟩ => ⟨S8x4096x1, .f32⟩
  | .hbm, ⟨47, _⟩ => ⟨S8x4096x1, .f32⟩
  | .hbm, ⟨48, _⟩ => ⟨S8x4096x2048, .f32⟩
  | .hbm, ⟨49, _⟩ => ⟨S8x4096x2048, .f32⟩
  | .hbm, ⟨50, _⟩ => ⟨S8x4096x2048, .f32⟩
  | .hbm, ⟨51, _⟩ => ⟨S_, .f32⟩
  | .hbm, ⟨52, _⟩ => ⟨S8x4096, .f32⟩
  | .hbm, ⟨53, _⟩ => ⟨S8x4096x1, .f32⟩
  | .hbm, ⟨54, _⟩ => ⟨S_, .f32⟩
  | .hbm, ⟨55, _⟩ => ⟨S8x4096x1, .f32⟩
  | .hbm, ⟨56, _⟩ => ⟨S8x4096x1, .f32⟩
  | .hbm, ⟨57, _⟩ => ⟨S8x4096x2048, .f32⟩
  | .hbm, ⟨58, _⟩ => ⟨S8x4096x2048, .f32⟩
  | .hbm, ⟨59, _⟩ => ⟨S_, .f32⟩
  | .hbm, ⟨60, _⟩ => ⟨S8x4096x1, .f32⟩
  | .hbm, ⟨61, _⟩ => ⟨S8x4096x1, .f32⟩
  | .hbm, ⟨62, _⟩ => ⟨S8x4096x1, .f32⟩
  | .hbm, ⟨63, _⟩ => ⟨S8x4096x2048, .f32⟩
  | .hbm, ⟨64, _⟩ => ⟨S8x4096x2048, .f32⟩
  | .hbm, ⟨65, _⟩ => ⟨S1x1x2048, .f32⟩
  | .hbm, ⟨66, _⟩ => ⟨S8x4096x2048, .f32⟩
  | .hbm, ⟨67, _⟩ => ⟨S8x4096x2048, .f32⟩
  | .hbm, ⟨68, _⟩ => ⟨S1x1x2048, .f32⟩
  | .hbm, ⟨69, _⟩ => ⟨S8x4096x2048, .f32⟩
  | .hbm, ⟨70, _⟩ => ⟨S8x4096x2048, .f32⟩
  | .hbm, ⟨71, _⟩ => ⟨S8x32x128x8x256, .f32⟩
  | .hbm, ⟨72, _⟩ => ⟨S_, .i1⟩
  | .hbm, ⟨73, _⟩ => ⟨S128x128, .i1⟩
  | .hbm, ⟨74, _⟩ => ⟨S128x128, .i32⟩
  | .hbm, ⟨75, _⟩ => ⟨S_, .i32⟩
  | .hbm, ⟨76, _⟩ => ⟨S128x128, .i32⟩
  | .hbm, ⟨77, _⟩ => ⟨S128x128, .i32⟩
  | .hbm, ⟨78, _⟩ => ⟨S128x128, .i32⟩
  | .hbm, ⟨79, _⟩ => ⟨S128x128, .i1⟩
  | .hbm, ⟨80, _⟩ => ⟨S_, .i1⟩
  | .hbm, ⟨81, _⟩ => ⟨S128x128, .i1⟩
  | .hbm, ⟨82, _⟩ => ⟨S128x128, .i1⟩
  | .hbm, ⟨83, _⟩ => ⟨S1x128x128, .i1⟩
  | .hbm, ⟨84, _⟩ => ⟨S_, .f32⟩
  | .hbm, ⟨85, _⟩ => ⟨S8x128x128, .i1⟩
  | .hbm, ⟨86, _⟩ => ⟨S8x128x128, .f32⟩
  | .hbm, ⟨87, _⟩ => ⟨S8x128x128, .f32⟩
  | .hbm, ⟨88, _⟩ => ⟨S8x8x32x256x128, .f32⟩
  | .hbm, ⟨89, _⟩ => ⟨S8x32x128x8x256, .f32⟩
  | .hbm, ⟨90, _⟩ => ⟨S128x8, .f32⟩
  | .hbm, ⟨91, _⟩ => ⟨S1x1x128x8x1, .f32⟩
  | .hbm, ⟨92, _⟩ => ⟨S8x32x128x8x256, .f32⟩
  | .hbm, ⟨93, _⟩ => ⟨S8x32x128x8x256, .f32⟩
  | .hbm, ⟨94, _⟩ => ⟨S8x4096x2048, .f32⟩
  | .hbm, ⟨95, _⟩ => ⟨S8x4096x2048, .f32⟩
  | .hbm, ⟨96, _⟩ => ⟨S8x4096x2048, .f32⟩
  | .hbm, ⟨97, _⟩ => ⟨S8x4096x2048, .f32⟩
  | .hbm, ⟨98, _⟩ => ⟨S_, .f32⟩
  | .hbm, ⟨99, _⟩ => ⟨S8x4096x2048, .f32⟩
  | .hbm, ⟨100, _⟩ => ⟨S8x4096x2048, .f32⟩
  | .hbm, ⟨101, _⟩ => ⟨S_, .f32⟩
  | .hbm, ⟨102, _⟩ => ⟨S8x4096x2048, .f32⟩
  | .hbm, ⟨103, _⟩ => ⟨S8x4096x2048, .f32⟩
  | .hbm, ⟨104, _⟩ => ⟨S8x4096x2048, .f32⟩
  | .hbm, ⟨105, _⟩ => ⟨S8x4096x2048, .f32⟩
  | .hbm, ⟨106, _⟩ => ⟨S8x4096x1024, .f32⟩
  | .hbm, ⟨107, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_c : Ref sig .tc := ⟨.hbm, 72, rfl⟩
abbrev main_v56 : Ref sig .tc := ⟨.hbm, 73, rfl⟩
abbrev main_call0_v0 : Ref sig .tc := ⟨.hbm, 74, rfl⟩
abbrev main_call0_c : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_c_0 : Ref sig .tc := ⟨.hbm, 80, rfl⟩
abbrev main_call0_v5 : Ref sig .tc := ⟨.hbm, 81, rfl⟩
abbrev main_v57 : Ref sig .tc := ⟨.hbm, 82, rfl⟩
abbrev main_v58 : Ref sig .tc := ⟨.hbm, 83, rfl⟩
abbrev main_cst_7 : Ref sig .tc := ⟨.hbm, 84, rfl⟩
abbrev main_call1_v0 : Ref sig .tc := ⟨.hbm, 85, rfl⟩
abbrev main_call1_v1 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_call2_v0 : Ref sig .tc := ⟨.hbm, 96, rfl⟩
abbrev main_call2_v1 : Ref sig .tc := ⟨.hbm, 97, rfl⟩
abbrev main_call2_cst : Ref sig .tc := ⟨.hbm, 98, rfl⟩
abbrev main_call2_v2 : Ref sig .tc := ⟨.hbm, 99, rfl⟩
abbrev main_call2_v3 : Ref sig .tc := ⟨.hbm, 100, rfl⟩
abbrev main_call2_cst_0 : Ref sig .tc := ⟨.hbm, 101, rfl⟩
abbrev main_call2_v4 : Ref sig .tc := ⟨.hbm, 102, rfl⟩
abbrev main_call2_v5 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩

abbrev nD : Nat := 1
abbrev τ : Topo := Topo.v7x

variable {F : FTy → Type} [FloatOps F]
-- ==== Kernel2.lean ====
abbrev S8x4096x1024 : Shape := ⟨3, ![8, 4096, 1024]⟩
abbrev S4x1024 : Shape := ⟨2, ![4, 1024]⟩
abbrev S1024 : Shape := ⟨1, ![1024]⟩
abbrev S2x1024x6176 : Shape := ⟨3, ![2, 1024, 6176]⟩
abbrev S2x4x4096 : Shape := ⟨3, ![2, 4, 4096]⟩
abbrev S2x4096 : Shape := ⟨2, ![2, 4096]⟩
abbrev S2x32 : Shape := ⟨2, ![2, 32]⟩
abbrev S2x2048 : Shape := ⟨2, ![2, 2048]⟩
abbrev S2x2048x1024 : Shape := ⟨3, ![2, 2048, 1024]⟩
abbrev S1x1024 : Shape := ⟨2, ![1, 1024]⟩
abbrev S1x4x4096 : Shape := ⟨3, ![1, 4, 4096]⟩
abbrev S4x4096 : Shape := ⟨2, ![4, 4096]⟩
abbrev S1x4096 : Shape := ⟨2, ![1, 4096]⟩
abbrev S4096 : Shape := ⟨1, ![4096]⟩
abbrev S1x32 : Shape := ⟨2, ![1, 32]⟩
abbrev S32 : Shape := ⟨1, ![32]⟩
abbrev S1x2048 : Shape := ⟨2, ![1, 2048]⟩
abbrev S2048 : Shape := ⟨1, ![2048]⟩
abbrev S1x1024x32 : Shape := ⟨3, ![1, 1024, 32]⟩
abbrev S1024x32 : Shape := ⟨2, ![1024, 32]⟩
abbrev S32x1024 : Shape := ⟨2, ![32, 1024]⟩
abbrev S32x1 : Shape := ⟨2, ![32, 1]⟩
abbrev S32x64 : Shape := ⟨2, ![32, 64]⟩
abbrev S1x256x1024 : Shape := ⟨3, ![1, 256, 1024]⟩
abbrev S1x1024x6144 : Shape := ⟨3, ![1, 1024, 6144]⟩
abbrev S1x2048x1024 : Shape := ⟨3, ![1, 2048, 1024]⟩
abbrev S32x264x128 : Shape := ⟨3, ![32, 264, 128]⟩
abbrev S32x8x128 : Shape := ⟨3, ![32, 8, 128]⟩
abbrev S256x1024 : Shape := ⟨2, ![256, 1024]⟩
abbrev S256x32 : Shape := ⟨2, ![256, 32]⟩
abbrev S32x256 : Shape := ⟨2, ![32, 256]⟩
abbrev S8x128x256 : Shape := ⟨3, ![8, 128, 256]⟩
abbrev S256x2048 : Shape := ⟨2, ![256, 2048]⟩
abbrev S256 : Shape := ⟨1, ![256]⟩
abbrev S256x1 : Shape := ⟨2, ![256, 1]⟩
abbrev S1x1024x4096 : Shape := ⟨3, ![1, 1024, 4096]⟩
abbrev S1024x4096 : Shape := ⟨2, ![1024, 4096]⟩
abbrev S256x4096 : Shape := ⟨2, ![256, 4096]⟩
abbrev S256x128 : Shape := ⟨2, ![256, 128]⟩
abbrev S1x256x128 : Shape := ⟨3, ![1, 256, 128]⟩
abbrev S2048x1024 : Shape := ⟨2, ![2048, 1024]⟩
abbrev S128x128 : Shape := ⟨2, ![128, 128]⟩
abbrev S128x32 : Shape := ⟨2, ![128, 32]⟩
abbrev S32x128 : Shape := ⟨2, ![32, 128]⟩
abbrev S1x128 : Shape := ⟨2, ![1, 128]⟩
abbrev S256x256 : Shape := ⟨2, ![256, 256]⟩
abbrev S1x1024x256 : Shape := ⟨3, ![1, 1024, 256]⟩
abbrev S1024x256 : Shape := ⟨2, ![1024, 256]⟩
abbrev S128x256 : Shape := ⟨2, ![128, 256]⟩
abbrev S128x1 : Shape := ⟨2, ![128, 1]⟩
abbrev S128x64 : Shape := ⟨2, ![128, 64]⟩
abbrev S1x256 : Shape := ⟨2, ![1, 256]⟩
abbrev S1x128x256 : Shape := ⟨3, ![1, 128, 256]⟩
abbrev S128 : Shape := ⟨1, ![128]⟩

abbrev nBuf : Space → Nat
  | .hbm => 42
  | .vmem => 29
  | .smem => 0
  | _ => 0

abbrev bufTy : (tb : Table) → Fin (tcTables nBuf tb) → BufTy
  | .hbm, ⟨0, _⟩ => ⟨S8x4096x1024, .f32⟩
  | .hbm, ⟨1, _⟩ => ⟨S4x1024, .f32⟩
  | .hbm, ⟨2, _⟩ => ⟨S1024, .f32⟩
  | .hbm, ⟨3, _⟩ => ⟨S2x1024x6176, .f32⟩
  | .hbm, ⟨4, _⟩ => ⟨S2x4x4096, .f32⟩
  | .hbm, ⟨5, _⟩ => ⟨S2x4096, .f32⟩
  | .hbm, ⟨6, _⟩ => ⟨S2x32, .f32⟩
  | .hbm, ⟨7, _⟩ => ⟨S2x32, .f32⟩
  | .hbm, ⟨8, _⟩ => ⟨S2x32, .f32⟩
  | .hbm, ⟨9, _⟩ => ⟨S2x2048, .f32⟩
  | .hbm, ⟨10, _⟩ => ⟨S2x2048x1024, .f32⟩
  | .hbm, ⟨11, _⟩ => ⟨S2x1024x6176, .bf16⟩
  | .hbm, ⟨12, _⟩ => ⟨S2x2048x1024, .bf16⟩
  | .hbm, ⟨13, _⟩ => ⟨S1x1024, .f32⟩
  | .hbm, ⟨14, _⟩ => ⟨S1024, .f32⟩
  | .hbm, ⟨15, _⟩ => ⟨S1x4x4096, .f32⟩
  | .hbm, ⟨16, _⟩ => ⟨S4x4096, .f32⟩
  | .hbm, ⟨17, _⟩ => ⟨S1x4096, .f32⟩
  | .hbm, ⟨18, _⟩ => ⟨S4096, .f32⟩
  | .hbm, ⟨19, _⟩ => ⟨S1x32, .f32⟩
  | .hbm, ⟨20, _⟩ => ⟨S32, .f32⟩
  | .hbm, ⟨21, _⟩ => ⟨S1x32, .f32⟩
  | .hbm, ⟨22, _⟩ => ⟨S32, .f32⟩
  | .hbm, ⟨23, _⟩ => ⟨S1x32, .f32⟩
  | .hbm, ⟨24, _⟩ => ⟨S32, .f32⟩
  | .hbm, ⟨25, _⟩ => ⟨S1x2048, .f32⟩
  | .hbm, ⟨26, _⟩ => ⟨S2048, .f32⟩
  | .hbm, ⟨27, _⟩ => ⟨S1x1024x32, .bf16⟩
  | .hbm, ⟨28, _⟩ => ⟨S1024x32, .bf16⟩
  | .hbm, ⟨29, _⟩ => ⟨S1x1024, .f32⟩
  | .hbm, ⟨30, _⟩ => ⟨S32x1024, .bf16⟩
  | .hbm, ⟨31, _⟩ => ⟨S1x4096, .f32⟩
  | .hbm, ⟨32, _⟩ => ⟨S1x32, .f32⟩
  | .hbm, ⟨33, _⟩ => ⟨S32x1, .f32⟩
  | .hbm, ⟨34, _⟩ => ⟨S1x32, .f32⟩
  | .hbm, ⟨35, _⟩ => ⟨S32x1, .f32⟩
  | .hbm, ⟨36, _⟩ => ⟨S32x64, .f32⟩
  | .hbm, ⟨37, _⟩ => ⟨S2048, .f32⟩
  | .hbm, ⟨38, _⟩ => ⟨S1x2048, .f32⟩
  | .hbm, ⟨39, _⟩ => ⟨S1x2048, .f32⟩
  | .hbm, ⟨40, _⟩ => ⟨S1x1024, .f32⟩
  | .hbm, ⟨41, _⟩ => ⟨S8x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1024, .f32⟩
  | .local _ .vmem, ⟨5, _⟩ => ⟨S1x1024x6144, .bf16⟩
  | .local _ .vmem, ⟨6, _⟩ => ⟨S1024x32, .bf16⟩
  | .local _ .vmem, ⟨7, _⟩ => ⟨S32x1024, .bf16⟩
  | .local _ .vmem, ⟨8, _⟩ => ⟨S4x4096, .f32⟩
  | .local _ .vmem, ⟨9, _⟩ => ⟨S1x4096, .f32⟩
  | .local _ .vmem, ⟨10, _⟩ => ⟨S1x32, .f32⟩
  | .local _ .vmem, ⟨11, _⟩ => ⟨S32x1, .f32⟩
  | .local _ .vmem, ⟨12, _⟩ => ⟨S1x32, .f32⟩
  | .local _ .vmem, ⟨13, _⟩ => ⟨S32x1, .f32⟩
  | .local _ .vmem, ⟨14, _⟩ => ⟨S1x2048, .f32⟩
  | .local _ .vmem, ⟨15, _⟩ => ⟨S1x2048, .f32⟩
  | .local _ .vmem, ⟨16, _⟩ => ⟨S1x2048x1024, .bf16⟩
  | .local _ .vmem, ⟨17, _⟩ => ⟨S1x1024, .f32⟩
  | .local _ .vmem, ⟨18, _⟩ => ⟨S1x256x1024, .f32⟩
  | .local _ .vmem, ⟨19, _⟩ => ⟨S1x256x1024, .f32⟩
  | .local _ .vmem, ⟨20, _⟩ => ⟨S32x264x128, .f32⟩
  | .local _ .vmem, ⟨21, _⟩ => ⟨S32x8x128, .f32⟩
  | .local _ .vmem, ⟨22, _⟩ => ⟨S256x1024, .bf16⟩
  | .local _ .vmem, ⟨23, _⟩ => ⟨S256x32, .f32⟩
  | .local _ .vmem, ⟨24, _⟩ => ⟨S32x256, .f32⟩
  | .local _ .vmem, ⟨25, _⟩ => ⟨S8x128x256, .f32⟩
  | .local _ .vmem, ⟨26, _⟩ => ⟨S256x2048, .bf16⟩
  | .local _ .vmem, ⟨27, _⟩ => ⟨S256x2048, .bf16⟩
  | .local _ .vmem, ⟨28, _⟩ => ⟨S256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨1, ![129], ![false]⟩

def cc0_transform_0 (i : grid0.Coords) : Fin 3 → Nat :=
  let arg0 : BitVec 32 := BitVec.ofNat 32 (i 0).val
  let c127_i32 : BitVec 32 := 127#32
  let v0 : BitVec 32 := Scalar.minsi arg0 c127_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c127_i32 : BitVec 32 := 127#32
  let v1 : BitVec 32 := Scalar.minsi v0 c127_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v18.toNat, v28.toNat, c0_i32_11.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32_6 : BitVec 32 := 16#32
  let c0_i32_7 : BitVec 32 := 0#32
  let v19 : BitVec 1 := Scalar.cmpi .eq c16_i32_6 c0_i32_7
  let c1_i32_8 : BitVec 32 := 1#32
  let v20 : BitVec 32 := Scalar.select v19 c1_i32_8 c16_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x32 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1x256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Kernel2Ideal.lean ====
variable {F : FTy → Type} [FloatOps F] [Named F]
def κ : String → Option EReal := fun
  | "log2e" => some (((Real.log 2)⁻¹ : ℝ) : EReal)
  | _ => none
-- ==== Reference2Ideal.lean ====
abbrev S8x4096x1024 : Shape := ⟨3, ![8, 4096, 1024]⟩
abbrev S4x1024 : Shape := ⟨2, ![4, 1024]⟩
abbrev S1024 : Shape := ⟨1, ![1024]⟩
abbrev S2x1024x6176 : Shape := ⟨3, ![2, 1024, 6176]⟩
abbrev S2x4x4096 : Shape := ⟨3, ![2, 4, 4096]⟩
abbrev S2x4096 : Shape := ⟨2, ![2, 4096]⟩
abbrev S2x32 : Shape := ⟨2, ![2, 32]⟩
abbrev S2x2048 : Shape := ⟨2, ![2, 2048]⟩
abbrev S2x2048x1024 : Shape := ⟨3, ![2, 2048, 1024]⟩
abbrev S1x1024 : Shape := ⟨2, ![1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x6176 : Shape := ⟨3, ![1, 1024, 6176]⟩
abbrev S1024x6176 : Shape := ⟨2, ![1024, 6176]⟩
abbrev S1x4x4096 : Shape := ⟨3, ![1, 4, 4096]⟩
abbrev S4x4096 : Shape := ⟨2, ![4, 4096]⟩
abbrev S1x4096 : Shape := ⟨2, ![1, 4096]⟩
abbrev S4096 : Shape := ⟨1, ![4096]⟩
abbrev S1x32 : Shape := ⟨2, ![1, 32]⟩
abbrev S32 : Shape := ⟨1, ![32]⟩
abbrev S1x2048 : Shape := ⟨2, ![1, 2048]⟩
abbrev S2048 : Shape := ⟨1, ![2048]⟩
abbrev S1x2048x1024 : Shape := ⟨3, ![1, 2048, 1024]⟩
abbrev S2048x1024 : Shape := ⟨2, ![2048, 1024]⟩
abbrev S8x4096x6176 : Shape := ⟨3, ![8, 4096, 6176]⟩
abbrev S8x4096x2048 : Shape := ⟨3, ![8, 4096, 2048]⟩
abbrev S8x4096x4096 : Shape := ⟨3, ![8, 4096, 4096]⟩
abbrev S8x4096x32 : Shape := ⟨3, ![8, 4096, 32]⟩
abbrev S8x4099x4096 : Shape := ⟨3, ![8, 4099, 4096]⟩
abbrev S1x1x4096 : Shape := ⟨3, ![1, 1, 4096]⟩
abbrev S8x32x128x8x4x64 : Shape := ⟨6, ![8, 32, 128, 8, 4, 64]⟩
abbrev S8x32x128x8x128 : Shape := ⟨5, ![8, 32, 128, 8, 128]⟩
abbrev S1x1x32 : Shape := ⟨3, ![1, 1, 32]⟩
abbrev S8x32x128x8x4 : Shape := ⟨5, ![8, 32, 128, 8, 4]⟩
abbrev S8x4 : Shape := ⟨2, ![8, 4]⟩
abbrev S1x1x1x8x4 : Shape := ⟨5, ![1, 1, 1, 8, 4]⟩
abbrev S8x32x128x1x8x4 : Shape := ⟨6, ![8, 32, 128, 1, 8, 4]⟩
abbrev S8x32x1x128x8x4 : Shape := ⟨6, ![8, 32, 1, 128, 8, 4]⟩
abbrev S8x32x128x128x8x4 : Shape := ⟨6, ![8, 32, 128, 128, 8, 4]⟩
abbrev S128x128 : Shape := ⟨2, ![128, 128]⟩
abbrev S128x128x1x1 : Shape := ⟨4, ![128, 128, 1, 1]⟩
abbrev S8x32x8x128x128 : Shape := ⟨5, ![8, 32, 8, 128, 128]⟩
abbrev S8x32x128x128x8 : Shape := ⟨5, ![8, 32, 128, 128, 8]⟩
abbrev S8x32x128x128x8x1 : Shape := ⟨6, ![8, 32, 128, 128, 8, 1]⟩
abbrev S8x32x8x4x64x128 : Shape := ⟨6, ![8, 32, 8, 4, 64, 128]⟩
abbrev S8x32x1x8x4 : Shape := ⟨5, ![8, 32, 1, 8, 4]⟩
abbrev S8x32x128x8x4x1 : Shape := ⟨6, ![8, 32, 128, 8, 4, 1]⟩
abbrev S8x32x8x4 : Shape := ⟨4, ![8, 32, 8, 4]⟩
abbrev S8x8x4x64x128 : Shape := ⟨5, ![8, 8, 4, 64, 128]⟩
abbrev S32x8x8x4x64x128 : Shape := ⟨6, ![32, 8, 8, 4, 64, 128]⟩
abbrev S32x8x8x4 : Shape := ⟨4, ![32, 8, 8, 4]⟩
abbrev S1x8x8x4x64x128 : Shape := ⟨6, ![1, 8, 8, 4, 64, 128]⟩
abbrev S1x8x8x4 : Shape := ⟨4, ![1, 8, 8, 4]⟩
abbrev S8x8x4 : Shape := ⟨3, ![8, 8, 4]⟩
abbrev S8x8x4x1x1 : Shape := ⟨5, ![8, 8, 4, 1, 1]⟩
abbrev S8x4x1 : Shape := ⟨3, ![8, 4, 1]⟩
abbrev S1x1x1x8x4x1 : Shape := ⟨6, ![1, 1, 1, 8, 4, 1]⟩
abbrev S8x4096x8x256 : Shape := ⟨4, ![8, 4096, 8, 256]⟩
abbrev S8x256 : Shape := ⟨2, ![8, 256]⟩
abbrev S8x4096x8 : Shape := ⟨3, ![8, 4096, 8]⟩
abbrev S8x4096x8x1 : Shape := ⟨4, ![8, 4096, 8, 1]⟩
abbrev S1x1x8x256 : Shape := ⟨4, ![1, 1, 8, 256]⟩

abbrev nBuf : Space → Nat
  | .hbm => 273
  | .vmem => 0
  | .smem => 0
  | _ => 0

abbrev hbmTy0_0 (i : Nat) : BufTy := match i % 128 with
  | 0 => ⟨S8x4096x1024, .f32⟩
  | 1 => ⟨S4x1024, .f32⟩
  | 2 => ⟨S1024, .f32⟩
  | 3 => ⟨S2x1024x6176, .f32⟩
  | 4 => ⟨S2x4x4096, .f32⟩
  | 5 => ⟨S2x4096, .f32⟩
  | 6 => ⟨S2x32, .f32⟩
  | 7 => ⟨S2x32, .f32⟩
  | 8 => ⟨S2x32, .f32⟩
  | 9 => ⟨S2x2048, .f32⟩
  | 10 => ⟨S2x2048x1024, .f32⟩
  | 11 => ⟨S1x1024, .f32⟩
  | 12 => ⟨S1024, .f32⟩
  | 13 => ⟨S8x4096x1024, .f32⟩
  | 14 => ⟨S_, .f32⟩
  | 15 => ⟨S8x4096, .f32⟩
  | 16 => ⟨S8x4096x1, .f32⟩
  | 17 => ⟨S_, .f32⟩
  | 18 => ⟨S8x4096x1, .f32⟩
  | 19 => ⟨S8x4096x1, .f32⟩
  | 20 => ⟨S_, .f32⟩
  | 21 => ⟨S8x4096x1, .f32⟩
  | 22 => ⟨S8x4096x1, .f32⟩
  | 23 => ⟨S8x4096x1, .f32⟩
  | 24 => ⟨S8x4096x1024, .f32⟩
  | 25 => ⟨S8x4096x1024, .f32⟩
  | 26 => ⟨S1x1x1024, .f32⟩
  | 27 => ⟨S8x4096x1024, .f32⟩
  | 28 => ⟨S8x4096x1024, .f32⟩
  | 29 => ⟨S1x1024x6176, .f32⟩
  | 30 => ⟨S1024x6176, .f32⟩
  | 31 => ⟨S1x4x4096, .f32⟩
  | 32 => ⟨S4x4096, .f32⟩
  | 33 => ⟨S1x4096, .f32⟩
  | 34 => ⟨S4096, .f32⟩
  | 35 => ⟨S1x32, .f32⟩
  | 36 => ⟨S32, .f32⟩
  | 37 => ⟨S1x32, .f32⟩
  | 38 => ⟨S32, .f32⟩
  | 39 => ⟨S1x32, .f32⟩
  | 40 => ⟨S32, .f32⟩
  | 41 => ⟨S1x2048, .f32⟩
  | 42 => ⟨S2048, .f32⟩
  | 43 => ⟨S1x2048x1024, .f32⟩
  | 44 => ⟨S2048x1024, .f32⟩
  | 45 => ⟨S8x4096x6176, .f32⟩
  | 46 => ⟨S8x4096x2048, .f32⟩
  | 47 => ⟨S8x4096x4096, .f32⟩
  | 48 => ⟨S8x4096x32, .f32⟩
  | 49 => ⟨S_, .i32⟩
  | 50 => ⟨S_, .f32⟩
  | 51 => ⟨S8x4099x4096, .f32⟩
  | 52 => ⟨S8x4096x4096, .f32⟩
  | 53 => ⟨S1x4096, .f32⟩
  | 54 => ⟨S4096, .f32⟩
  | 55 => ⟨S1x1x4096, .f32⟩
  | 56 => ⟨S8x4096x4096, .f32⟩
  | 57 => ⟨S8x4096x4096, .f32⟩
  | 58 => ⟨S_, .f32⟩
  | 59 => ⟨S8x4096x4096, .f32⟩
  | 60 => ⟨S8x4096x4096, .f32⟩
  | 61 => ⟨S8x4096x4096, .f32⟩
  | 62 => ⟨S1x4096, .f32⟩
  | 63 => ⟨S4096, .f32⟩
  | 64 => ⟨S1x1x4096, .f32⟩
  | 65 => ⟨S8x4096x4096, .f32⟩
  | 66 => ⟨S8x4096x4096, .f32⟩
  | 67 => ⟨S8x4096x4096, .f32⟩
  | 68 => ⟨S8x4096x4096, .f32⟩
  | 69 => ⟨S1x4096, .f32⟩
  | 70 => ⟨S4096, .f32⟩
  | 71 => ⟨S1x1x4096, .f32⟩
  | 72 => ⟨S8x4096x4096, .f32⟩
  | 73 => ⟨S8x4096x4096, .f32⟩
  | 74 => ⟨S8x4096x4096, .f32⟩
  | 75 => ⟨S8x4096x4096, .f32⟩
  | 76 => ⟨S1x4096, .f32⟩
  | 77 => ⟨S4096, .f32⟩
  | 78 => ⟨S1x1x4096, .f32⟩
  | 79 => ⟨S8x4096x4096, .f32⟩
  | 80 => ⟨S8x4096x4096, .f32⟩
  | 81 => ⟨S8x4096x4096, .f32⟩
  | 82 => ⟨S1x1x4096, .f32⟩
  | 83 => ⟨S8x4096x4096, .f32⟩
  | 84 => ⟨S8x4096x4096, .f32⟩
  | 85 => ⟨S8x4096x4096, .f32⟩
  | 86 => ⟨S8x4096x4096, .f32⟩
  | 87 => ⟨S_, .f32⟩
  | 88 => ⟨S8x4096x4096, .f32⟩
  | 89 => ⟨S8x4096x4096, .f32⟩
  | 90 => ⟨S_, .f32⟩
  | 91 => ⟨S8x4096x4096, .f32⟩
  | 92 => ⟨S8x4096x4096, .f32⟩
  | 93 => ⟨S8x4096x4096, .f32⟩
  | 94 => ⟨S8x4096x2048, .f32⟩
  | 95 => ⟨S8x32x128x8x4x64, .f32⟩
  | 96 => ⟨S8x4096x1024, .f32⟩
  | 97 => ⟨S8x32x128x8x128, .f32⟩
  | 98 => ⟨S8x4096x1024, .f32⟩
  | 99 => ⟨S8x32x128x8x128, .f32⟩
  | 100 => ⟨S1x1x32, .f32⟩
  | 101 => ⟨S8x4096x32, .f32⟩
  | 102 => ⟨S8x4096x32, .f32⟩
  | 103 => ⟨S_, .f32⟩
  | 104 => ⟨S8x4096x32, .f32⟩
  | 105 => ⟨S8x4096x32, .f32⟩
  | 106 => ⟨S8x4096x32, .f32⟩
  | 107 => ⟨S8x4096x32, .f32⟩
  | 108 => ⟨S8x4096x32, .i1⟩
  | 109 => ⟨S8x4096x32, .f32⟩
  | 110 => ⟨S8x4096x32, .f32⟩
  | 111 => ⟨S8x4096x32, .f32⟩
  | 112 => ⟨S8x4096x32, .f32⟩
  | 113 => ⟨S8x4096x32, .f32⟩
  | 114 => ⟨S8x4096x32, .f32⟩
  | 115 => ⟨S8x4096x32, .f32⟩
  | 116 => ⟨S8x4096x32, .f32⟩
  | 117 => ⟨S8x32x128x8x4, .f32⟩
  | 118 => ⟨S32, .f32⟩
  | 119 => ⟨S8x4, .f32⟩
  | 120 => ⟨S8x4, .f32⟩
  | 121 => ⟨S1x1x1x8x4, .f32⟩
  | 122 => ⟨S8x32x128x8x4, .f32⟩
  | 123 => ⟨S8x32x128x8x4, .f32⟩
  | 124 => ⟨S_, .f32⟩
  | 125 => ⟨S_, .f32⟩
  | 126 => ⟨S8x32x128x8x4, .f32⟩
  | 127 => ⟨S8x32x128x1x8x4, .f32⟩
  | _ => ⟨S8x4096x1024, .f32⟩

abbrev hbmTy0_1 (i : Nat) : BufTy := match i % 128 with
  | 0 => ⟨S8x32x1x128x8x4, .f32⟩
  | 1 => ⟨S8x32x128x128x8x4, .f32⟩
  | 2 => ⟨S8x32x128x128x8x4, .f32⟩
  | 3 => ⟨S8x32x128x128x8x4, .f32⟩
  | 4 => ⟨S_, .i1⟩
  | 5 => ⟨S128x128, .i1⟩
  | 6 => ⟨S128x128, .i32⟩
  | 7 => ⟨S_, .i32⟩
  | 8 => ⟨S128x128, .i32⟩
  | 9 => ⟨S128x128, .i32⟩
  | 10 => ⟨S128x128, .i32⟩
  | 11 => ⟨S128x128, .i1⟩
  | 12 => ⟨S_, .i1⟩
  | 13 => ⟨S128x128, .i1⟩
  | 14 => ⟨S128x128, .i1⟩
  | 15 => ⟨S128x128x1x1, .i1⟩
  | 16 => ⟨S_, .f32⟩
  | 17 => ⟨S_, .f32⟩
  | 18 => ⟨S8x32x128x128x8x4, .i1⟩
  | 19 => ⟨S8x32x128x128x8x4, .f32⟩
  | 20 => ⟨S8x32x128x128x8x4, .f32⟩
  | 21 => ⟨S8x32x128x128x8x4, .f32⟩
  | 22 => ⟨S8x32x8x128x128, .f32⟩
  | 23 => ⟨S8x32x128x128x8, .f32⟩
  | 24 => ⟨S8x32x128x128x8x1, .f32⟩
  | 25 => ⟨S8x32x128x128x8x4, .f32⟩
  | 26 => ⟨S8x32x128x128x8x4, .f32⟩
  | 27 => ⟨S8x32x1x128x8x4, .f32⟩
  | 28 => ⟨S8x32x128x128x8x4, .f32⟩
  | 29 => ⟨S8x32x128x128x8x4, .f32⟩
  | 30 => ⟨S8x32x8x4x64x128, .f32⟩
  | 31 => ⟨S8x32x128x8x4x64, .f32⟩
  | 32 => ⟨S8x32x1x8x4, .f32⟩
  | 33 => ⟨S8x32x128x8x4, .f32⟩
  | 34 => ⟨S8x32x128x8x4, .f32⟩
  | 35 => ⟨S8x32x128x8x4, .f32⟩
  | 36 => ⟨S8x32x128x8x4, .f32⟩
  | 37 => ⟨S8x32x128x8x4x1, .f32⟩
  | 38 => ⟨S8x32x128x8x4x64, .f32⟩
  | 39 => ⟨S8x32x128x8x4x64, .f32⟩
  | 40 => ⟨S8x32x8x4x64x128, .f32⟩
  | 41 => ⟨S8x32x1x8x4, .f32⟩
  | 42 => ⟨S8x32x8x4, .f32⟩
  | 43 => ⟨S8x32x8x4, .f32⟩
  | 44 => ⟨S_, .f32⟩
  | 45 => ⟨S8x8x4x64x128, .f32⟩
  | 46 => ⟨S32x8x8x4x64x128, .f32⟩
  | 47 => ⟨S32x8x8x4, .f32⟩
  | 48 => ⟨S_, .f32⟩
  | 49 => ⟨S32x8x8x4x64x128, .f32⟩
  | 50 => ⟨S_, .i32⟩
  | 51 => ⟨S32x8x8x4x64x128, .f32⟩
  | 52 => ⟨S32x8x8x4, .f32⟩
  | 53 => ⟨S_, .i32⟩
  | 54 => ⟨S8x8x4x64x128, .f32⟩
  | 55 => ⟨S32x8x8x4x64x128, .f32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S_, .i32⟩
  | 63 => ⟨S1x8x8x4x64x128, .f32⟩
  | 64 => ⟨S8x8x4x64x128, .f32⟩
  | 65 => ⟨S_, .i32⟩
  | 66 => ⟨S_, .i32⟩
  | 67 => ⟨S_, .i32⟩
  | 68 => ⟨S1x8x8x4, .f32⟩
  | 69 => ⟨S8x8x4, .f32⟩
  | 70 => ⟨S8x8x4x1x1, .f32⟩
  | 71 => ⟨S8x8x4x64x128, .f32⟩
  | 72 => ⟨S8x8x4x64x128, .f32⟩
  | 73 => ⟨S8x8x4x64x128, .f32⟩
  | 74 => ⟨S1x8x8x4x64x128, .f32⟩
  | 75 => ⟨S_, .i32⟩
  | 76 => ⟨S_, .i32⟩
  | 77 => ⟨S_, .i32⟩
  | 78 => ⟨S_, .i32⟩
  | 79 => ⟨S_, .i32⟩
  | 80 => ⟨S32x8x8x4x64x128, .f32⟩
  | 81 => ⟨S_, .i32⟩
  | 82 => ⟨S_, .i32⟩
  | 83 => ⟨S8x32x8x4x64x128, .f32⟩
  | 84 => ⟨S8x32x8x4x64x128, .f32⟩
  | 85 => ⟨S8x32x128x8x4x64, .f32⟩
  | 86 => ⟨S8x32x128x8x4, .f32⟩
  | 87 => ⟨S8x32x128x8x4x1, .f32⟩
  | 88 => ⟨S8x32x128x8x4x64, .f32⟩
  | 89 => ⟨S8x32x128x8x4x64, .f32⟩
  | 90 => ⟨S8x32x128x8x4x64, .f32⟩
  | 91 => ⟨S8x4, .f32⟩
  | 92 => ⟨S8x4x1, .f32⟩
  | 93 => ⟨S1x1x1x8x4x1, .f32⟩
  | 94 => ⟨S8x32x128x8x4x64, .f32⟩
  | 95 => ⟨S8x32x128x8x4x64, .f32⟩
  | 96 => ⟨S8x32x128x8x4x64, .f32⟩
  | 97 => ⟨S8x4096x2048, .f32⟩
  | 98 => ⟨S8x4096x2048, .f32⟩
  | 99 => ⟨S8x4096x2048, .f32⟩
  | 100 => ⟨S_, .f32⟩
  | 101 => ⟨S8x4096x2048, .f32⟩
  | 102 => ⟨S8x4096x2048, .f32⟩
  | 103 => ⟨S_, .f32⟩
  | 104 => ⟨S8x4096x2048, .f32⟩
  | 105 => ⟨S8x4096x2048, .f32⟩
  | 106 => ⟨S8x4096x2048, .f32⟩
  | 107 => ⟨S8x4096x2048, .f32⟩
  | 108 => ⟨S8x4096x8x256, .f32⟩
  | 109 => ⟨S8x256, .f32⟩
  | 110 => ⟨S8x4096x8x256, .f32⟩
  | 111 => ⟨S_, .f32⟩
  | 112 => ⟨S8x4096x8, .f32⟩
  | 113 => ⟨S8x4096x8x1, .f32⟩
  | 114 => ⟨S_, .f32⟩
  | 115 => ⟨S8x4096x8x1, .f32⟩
  | 116 => ⟨S8x4096x8x1, .f32⟩
  | 117 => ⟨S_, .f32⟩
  | 118 => ⟨S8x4096x8x1, .f32⟩
  | 119 => ⟨S8x4096x8x1, .f32⟩
  | 120 => ⟨S8x4096x8x1, .f32⟩
  | 121 => ⟨S8x4096x8x256, .f32⟩
  | 122 => ⟨S8x4096x8x256, .f32⟩
  | 123 => ⟨S1x1x8x256, .f32⟩
  | 124 => ⟨S8x4096x8x256, .f32⟩
  | 125 => ⟨S8x4096x8x256, .f32⟩
  | 126 => ⟨S8x4096x2048, .f32⟩
  | 127 => ⟨S8x4096x1024, .f32⟩
  | _ => ⟨S8x4096x1024, .f32⟩

abbrev hbmTy0_2 (i : Nat) : BufTy := match i % 128 with
  | 0 => ⟨S8x4096x1024, .f32⟩
  | 1 => ⟨S8x4096x1024, .f32⟩
  | 2 => ⟨S_, .f32⟩
  | 3 => ⟨S8x4096, .f32⟩
  | 4 => ⟨S8x4096x1, .f32⟩
  | 5 => ⟨S_, .f32⟩
  | 6 => ⟨S8x4096x1, .f32⟩
  | 7 => ⟨S8x4096x1, .f32⟩
  | 8 => ⟨S_, .f32⟩
  | 9 => ⟨S8x4096x1, .f32⟩
  | 10 => ⟨S8x4096x1, .f32⟩
  | 11 => ⟨S8x4096x1, .f32⟩
  | 12 => ⟨S8x4096x1024, .f32⟩
  | 13 => ⟨S8x4096x1024, .f32⟩
  | 14 => ⟨S1x1x1024, .f32⟩
  | 15 => ⟨S8x4096x1024, .f32⟩
  | 16 => ⟨S8x4096x1024, .f32⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c : Ref sig .tc := ⟨.hbm, 49, rfl⟩
abbrev main_call0_v0 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_2 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_call1_v0 : Ref sig .tc := ⟨.hbm, 85, rfl⟩
abbrev main_call1_v1 : Ref sig .tc := ⟨.hbm, 86, rfl⟩
abbrev main_call1_cst : Ref sig .tc := ⟨.hbm, 87, rfl⟩
abbrev main_call1_v2 : Ref sig .tc := ⟨.hbm, 88, rfl⟩
abbrev main_call1_v3 : Ref sig .tc := ⟨.hbm, 89, rfl⟩
abbrev main_call1_cst_0 : Ref sig .tc := ⟨.hbm, 90, rfl⟩
abbrev main_call1_v4 : Ref sig .tc := ⟨.hbm, 91, rfl⟩
abbrev main_call1_v5 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_call2_cst : Ref sig .tc := ⟨.hbm, 103, rfl⟩
abbrev main_call2_v0 : Ref sig .tc := ⟨.hbm, 104, rfl⟩
abbrev main_call2_v1 : Ref sig .tc := ⟨.hbm, 105, rfl⟩
abbrev main_call2_v2 : Ref sig .tc := ⟨.hbm, 106, rfl⟩
abbrev main_call2_v3 : Ref sig .tc := ⟨.hbm, 107, rfl⟩
abbrev main_call2_v4 : Ref sig .tc := ⟨.hbm, 108, rfl⟩
abbrev main_call2_v5 : Ref sig .tc := ⟨.hbm, 109, rfl⟩
abbrev main_call2_v6 : Ref sig .tc := ⟨.hbm, 110, rfl⟩
abbrev main_call2_v7 : Ref sig .tc := ⟨.hbm, 111, rfl⟩
abbrev main_call2_v8 : Ref sig .tc := ⟨.hbm, 112, rfl⟩
abbrev main_call2_v9 : Ref sig .tc := ⟨.hbm, 113, rfl⟩
abbrev main_call2_v10 : Ref sig .tc := ⟨.hbm, 114, rfl⟩
abbrev main_call2_v11 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_call3_call0_cst : Ref sig .tc := ⟨.hbm, 124, rfl⟩
abbrev main_call3_call0_v0 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_c_3 : Ref sig .tc := ⟨.hbm, 132, rfl⟩
abbrev main_v92 : Ref sig .tc := ⟨.hbm, 133, rfl⟩
abbrev main_call4_v0 : Ref sig .tc := ⟨.hbm, 134, rfl⟩
abbrev main_call4_c : Ref sig .tc := ⟨.hbm, 135, rfl⟩
abbrev main_call4_v1 : Ref sig .tc := ⟨.hbm, 136, rfl⟩
abbrev main_call4_v2 : Ref sig .tc := ⟨.hbm, 137, rfl⟩
abbrev main_call4_v3 : Ref sig .tc := ⟨.hbm, 138, rfl⟩
abbrev main_call4_v4 : Ref sig .tc := ⟨.hbm, 139, rfl⟩
abbrev main_call4_c_0 : Ref sig .tc := ⟨.hbm, 140, rfl⟩
abbrev main_call4_v5 : Ref sig .tc := ⟨.hbm, 141, rfl⟩
abbrev main_v93 : Ref sig .tc := ⟨.hbm, 142, rfl⟩
abbrev main_v94 : Ref sig .tc := ⟨.hbm, 143, rfl⟩
abbrev main_cst_4 : Ref sig .tc := ⟨.hbm, 144, rfl⟩
abbrev main_call5_v0 : Ref sig .tc := ⟨.hbm, 145, rfl⟩
abbrev main_call5_v1 : Ref sig .tc := ⟨.hbm, 146, rfl⟩
abbrev main_call5_v2 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_cst_5 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_cst_6 : Ref sig .tc := ⟨.hbm, 176, rfl⟩
abbrev main_v122 : Ref sig .tc := ⟨.hbm, 177, rfl⟩
abbrev main_c_7 : Ref sig .tc := ⟨.hbm, 178, rfl⟩
abbrev main_v123_0 : Ref sig .tc := ⟨.hbm, 179, rfl⟩
abbrev main_v123_1 : Ref sig .tc := ⟨.hbm, 180, rfl⟩
abbrev main_v123_2 : Ref sig .tc := ⟨.hbm, 181, rfl⟩
abbrev main_v123_3 : Ref sig .tc := ⟨.hbm, 182, rfl⟩
abbrev main_v123_4 : Ref sig .tc := ⟨.hbm, 183, rfl⟩
abbrev main_while0c_c_18 : Ref sig .tc := ⟨.hbm, 184, rfl⟩
abbrev main_while0c_v172 : Ref sig .tc := ⟨.hbm, 185, rfl⟩
abbrev main_while0b_call6_c : Ref sig .tc := ⟨.hbm, 186, rfl⟩
abbrev main_while0b_call6_c_0 : Ref sig .tc := ⟨.hbm, 187, rfl⟩
abbrev main_while0b_call6_c_1 : Ref sig .tc := ⟨.hbm, 188, rfl⟩
abbrev main_while0b_call6_c_2 : Ref sig .tc := ⟨.hbm, 189, rfl⟩
abbrev main_while0b_call6_c_3 : Ref sig .tc := ⟨.hbm, 190, rfl⟩
abbrev main_while0b_call6_v0 : Ref sig .tc := ⟨.hbm, 191, rfl⟩
abbrev main_while0b_v172 : Ref sig .tc := ⟨.hbm, 192, rfl⟩
abbrev main_while0b_call7_c : Ref sig .tc := ⟨.hbm, 193, rfl⟩
abbrev main_while0b_call7_c_0 : Ref sig .tc := ⟨.hbm, 194, rfl⟩
abbrev main_while0b_call7_c_1 : Ref sig .tc := ⟨.hbm, 195, rfl⟩
abbrev main_while0b_call7_v0 : Ref sig .tc := ⟨.hbm, 196, rfl⟩
abbrev main_while0b_v173 : Ref sig .tc := ⟨.hbm, 197, rfl⟩
abbrev main_while0b_v174 : Ref sig .tc := ⟨.hbm, 198, rfl⟩
abbrev main_while0b_v175 : Ref sig .tc := ⟨.hbm, 199, rfl⟩
abbrev main_while0b_v176 : Ref sig .tc := ⟨.hbm, 200, rfl⟩
abbrev main_while0b_v177 : Ref sig .tc := ⟨.hbm, 201, rfl⟩
abbrev main_while0b_call8_v0 : Ref sig .tc := ⟨.hbm, 202, rfl⟩
abbrev main_while0b_call8_c : Ref sig .tc := ⟨.hbm, 203, rfl⟩
abbrev main_while0b_call8_c_0 : Ref sig .tc := ⟨.hbm, 204, rfl⟩
abbrev main_while0b_call8_c_1 : Ref sig .tc := ⟨.hbm, 205, rfl⟩
abbrev main_while0b_call8_c_2 : Ref sig .tc := ⟨.hbm, 206, rfl⟩
abbrev main_while0b_call8_c_3 : Ref sig .tc := ⟨.hbm, 207, rfl⟩
abbrev main_while0b_v178 : Ref sig .tc := ⟨.hbm, 208, rfl⟩
abbrev main_while0b_c_18 : Ref sig .tc := ⟨.hbm, 209, rfl⟩
abbrev main_while0b_v179 : Ref sig .tc := ⟨.hbm, 210, rfl⟩
abbrev main_v124 : Ref sig .tc := ⟨.hbm, 211, rfl⟩
abbrev main_v125 : Ref sig .tc := ⟨.hbm, 212, rfl⟩
abbrev main_v126 : Ref sig .tc := ⟨.hbm, 213, rfl⟩
abbrev main_v127 : Ref sig .tc := ⟨.hbm, 214, rfl⟩
abbrev main_v128 : Ref sig .tc := ⟨.hbm, 215, rfl⟩
abbrev main_v129 : Ref sig .tc := ⟨.hbm, 216, rfl⟩
abbrev main_v130 : Ref sig .tc := ⟨.hbm, 217, rfl⟩
abbrev main_v131 : Ref sig .tc := ⟨.hbm, 218, rfl⟩
abbrev main_v132 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_v136 : Ref sig .tc := ⟨.hbm, 223, rfl⟩
abbrev main_v137 : Ref sig .tc := ⟨.hbm, 224, rfl⟩
abbrev main_v138 : Ref sig .tc := ⟨.hbm, 225, rfl⟩
abbrev main_call9_v0 : Ref sig .tc := ⟨.hbm, 226, rfl⟩
abbrev main_call9_v1 : Ref sig .tc := ⟨.hbm, 227, rfl⟩
abbrev main_call9_cst : Ref sig .tc := ⟨.hbm, 228, rfl⟩
abbrev main_call9_v2 : Ref sig .tc := ⟨.hbm, 229, rfl⟩
abbrev main_call9_v3 : Ref sig .tc := ⟨.hbm, 230, rfl⟩
abbrev main_call9_cst_0 : Ref sig .tc := ⟨.hbm, 231, rfl⟩
abbrev main_call9_v4 : Ref sig .tc := ⟨.hbm, 232, rfl⟩
abbrev main_call9_v5 : Ref sig .tc := ⟨.hbm, 233, rfl⟩
abbrev main_v139 : Ref sig .tc := ⟨.hbm, 234, rfl⟩
abbrev main_v140 : Ref sig .tc := ⟨.hbm, 235, rfl⟩
abbrev main_v141 : Ref sig .tc := ⟨.hbm, 236, rfl⟩
abbrev main_v142 : Ref sig .tc := ⟨.hbm, 237, rfl⟩
abbrev main_v143 : Ref sig .tc := ⟨.hbm, 238, rfl⟩
abbrev main_cst_8 : Ref sig .tc := ⟨.hbm, 239, rfl⟩
abbrev main_v144 : Ref sig .tc := ⟨.hbm, 240, rfl⟩
abbrev main_v145 : Ref sig .tc := ⟨.hbm, 241, rfl⟩
abbrev main_cst_9 : Ref sig .tc := ⟨.hbm, 242, rfl⟩
abbrev main_v146 : Ref sig .tc := ⟨.hbm, 243, rfl⟩
abbrev main_v147 : Ref sig .tc := ⟨.hbm, 244, rfl⟩
abbrev main_cst_10 : Ref sig .tc := ⟨.hbm, 245, rfl⟩
abbrev main_v148 : Ref sig .tc := ⟨.hbm, 246, rfl⟩
abbrev main_v149 : Ref sig .tc := ⟨.hbm, 247, rfl⟩
abbrev main_v150 : Ref sig .tc := ⟨.hbm, 248, rfl⟩
abbrev main_v151 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_v155 : Ref sig .tc := ⟨.hbm, 253, rfl⟩
abbrev main_v156 : Ref sig .tc := ⟨.hbm, 254, rfl⟩
abbrev main_v157 : Ref sig .tc := ⟨.hbm, 255, rfl⟩
abbrev main_v158 : Ref sig .tc := ⟨.hbm, 256, rfl⟩
abbrev main_v159 : Ref sig .tc := ⟨.hbm, 257, rfl⟩
abbrev main_cst_11 : Ref sig .tc := ⟨.hbm, 258, rfl⟩
abbrev main_v160 : Ref sig .tc := ⟨.hbm, 259, rfl⟩
abbrev main_v161 : Ref sig .tc := ⟨.hbm, 260, rfl⟩
abbrev main_cst_12 : Ref sig .tc := ⟨.hbm, 261, rfl⟩
abbrev main_v162 : Ref sig .tc := ⟨.hbm, 262, rfl⟩
abbrev main_v163 : Ref sig .tc := ⟨.hbm, 263, rfl⟩
abbrev main_cst_13 : Ref sig .tc := ⟨.hbm, 264, rfl⟩
abbrev main_v164 : Ref sig .tc := ⟨.hbm, 265, rfl⟩
abbrev main_v165 : Ref sig .tc := ⟨.hbm, 266, rfl⟩
abbrev main_v166 : Ref sig .tc := ⟨.hbm, 267, rfl⟩
abbrev main_v167 : Ref sig .tc := ⟨.hbm, 268, rfl⟩
abbrev main_v168 : Ref sig .tc := ⟨.hbm, 269, rfl⟩
abbrev main_v169 : Ref sig .tc := ⟨.hbm, 270, rfl⟩
abbrev main_v170 : Ref sig .tc := ⟨.hbm, 271, rfl⟩
abbrev main_v171 : Ref sig .tc := ⟨.hbm, 272, rfl⟩

abbrev nD : Nat := 1
abbrev τ : Topo := Topo.v7x

variable {F : FTy → Type} [FloatOps F]

abbrev main_while0_count : Scf.Loop 32 := ⟨0#32, 32#32, 1#32⟩
-- ==== Proof.Sgu.Spec.lean ====
/- The layer's mathematics over the extended reals, as functions of coordinates alone: one chunk of 128 rows goes in, one
   row of the chunk comes out. Both programs are read down to these functions. -/
module

public import Idealize.ShloMosaic.Lib.Pointwise

@[expose] public section

noncomputable section

namespace Cert.Sgu

open Idealize.ShloMosaic

/-- Entry `k` of a row normalised by the root of its mean square and scaled by `w`. -/
def rms (x w : Fin 1024 → EReal) (k : Fin 1024) : EReal :=
  x k * Ideal.rsqrt (Ideal.div (∑ i : Fin 1024, x i * x i) (Ideal.ofBits .f32 0x44800000#32) + Ideal.ofBits .f32 0x358637BD#32) * w k

/-- The mean of 2048 entries. -/
def mean (v : Fin 2048 → EReal) : EReal := Ideal.div (∑ j : Fin 2048, v j) (Ideal.ofBits .f32 0x45000000#32)

/-- Entry `j` of a row of 2048 with its mean taken off, scaled by the reciprocal root of its variance, then by `w`, plus `b`. -/
def lnorm (v w b : Fin 2048 → EReal) (j : Fin 2048) : EReal :=
  (v j - mean v) * Ideal.rsqrt (mean (fun i => (v i - mean v) * (v i - mean v)) + Ideal.ofBits .f32 0x3727C5AC#32) * w j + b j

/-- The product of a row with one column of a matrix. -/
def dot (h : Fin 1024 → EReal) (W : Fin 1024 → EReal) : EReal := ∑ k : Fin 1024, h k * W k

/-- The kernel's spelling of `z` times the logistic of `z`: half of `z`, plus that half times its hyperbolic tangent. -/
def silu (z : EReal) : EReal :=
  Ideal.ofBits .f32 0x3F000000#32 * z + Ideal.ofBits .f32 0x3F000000#32 * z * Ideal.tanh (Ideal.ofBits .f32 0x3F000000#32 * z)

/-- The spatial mix of one column: the rows up to and including row `t` of the chunk, weighted, plus the row's bias. -/
def mix (ws : Fin 128 → EReal) (bias : EReal) (t : Fin 128) (v : Fin 128 → EReal) : EReal :=
  (∑ s : Fin 128, (if s ≤ t then ws s else 0) * v s) + bias

/-- The layer's weights, by coordinates. -/
structure Weights where
  /-- the first norm's scale -/
  nw : Fin 1024 → EReal
  /-- the input projection: 2048 columns for `z`, 2048 for `u`, 2048 for `v` -/
  win : Fin 1024 → Fin 6144 → EReal
  /-- the second norm's scale -/
  lw : Fin 2048 → EReal
  /-- the second norm's shift -/
  lb : Fin 2048 → EReal
  /-- the spatial weights of the eight groups -/
  ws : Fin 8 → Fin 128 → Fin 128 → EReal
  /-- the spatial biases of the eight groups -/
  bs : Fin 8 → Fin 128 → EReal
  /-- the output projection -/
  wout : Fin 2048 → Fin 1024 → EReal

/-- Column `k` of the `z` part of the input projection of a row. -/
def zAt (W : Weights) (x : Fin 1024 → EReal) (k : Fin 2048) : EReal :=
  dot (rms x W.nw) fun i => W.win i ⟨k.val, by have := k.isLt; omega⟩

/-- Column `k` of the `u` part of the input projection of a row. -/
def uAt (W : Weights) (x : Fin 1024 → EReal) (k : Fin 2048) : EReal :=
  dot (rms x W.nw) fun i => W.win i ⟨2048 + k.val, by have := k.isLt; omega⟩

/-- Column `k` of the `v` part of the input projection of a row. -/
def vAt (W : Weights) (x : Fin 1024 → EReal) (k : Fin 2048) : EReal :=
  dot (rms x W.nw) fun i => W.win i ⟨4096 + k.val, by have := k.isLt; omega⟩

/-- Column `k` of the normalised `v` part. -/
def vnAt (W : Weights) (x : Fin 1024 → EReal) (k : Fin 2048) : EReal := lnorm (vAt W x) W.lw W.lb k

/-- The group that column `k` is in. -/
def grp (k : Fin 2048) : Fin 8 := ⟨k.val / 256, by have := k.isLt; omega⟩

/-- The mixed value at row `t` of the chunk, column `k`. -/
def mixAt (W : Weights) (X : Fin 128 → Fin 1024 → EReal) (t : Fin 128) (k : Fin 2048) : EReal :=
  mix (W.ws (grp k) t) (W.bs (grp k) t) t fun s => vnAt W (X s) k

/-- The gated value at row `t` of the chunk, column `k`. -/
def gateAt (W : Weights) (X : Fin 128 → Fin 1024 → EReal) (t : Fin 128) (k : Fin 2048) : EReal :=
  uAt W (X t) k * silu (zAt W (X t) k) * mixAt W X t k

/-- Entry `j` of row `t` of the chunk that the layer makes of the chunk `X`: the output projection, plus the row itself. -/
def layer (W : Weights) (X : Fin 128 → Fin 1024 → EReal) (t : Fin 128) (j : Fin 1024) : EReal :=
  (∑ k : Fin 2048, gateAt W X t k * W.wout k j) + X t j

end Cert.Sgu

end
-- ==== Proof.Sgu.Pay.lean ====
/- The kernel body's payloads read at an index, each as a function of coordinates (Spec.lean). -/
module

public import proofs.«01_k».proof.Proof.Gen.KernelIdeal.Skeleton
public import proofs.«01_k».proof.Proof.Gen.KernelIdeal
public import proofs.«01_k».proof.Proof.Sgu.Spec

@[expose] public section

set_option maxRecDepth 16384

noncomputable section

namespace Cert.KernelIdeal.Sgu

open Cert.Sgu Cert.KernelIdeal Cert.KernelIdeal.Gen Cert.KernelIdeal.Facts Idealize.ShloMosaic

/-- The normalised row. -/
theorem pay5_apply (x : Vec Ideal S1x512x1024 .f32) (w : Vec Ideal S1x1024 .f32) (r : Fin 512) (k : Fin 1024) :
    k0_pay5 x w (ix2 r k) = rms (fun i => x (ix3 0 r i)) (fun i => w (ix2 0 i)) k := by
  pointwise [k0_pay5, k0_pay4, rms]

/-- The second norm of the `v` columns. -/
theorem pay8_apply (x : Vec Ideal S1x512x1024 .f32) (w : Vec Ideal S1x1024 .f32) (wv : Vec Ideal S1x1024x2048 .bf16)
    (lw lb : Vec Ideal S1x2048 .f32) (r : Fin 512) (j : Fin 2048) :
    k0_pay8 (k0_pay6 x w wv) (k0_pay7 lw) lb (ix2 r j)
      = lnorm (fun j => dot (rms (fun i => x (ix3 0 r i)) (fun i => w (ix2 0 i))) fun i => wv (ix3 0 i j))
          (fun j => lw (ix2 0 j)) (fun j => lb (ix2 0 j)) j := by
  pointwise [k0_pay8, k0_pay7, k0_pay6, pay5_apply, lnorm, mean, dot]

/-- The gate: `u` times the kernel's spelling of `z` times its logistic. -/
theorem pay10_apply (h : FVec Ideal S512x1024 .bf16) (wz wu : Vec Ideal S1x1024x256 .bf16) (r : Fin 512) (d : Fin 256) :
    k0_pay10 h wz wu (ix2 r d)
      = dot (fun k => h (ix2 r k)) (fun k => wu (ix3 0 k d)) * silu (dot (fun k => h (ix2 r k)) fun k => wz (ix3 0 k d)) := by
  pointwise [k0_pay10, dot, silu]

/-- One block of 128 rows by 256 columns of the gated product, the rows starting at row `o` of the point's 512. -/
def blk (o : Nat) (ho : S512x256.Slices ![o, 0] S128x256) (h : FVec Ideal S512x1024 .bf16) (wz wu : Vec Ideal S1x1024x256 .bf16)
    (ws : Vec Ideal S1x128x128 .f32) (bs : Vec Ideal S128x1 .f32) (v : Vec Ideal S128x256 .bf16) : FVec Ideal S128x256 .bf16 :=
  shapeCast S128x256 (truncf .bf16 (mulf (extractStridedSlice S128x256 ![o, 0] (k0_pay10 h wz wu) ho)
    (addf (matmul (φ₂ := .bf16) dot_S128x128_S128x256_S128x256_1_0_0_1_n_n none (k0_pay11 ws) (v : FVec Ideal S128x256 .bf16) (constant S128x256 .f32 0x00000000#32))
      (broadcastTo S128x256 (k0_pay12 bs) broadcasts_S128x1_S128x256))) bitsLt_bf16_f32) shapeCasts_S128x256_S128x256

/-- The causal comparison of two row numbers below 128. -/
theorem causal : ∀ t s : Fin 128,
    IntOp.cmpi .sge (BitVec.ofNat 32 t.val) (BitVec.ofNat 32 s.val) = if s ≤ t then 1#1 else 0#1 := by
  decide +kernel

/-- The masked spatial weights. -/
theorem pay11_apply (ws : Vec Ideal S1x128x128 .f32) (t s : Fin 128) :
    k0_pay11 ws (ix2 t s) = if s ≤ t then ws (ix3 0 t s) else 0 := by
  pointwise [k0_pay11, k0_pay9]
  rw [causal]
  split <;> rfl

/-- The block at an index. -/
theorem blk_apply (o : Nat) (ho : S512x256.Slices ![o, 0] S128x256) (h : FVec Ideal S512x1024 .bf16)
    (wz wu : Vec Ideal S1x1024x256 .bf16) (ws : Vec Ideal S1x128x128 .f32) (bs : Vec Ideal S128x1 .f32)
    (v : Vec Ideal S128x256 .bf16) (t : Fin 128) (d : Fin 256) (r : Fin 512) (hr : r.val = o + t.val) :
    blk o ho h wz wu ws bs v (ix2 t d)
      = dot (fun k => h (ix2 r k)) (fun k => wu (ix3 0 k d)) * silu (dot (fun k => h (ix2 r k)) fun k => wz (ix3 0 k d))
        * mix (fun s => ws (ix3 0 t s)) (bs (ix2 t 0)) t (fun s => v (ix2 s d)) := by
  have hr' : (⟨o + t.val, hr ▸ r.isLt⟩ : Fin 512) = r := Fin.ext hr.symm
  pointwise [blk, pay10_apply, pay11_apply, k0_pay12, mix]
  rw [hr']

end Cert.KernelIdeal.Sgu

end
-- ==== Proof.Sgu.Block.lean ====
/- What one grid point leaves in the output's staging buffer: the layer (Spec.lean) of each of the block's four chunks. -/
module

public import proofs.«01_k».proof.Proof.Gen.KernelIdeal.Value
public import proofs.«01_k».proof.Proof.Sgu.Pay

@[expose] public section

set_option maxRecDepth 16384

noncomputable section

namespace Cert.KernelIdeal.Sgu

open Cert.Sgu Cert.KernelIdeal Cert.KernelIdeal.Gen Cert.KernelIdeal.Facts Idealize.ShloMosaic Idealize.SL.Sem

/-- The chunk of a block that row `r` is in. -/
def chunkB (x : Vec Ideal S1x512x1024 .f32) (r : Fin 512) : Fin 128 → Fin 1024 → EReal :=
  fun s i => x (ix3 0 ⟨r.val / 128 * 128 + s.val, by have := r.isLt; have := s.isLt; omega⟩ i)

/-- The weights, as a grid point's blocks hold them. -/
def weightsB (x1 : Vec Ideal S1x1024 .f32) (x2 : Vec Ideal S1x1024x6144 .bf16) (x3 x4 : Vec Ideal S1x2048 .f32)
    (x5 : Vec Ideal S8x128x128 .f32) (x6 : Vec Ideal S128x8 .f32) (x7 : Vec Ideal S1x2048x1024 .bf16) : Weights where
  nw i := x1 (ix2 0 i)
  win i j := x2 (ix3 0 i j)
  lw j := x3 (ix2 0 j)
  lb j := x4 (ix2 0 j)
  ws g t s := x5 (ix3 g t s)
  bs g t := x6 (ix2 t g)
  wout k j := x7 (ix3 0 k j)

/-- A row's place in its chunk. -/
def place (r : Fin 512) : Fin 128 := ⟨r.val % 128, Nat.mod_lt _ (by norm_num)⟩

/-- The zero offsets of a rank-2 block. -/
theorem hz2 : (![0, 0] : Fin 2 → Nat) = fun _ => 0 := funext fun a => by fin_cases a <;> rfl
/-- The zero offsets of a rank-3 block. -/
theorem hz3 : (![0, 0, 0] : Fin 3 → Nat) = fun _ => 0 := funext fun a => by fin_cases a <;> rfl

section
variable (x0 : Vec Ideal S1x512x1024 .f32) (x1 : Vec Ideal S1x1024 .f32) (x2 : Vec Ideal S1x1024x6144 .bf16)
  (x3 x4 : Vec Ideal S1x2048 .f32) (x5 : Vec Ideal S8x128x128 .f32) (x6 : Vec Ideal S128x8 .f32)
  (x7 : Vec Ideal S1x2048x1024 .bf16)

/-- The gated product of the block's 512 rows. -/
def gateB : Vec Ideal S512x2048 .bf16 := fun y =>
  gateAt (weightsB x1 x2 x3 x4 x5 x6 x7) (chunkB x0 (y 0)) (place (y 0)) (y 1)

/-- The normalised `v` part of the block's 512 rows, as the body stores it. -/
def vnB : Vec Ideal S512x2048 .bf16 :=
  k0_pay8 (k0_pay6 x0 x1 (View.ld x2 (Rect.unit (s := S1x1024x6144) ![0, 0, 4096] S1x1024x2048.size inb_S1x1024x6144_S1x1024x2048_0_0_4096)))
    (k0_pay7 x3) x4

/-- The normalised `v` part at an index. -/
theorem vnB_apply (r : Fin 512) (k : Fin 2048) :
    vnB x0 x1 x2 x3 x4 (ix2 r k) = vnAt (weightsB x1 x2 x3 x4 x5 x6 x7) (fun i => x0 (ix3 0 r i)) k := by
  unfold vnB
  rw [pay8_apply]
  unfold vnAt vAt weightsB
  pointwise

/-- One tile of the gated product: the rows from `o` on, group `g`'s columns. -/
theorem tile (o g : Nat) (ho : S512x256.Slices ![o, 0] S128x256) (hd : o % 128 = 0)
    (hg : g < 8)
    (i1 : ∀ a, (![0, 0, g * 256] : Fin 3 → Nat) a + S1x1024x256.size a ≤ S1x1024x6144.size a)
    (i2 : ∀ a, (![0, 0, 2048 + g * 256] : Fin 3 → Nat) a + S1x1024x256.size a ≤ S1x1024x6144.size a)
    (i3 : ∀ a, (![g, 0, 0] : Fin 3 → Nat) a + S1x128x128.size a ≤ S8x128x128.size a)
    (i4 : ∀ a, (![0, g] : Fin 2 → Nat) a + S128x1.size a ≤ S128x8.size a)
    (i5 i6 : ∀ a, (![o, g * 256] : Fin 2 → Nat) a + S128x256.size a ≤ S512x2048.size a)
    (y : S128x256.Idx) :
    blk o ho (k0_pay5 x0 x1) (View.ld x2 (Rect.unit (s := S1x1024x6144) ![0, 0, g * 256] S1x1024x256.size i1))
      (View.ld x2 (Rect.unit (s := S1x1024x6144) ![0, 0, 2048 + g * 256] S1x1024x256.size i2))
      (View.ld x5 (Rect.unit (s := S8x128x128) ![g, 0, 0] S1x128x128.size i3))
      (View.ld x6 (Rect.unit (s := S128x8) ![0, g] S128x1.size i4))
      (View.ld (vnB x0 x1 x2 x3 x4) (Rect.unit (s := S512x2048) ![o, g * 256] S128x256.size i5)) y
    = gateB x0 x1 x2 x3 x4 x5 x6 x7 ((Rect.unit (s := S512x2048) ![o, g * 256] S128x256.size i6).emb y) := by
  have ho' : o + 128 ≤ 512 := i5 0
  obtain ⟨t, d, rfl⟩ : ∃ (t : Fin 128) (d : Fin 256), y = ix2 t d := ⟨y 0, y 1, eq_ix2 y⟩
  have hr : o + t.val < 512 := by have := t.isLt; omega
  have hk : g * 256 + d.val < 2048 := by have := d.isLt; omega
  rw [blk_apply o ho _ _ _ _ _ _ t d ⟨o + t.val, hr⟩ rfl]
  have he : (Rect.unit (s := S512x2048) ![o, g * 256] S128x256.size i6).emb (ix2 t d) = ix2 ⟨o + t.val, hr⟩ ⟨g * 256 + d.val, hk⟩ := by
    funext a; apply Fin.ext
    match a with
    | ⟨0, _⟩ => show o + 1 * t.val = o + t.val; omega
    | ⟨1, _⟩ => show g * 256 + 1 * d.val = g * 256 + d.val; omega
  rw [he]
  have hG : grp ⟨g * 256 + d.val, hk⟩ = ⟨g, hg⟩ := Fin.ext (by show (g * 256 + d.val) / 256 = g; have := d.isLt; omega)
  have hP : place ⟨o + t.val, hr⟩ = t := Fin.ext (by show (o + t.val) % 128 = t.val; have := t.isLt; omega)
  have hC : (o + t.val) / 128 * 128 = o := by have := t.isLt; omega
  have hv : ∀ s : Fin 128, View.ld (vnB x0 x1 x2 x3 x4) (Rect.unit (s := S512x2048) ![o, g * 256] S128x256.size i5) (ix2 s d)
      = vnAt (weightsB x1 x2 x3 x4 x5 x6 x7) (chunkB x0 ⟨o + t.val, hr⟩ s) ⟨g * 256 + d.val, hk⟩ := by
    intro s
    have hs : o + s.val < 512 := by have := s.isLt; omega
    have he' : View.ld (vnB x0 x1 x2 x3 x4) (Rect.unit (s := S512x2048) ![o, g * 256] S128x256.size i5) (ix2 s d)
        = vnB x0 x1 x2 x3 x4 (ix2 ⟨o + s.val, hs⟩ ⟨g * 256 + d.val, hk⟩) := by pointwise
    rw [he', vnB_apply x0 x1 x2 x3 x4 x5 x6 x7]
    unfold chunkB
    simp only [hC]
  simp only [hv]
  have hx : (fun i => x0 (ix3 0 ⟨o + t.val, hr⟩ i)) = chunkB x0 ⟨o + t.val, hr⟩ t := by
    unfold chunkB; simp only [hC]
  simp only [gateB]
  show _ = gateAt _ (chunkB x0 ⟨o + t.val, hr⟩) (place ⟨o + t.val, hr⟩) ⟨g * 256 + d.val, hk⟩
  unfold gateAt mixAt uAt zAt
  simp only [hP, hG, pay5_apply]
  rw [← hx]
  pointwise [weightsB]
  simp only [Nat.add_assoc]

/-- A load of part of what one whole store left reads the stored value. -/
theorem readCov_whole {sig : RefSig} (v : View sig .tc .vmem S512x2048 .bf16)
    (inb : ∀ a, (![0, 0] : Fin 2 → Nat) a + S512x2048.size a ≤ S512x2048.size a) (w : Vec Ideal S512x2048 .bf16) (R : Rect S512x2048) :
    v.readCov [(⟨Rect.unit ![0, 0] S512x2048.size inb, w⟩ : View.Piece (Elt Ideal) S512x2048 .bf16)] R.toLoadRect = View.ld w R := by
  rw [View.readCov_eq_canon_ld _ _ _ (View.cover_of_tiled _ S512x2048.size (by sl_kernel_rfl)), View.canon_unit_zero hz2]

/-- A load of the whole of what covering pieces of one function left reads that function. -/
theorem readCov_pieces {sig : RefSig} (v : View sig .tc .vmem S512x2048 .bf16) (G : Vec Ideal S512x2048 .bf16)
    (inb : ∀ a, (![0, 0] : Fin 2 → Nat) a + S512x2048.size a ≤ S512x2048.size a)
    (L : List (View.Piece (Elt Ideal) S512x2048 .bf16))
    (hL : ∀ p ∈ L, ∀ x : p.1.shape.Idx, p.2 x = G (p.1.emb x)) (hc : ∀ y, ∃ p ∈ L, y ∈ p.1.set) :
    v.readCov L (Rect.unit ![0, 0] S512x2048.size inb).toLoadRect = G := by
  rw [View.readCov_eq_canon_ld _ _ _ hc, View.ld_unit_zero hz2]
  exact funext fun y => View.canon_apply_of_pieces G L hL y (hc y)

/-- The tile with the `v` part read back from its staging memory. -/
theorem tile_read {sig : RefSig} (v : View sig .tc .vmem S512x2048 .bf16)
    (inb : ∀ a, (![0, 0] : Fin 2 → Nat) a + S512x2048.size a ≤ S512x2048.size a)
    (o g : Nat) (ho : S512x256.Slices ![o, 0] S128x256) (hd : o % 128 = 0)
    (hg : g < 8)
    (i1 : ∀ a, (![0, 0, g * 256] : Fin 3 → Nat) a + S1x1024x256.size a ≤ S1x1024x6144.size a)
    (i2 : ∀ a, (![0, 0, 2048 + g * 256] : Fin 3 → Nat) a + S1x1024x256.size a ≤ S1x1024x6144.size a)
    (i3 : ∀ a, (![g, 0, 0] : Fin 3 → Nat) a + S1x128x128.size a ≤ S8x128x128.size a)
    (i4 : ∀ a, (![0, g] : Fin 2 → Nat) a + S128x1.size a ≤ S128x8.size a)
    (i5 i6 : ∀ a, (![o, g * 256] : Fin 2 → Nat) a + S128x256.size a ≤ S512x2048.size a)
    (y : S128x256.Idx) :
    blk o ho (k0_pay5 x0 x1) (View.ld x2 (Rect.unit (s := S1x1024x6144) ![0, 0, g * 256] S1x1024x256.size i1))
      (View.ld x2 (Rect.unit (s := S1x1024x6144) ![0, 0, 2048 + g * 256] S1x1024x256.size i2))
      (View.ld x5 (Rect.unit (s := S8x128x128) ![g, 0, 0] S1x128x128.size i3))
      (View.ld x6 (Rect.unit (s := S128x8) ![0, g] S128x1.size i4))
      (v.readCov [(⟨Rect.unit ![0, 0] S512x2048.size inb, vnB x0 x1 x2 x3 x4⟩ : View.Piece (Elt Ideal) S512x2048 .bf16)]
        (Rect.unit (s := S512x2048) ![o, g * 256] S128x256.size i5).toLoadRect) y
    = gateB x0 x1 x2 x3 x4 x5 x6 x7 ((Rect.unit (s := S512x2048) ![o, g * 256] S128x256.size i6).emb y) := by
  rw [readCov_whole]
  exact tile x0 x1 x2 x3 x4 x5 x6 x7 o g ho hd hg i1 i2 i3 i4 i5 i6 y

set_option maxHeartbeats 4000000 in
/-- What the body leaves in the output's staging buffer: its last payload, of the block, the gated product and the output projection. -/
theorem out_eq (c : Dev nD) (i : grid0.Coords) (arg2 : Memref sig .tc .vmem S1x512x1024 .f32) (h2 : arg2.IsWhole) (arg3 : Memref sig .tc .vmem S1x1024 .f32) (h3 : arg3.IsWhole) (arg4 : Memref sig .tc .vmem S1x1024x6144 .bf16) (h4 : arg4.IsWhole) (arg5 : Memref sig .tc .vmem S1x2048 .f32) (h5 : arg5.IsWhole) (arg6 : Memref sig .tc .vmem S1x2048 .f32) (h6 : arg6.IsWhole) (arg7 : Memref sig .tc .vmem S8x128x128 .f32) (h7 : arg7.IsWhole) (arg8 : Memref sig .tc .vmem S128x8 .f32) (h8 : arg8.IsWhole) (arg9 : Memref sig .tc .vmem S1x2048x1024 .bf16) (h9 : arg9.IsWhole) (arg10 : Memref sig .tc .vmem S1x512x1024 .f32) (h10 : arg10.IsWhole) (arg11 : Memref sig .tc .vmem S512x2048 .bf16) (h11 : arg11.IsWhole) (arg12 : Memref sig .tc .vmem S512x2048 .bf16) (h12 : arg12.IsWhole) :
    out0_A_8 c i arg2 h2 arg3 h3 arg4 h4 arg5 h5 arg6 h6 arg7 h7 arg8 h8 arg9 h9 arg10 h10 arg11 h11 arg12 h12 x0 x1 x2 x3 x4 x5 x6 x7
      = k0_pay3 (k0_pay4 x0) (gateB x0 x1 x2 x3 x4 x5 x6 x7) x7 := by
  unfold out0_A_8
  rw [View.read_writes_junk_eq_canon]
  unfold kernelRun0_A
  dsimp only
  sl_unfold_words
  rw [View.canon_unit_zero hz3]
  have e0 : View.ld (arg2.view.read (Elt Ideal) (h2.unread x0)) (Rect.unit ![0, 0, 0] S1x512x1024.size inb_S1x512x1024_S1x512x1024_0_0_0) = x0 := by
    rw [View.ld_unit_zero hz3, h2.read_unread]
  have e1 : View.ld (arg3.view.read (Elt Ideal) (h3.unread x1)) (Rect.unit ![0, 0] S1x1024.size inb_S1x1024_S1x1024_0_0) = x1 := by
    rw [View.ld_unit_zero hz2, h3.read_unread]
  have e3 : View.ld (arg5.view.read (Elt Ideal) (h5.unread x3)) (Rect.unit ![0, 0] S1x2048.size inb_S1x2048_S1x2048_0_0) = x3 := by
    rw [View.ld_unit_zero hz2, h5.read_unread]
  have e4 : View.ld (arg6.view.read (Elt Ideal) (h6.unread x4)) (Rect.unit ![0, 0] S1x2048.size inb_S1x2048_S1x2048_0_0) = x4 := by
    rw [View.ld_unit_zero hz2, h6.read_unread]
  have e7 : View.ld (arg9.view.read (Elt Ideal) (h9.unread x7)) (Rect.unit ![0, 0, 0] S1x2048x1024.size inb_S1x2048x1024_S1x2048x1024_0_0_0) = x7 := by
    rw [View.ld_unit_zero hz3, h9.read_unread]
  have e2 := h4.read_unread (Val := Elt Ideal) x2
  have e5 := h7.read_unread (Val := Elt Ideal) x5
  have e6 := h8.read_unread (Val := Elt Ideal) x6
  let Y0 : Vec Ideal S1x512x1024 .f32 := View.ld (arg2.view.read (Elt Ideal) (h2.unread x0)) (Rect.unit ![0, 0, 0] S1x512x1024.size inb_S1x512x1024_S1x512x1024_0_0_0)
  let Y1 : Vec Ideal S1x1024 .f32 := View.ld (arg3.view.read (Elt Ideal) (h3.unread x1)) (Rect.unit ![0, 0] S1x1024.size inb_S1x1024_S1x1024_0_0)
  let Y3 : Vec Ideal S1x2048 .f32 := View.ld (arg5.view.read (Elt Ideal) (h5.unread x3)) (Rect.unit ![0, 0] S1x2048.size inb_S1x2048_S1x2048_0_0)
  let Y4 : Vec Ideal S1x2048 .f32 := View.ld (arg6.view.read (Elt Ideal) (h6.unread x4)) (Rect.unit ![0, 0] S1x2048.size inb_S1x2048_S1x2048_0_0)
  let Y7 : Vec Ideal S1x2048x1024 .bf16 := View.ld (arg9.view.read (Elt Ideal) (h9.unread x7)) (Rect.unit ![0, 0, 0] S1x2048x1024.size inb_S1x2048x1024_S1x2048x1024_0_0_0)
  let X2 : Vec Ideal S1x1024x6144 .bf16 := arg4.view.read (Elt Ideal) (h4.unread x2)
  let X5 : Vec Ideal S8x128x128 .f32 := arg7.view.read (Elt Ideal) (h7.unread x5)
  let X6 : Vec Ideal S128x8 .f32 := arg8.view.read (Elt Ideal) (h8.unread x6)
  refine (congrArg (fun G => k0_pay3 (k0_pay4 Y0) G Y7) (readCov_pieces arg12.view (gateB Y0 Y1 X2 Y3 Y4 X5 X6 Y7) _ _ ?_ ?_)).trans ?_
  · exact List.forall_mem_cons.2 ⟨tile_read Y0 Y1 X2 Y3 Y4 X5 X6 Y7 arg11.view inb_S512x2048_S512x2048_0_0 384 7 slices_S512x256_o384_0_S128x256 rfl (by norm_num) inb_S1x1024x6144_S1x1024x256_0_0_1792 inb_S1x1024x6144_S1x1024x256_0_0_3840 inb_S8x128x128_S1x128x128_7_0_0 inb_S128x8_S128x1_0_7 inb_S512x2048_S128x256_384_1792 inb_S512x2048_S128x256_384_1792,
      List.forall_mem_cons.2 ⟨tile_read Y0 Y1 X2 Y3 Y4 X5 X6 Y7 arg11.view inb_S512x2048_S512x2048_0_0 256 7 slices_S512x256_o256_0_S128x256 rfl (by norm_num) inb_S1x1024x6144_S1x1024x256_0_0_1792 inb_S1x1024x6144_S1x1024x256_0_0_3840 inb_S8x128x128_S1x128x128_7_0_0 inb_S128x8_S128x1_0_7 inb_S512x2048_S128x256_256_1792 inb_S512x2048_S128x256_256_1792,
      List.forall_mem_cons.2 ⟨tile_read Y0 Y1 X2 Y3 Y4 X5 X6 Y7 arg11.view inb_S512x2048_S512x2048_0_0 128 7 slices_S512x256_o128_0_S128x256 rfl (by norm_num) inb_S1x1024x6144_S1x1024x256_0_0_1792 inb_S1x1024x6144_S1x1024x256_0_0_3840 inb_S8x128x128_S1x128x128_7_0_0 inb_S128x8_S128x1_0_7 inb_S512x2048_S128x256_128_1792 inb_S512x2048_S128x256_128_1792,
      List.forall_mem_cons.2 ⟨tile_read Y0 Y1 X2 Y3 Y4 X5 X6 Y7 arg11.view inb_S512x2048_S512x2048_0_0 0 7 slices_S512x256_o0_0_S128x256 rfl (by norm_num) inb_S1x1024x6144_S1x1024x256_0_0_1792 inb_S1x1024x6144_S1x1024x256_0_0_3840 inb_S8x128x128_S1x128x128_7_0_0 inb_S128x8_S128x1_0_7 inb_S512x2048_S128x256_0_1792 inb_S512x2048_S128x256_0_1792,
      List.forall_mem_cons.2 ⟨tile_read Y0 Y1 X2 Y3 Y4 X5 X6 Y7 arg11.view inb_S512x2048_S512x2048_0_0 384 6 slices_S512x256_o384_0_S128x256 rfl (by norm_num) inb_S1x1024x6144_S1x1024x256_0_0_1536 inb_S1x1024x6144_S1x1024x256_0_0_3584 inb_S8x128x128_S1x128x128_6_0_0 inb_S128x8_S128x1_0_6 inb_S512x2048_S128x256_384_1536 inb_S512x2048_S128x256_384_1536,
      List.forall_mem_cons.2 ⟨tile_read Y0 Y1 X2 Y3 Y4 X5 X6 Y7 arg11.view inb_S512x2048_S512x2048_0_0 256 6 slices_S512x256_o256_0_S128x256 rfl (by norm_num) inb_S1x1024x6144_S1x1024x256_0_0_1536 inb_S1x1024x6144_S1x1024x256_0_0_3584 inb_S8x128x128_S1x128x128_6_0_0 inb_S128x8_S128x1_0_6 inb_S512x2048_S128x256_256_1536 inb_S512x2048_S128x256_256_1536,
      List.forall_mem_cons.2 ⟨tile_read Y0 Y1 X2 Y3 Y4 X5 X6 Y7 arg11.view inb_S512x2048_S512x2048_0_0 128 6 slices_S512x256_o128_0_S128x256 rfl (by norm_num) inb_S1x1024x6144_S1x1024x256_0_0_1536 inb_S1x1024x6144_S1x1024x256_0_0_3584 inb_S8x128x128_S1x128x128_6_0_0 inb_S128x8_S128x1_0_6 inb_S512x2048_S128x256_128_1536 inb_S512x2048_S128x256_128_1536,
      List.forall_mem_cons.2 ⟨tile_read Y0 Y1 X2 Y3 Y4 X5 X6 Y7 arg11.view inb_S512x2048_S512x2048_0_0 0 6 slices_S512x256_o0_0_S128x256 rfl (by norm_num) inb_S1x1024x6144_S1x1024x256_0_0_1536 inb_S1x1024x6144_S1x1024x256_0_0_3584 inb_S8x128x128_S1x128x128_6_0_0 inb_S128x8_S128x1_0_6 inb_S512x2048_S128x256_0_1536 inb_S512x2048_S128x256_0_1536,
      List.forall_mem_cons.2 ⟨tile_read Y0 Y1 X2 Y3 Y4 X5 X6 Y7 arg11.view inb_S512x2048_S512x2048_0_0 384 5 slices_S512x256_o384_0_S128x256 rfl (by norm_num) inb_S1x1024x6144_S1x1024x256_0_0_1280 inb_S1x1024x6144_S1x1024x256_0_0_3328 inb_S8x128x128_S1x128x128_5_0_0 inb_S128x8_S128x1_0_5 inb_S512x2048_S128x256_384_1280 inb_S512x2048_S128x256_384_1280,
      List.forall_mem_cons.2 ⟨tile_read Y0 Y1 X2 Y3 Y4 X5 X6 Y7 arg11.view inb_S512x2048_S512x2048_0_0 256 5 slices_S512x256_o256_0_S128x256 rfl (by norm_num) inb_S1x1024x6144_S1x1024x256_0_0_1280 inb_S1x1024x6144_S1x1024x256_0_0_3328 inb_S8x128x128_S1x128x128_5_0_0 inb_S128x8_S128x1_0_5 inb_S512x2048_S128x256_256_1280 inb_S512x2048_S128x256_256_1280,
      List.forall_mem_cons.2 ⟨tile_read Y0 Y1 X2 Y3 Y4 X5 X6 Y7 arg11.view inb_S512x2048_S512x2048_0_0 128 5 slices_S512x256_o128_0_S128x256 rfl (by norm_num) inb_S1x1024x6144_S1x1024x256_0_0_1280 inb_S1x1024x6144_S1x1024x256_0_0_3328 inb_S8x128x128_S1x128x128_5_0_0 inb_S128x8_S128x1_0_5 inb_S512x2048_S128x256_128_1280 inb_S512x2048_S128x256_128_1280,
      List.forall_mem_cons.2 ⟨tile_read Y0 Y1 X2 Y3 Y4 X5 X6 Y7 arg11.view inb_S512x2048_S512x2048_0_0 0 5 slices_S512x256_o0_0_S128x256 rfl (by norm_num) inb_S1x1024x6144_S1x1024x256_0_0_1280 inb_S1x1024x6144_S1x1024x256_0_0_3328 inb_S8x128x128_S1x128x128_5_0_0 inb_S128x8_S128x1_0_5 inb_S512x2048_S128x256_0_1280 inb_S512x2048_S128x256_0_1280,
      List.forall_mem_cons.2 ⟨tile_read Y0 Y1 X2 Y3 Y4 X5 X6 Y7 arg11.view inb_S512x2048_S512x2048_0_0 384 4 slices_S512x256_o384_0_S128x256 rfl (by norm_num) inb_S1x1024x6144_S1x1024x256_0_0_1024 inb_S1x1024x6144_S1x1024x256_0_0_3072 inb_S8x128x128_S1x128x128_4_0_0 inb_S128x8_S128x1_0_4 inb_S512x2048_S128x256_384_1024 inb_S512x2048_S128x256_384_1024,
      List.forall_mem_cons.2 ⟨tile_read Y0 Y1 X2 Y3 Y4 X5 X6 Y7 arg11.view inb_S512x2048_S512x2048_0_0 256 4 slices_S512x256_o256_0_S128x256 rfl (by norm_num) inb_S1x1024x6144_S1x1024x256_0_0_1024 inb_S1x1024x6144_S1x1024x256_0_0_3072 inb_S8x128x128_S1x128x128_4_0_0 inb_S128x8_S128x1_0_4 inb_S512x2048_S128x256_256_1024 inb_S512x2048_S128x256_256_1024,
      List.forall_mem_cons.2 ⟨tile_read Y0 Y1 X2 Y3 Y4 X5 X6 Y7 arg11.view inb_S512x2048_S512x2048_0_0 128 4 slices_S512x256_o128_0_S128x256 rfl (by norm_num) inb_S1x1024x6144_S1x1024x256_0_0_1024 inb_S1x1024x6144_S1x1024x256_0_0_3072 inb_S8x128x128_S1x128x128_4_0_0 inb_S128x8_S128x1_0_4 inb_S512x2048_S128x256_128_1024 inb_S512x2048_S128x256_128_1024,
      List.forall_mem_cons.2 ⟨tile_read Y0 Y1 X2 Y3 Y4 X5 X6 Y7 arg11.view inb_S512x2048_S512x2048_0_0 0 4 slices_S512x256_o0_0_S128x256 rfl (by norm_num) inb_S1x1024x6144_S1x1024x256_0_0_1024 inb_S1x1024x6144_S1x1024x256_0_0_3072 inb_S8x128x128_S1x128x128_4_0_0 inb_S128x8_S128x1_0_4 inb_S512x2048_S128x256_0_1024 inb_S512x2048_S128x256_0_1024,
      List.forall_mem_cons.2 ⟨tile_read Y0 Y1 X2 Y3 Y4 X5 X6 Y7 arg11.view inb_S512x2048_S512x2048_0_0 384 3 slices_S512x256_o384_0_S128x256 rfl (by norm_num) inb_S1x1024x6144_S1x1024x256_0_0_768 inb_S1x1024x6144_S1x1024x256_0_0_2816 inb_S8x128x128_S1x128x128_3_0_0 inb_S128x8_S128x1_0_3 inb_S512x2048_S128x256_384_768 inb_S512x2048_S128x256_384_768,
      List.forall_mem_cons.2 ⟨tile_read Y0 Y1 X2 Y3 Y4 X5 X6 Y7 arg11.view inb_S512x2048_S512x2048_0_0 256 3 slices_S512x256_o256_0_S128x256 rfl (by norm_num) inb_S1x1024x6144_S1x1024x256_0_0_768 inb_S1x1024x6144_S1x1024x256_0_0_2816 inb_S8x128x128_S1x128x128_3_0_0 inb_S128x8_S128x1_0_3 inb_S512x2048_S128x256_256_768 inb_S512x2048_S128x256_256_768,
      List.forall_mem_cons.2 ⟨tile_read Y0 Y1 X2 Y3 Y4 X5 X6 Y7 arg11.view inb_S512x2048_S512x2048_0_0 128 3 slices_S512x256_o128_0_S128x256 rfl (by norm_num) inb_S1x1024x6144_S1x1024x256_0_0_768 inb_S1x1024x6144_S1x1024x256_0_0_2816 inb_S8x128x128_S1x128x128_3_0_0 inb_S128x8_S128x1_0_3 inb_S512x2048_S128x256_128_768 inb_S512x2048_S128x256_128_768,
      List.forall_mem_cons.2 ⟨tile_read Y0 Y1 X2 Y3 Y4 X5 X6 Y7 arg11.view inb_S512x2048_S512x2048_0_0 0 3 slices_S512x256_o0_0_S128x256 rfl (by norm_num) inb_S1x1024x6144_S1x1024x256_0_0_768 inb_S1x1024x6144_S1x1024x256_0_0_2816 inb_S8x128x128_S1x128x128_3_0_0 inb_S128x8_S128x1_0_3 inb_S512x2048_S128x256_0_768 inb_S512x2048_S128x256_0_768,
      List.forall_mem_cons.2 ⟨tile_read Y0 Y1 X2 Y3 Y4 X5 X6 Y7 arg11.view inb_S512x2048_S512x2048_0_0 384 2 slices_S512x256_o384_0_S128x256 rfl (by norm_num) inb_S1x1024x6144_S1x1024x256_0_0_512 inb_S1x1024x6144_S1x1024x256_0_0_2560 inb_S8x128x128_S1x128x128_2_0_0 inb_S128x8_S128x1_0_2 inb_S512x2048_S128x256_384_512 inb_S512x2048_S128x256_384_512,
      List.forall_mem_cons.2 ⟨tile_read Y0 Y1 X2 Y3 Y4 X5 X6 Y7 arg11.view inb_S512x2048_S512x2048_0_0 256 2 slices_S512x256_o256_0_S128x256 rfl (by norm_num) inb_S1x1024x6144_S1x1024x256_0_0_512 inb_S1x1024x6144_S1x1024x256_0_0_2560 inb_S8x128x128_S1x128x128_2_0_0 inb_S128x8_S128x1_0_2 inb_S512x2048_S128x256_256_512 inb_S512x2048_S128x256_256_512,
      List.forall_mem_cons.2 ⟨tile_read Y0 Y1 X2 Y3 Y4 X5 X6 Y7 arg11.view inb_S512x2048_S512x2048_0_0 128 2 slices_S512x256_o128_0_S128x256 rfl (by norm_num) inb_S1x1024x6144_S1x1024x256_0_0_512 inb_S1x1024x6144_S1x1024x256_0_0_2560 inb_S8x128x128_S1x128x128_2_0_0 inb_S128x8_S128x1_0_2 inb_S512x2048_S128x256_128_512 inb_S512x2048_S128x256_128_512,
      List.forall_mem_cons.2 ⟨tile_read Y0 Y1 X2 Y3 Y4 X5 X6 Y7 arg11.view inb_S512x2048_S512x2048_0_0 0 2 slices_S512x256_o0_0_S128x256 rfl (by norm_num) inb_S1x1024x6144_S1x1024x256_0_0_512 inb_S1x1024x6144_S1x1024x256_0_0_2560 inb_S8x128x128_S1x128x128_2_0_0 inb_S128x8_S128x1_0_2 inb_S512x2048_S128x256_0_512 inb_S512x2048_S128x256_0_512,
      List.forall_mem_cons.2 ⟨tile_read Y0 Y1 X2 Y3 Y4 X5 X6 Y7 arg11.view inb_S512x2048_S512x2048_0_0 384 1 slices_S512x256_o384_0_S128x256 rfl (by norm_num) inb_S1x1024x6144_S1x1024x256_0_0_256 inb_S1x1024x6144_S1x1024x256_0_0_2304 inb_S8x128x128_S1x128x128_1_0_0 inb_S128x8_S128x1_0_1 inb_S512x2048_S128x256_384_256 inb_S512x2048_S128x256_384_256,
      List.forall_mem_cons.2 ⟨tile_read Y0 Y1 X2 Y3 Y4 X5 X6 Y7 arg11.view inb_S512x2048_S512x2048_0_0 256 1 slices_S512x256_o256_0_S128x256 rfl (by norm_num) inb_S1x1024x6144_S1x1024x256_0_0_256 inb_S1x1024x6144_S1x1024x256_0_0_2304 inb_S8x128x128_S1x128x128_1_0_0 inb_S128x8_S128x1_0_1 inb_S512x2048_S128x256_256_256 inb_S512x2048_S128x256_256_256,
      List.forall_mem_cons.2 ⟨tile_read Y0 Y1 X2 Y3 Y4 X5 X6 Y7 arg11.view inb_S512x2048_S512x2048_0_0 128 1 slices_S512x256_o128_0_S128x256 rfl (by norm_num) inb_S1x1024x6144_S1x1024x256_0_0_256 inb_S1x1024x6144_S1x1024x256_0_0_2304 inb_S8x128x128_S1x128x128_1_0_0 inb_S128x8_S128x1_0_1 inb_S512x2048_S128x256_128_256 inb_S512x2048_S128x256_128_256,
      List.forall_mem_cons.2 ⟨tile_read Y0 Y1 X2 Y3 Y4 X5 X6 Y7 arg11.view inb_S512x2048_S512x2048_0_0 0 1 slices_S512x256_o0_0_S128x256 rfl (by norm_num) inb_S1x1024x6144_S1x1024x256_0_0_256 inb_S1x1024x6144_S1x1024x256_0_0_2304 inb_S8x128x128_S1x128x128_1_0_0 inb_S128x8_S128x1_0_1 inb_S512x2048_S128x256_0_256 inb_S512x2048_S128x256_0_256,
      List.forall_mem_cons.2 ⟨tile_read Y0 Y1 X2 Y3 Y4 X5 X6 Y7 arg11.view inb_S512x2048_S512x2048_0_0 384 0 slices_S512x256_o384_0_S128x256 rfl (by norm_num) inb_S1x1024x6144_S1x1024x256_0_0_0 inb_S1x1024x6144_S1x1024x256_0_0_2048 inb_S8x128x128_S1x128x128_0_0_0 inb_S128x8_S128x1_0_0 inb_S512x2048_S128x256_384_0 inb_S512x2048_S128x256_384_0,
      List.forall_mem_cons.2 ⟨tile_read Y0 Y1 X2 Y3 Y4 X5 X6 Y7 arg11.view inb_S512x2048_S512x2048_0_0 256 0 slices_S512x256_o256_0_S128x256 rfl (by norm_num) inb_S1x1024x6144_S1x1024x256_0_0_0 inb_S1x1024x6144_S1x1024x256_0_0_2048 inb_S8x128x128_S1x128x128_0_0_0 inb_S128x8_S128x1_0_0 inb_S512x2048_S128x256_256_0 inb_S512x2048_S128x256_256_0,
      List.forall_mem_cons.2 ⟨tile_read Y0 Y1 X2 Y3 Y4 X5 X6 Y7 arg11.view inb_S512x2048_S512x2048_0_0 128 0 slices_S512x256_o128_0_S128x256 rfl (by norm_num) inb_S1x1024x6144_S1x1024x256_0_0_0 inb_S1x1024x6144_S1x1024x256_0_0_2048 inb_S8x128x128_S1x128x128_0_0_0 inb_S128x8_S128x1_0_0 inb_S512x2048_S128x256_128_0 inb_S512x2048_S128x256_128_0,
      List.forall_mem_cons.2 ⟨tile_read Y0 Y1 X2 Y3 Y4 X5 X6 Y7 arg11.view inb_S512x2048_S512x2048_0_0 0 0 slices_S512x256_o0_0_S128x256 rfl (by norm_num) inb_S1x1024x6144_S1x1024x256_0_0_0 inb_S1x1024x6144_S1x1024x256_0_0_2048 inb_S8x128x128_S1x128x128_0_0_0 inb_S128x8_S128x1_0_0 inb_S512x2048_S128x256_0_0 inb_S512x2048_S128x256_0_0,
      List.forall_mem_nil _⟩⟩⟩⟩⟩⟩⟩⟩⟩⟩⟩⟩⟩⟩⟩⟩⟩⟩⟩⟩⟩⟩⟩⟩⟩⟩⟩⟩⟩⟩⟩⟩
  · exact View.cover_of_tiled _ S128x256.size (by sl_kernel_rfl)
  · show k0_pay3 (k0_pay4 Y0) (gateB Y0 Y1 X2 Y3 Y4 X5 X6 Y7) Y7 = _
    rw [show Y0 = x0 from e0, show Y1 = x1 from e1, show X2 = x2 from e2, show Y3 = x3 from e3, show Y4 = x4 from e4,
      show X5 = x5 from e5, show X6 = x6 from e6, show Y7 = x7 from e7]

end

end Cert.KernelIdeal.Sgu

end
-- ==== Proof.Sgu.Kernel.lean ====
/- The kernel's result array as one function of the arguments: every row of every sequence is the layer (Spec.lean) of the
   row's chunk of 128 rows. -/
module

public import proofs.«01_k».proof.Proof.Sgu.Block

@[expose] public section

set_option maxRecDepth 16384

noncomputable section

namespace Cert.KernelIdeal.Sgu

open Cert.Sgu Cert.KernelIdeal Cert.KernelIdeal.Gen Cert.KernelIdeal.Facts Cert.KernelIdeal.Value Idealize.ShloMosaic
  Idealize.ShloMosaic.TcCoe Idealize.SL.Sem

/-- What a grid point stores, at an index: the layer of the row's chunk. -/
theorem store_apply (x0 : Vec Ideal S1x512x1024 .f32) (x1 : Vec Ideal S1x1024 .f32) (x2 : Vec Ideal S1x1024x6144 .bf16)
    (x3 x4 : Vec Ideal S1x2048 .f32) (x5 : Vec Ideal S8x128x128 .f32) (x6 : Vec Ideal S128x8 .f32)
    (x7 : Vec Ideal S1x2048x1024 .bf16) (r : Fin 512) (j : Fin 1024) :
    k0_pay3 (k0_pay4 x0) (gateB x0 x1 x2 x3 x4 x5 x6 x7) x7 (ix3 0 r j)
      = layer (weightsB x1 x2 x3 x4 x5 x6 x7) (chunkB x0 r) (place r) j := by
  have hr : x0 (ix3 0 r j) = chunkB x0 r (place r) j := by
    refine congrArg x0 (congrArg (ix3 0 · j) (Fin.ext ?_))
    show r.val = r.val / 128 * 128 + r.val % 128
    omega
  unfold layer
  rw [← hr]
  pointwise [k0_pay3, k0_pay4]
  rfl

variable (m : (ℓ : Loc nD τ sig) → Buf (Elt Ideal) ℓ) (ρ : Dev nD → PrngReg)

/-- The layer's weights, out of the arguments: the first norm's row 0 and the first entry of each stack. -/
def weights (x1 : Vec Ideal S4x1024 .f32) (x2 : Vec Ideal S2x1024x6144 .f32) (x3 x4 : Vec Ideal S2x2048 .f32)
    (x5 : Vec Ideal S2x8x128x128 .f32) (x6 : Vec Ideal S2x8x128 .f32) (x7 : Vec Ideal S2x2048x1024 .f32) : Weights where
  nw i := x1 (ix2 0 i)
  win i j := x2 (ix3 0 i j)
  lw j := x3 (ix2 0 j)
  lb j := x4 (ix2 0 j)
  ws g t s := x5 (ix4 0 g t s)
  bs g t := x6 (ix3 0 g t)
  wout k j := x7 (ix3 0 k j)

/-- The chunk of sequence `b` that row `l` is in. -/
def chunk (x : Vec Ideal S8x4096x1024 .f32) (b : Fin 8) (l : Fin 4096) : Fin 128 → Fin 1024 → EReal :=
  fun s i => x (ix3 b ⟨l.val / 128 * 128 + s.val, by have := l.isLt; have := s.isLt; omega⟩ i)

/-- The result array: entry `j` of row `l` of sequence `b` is the layer of the row's chunk. -/
def result (x : Vec Ideal S8x4096x1024 .f32) (W : Weights) : Vec Ideal S8x4096x1024 .f32 := fun y =>
  layer W (chunk x (y 0) (y 1)) ⟨(y 1).val % 128, Nat.mod_lt _ (by norm_num)⟩ (y 2)

/-! ## What the host code hands the call -/

/-- The input projections, at the narrower format. -/
theorem V_main_v0 (c : Dev nD) : V m c main_v0
    = (truncf (F := Ideal) (s := S2x1024x6144) (φ := .f32) .bf16 (m ((c : Thread nD τ).loc main_arg2)) bitsLt_bf16_f32 : FVec Ideal S2x1024x6144 .bf16) := by
  show StableHlo.after hostOps0 _ _ = _
  simp only [hostOps0]
  after_results_simp <;> rfl

/-- The output projections, at the narrower format. -/
theorem V_main_v1 (c : Dev nD) : V m c main_v1
    = (truncf (F := Ideal) (s := S2x2048x1024) (φ := .f32) .bf16 (m ((c : Thread nD τ).loc main_arg7)) bitsLt_bf16_f32 : FVec Ideal S2x2048x1024 .bf16) := by
  show StableHlo.after hostOps0 _ _ = _
  simp only [hostOps0]
  after_results_simp <;> rfl

/-- The first norm's scale as a row. -/
theorem V_main_v12 (c : Dev nD) : V m c main_v12
    = (shapeCast S1x1024 (shapeCast S1024 (extractStridedSlice S1x1024 ![0, 0] (m ((c : Thread nD τ).loc main_arg1) : Vec Ideal S4x1024 .f32)
        slices_S4x1024_S1x1024_0_0) shapeCasts_S1x1024_S1024) shapeCasts_S1024_S1x1024 : Vec Ideal S1x1024 .f32) := by
  show StableHlo.after hostOps0 _ _ = _
  simp only [hostOps0]
  after_results_simp <;> rfl

/-- The second norm's scale as a row. -/
theorem V_main_v13 (c : Dev nD) : V m c main_v13
    = (shapeCast S1x2048 (shapeCast S2048 (extractStridedSlice S1x2048 ![0, 0] (m ((c : Thread nD τ).loc main_arg3) : Vec Ideal S2x2048 .f32)
        slices_S2x2048_S1x2048_0_0) shapeCasts_S1x2048_S2048) shapeCasts_S2048_S1x2048 : Vec Ideal S1x2048 .f32) := by
  show StableHlo.after hostOps0 _ _ = _
  simp only [hostOps0]
  after_results_simp <;> rfl

/-- The second norm's shift as a row. -/
theorem V_main_v14 (c : Dev nD) : V m c main_v14
    = (shapeCast S1x2048 (shapeCast S2048 (extractStridedSlice S1x2048 ![0, 0] (m ((c : Thread nD τ).loc main_arg4) : Vec Ideal S2x2048 .f32)
        slices_S2x2048_S1x2048_0_0) shapeCasts_S1x2048_S2048) shapeCasts_S2048_S1x2048 : Vec Ideal S1x2048 .f32) := by
  show StableHlo.after hostOps0 _ _ = _
  simp only [hostOps0]
  after_results_simp <;> rfl

/-- The spatial weights of the first layer. -/
theorem V_main_v9 (c : Dev nD) : V m c main_v9
    = (shapeCast S8x128x128 (extractStridedSlice S1x8x128x128 ![0, 0, 0, 0] (m ((c : Thread nD τ).loc main_arg5) : Vec Ideal S2x8x128x128 .f32)
        slices_S2x8x128x128_S1x8x128x128_0_0_0_0) shapeCasts_S1x8x128x128_S8x128x128 : Vec Ideal S8x128x128 .f32) := by
  show StableHlo.after hostOps0 _ _ = _
  simp only [hostOps0]
  after_results_simp <;> rfl

/-- The spatial biases of the first layer, a column to a group. -/
theorem V_main_v15 (c : Dev nD) : V m c main_v15
    = (transpose S128x8 [1, 0] (shapeCast S8x128 (extractStridedSlice S1x8x128 ![0, 0, 0] (m ((c : Thread nD τ).loc main_arg6) : Vec Ideal S2x8x128 .f32)
        slices_S2x8x128_S1x8x128_0_0_0) shapeCasts_S1x8x128_S8x128) transposes_S8x128_S128x8_1_0 : Vec Ideal S128x8 .f32) := by
  show StableHlo.after hostOps0 _ _ = _
  simp only [hostOps0]
  after_results_simp <;> rfl

/-! ## The blocks of the grid's points -/

/-- The windows of `x` and of the result are at the point's sequence and the point's stretch of 512 rows. -/
theorem idx0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
theorem idx8 : ∀ t : Fin cfg0.N, win0_8.index t (0 : Fin 3) = t.val / 8 ∧ win0_8.index t (1 : Fin 3) = t.val % 8 ∧ win0_8.index t (2 : Fin 3) = 0 :=
  (by decide +kernel : ∀ t : Fin grid0.N, _)
/-- The windows of the weights stay at the first block. -/
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 3) = 0 ∧ win0_7.index t (1 : Fin 3) = 0 ∧ win0_7.index t (2 : Fin 3) = 0 :=
  (by decide +kernel : ∀ t : Fin grid0.N, _)

/-- Row `r` of point `t`'s block is this row of the point's sequence. -/
def row (t : Fin cfg0.N) (r : Fin 512) : Fin 4096 := ⟨t.val % 8 * 512 + r.val, by have := r.isLt; omega⟩
/-- The sequence of point `t`. -/
def seq (t : Fin cfg0.N) : Fin 8 := ⟨t.val / 8, by have : t.val < 64 := t.isLt; omega⟩

theorem emb0 (t : Fin cfg0.N) (r : Fin 512) (j : Fin 1024) :
    ((cfg0.win 0).blk t).view.emb (ix3 0 r j : S1x512x1024.Idx) = (ix3 (seq t) (row t r) j : S8x4096x1024.Idx) := by
  obtain ⟨e0, e1, e2⟩ := idx0 t
  funext a; apply Fin.ext
  match a with
  | ⟨0, _⟩ => show win0_0.index t (0 : Fin 3) * 1 + 1 * 0 = t.val / 8; omega
  | ⟨1, _⟩ => show win0_0.index t (1 : Fin 3) * 512 + 1 * r.val = t.val % 8 * 512 + r.val; omega
  | ⟨2, _⟩ => show win0_0.index t (2 : Fin 3) * 1024 + 1 * j.val = j.val; omega

theorem emb8 (t : Fin cfg0.N) (r : Fin 512) (j : Fin 1024) :
    ((cfg0.win 8).blk t).view.emb (ix3 0 r j : S1x512x1024.Idx) = (ix3 (seq t) (row t r) j : S8x4096x1024.Idx) := by
  obtain ⟨e0, e1, e2⟩ := idx8 t
  funext a; apply Fin.ext
  match a with
  | ⟨0, _⟩ => show win0_8.index t (0 : Fin 3) * 1 + 1 * 0 = t.val / 8; omega
  | ⟨1, _⟩ => show win0_8.index t (1 : Fin 3) * 512 + 1 * r.val = t.val % 8 * 512 + r.val; omega
  | ⟨2, _⟩ => show win0_8.index t (2 : Fin 3) * 1024 + 1 * j.val = j.val; omega

theorem emb1 (t : Fin cfg0.N) (y : S1x1024.Idx) : ((cfg0.win 1).blk t).view.emb y = y := by
  obtain ⟨e0, e1⟩ := idx1 t
  funext a; apply Fin.ext
  match a with
  | ⟨0, _⟩ => show win0_1.index t (0 : Fin 2) * 1 + 1 * (y 0).val = (y 0).val; omega
  | ⟨1, _⟩ => show win0_1.index t (1 : Fin 2) * 1024 + 1 * (y 1).val = (y 1).val; omega

theorem emb2 (t : Fin cfg0.N) (i : Fin 1024) (j : Fin 6144) :
    ((cfg0.win 2).blk t).view.emb (ix3 0 i j : S1x1024x6144.Idx) = (ix3 0 i j : S2x1024x6144.Idx) := by
  obtain ⟨e0, e1, e2⟩ := idx2 t
  funext a; apply Fin.ext
  match a with
  | ⟨0, _⟩ => show win0_2.index t (0 : Fin 3) * 1 + 1 * 0 = 0; omega
  | ⟨1, _⟩ => show win0_2.index t (1 : Fin 3) * 1024 + 1 * i.val = i.val; omega
  | ⟨2, _⟩ => show win0_2.index t (2 : Fin 3) * 6144 + 1 * j.val = j.val; omega

theorem emb3 (t : Fin cfg0.N) (y : S1x2048.Idx) : ((cfg0.win 3).blk t).view.emb y = y := by
  obtain ⟨e0, e1⟩ := idx3 t
  funext a; apply Fin.ext
  match a with
  | ⟨0, _⟩ => show win0_3.index t (0 : Fin 2) * 1 + 1 * (y 0).val = (y 0).val; omega
  | ⟨1, _⟩ => show win0_3.index t (1 : Fin 2) * 2048 + 1 * (y 1).val = (y 1).val; omega

theorem emb4 (t : Fin cfg0.N) (y : S1x2048.Idx) : ((cfg0.win 4).blk t).view.emb y = y := by
  obtain ⟨e0, e1⟩ := idx4 t
  funext a; apply Fin.ext
  match a with
  | ⟨0, _⟩ => show win0_4.index t (0 : Fin 2) * 1 + 1 * (y 0).val = (y 0).val; omega
  | ⟨1, _⟩ => show win0_4.index t (1 : Fin 2) * 2048 + 1 * (y 1).val = (y 1).val; omega

theorem emb5 (t : Fin cfg0.N) (y : S8x128x128.Idx) : ((cfg0.win 5).blk t).view.emb y = y := by
  obtain ⟨e0, e1, e2⟩ := idx5 t
  funext a; apply Fin.ext
  match a with
  | ⟨0, _⟩ => show win0_5.index t (0 : Fin 3) * 8 + 1 * (y 0).val = (y 0).val; omega
  | ⟨1, _⟩ => show win0_5.index t (1 : Fin 3) * 128 + 1 * (y 1).val = (y 1).val; omega
  | ⟨2, _⟩ => show win0_5.index t (2 : Fin 3) * 128 + 1 * (y 2).val = (y 2).val; omega

theorem emb6 (t : Fin cfg0.N) (y : S128x8.Idx) : ((cfg0.win 6).blk t).view.emb y = y := by
  obtain ⟨e0, e1⟩ := idx6 t
  funext a; apply Fin.ext
  match a with
  | ⟨0, _⟩ => show win0_6.index t (0 : Fin 2) * 128 + 1 * (y 0).val = (y 0).val; omega
  | ⟨1, _⟩ => show win0_6.index t (1 : Fin 2) * 8 + 1 * (y 1).val = (y 1).val; omega

theorem emb7 (t : Fin cfg0.N) (i : Fin 2048) (j : Fin 1024) :
    ((cfg0.win 7).blk t).view.emb (ix3 0 i j : S1x2048x1024.Idx) = (ix3 0 i j : S2x2048x1024.Idx) := by
  obtain ⟨e0, e1, e2⟩ := idx7 t
  funext a; apply Fin.ext
  match a with
  | ⟨0, _⟩ => show win0_7.index t (0 : Fin 3) * 1 + 1 * 0 = 0; omega
  | ⟨1, _⟩ => show win0_7.index t (1 : Fin 3) * 2048 + 1 * i.val = i.val; omega
  | ⟨2, _⟩ => show win0_7.index t (2 : Fin 3) * 1024 + 1 * j.val = j.val; omega

/-- The weights in a point's blocks are the arguments' weights. -/
theorem weights_eq (c : Dev nD) (t : Fin cfg0.N) :
    weightsB (iblk m c 1 t) (iblk m c 2 t) (iblk m c 3 t) (iblk m c 4 t) (iblk m c 5 t) (iblk m c 6 t) (iblk m c 7 t)
      = weights (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) := by
  unfold weightsB weights
  congr 1
  · funext i
    show V m c main_v12 (((cfg0.win 1).blk t).view.emb (ix2 0 i)) = _
    rw [emb1, V_main_v12]; pointwise
  · funext i j
    show V m c main_v0 (((cfg0.win 2).blk t).view.emb (ix3 0 i j)) = _
    rw [emb2, V_main_v0]; rfl
  · funext i
    show V m c main_v13 (((cfg0.win 3).blk t).view.emb (ix2 0 i)) = _
    rw [emb3, V_main_v13]; pointwise
  · funext i
    show V m c main_v14 (((cfg0.win 4).blk t).view.emb (ix2 0 i)) = _
    rw [emb4, V_main_v14]; pointwise
  · funext g i s
    show V m c main_v9 (((cfg0.win 5).blk t).view.emb (ix3 g i s)) = _
    rw [emb5, V_main_v9]; pointwise
  · funext g i
    show V m c main_v15 (((cfg0.win 6).blk t).view.emb (ix2 i g)) = _
    rw [emb6, V_main_v15]; pointwise
  · funext i j
    show V m c main_v1 (((cfg0.win 7).blk t).view.emb (ix3 0 i j)) = _
    rw [emb7, V_main_v1]; rfl

/-- The chunk of a block is the chunk of its sequence. -/
theorem chunk_eq (c : Dev nD) (t : Fin cfg0.N) (r : Fin 512) :
    chunkB (iblk m c 0 t) r = chunk (m ((c : Thread nD τ).loc main_arg0)) (seq t) (row t r) := by
  funext s i
  show V m c main_arg0 (((cfg0.win 0).blk t).view.emb (ix3 0 _ i)) = _
  rw [emb0, V_main_arg0]
  refine congrArg (m ((c : Thread nD τ).loc main_arg0)) (congrArg (ix3 (seq t) · i) (Fin.ext ?_))
  show t.val % 8 * 512 + (r.val / 128 * 128 + s.val) = (t.val % 8 * 512 + r.val) / 128 * 128 + s.val
  omega

/-! ## The result array -/

/-- The result, of the arguments as launched. -/
abbrev G (c : Dev nD) : Vec Ideal S8x4096x1024 .f32 :=
  result (m ((c : Thread nD τ).loc main_arg0))
    (weights (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)))

/-- An index of a block of the result, by its row and column. -/
theorem idx_block (y : S1x512x1024.Idx) : ∃ (r : Fin 512) (j : Fin 1024), y = ix3 0 r j := by
  refine ⟨y 1, y 2, (eq_ix3 y).trans (congrArg (fun a => ix3 a (y 1) (y 2)) (Fin.ext ?_))⟩
  have h : (y 0).val < 1 := (y 0).isLt
  exact Nat.lt_one_iff.mp h

/-- What a point writes back is its block of the result. -/
theorem flushed_eq (c : Dev nD) (t : Fin cfg0.N) :
    (dats m 0 c).flushed 8 t = ((cfg0.win 8).blk t).view.read (Elt Ideal) (G m c) := by
  rw [flushed8_A, out_eq]
  funext y
  obtain ⟨r, j, rfl⟩ := idx_block y
  show k0_pay3 (k0_pay4 (iblk m c 0 t)) (gateB (iblk m c 0 t) (iblk m c 1 t) (iblk m c 2 t) (iblk m c 3 t) (iblk m c 4 t)
    (iblk m c 5 t) (iblk m c 6 t) (iblk m c 7 t)) (iblk m c 7 t) (ix3 0 r j) = G m c (((cfg0.win 8).blk t).view.emb (ix3 0 r j))
  rw [emb8, store_apply, weights_eq, chunk_eq]
  show layer _ _ _ _ = layer _ (chunk _ (seq t) (row t r)) _ _
  congr 1
  apply Fin.ext
  show r.val % 128 = (t.val % 8 * 512 + r.val) % 128
  omega

/-- Every index of the result is in some point's block. -/
theorem covered (i : S8x4096x1024.Idx) :
    ∃ t : Fin cfg0.N, (cfg0.win 8).flush t = true ∧ i ∈ ((cfg0.win 8).blk t).view.set := by
  have h0 : (i 0).val < 8 := (i 0).isLt
  have h1 : (i 1).val < 4096 := (i 1).isLt
  let t : Fin cfg0.N := ⟨(i 0).val * 8 + (i 1).val / 512, by show _ < 64; omega⟩
  refine ⟨t, flush0_8 _, ?_⟩
  have e : (ix3 (seq t) (row t ⟨(i 1).val % 512, Nat.mod_lt _ (by norm_num)⟩) (i 2) : S8x4096x1024.Idx) = i := by
    refine (congrArg₂ (fun a b => (ix3 a b (i 2) : S8x4096x1024.Idx)) (Fin.ext ?_) (Fin.ext ?_)).trans (eq_ix3 i).symm
    · show ((i 0).val * 8 + (i 1).val / 512) / 8 = (i 0).val; omega
    · show ((i 0).val * 8 + (i 1).val / 512) % 8 * 512 + (i 1).val % 512 = (i 1).val; omega
  exact ((emb8 t _ _).trans e) ▸ ((cfg0.win 8).blk t).view.emb_mem_set (ix3 0 ⟨(i 1).val % 512, Nat.mod_lt _ (by norm_num)⟩ (i 2) : S1x512x1024.Idx)

/-- The result array after the run. -/
theorem final (c : Dev nD) : (dats m 0 c).arrAt 8 cfg0.N = G m c :=
  (dats m 0 c).arrAt_eq_of_cover 8 (G m c) (fun t _ => flushed_eq m c t) covered

/-- The run: the result array is the layer of the arguments, the arguments are as launched. -/
theorem run : θ_run defs (onTc (τ := τ) (main (F := Ideal))) ⟨m, fun _ => 0, ρ⟩ fun r => ∀ c : Dev nD,
      r.2.mem ((c : Thread nD τ).loc main_v16) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.KernelIdeal.Sgu

end
-- ==== Proof.Sgu.Ref.lean ====
/- The reference's result array as a function of the arguments. -/
module

public import proofs.«01_k».proof.Proof.Gen.ReferenceIdeal.Read
public import proofs.«01_k».proof.Proof.Sgu.Spec

@[expose] public section

set_option maxRecDepth 16384

noncomputable section

namespace Cert.ReferenceIdeal.Sgu

open Cert.Sgu Cert.ReferenceIdeal Cert.ReferenceIdeal.Gen Cert.ReferenceIdeal.Facts Cert.ReferenceIdeal.Read Idealize.ShloMosaic
  Idealize.SL.Sem

variable (x0 : Vec Ideal S8x4096x1024 .f32) (x1 : Vec Ideal S4x1024 .f32) (x2 : Vec Ideal S2x1024x6144 .f32)
  (x3 x4 : Vec Ideal S2x2048 .f32) (x5 : Vec Ideal S2x8x128x128 .f32) (x6 : Vec Ideal S2x8x128 .f32)
  (x7 : Vec Ideal S2x2048x1024 .f32)

/-- The normalised input. -/
theorem hn_apply (b : Fin 8) (l : Fin 4096) (k : Fin 1024) :
    val_main_v14 (F := Ideal) x0 x1 (ix3 b l k) = rms (fun i => x0 (ix3 b l i)) (fun i => x1 (ix2 0 i)) k := by
  unfold rms
  pointwise [val_main_v14, val_main_v13, val_main_v12, val_main_v11, val_main_v10, val_main_v9, val_main_v8, val_main_v7, val_main_cst_1,
    val_main_v6, val_main_v5, val_main_cst_0, val_main_v4, val_main_v3, val_main_cst, val_main_v2, val_main_v1, val_main_v0]

/-- The first layer's weights, out of the arguments. -/
def weights : Weights where
  nw i := x1 (ix2 0 i)
  win i j := x2 (ix3 0 i j)
  lw j := x3 (ix2 0 j)
  lb j := x4 (ix2 0 j)
  ws g t s := x5 (ix4 0 g t s)
  bs g t := x6 (ix3 0 g t)
  wout k j := x7 (ix3 0 k j)

/-- The input projection. -/
theorem proj_apply (b : Fin 8) (l : Fin 4096) (j : Fin 6144) :
    val_main_v27 (F := Ideal) x0 x1 x2 (ix3 b l j)
      = dot (rms (fun i => x0 (ix3 b l i)) (weights x1 x2 x3 x4 x5 x6 x7).nw) fun i => (weights x1 x2 x3 x4 x5 x6 x7).win i j := by
  unfold dot
  pointwise [val_main_v27, val_main_v16, val_main_v15]
  exact Finset.sum_congr rfl fun k _ => congrArg (· * _) (hn_apply x0 x1 b l k)

/-- Its first 2048 columns. -/
theorem z_apply (b : Fin 8) (l : Fin 4096) (k : Fin 2048) :
    val_main_v28 (F := Ideal) x0 x1 x2 (ix3 b l k) = zAt (weights x1 x2 x3 x4 x5 x6 x7) (fun i => x0 (ix3 b l i)) k := by
  rw [val_main_v28_apply]
  refine (congrArg _ ?_).trans (proj_apply x0 x1 x2 x3 x4 x5 x6 x7 b l ⟨k.val, by have := k.isLt; omega⟩)
  funext a; match a with
  | ⟨0, _⟩ => rfl
  | ⟨1, _⟩ => rfl
  | ⟨2, _⟩ => rfl

/-- Its second 2048 columns. -/
theorem u_apply (b : Fin 8) (l : Fin 4096) (k : Fin 2048) :
    val_main_v29 (F := Ideal) x0 x1 x2 (ix3 b l k) = uAt (weights x1 x2 x3 x4 x5 x6 x7) (fun i => x0 (ix3 b l i)) k := by
  rw [val_main_v29_apply]
  refine (congrArg _ ?_).trans (proj_apply x0 x1 x2 x3 x4 x5 x6 x7 b l ⟨2048 + k.val, by have := k.isLt; omega⟩)
  funext a; match a with
  | ⟨0, _⟩ => rfl
  | ⟨1, _⟩ => rfl
  | ⟨2, _⟩ => rfl

/-- Its third 2048 columns. -/
theorem v_apply (b : Fin 8) (l : Fin 4096) (k : Fin 2048) :
    val_main_v30 (F := Ideal) x0 x1 x2 (ix3 b l k) = vAt (weights x1 x2 x3 x4 x5 x6 x7) (fun i => x0 (ix3 b l i)) k := by
  rw [val_main_v30_apply]
  refine (congrArg _ ?_).trans (proj_apply x0 x1 x2 x3 x4 x5 x6 x7 b l ⟨4096 + k.val, by have := k.isLt; omega⟩)
  funext a; match a with
  | ⟨0, _⟩ => rfl
  | ⟨1, _⟩ => rfl
  | ⟨2, _⟩ => rfl

/-- The second norm, of any array in the place of the third columns. -/
theorem vn_apply (b : Fin 8) (l : Fin 4096) (k : Fin 2048) :
    val_main_v54 (F := Ideal) x0 x1 x2 x3 x4 (ix3 b l k) = vnAt (weights x1 x2 x3 x4 x5 x6 x7) (fun i => x0 (ix3 b l i)) k := by
  have e : vAt (weights x1 x2 x3 x4 x5 x6 x7) (fun i => x0 (ix3 b l i)) = fun j => val_main_v30 (F := Ideal) x0 x1 x2 (ix3 b l j) :=
    funext fun j => (v_apply x0 x1 x2 x3 x4 x5 x6 x7 b l j).symm
  unfold vnAt
  rw [e]
  unfold lnorm mean weights
  pointwise [val_main_v54, val_main_v53, val_main_v52, val_main_v51, val_main_v50, val_main_v49, val_main_v48, val_main_v47, val_main_v46,
    val_main_v45, val_main_v44, val_main_cst_6, val_main_v43, val_main_v42, val_main_v41, val_main_v40, val_main_cst_5, val_main_v39,
    val_main_v38, val_main_cst_4, val_main_v37, val_main_v36, val_main_v35, val_main_v34, val_main_v33, val_main_cst_3, val_main_v32,
    val_main_v31, val_main_cst_2, val_main_v20, val_main_v19, val_main_v18, val_main_v17]

/-- The spatial weights below and on the diagonal. -/
theorem ws_apply (g : Fin 8) (t s : Fin 128) :
    val_main_v59 (F := Ideal) x5 (ix3 g t s) = if s ≤ t then (weights x1 x2 x3 x4 x5 x6 x7).ws g t s else 0 := by
  have tril : val_main_v57 (F := Ideal) (ix2 t s) = if s ≤ t then 1#1 else 0#1 := by
    revert t s
    show ∀ t s : Fin 128, Scalar.select (IntOp.cmpi .sge (IntOp.addi (BitVec.ofNat 32 t.val) 0#32) (BitVec.ofNat 32 s.val)) 1#1 0#1
      = if s ≤ t then 1#1 else 0#1
    decide +kernel
  unfold weights
  pointwise [val_main_v59, val_main_call1_v0, val_main_call1_v1, val_main_cst_7, val_main_v58, val_main_v22, val_main_v21]
  rw [tril]
  by_cases h : s ≤ t <;> simp [h, Scalar.select]

/-- The row of a chunk that sequence row `l` is in. -/
def chunkRow (l : Fin 4096) (s : Fin 128) : Fin 4096 := ⟨l.val / 128 * 128 + s.val, by have := l.isLt; have := s.isLt; omega⟩

/-- The mixed value. -/
theorem mix_apply (b : Fin 8) (l : Fin 4096) (k : Fin 2048) :
    val_main_v66 (F := Ideal) x0 x1 x2 x3 x4 x5 x6 (ix3 b l k)
      = mixAt (weights x1 x2 x3 x4 x5 x6 x7) (fun s i => x0 (ix3 b (chunkRow l s) i)) ⟨l.val % 128, Nat.mod_lt _ (by norm_num)⟩ k := by
  have hb := b.isLt
  have hl := l.isLt
  have hk := k.isLt
  have q0 : ((idx_main_v66 (ix3 b l k)) 0).val = b.val := by
    show ((b.val * 4096 + l.val) * 2048 + k.val) / 8388608 = b.val; omega
  have q1 : ((idx_main_v66 (ix3 b l k)) 1).val = l.val / 128 := by
    show ((b.val * 4096 + l.val) * 2048 + k.val) / 262144 % 32 = l.val / 128; omega
  have q2 : ((idx_main_v66 (ix3 b l k)) 2).val = l.val % 128 := by
    show ((b.val * 4096 + l.val) * 2048 + k.val) / 2048 % 128 = l.val % 128; omega
  have q3 : ((idx_main_v66 (ix3 b l k)) 3).val = k.val / 256 := by
    show ((b.val * 4096 + l.val) * 2048 + k.val) / 256 % 8 = k.val / 256; omega
  have q4 : ((idx_main_v66 (ix3 b l k)) 4).val = k.val % 256 := by
    show ((b.val * 4096 + l.val) * 2048 + k.val) % 256 = k.val % 256; omega
  rw [val_main_v66_apply]
  generalize idx_main_v66 (ix3 b l k) = q at q0 q1 q2 q3 q4 ⊢
  rw [val_main_v65_apply, val_main_v61_apply, val_main_v60_apply, val_main_v64_apply, val_main_v63_apply, val_main_v62_apply]
  unfold mixAt mix
  refine congrArg₂ (· + ·) (Finset.sum_congr rfl fun s _ => ?_) ?_
  · have e1 : idx_main_v55 (lidx_main_v60 (idx_main_v61 q) s) = ix3 b (chunkRow l s) k := by
      have hs := s.isLt
      funext a; apply Fin.ext
      match a with
      | ⟨0, _⟩ =>
        show (((((q 0).val * 32 + (q 1).val) * 128 + s.val) * 8 + (q 3).val) * 256 + (q 4).val) / 8388608 = b.val
        rw [q0, q1, q3, q4]; omega
      | ⟨1, _⟩ =>
        show (((((q 0).val * 32 + (q 1).val) * 128 + s.val) * 8 + (q 3).val) * 256 + (q 4).val) / 2048 % 4096 = l.val / 128 * 128 + s.val
        rw [q0, q1, q3, q4]; omega
      | ⟨2, _⟩ =>
        show (((((q 0).val * 32 + (q 1).val) * 128 + s.val) * 8 + (q 3).val) * 256 + (q 4).val) % 2048 = k.val
        rw [q0, q1, q3, q4]; omega
    have e2 : ridx_main_v60 (idx_main_v61 q) s = ix3 (grp k) ⟨l.val % 128, Nat.mod_lt _ (by norm_num)⟩ s := by
      funext a; apply Fin.ext
      match a with
      | ⟨0, _⟩ => exact q3
      | ⟨1, _⟩ => exact q2
      | ⟨2, _⟩ => rfl
    rw [val_main_v55_apply, e1, e2, vn_apply x0 x1 x2 x3 x4 x5 x6 x7, ws_apply x1 x2 x3 x4 x5 x6 x7, mul_comm]
  · have e3 : idx_main_v62 (idx_main_v63 (idx_main_v64 q)) = ix2 (grp k) ⟨l.val % 128, Nat.mod_lt _ (by norm_num)⟩ := by
      funext a; apply Fin.ext
      match a with
      | ⟨0, _⟩ => exact q3
      | ⟨1, _⟩ => exact q2
    rw [e3]
    unfold weights
    pointwise [val_main_v24, val_main_v23]

/-- The gated product, the gate in its plain spelling. -/
theorem gate_apply (b : Fin 8) (l : Fin 4096) (k : Fin 2048) :
    val_main_v69 (F := Ideal) x0 x1 x2 x3 x4 x5 x6 (ix3 b l k)
      = uAt (weights x1 x2 x3 x4 x5 x6 x7) (fun i => x0 (ix3 b l i)) k
        * mixAt (weights x1 x2 x3 x4 x5 x6 x7) (fun s i => x0 (ix3 b (chunkRow l s) i)) ⟨l.val % 128, Nat.mod_lt _ (by norm_num)⟩ k
        * (zAt (weights x1 x2 x3 x4 x5 x6 x7) (fun i => x0 (ix3 b l i)) k
          * Ideal.logistic (zAt (weights x1 x2 x3 x4 x5 x6 x7) (fun i => x0 (ix3 b l i)) k)) := by
  rw [← z_apply, ← u_apply, ← mix_apply]
  pointwise [val_main_v69, val_main_v68, val_main_v67, val_main_call2_v5, val_main_call2_v4, val_main_call2_v3, val_main_call2_v2,
    val_main_call2_v1, val_main_call2_v0, val_main_call2_cst, val_main_call2_cst_0]
  rfl

/-- The result. -/
theorem out_apply (b : Fin 8) (l : Fin 4096) (j : Fin 1024) :
    val_main_v71 (F := Ideal) x0 x1 x2 x3 x4 x5 x6 x7 (ix3 b l j)
      = x0 (ix3 b l j) + ∑ k : Fin 2048, uAt (weights x1 x2 x3 x4 x5 x6 x7) (fun i => x0 (ix3 b l i)) k
        * mixAt (weights x1 x2 x3 x4 x5 x6 x7) (fun s i => x0 (ix3 b (chunkRow l s) i)) ⟨l.val % 128, Nat.mod_lt _ (by norm_num)⟩ k
        * (zAt (weights x1 x2 x3 x4 x5 x6 x7) (fun i => x0 (ix3 b l i)) k
          * Ideal.logistic (zAt (weights x1 x2 x3 x4 x5 x6 x7) (fun i => x0 (ix3 b l i)) k)) * (weights x1 x2 x3 x4 x5 x6 x7).wout k j := by
  pointwise [val_main_v71, val_main_v70, val_main_v26, val_main_v25]
  exact congrArg (_ + ·) (Finset.sum_congr rfl fun k _ => congrArg (· * _) (gate_apply x0 x1 x2 x3 x4 x5 x6 x7 b l k))

end Cert.ReferenceIdeal.Sgu

end
-- ==== Proof.Sgu.Silu.lean ====
/- The gate: on a finite value the kernel's spelling by the hyperbolic tangent is the value times its logistic; and the
   gate's argument is finite whenever the norm's scale and the gate's part of the input projection are. -/
module

public import proofs.«01_k».proof.Proof.Sgu.Spec

@[expose] public section

noncomputable section

namespace Cert.Sgu

open Idealize.ShloMosaic

/-- One half, as the constant's bits name it. -/
theorem half_eq : Ideal.ofBits .f32 0x3F000000#32 = ((1 / 2 : ℝ) : EReal) := by
  simp [Ideal.ofBits, Ideal.ieee, -EReal.coe_mul]; norm_num

/-- On a real number the two spellings of the gate agree. -/
theorem silu_coe (z : ℝ) : silu (z : EReal) = (z : EReal) * Ideal.logistic (z : EReal) := by
  unfold silu
  rw [half_eq, Ideal.logistic_coe, ← EReal.coe_mul, Ideal.tanh_coe, ← EReal.coe_mul, ← EReal.coe_add, ← EReal.coe_mul]
  congr 1
  rw [Real.tanh_eq_sinh_div_cosh, Real.sinh_eq, Real.cosh_eq]
  have e : Real.exp (-z) = Real.exp (-(1 / 2 * z)) * Real.exp (-(1 / 2 * z)) := by rw [← Real.exp_add]; ring_nf
  have p : Real.exp (1 / 2 * z) * Real.exp (-(1 / 2 * z)) = 1 := by rw [← Real.exp_add]; simp
  rw [e]
  have h1 := Real.exp_pos (1 / 2 * z)
  have h2 := Real.exp_pos (-(1 / 2 * z))
  generalize Real.exp (1 / 2 * z) = a at *
  generalize Real.exp (-(1 / 2 * z)) = b at *
  have ha : a = b⁻¹ := eq_inv_of_mul_eq_one_left p
  subst ha
  field_simp
  ring

/-- A value that is a real number. -/
def IsReal (x : EReal) : Prop := ∃ r : ℝ, x = r

theorem isReal_of_ne {x : EReal} (h1 : x ≠ ⊤) (h2 : x ≠ ⊥) : IsReal x := ⟨x.toReal, (EReal.coe_toReal h1 h2).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sum {ι : Type} (s : Finset ι) (f : ι → EReal) (h : ∀ i ∈ s, IsReal (f i)) : IsReal (∑ i ∈ s, f i) :=
  Finset.sum_induction f IsReal (fun _ _ => IsReal.add) ⟨0, rfl⟩ h

/-- A square is not negative. -/
theorem mul_self_nonneg' (x : EReal) : 0 ≤ x * x := by
  induction x with
  | bot => simp
  | top => simp
  | coe r => rw [← EReal.coe_mul]; exact_mod_cast mul_self_nonneg r

/-- An entry whose square is not infinite is real. -/
theorem isReal_of_sq {x : EReal} (h : x * x ≠ ⊤) : IsReal x := by
  induction x with
  | bot => simp at h
  | top => simp at h
  | coe r => exact ⟨r, rfl⟩

/-- A row of any entries, normalised and scaled by real numbers, is real: an infinite mean square makes the scale zero. -/
theorem rms_isReal (x w : Fin 1024 → EReal) (hw : ∀ i, IsReal (w i)) (k : Fin 1024) : IsReal (rms x w k) := by
  have hE : Ideal.ofBits .f32 0x358637BD#32 = ((8796093 / 8796093022208 : ℝ) : EReal) := by
    simp [Ideal.ofBits, Ideal.ieee, -EReal.coe_mul]; norm_num
  have hN : Ideal.ofBits .f32 0x44800000#32 = ((1024 : ℝ) : EReal) := by
    simp [Ideal.ofBits, Ideal.ieee, -EReal.coe_mul]; norm_num
  unfold rms
  rw [hE, hN, Ideal.div_coe (by norm_num)]
  refine IsReal.mul ?_ (hw k)
  by_cases hS : ∑ i : Fin 1024, x i * x i = ⊤
  · rw [hS, EReal.top_mul_coe_of_pos (by norm_num), EReal.top_add_coe, Ideal.rsqrt_top, mul_zero]
    exact ⟨0, rfl⟩
  · have hx : ∀ i, IsReal (x i) := fun i => isReal_of_sq fun h => hS <| top_le_iff.mp <| h ▸
      Finset.single_le_sum (f := fun i => x i * x i) (fun i _ => mul_self_nonneg' (x i)) (Finset.mem_univ i)
    obtain ⟨s, hs⟩ := IsReal.sum Finset.univ (fun i => x i * x i) fun i _ => (hx i).mul (hx i)
    have h0 : 0 ≤ s := by
      have : (0 : EReal) ≤ (s : EReal) := hs ▸ Finset.sum_nonneg fun i _ => mul_self_nonneg' (x i)
      exact_mod_cast this
    rw [hs, ← EReal.coe_mul, ← EReal.coe_add, Ideal.rsqrt_coe]
    refine (hx k).mul ?_
    have hp : 0 < s * (1 / 1024) + 8796093 / 8796093022208 := by positivity
    rw [if_neg (not_lt.mpr hp.le), if_neg hp.ne']
    exact ⟨_, rfl⟩

/-- So the gate's argument is real. -/
theorem zAt_isReal (W : Weights) (hn : ∀ i, IsReal (W.nw i)) (hw : ∀ i (k : Fin 2048), IsReal (W.win i ⟨k.val, by have := k.isLt; omega⟩)) (x : Fin 1024 → EReal) (k : Fin 2048) :
    IsReal (zAt W x k) :=
  show IsReal (∑ i : Fin 1024, rms x W.nw i * W.win i ⟨k.val, _⟩) from
    IsReal.sum _ _ fun i _ => (rms_isReal x W.nw hn i).mul (hw i _)

/-- The layer with the gate in its plain spelling. -/
theorem layer_plain (W : Weights) (hn : ∀ i, IsReal (W.nw i)) (hw : ∀ i (k : Fin 2048), IsReal (W.win i ⟨k.val, by have := k.isLt; omega⟩)) (X : Fin 128 → Fin 1024 → EReal)
    (t : Fin 128) (j : Fin 1024) :
    layer W X t j = X t j + ∑ k : Fin 2048, uAt W (X t) k * mixAt W X t k * (zAt W (X t) k * Ideal.logistic (zAt W (X t) k)) * W.wout k j := by
  unfold layer
  rw [add_comm]
  refine congrArg (X t j + ·) (Finset.sum_congr rfl fun k _ => congrArg (· * W.wout k j) ?_)
  unfold gateAt
  obtain ⟨z, hz⟩ := zAt_isReal W hn hw (X t) k
  rw [hz, silu_coe, mul_right_comm]

end Cert.Sgu

end
-- ==== Proof.Sgu.Claims.lean ====
/- The claims about the gating layer: the frames, and the equality of the two results where the norm's scale and the
   gate's part of the input projection are finite. -/
module

public import proofs.«01_k».proof.Defs
public import proofs.«01_k».proof.Proof.Gen.Kernel.Frame
public import proofs.«01_k».proof.Proof.Gen.ReferenceIdeal.Run
public import proofs.«01_k».proof.Proof.Sgu.Kernel
public import proofs.«01_k».proof.Proof.Sgu.Ref
public import proofs.«01_k».proof.Proof.Sgu.Silu
public import Idealize.ShloMosaic.Lib.Quiescent

@[expose] public section

set_option maxRecDepth 16384

noncomputable section

namespace Cert.Pre_finite

open Idealize.ShloMosaic

/-- The side conditions of the precondition's own operations. -/
instance sides : Facts where
  slices_S4x1024_S1x1024_0_0 := by decide
  shapeCasts_S1x1024_S1024 := by decide
  bcast_S_S1024 := by decide
  slices_S2x1024x6144_S1x1024x2048_0_0_0 := by decide
  shapeCasts_S1x1024x2048_S1024x2048 := by decide
  bcast_S_S1024x2048 := by decide

/-- An absolute value below the infinity's bits is that of a real number. -/
theorem real_of_lt (x : EReal) (h : Ideal.cmp .olt (max x (-x)) (Ideal.ofBits .f32 0x7F800000#32) = 1#1) : Cert.Sgu.IsReal x := by
  have e : Ideal.ofBits .f32 0x7F800000#32 = ⊤ := by simp [Ideal.ofBits, Ideal.ieee]
  rw [e] at h
  induction x with
  | bot => simp [Ideal.cmp] at h
  | top => simp [Ideal.cmp] at h
  | coe r => exact ⟨r, rfl⟩

/-- What the precondition says of the norm's scale. -/
theorem nw_real (x0 : Vec Ideal S8x4096x1024 .f32) (x1 : Vec Ideal S4x1024 .f32) (x2 : Vec Ideal S2x1024x6144 .f32)
    (x3 x4 : Vec Ideal S2x2048 .f32) (x5 : Vec Ideal S2x8x128x128 .f32) (x6 : Vec Ideal S2x8x128 .f32) (x7 : Vec Ideal S2x2048x1024 .f32)
    (h : (fn (F := Ideal) x0 x1 x2 x3 x4 x5 x6 x7).1 = fun _ => 1#1) (i : Fin 1024) : Cert.Sgu.IsReal (x1 (ix2 0 i)) := by
  refine real_of_lt _ ((congrFun h (ix1 i)).symm.trans ?_).symm
  unfold fn
  pointwise
  rfl

/-- What the precondition says of the gate's part of the input projection. -/
theorem win_real (x0 : Vec Ideal S8x4096x1024 .f32) (x1 : Vec Ideal S4x1024 .f32) (x2 : Vec Ideal S2x1024x6144 .f32)
    (x3 x4 : Vec Ideal S2x2048 .f32) (x5 : Vec Ideal S2x8x128x128 .f32) (x6 : Vec Ideal S2x8x128 .f32) (x7 : Vec Ideal S2x2048x1024 .f32)
    (h : (fn (F := Ideal) x0 x1 x2 x3 x4 x5 x6 x7).2 = fun _ => 1#1) (i : Fin 1024) (j : Fin 2048) :
    Cert.Sgu.IsReal (x2 (ix3 0 i (⟨j.val, by have := j.isLt; omega⟩ : Fin 6144))) := by
  refine real_of_lt _ ((congrFun h (ix2 i j)).symm.trans ?_).symm
  unfold fn
  pointwise
  rfl

end Cert.Pre_finite

namespace Cert.Proof.Sgu

open Idealize.ShloMosaic Idealize.ShloMosaic.TcCoe Idealize.SL.Sem

theorem frame_p : Cert.quiescent_Kernel := fun m ρ _ => Cert.Kernel.Gen.frame m ρ
theorem frame_pi : Cert.quiescent_KernelIdeal := fun m ρ _ => Cert.KernelIdeal.Gen.frame m ρ
theorem frame_pi_finite : Cert.quiescent_KernelIdeal_pre_finite := fun m ρ _ => Cert.KernelIdeal.Gen.frame m ρ
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_ri_finite : Cert.quiescent_ReferenceIdeal_pre_finite := fun m ρ _ => frame_ri m ρ trivial

/-- The kernel's result with the gate in its plain spelling. -/
theorem result_plain (x : Vec Ideal Cert.KernelIdeal.S8x4096x1024 .f32) (W : Cert.Sgu.Weights) (hn : ∀ i, Cert.Sgu.IsReal (W.nw i))
    (hw : ∀ i (k : Fin 2048), Cert.Sgu.IsReal (W.win i ⟨k.val, by have := k.isLt; omega⟩)) (b : Fin 8) (l : Fin 4096) (j : Fin 1024) :
    Cert.KernelIdeal.Sgu.result x W (ix3 b l j)
      = x (ix3 b l j) + ∑ k : Fin 2048, Cert.Sgu.uAt W (fun i => x (ix3 b l i)) k
        * Cert.Sgu.mixAt W (fun s i => x (ix3 b (Cert.ReferenceIdeal.Sgu.chunkRow l s) i)) ⟨l.val % 128, Nat.mod_lt _ (by norm_num)⟩ k
        * (Cert.Sgu.zAt W (fun i => x (ix3 b l i)) k * Ideal.logistic (Cert.Sgu.zAt W (fun i => x (ix3 b l i)) k)) * W.wout k j := by
  have e : Cert.KernelIdeal.Sgu.chunk x b l ⟨l.val % 128, Nat.mod_lt _ (by norm_num)⟩ = fun i => x (ix3 b l i) := by
    funext i
    refine congrArg x (congrArg (ix3 b · i) (Fin.ext ?_))
    show l.val / 128 * 128 + l.val % 128 = l.val
    omega
  show Cert.Sgu.layer W (Cert.KernelIdeal.Sgu.chunk x b l) ⟨l.val % 128, Nat.mod_lt _ (by norm_num)⟩ j = _
  rw [Cert.Sgu.layer_plain W hn hw, e]
  rfl

/-- The two results are equal: both are the layer of the arguments. -/
theorem algebraic : Cert.algebraic_KernelIdeal_ReferenceIdeal_pre_finite := by
  intro m ρ m' ρ' hpre hagree
  refine ⟨_, Cert.KernelIdeal.Sgu.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v71_eq, a0, a1, a2, a3, a4, a5, a6, a7]
  funext y
  obtain ⟨b, l, j, rfl⟩ : ∃ (b : Fin 8) (l : Fin 4096) (j : Fin 1024), y = (ix3 b l j : Cert.KernelIdeal.S8x4096x1024.Idx) :=
    ⟨y 0, y 1, y 2, eq_ix3 y⟩
  exact (Cert.ReferenceIdeal.Sgu.out_apply _ _ _ _ _ _ _ _ b l j).trans (result_plain _ _
    (Cert.Pre_finite.nw_real _ _ _ _ _ _ _ _ (hpre c).1) (Cert.Pre_finite.win_real _ _ _ _ _ _ _ _ (hpre c).2) b l j).symm

end Cert.Proof.Sgu

end
-- ==== Proof.Ssd.Spec.lean ====
/- The state-space layer over the extended reals, row by row: the rows of all sequences are numbered one after the other,
   4096 to a sequence, 128 to a chunk. -/
module

public import proofs.«01_k».proof.Proof.Sgu.Silu

@[expose] public section

noncomputable section

namespace Cert.Ssd

open Idealize.ShloMosaic Cert.Sgu

/-- The layer's input rows and weights. -/
structure In where
  x : ℕ → Fin 1024 → EReal
  nw : Fin 1024 → EReal
  wz : Fin 1024 → Fin 2048 → EReal
  wx : Fin 1024 → Fin 4096 → EReal
  wd : Fin 1024 → Fin 32 → EReal
  cw : Fin 4 → Fin 4096 → EReal
  cb : Fin 4096 → EReal
  bias : Fin 32 → EReal
  al : Fin 32 → EReal
  dsk : Fin 32 → EReal
  gw : Fin 2048 → EReal
  wo : Fin 2048 → Fin 1024 → EReal
  fw : Fin 1024 → EReal

/-- A column's head. -/
def head (j : Fin 2048) : Fin 32 := ⟨j.val / 64, by have := j.isLt; omega⟩
/-- A column's group. -/
def grp (j : Fin 2048) : Fin 8 := ⟨j.val / 256, by have := j.isLt; omega⟩
/-- A group's column. -/
def col (g : Fin 8) (e : Fin 256) : Fin 2048 := ⟨256 * g.val + e.val, by have := g.isLt; have := e.isLt; omega⟩

/-- A value times its logistic. -/
def sil (v : EReal) : EReal := v * Ideal.logistic v
/-- The softplus. -/
def sp (v : EReal) : EReal := max v 0 + Ideal.log1p (Ideal.exp (-(max v (-v))))

namespace In
variable (I : In)

def hn (r : ℕ) (k : Fin 1024) : EReal := rms (I.x r) I.nw k
def pz (r : ℕ) (j : Fin 2048) : EReal := ∑ k : Fin 1024, I.hn r k * I.wz k j
def px (r : ℕ) (j : Fin 4096) : EReal := ∑ k : Fin 1024, I.hn r k * I.wx k j
def pd (r : ℕ) (h : Fin 32) : EReal := ∑ k : Fin 1024, I.hn r k * I.wd k h
/-- The projected row `d` rows earlier, zero before the sequence's start. -/
def tap (d r : ℕ) (j : Fin 4096) : EReal := if r % 4096 < d then 0 else I.px (r - d) j
/-- The convolution before its activation. -/
def pre (r : ℕ) (j : Fin 4096) : EReal :=
  I.cb j + I.cw 0 j * I.tap 3 r j + I.cw 1 j * I.tap 2 r j + I.cw 2 j * I.tap 1 r j + I.cw 3 j * I.tap 0 r j
def cv (r : ℕ) (j : Fin 4096) : EReal := sil (I.pre r j)
def xc (r : ℕ) (j : Fin 2048) : EReal := I.cv r ⟨j.val, by have := j.isLt; omega⟩
def bc (r : ℕ) (g : Fin 8) (n : Fin 128) : EReal := I.cv r ⟨2048 + 128 * g.val + n.val, by have := g.isLt; have := n.isLt; omega⟩
def cc (r : ℕ) (g : Fin 8) (n : Fin 128) : EReal := I.cv r ⟨3072 + 128 * g.val + n.val, by have := g.isLt; have := n.isLt; omega⟩
/-- The step sizes. -/
def dt (r : ℕ) (h : Fin 32) : EReal := sp (I.pd r h + I.bias h)
/-- The decays' exponents. -/
def da (r : ℕ) (h : Fin 32) : EReal := I.dt r h * -(Ideal.exp (I.al h))
/-- The exponents' sums inside chunk `q`. -/
def cs (q : ℕ) (t : Fin 128) (h : Fin 32) : EReal := ∑ s : Fin 128, if s ≤ t then I.da (128 * q + s.val) h else 0
/-- The state after chunk `q`, of the state before it. -/
def upd (q : ℕ) (S : Fin 2048 → Fin 128 → EReal) (j : Fin 2048) (n : Fin 128) : EReal :=
  S j n * Ideal.exp (I.cs q 127 (head j))
    + ∑ l : Fin 128, I.bc (128 * q + l.val) (grp j) n * (I.xc (128 * q + l.val) j * (Ideal.exp (I.cs q 127 (head j) - I.cs q l (head j)) * I.dt (128 * q + l.val) (head j)))
/-- The state before chunk `q`. -/
def st : ℕ → Fin 2048 → Fin 128 → EReal
  | 0 => fun _ _ => 0
  | q + 1 => if (q + 1) % 32 = 0 then fun _ _ => 0 else I.upd q (st q)
/-- The weight of place `s` at place `t` of a chunk, times the step size. -/
def wgt (q : ℕ) (t s : Fin 128) (h : Fin 32) : EReal :=
  (if s ≤ t then Ideal.exp (I.cs q t h - I.cs q s h) else 0) * I.dt (128 * q + s.val) h
/-- The gated output of place `t` of chunk `q`. -/
def y (q : ℕ) (S : Fin 2048 → Fin 128 → EReal) (t : Fin 128) (j : Fin 2048) : EReal :=
  ((∑ s : Fin 128, (∑ n : Fin 128, I.cc (128 * q + t.val) (grp j) n * I.bc (128 * q + s.val) (grp j) n) * I.wgt q t s (head j) * I.xc (128 * q + s.val) j)
    + (∑ n : Fin 128, I.cc (128 * q + t.val) (grp j) n * S j n) * Ideal.exp (I.cs q t (head j))
    + I.xc (128 * q + t.val) j * I.dsk (head j)) * sil (I.pz (128 * q + t.val) j)
/-- A row of a group, normalised. -/
def yn (q : ℕ) (S : Fin 2048 → Fin 128 → EReal) (t : Fin 128) (j : Fin 2048) : EReal :=
  I.y q S t j * Ideal.rsqrt (Ideal.div (∑ e : Fin 256, I.y q S t (col (grp j) e) * I.y q S t (col (grp j) e)) (Ideal.ofBits .f32 0x43800000#32)
    + Ideal.ofBits .f32 0x358637BD#32) * I.gw j
/-- The normalised row `r`. -/
def yr (r : ℕ) (j : Fin 2048) : EReal := I.yn (r / 128) (I.st (r / 128)) ⟨r % 128, Nat.mod_lt _ (by norm_num)⟩ j
/-- The layer's row before the last norm. -/
def u (r : ℕ) (k : Fin 1024) : EReal := (∑ j : Fin 2048, I.yr r j * I.wo j k) + I.x r k
/-- The layer's row. -/
def out (r : ℕ) (k : Fin 1024) : EReal := rms (I.u r) I.fw k

/-- The weights that have to be finite, are. -/
structure Fin : Prop where
  nw : ∀ k, IsReal (I.nw k)
  wz : ∀ k j, IsReal (I.wz k j)
  wx : ∀ k j, IsReal (I.wx k j)
  cw : ∀ k j, IsReal (I.cw k j)
  cb : ∀ j, IsReal (I.cb j)

end In

/-- The softplus of a real number or of the lower infinity is a real number, not negative. -/
theorem sp_real {v : EReal} (h : v ≠ ⊤) : ∃ d : ℝ, 0 ≤ d ∧ sp v = d := by
  induction v with
  | top => exact absurd rfl h
  | bot => exact ⟨0, le_rfl, by simp [sp, Ideal.log1p, Ideal.log_coe, ← EReal.coe_one]⟩
  | coe r =>
    have e1 : -(max (r : EReal) (-(r : EReal))) = ((-(max r (-r)) : ℝ) : EReal) := by norm_cast
    have e2 : max (r : EReal) 0 = ((max r 0 : ℝ) : EReal) := by norm_cast
    have hp := Real.exp_pos (-(max r (-r)))
    refine ⟨max r 0 + Real.log (1 + Real.exp (-(max r (-r)))), add_nonneg (le_max_right _ _) (Real.log_nonneg (by linarith)), ?_⟩
    unfold sp Ideal.log1p
    rw [e1, e2, Ideal.exp_coe, ← EReal.coe_one, ← EReal.coe_add, Ideal.log_coe, if_neg (by linarith), ← EReal.coe_add]

/-- The softplus is not negative. -/
theorem sp_nonneg (v : EReal) : 0 ≤ sp v := by
  by_cases h : v = ⊤
  · subst h
    have e : sp ⊤ = ⊤ := by simp [sp, Ideal.log1p, Ideal.log_coe, ← EReal.coe_one]
    rw [e]; exact le_top
  · obtain ⟨d, hd, e⟩ := sp_real h
    rw [e]; exact_mod_cast hd

/-- The kernel's base-two exponential of a product with the logarithm's factor, for the decays. -/
theorem exp2_mul (a : ℝ) : Ideal.exp2 ((a : EReal) * (((Real.log 2)⁻¹ : ℝ) : EReal)) = Ideal.exp (a : EReal) := by
  rw [← EReal.coe_mul, Ideal.exp2_coe, Ideal.exp_coe]
  congr 1
  show (2 : ℝ) ^ (a * (Real.log 2)⁻¹) = Real.exp a
  rw [Real.rpow_def_of_pos (by norm_num)]
  congr 1
  have : Real.log 2 ≠ 0 := (Real.log_pos (by norm_num)).ne'
  field_simp

theorem sub_top' (x : EReal) : x - ⊤ = ⊥ := by rw [sub_eq_add_neg, EReal.neg_top, EReal.add_bot]

/-- The step size brought under the exponential: with a zero step size both sides are zero. -/
theorem exp2_seg (a b d : ℝ) (hd : 0 ≤ d) :
    Ideal.exp2 ((a : EReal) * (((Real.log 2)⁻¹ : ℝ) : EReal) - ((b : EReal) - Ideal.log (d : EReal)) * (((Real.log 2)⁻¹ : ℝ) : EReal))
      = Ideal.exp ((a : EReal) - (b : EReal)) * (d : EReal) := by
  have hl : 0 < (Real.log 2)⁻¹ := inv_pos.mpr (Real.log_pos (by norm_num))
  rcases hd.eq_or_lt with rfl | hd
  · rw [Ideal.log_coe, if_pos le_rfl, EReal.coe_sub_bot, EReal.top_mul_coe_of_pos hl, ← EReal.coe_mul, sub_top', Ideal.exp2_bot]
    simp
  · rw [Ideal.log_coe, if_neg (not_le.mpr hd), ← EReal.coe_sub, ← EReal.coe_mul, ← EReal.coe_mul, ← EReal.coe_sub, ← sub_mul, EReal.coe_mul, exp2_mul,
      ← EReal.coe_sub, Ideal.exp_coe, Ideal.exp_coe, ← EReal.coe_mul]
    congr 1
    rw [show a - (b - Real.log d) = (a - b) + Real.log d by ring, Real.exp_add, Real.exp_log hd]

/-- The same with one factor outside. -/
theorem exp2_seg' (a b d : ℝ) (hd : 0 ≤ d) :
    Ideal.exp2 (((a : EReal) - ((b : EReal) - Ideal.log (d : EReal))) * (((Real.log 2)⁻¹ : ℝ) : EReal))
      = Ideal.exp ((a : EReal) - (b : EReal)) * (d : EReal) := by
  have hl : 0 < (Real.log 2)⁻¹ := inv_pos.mpr (Real.log_pos (by norm_num))
  rcases hd.eq_or_lt with rfl | hd
  · rw [Ideal.log_coe, if_pos le_rfl, EReal.coe_sub_bot, sub_top', EReal.bot_mul_coe_of_pos hl, Ideal.exp2_bot]
    simp
  · rw [Ideal.log_coe, if_neg (not_le.mpr hd), ← EReal.coe_sub, ← EReal.coe_sub, exp2_mul,
      ← EReal.coe_sub, Ideal.exp_coe, Ideal.exp_coe, ← EReal.coe_mul]
    congr 1
    rw [show a - (b - Real.log d) = (a - b) + Real.log d by ring, Real.exp_add, Real.exp_log hd]

theorem bot_sub' (x : EReal) : ⊥ - x = ⊥ := by rw [sub_eq_add_neg, EReal.bot_add]

/-- The base-two exponential of a product with the logarithm's factor, for a sum of decays. -/
theorem exp2_mul' {a : EReal} (ha : a ≠ ⊤) : Ideal.exp2 (a * (((Real.log 2)⁻¹ : ℝ) : EReal)) = Ideal.exp a := by
  induction a with
  | top => exact absurd rfl ha
  | bot => rw [EReal.bot_mul_coe_of_pos (inv_pos.mpr (Real.log_pos (by norm_num))), Ideal.exp2_bot, Ideal.exp_bot]
  | coe a => exact exp2_mul a

/-- The step size brought under the exponential, whatever the step sizes: `a` is the later sum of the decays' exponents, so not
    above the earlier one. -/
theorem exp2_step {a b d : EReal} (hb : b ≠ ⊤) (hab : a ≤ b) (hd : 0 ≤ d) :
    Ideal.exp2 (a * (((Real.log 2)⁻¹ : ℝ) : EReal) - (b - Ideal.log d) * (((Real.log 2)⁻¹ : ℝ) : EReal)) = Ideal.exp (a - b) * d := by
  have hl : 0 < (Real.log 2)⁻¹ := inv_pos.mpr (Real.log_pos (by norm_num))
  induction a with
  | top => exact absurd (top_le_iff.mp hab) hb
  | bot => rw [EReal.bot_mul_coe_of_pos hl, bot_sub', bot_sub', Ideal.exp2_bot, Ideal.exp_bot, zero_mul]
  | coe a =>
    induction b with
    | top => exact absurd rfl hb
    | bot => exact absurd (le_bot_iff.mp hab) (EReal.coe_ne_bot a)
    | coe b =>
      induction d with
      | top =>
        rw [Ideal.log_top, sub_top', EReal.bot_mul_coe_of_pos hl, ← EReal.coe_mul, EReal.coe_sub_bot, Ideal.exp2_top, ← EReal.coe_sub, Ideal.exp_coe,
          EReal.coe_mul_top_of_pos (Real.exp_pos _)]
      | bot => exact absurd (le_bot_iff.mp hd) (by simp)
      | coe d => exact exp2_seg a b d (by exact_mod_cast hd)

/-- The same with one factor outside. -/
theorem exp2_step' {a b d : EReal} (hb : b ≠ ⊤) (hab : a ≤ b) (hd : 0 ≤ d) :
    Ideal.exp2 ((a - (b - Ideal.log d)) * (((Real.log 2)⁻¹ : ℝ) : EReal)) = Ideal.exp (a - b) * d := by
  have hl : 0 < (Real.log 2)⁻¹ := inv_pos.mpr (Real.log_pos (by norm_num))
  induction a with
  | top => exact absurd (top_le_iff.mp hab) hb
  | bot => rw [bot_sub', bot_sub', EReal.bot_mul_coe_of_pos hl, Ideal.exp2_bot, Ideal.exp_bot, zero_mul]
  | coe a =>
    induction b with
    | top => exact absurd rfl hb
    | bot => exact absurd (le_bot_iff.mp hab) (EReal.coe_ne_bot a)
    | coe b =>
      induction d with
      | top =>
        rw [Ideal.log_top, sub_top', EReal.coe_sub_bot, EReal.top_mul_coe_of_pos hl, Ideal.exp2_top, ← EReal.coe_sub, Ideal.exp_coe,
          EReal.coe_mul_top_of_pos (Real.exp_pos _)]
      | bot => exact absurd (le_bot_iff.mp hd) (by simp)
      | coe d => exact exp2_seg' a b d (by exact_mod_cast hd)

namespace In
variable (I : In)

theorem dt_nonneg (r h) : 0 ≤ I.dt r h := sp_nonneg _
/-- A decay's exponent is not positive. -/
theorem da_nonpos (r h) : I.da r h ≤ 0 := by
  have e : 0 ≤ Ideal.exp (I.al h) := by
    generalize I.al h = a
    induction a with
    | bot => exact le_rfl
    | top => exact le_top
    | coe a =>
      rw [Ideal.exp_coe]
      exact_mod_cast (Real.exp_pos a).le
  unfold da
  rw [mul_neg]
  exact (EReal.neg_le_neg_iff.mpr (mul_nonneg (I.dt_nonneg r h) e)).trans_eq neg_zero
theorem da_ne_top (r h) : I.da r h ≠ ⊤ := ((I.da_nonpos r h).trans_lt EReal.zero_lt_top).ne
theorem cs_ne_top (q t h) : I.cs q t h ≠ ⊤ := by
  refine (lt_of_le_of_lt (Finset.sum_nonpos fun s _ => ?_) EReal.zero_lt_top).ne
  split_ifs
  · exact I.da_nonpos _ _
  · exact le_rfl
/-- The sums of the decays' exponents only fall. -/
theorem cs_anti (q : ℕ) {s t : _root_.Fin 128} (hst : s ≤ t) (h) : I.cs q t h ≤ I.cs q s h := by
  refine Finset.sum_le_sum fun i _ => ?_
  by_cases hs : i ≤ s
  · rw [if_pos hs, if_pos (hs.trans hst)]
  · rw [if_neg hs]
    split_ifs
    · exact I.da_nonpos _ _
    · exact le_rfl

end In

namespace In
variable {I : In} (H : I.Fin)
include H

theorem hn_real (r k) : IsReal (I.hn r k) := rms_isReal _ _ H.nw k
theorem pz_real (r j) : IsReal (I.pz r j) := IsReal.sum _ _ fun _ _ => (hn_real H r _).mul (H.wz _ _)
theorem px_real (r j) : IsReal (I.px r j) := IsReal.sum _ _ fun _ _ => (hn_real H r _).mul (H.wx _ _)
theorem tap_real (d r j) : IsReal (I.tap d r j) := by
  unfold tap
  split_ifs
  · exact ⟨0, rfl⟩
  · exact px_real H _ _
theorem pre_real (r j) : IsReal (I.pre r j) :=
  (((((H.cb j)).add ((H.cw _ _).mul (tap_real H _ _ _))).add ((H.cw _ _).mul (tap_real H _ _ _))).add ((H.cw _ _).mul (tap_real H _ _ _))).add
    ((H.cw _ _).mul (tap_real H _ _ _))

end In

end Cert.Ssd

end
-- ==== Proof.Ssd.Args.lean ====
/- The layer's rows and weights, out of the arguments. -/
module

public import proofs.«01_k».proof.Proof.Ssd.Spec

@[expose] public section

noncomputable section

namespace Cert.Ssd

open Idealize.ShloMosaic Cert.Sgu

/-- Row `r` of the sequences one after the other; past the end, the last 256 rows again. -/
def xrow (x : Vec Ideal ⟨3, ![8, 4096, 1024]⟩ .f32) (r : ℕ) (k : Fin 1024) : EReal :=
  x (ix3 (⟨(256 * min (r / 256) 127 + r % 256) / 4096, by omega⟩ : Fin 8) (⟨(256 * min (r / 256) 127 + r % 256) % 4096, Nat.mod_lt _ (by norm_num)⟩ : Fin 4096) k)

/-- The layer's rows and weights: row 3 of the norms, entry 1 of each stack. -/
def inOf (a0 : Vec Ideal ⟨3, ![8, 4096, 1024]⟩ .f32) (a1 : Vec Ideal ⟨2, ![4, 1024]⟩ .f32) (a2 : Vec Ideal ⟨1, ![1024]⟩ .f32)
    (a3 : Vec Ideal ⟨3, ![2, 1024, 6176]⟩ .f32) (a4 : Vec Ideal ⟨3, ![2, 4, 4096]⟩ .f32) (a5 : Vec Ideal ⟨2, ![2, 4096]⟩ .f32)
    (a6 a7 a8 : Vec Ideal ⟨2, ![2, 32]⟩ .f32) (a9 : Vec Ideal ⟨2, ![2, 2048]⟩ .f32) (a10 : Vec Ideal ⟨3, ![2, 2048, 1024]⟩ .f32) : In where
  x := xrow a0
  nw k := a1 (ix2 (3 : Fin 4) k)
  wz k j := a3 (ix3 (1 : Fin 2) k (⟨j.val, by have := j.isLt; omega⟩ : Fin 6176))
  wx k j := a3 (ix3 (1 : Fin 2) k (⟨2048 + j.val, by have := j.isLt; omega⟩ : Fin 6176))
  wd k h := a3 (ix3 (1 : Fin 2) k (⟨6144 + h.val, by have := h.isLt; omega⟩ : Fin 6176))
  cw k j := a4 (ix3 (1 : Fin 2) k j)
  cb j := a5 (ix2 (1 : Fin 2) j)
  bias h := a6 (ix2 (1 : Fin 2) h)
  al h := a7 (ix2 (1 : Fin 2) h)
  dsk h := a8 (ix2 (1 : Fin 2) h)
  gw j := a9 (ix2 (1 : Fin 2) j)
  wo j k := a10 (ix3 (1 : Fin 2) j k)
  fw k := a2 (ix1 k)

/-- The layer's result: entry `k` of row `l` of sequence `b`. -/
def res (I : In) : Vec Ideal ⟨3, ![8, 4096, 1024]⟩ .f32 := fun y => I.out (4096 * (y 0).val + (y 1).val) (y 2)

end Cert.Ssd

end
-- ==== Proof.Ssd.Pay.lean ====
/- The kernel body's vector expressions for one group of heads and one chunk, each named once with its offsets as
   parameters and read at an index. -/
module

public import proofs.«01_k».proof.Proof.Gen.Kernel2Ideal.Skeleton
public import proofs.«01_k».proof.Proof.Gen.Kernel2Ideal
public import Idealize.ShloMosaic.Lib.Pointwise

@[expose] public section

set_option maxRecDepth 16384

noncomputable section

namespace Cert.Kernel2Ideal.Ssd

open Cert.Kernel2Ideal Cert.Kernel2Ideal.Gen Cert.Kernel2Ideal.Facts Idealize.ShloMosaic

/-- The kernel's spelling of a value times its logistic. -/
def hs (v : EReal) : EReal :=
  Ideal.ofBits .f32 0x3F000000#32 * v + Ideal.ofBits .f32 0x3F000000#32 * v * Ideal.tanh (Ideal.ofBits .f32 0x3F000000#32 * v)

/-- One slab of the convolution and its activation. -/
def convV (b w0 : Vec Ideal S1x128 .f32) (t0 : Vec Ideal S1x256x128 .f32) (w1 : Vec Ideal S1x128 .f32) (t1 : Vec Ideal S1x256x128 .f32)
    (w2 : Vec Ideal S1x128 .f32) (t2 : Vec Ideal S1x256x128 .f32) (w3 : Vec Ideal S1x128 .f32) (t3 : Vec Ideal S1x256x128 .f32) :
    FVec Ideal S256x128 .f32 :=
  let tap := fun (w : Vec Ideal S1x128 .f32) (t : Vec Ideal S1x256x128 .f32) =>
    (mulf (broadcastTo S256x128 (shapeCast S1x128 w shapeCasts_S1x128_S1x128 : FVec Ideal S1x128 .f32) broadcasts_S1x128_S256x128 : FVec Ideal S256x128 .f32)
      (shapeCast S256x128 t shapeCasts_S1x256x128_S256x128 : FVec Ideal S256x128 .f32) : FVec Ideal S256x128 .f32)
  let a : FVec Ideal S256x128 .f32 := addf (addf (addf (addf (broadcastTo S256x128 (shapeCast S1x128 b shapeCasts_S1x128_S1x128 : FVec Ideal S1x128 .f32) broadcasts_S1x128_S256x128 : FVec Ideal S256x128 .f32)
    (tap w0 t0)) (tap w1 t1)) (tap w2 t2)) (tap w3 t3)
  let h : FVec Ideal S256x128 .f32 := mulf (broadcast S256x128 (Scalar.ofBits .f32 0x3F000000#32 : Ideal .f32)) a
  addf h (mulf h (tanh h))

/-- A slab of the convolution at an index. -/
theorem convV_apply (b w0 t0 w1 t1 w2 t2 w3 t3) (i : Fin 256) (l : Fin 128) :
    convV b w0 t0 w1 t1 w2 t2 w3 t3 (ix2 i l)
      = hs (b (ix2 0 l) + w0 (ix2 0 l) * t0 (ix3 0 i l) + w1 (ix2 0 l) * t1 (ix3 0 i l) + w2 (ix2 0 l) * t2 (ix3 0 i l) + w3 (ix2 0 l) * t3 (ix3 0 i l)) := by
  pointwise [convV, hs]

/-- A column, repeated along the rows' places. -/
def colB (cs : FVec Ideal S128x32 .f32) (k : Nat) (hk : S128x32.Slices ![0, k] S128x1) : FVec Ideal S128x128 .f32 :=
  broadcastTo S128x128 (shapeCast S128x1 (extractStridedSlice S128x1 ![0, k] cs hk : FVec Ideal S128x1 .f32) shapeCasts_S128x1_S128x1 : FVec Ideal S128x1 .f32) broadcasts_S128x1_S128x128

/-- A row, repeated. -/
def rowB (cst : FVec Ideal S32x128 .f32) (k : Nat) (hk : S32x128.Slices ![k, 0] S1x128) : FVec Ideal S128x128 .f32 :=
  broadcastTo S128x128 (extractStridedSlice S1x128 ![k, 0] cst hk : FVec Ideal S1x128 .f32) broadcasts_S1x128_S128x128

theorem colB_apply (cs k hk) (kk : Fin 32) (hkk : kk.val = k) (i j : Fin 128) : colB cs k hk (ix2 i j) = cs (ix2 i kk) := by
  obtain ⟨k', hk'⟩ := kk
  obtain rfl : k' = k := hkk
  pointwise [colB]

theorem rowB_apply (cst k hk) (kk : Fin 32) (hkk : kk.val = k) (i j : Fin 128) : rowB cst k hk (ix2 i j) = cst (ix2 kk j) := by
  obtain ⟨k', hk'⟩ := kk
  obtain rfl : k' = k := hkk
  pointwise [rowB]

/-- One head's weights inside a chunk times its inputs. -/
def mixH (cb : FVec Ideal S128x128 .f32) (cs : FVec Ideal S128x32 .f32) (cst : FVec Ideal S32x128 .f32) (x : FVec Ideal S128x256 .bf16)
    (k m : Nat) (hk : S128x32.Slices ![0, k] S128x1) (hk' : S32x128.Slices ![k, 0] S1x128) (hm : S128x256.Slices ![0, m] S128x64) : FVec Ideal S128x64 .f32 :=
  matmul dot_S128x128_S128x64_S128x64_1_0_0_1_n_n none
    (truncf .bf16 (mulf cb (exp2 (select k0_pay62 (subf (colB cs k hk) (rowB cst k hk')) (broadcast S128x128 (Scalar.ofBits .f32 0xFF800000#32 : Ideal .f32))))) bitsLt_bf16_f32)
    (extractStridedSlice S128x64 ![0, m] x hm : FVec Ideal S128x64 .bf16) (constant S128x64 .f32 0x00000000#32)

/-- The causal comparison of two row numbers below 128. -/
theorem causal : ∀ t s : Fin 128,
    IntOp.cmpi .sge (BitVec.ofNat 32 t.val) (BitVec.ofNat 32 s.val) = if s ≤ t then 1#1 else 0#1 := by
  decide +kernel

/-- The comparison with the first 64 lanes. -/
theorem lane64 : ∀ s : Fin 128, IntOp.cmpi .slt (BitVec.ofNat 32 s.val) 64#32 = if s.val < 64 then 1#1 else 0#1 := by
  decide +kernel

theorem pay62_apply (t s : Fin 128) : k0_pay62 (ix2 t s) = if s ≤ t then 1#1 else 0#1 := by
  pointwise [k0_pay62]
  exact causal t s

theorem pay63_apply (t s : Fin 128) : k0_pay63 (ix2 t s) = if s.val < 64 then 1#1 else 0#1 := by
  pointwise [k0_pay63]
  exact lane64 s

/-- The weight of one earlier place, as the kernel computes it. -/
def dk (c : EReal) (t s : Fin 128) : EReal := Ideal.exp2 (if s ≤ t then c else Ideal.ofBits .f32 0xFF800000#32)

theorem mixH_apply (cb cs cst x) (k m) (hk hk' hm) (kk : Fin 32) (hkk : kk.val = k) (t : Fin 128) (p : Fin 64) (d : Fin 256) (hd : d.val = m + p.val) :
    mixH cb cs cst x k m hk hk' hm (ix2 t p)
      = ∑ s : Fin 128, cb (ix2 t s) * dk (cs (ix2 t kk) - cst (ix2 kk s)) t s * x (ix2 s d) := by
  obtain ⟨d, hd'⟩ := d
  obtain rfl : d = m + p.val := hd
  pointwise [mixH, dk, pay62_apply, colB_apply _ _ _ kk hkk, rowB_apply _ _ _ kk hkk]
  refine Finset.sum_congr rfl fun s _ => ?_
  by_cases h : s ≤ t <;> simp [h, Scalar.select] <;> rfl

/-- Two heads' values on the two halves of the lanes. -/
def twoH (a b : FVec Ideal S128x128 .f32) : FVec Ideal S128x128 .f32 := select k0_pay63 a b

theorem twoH_apply (a b) (t s : Fin 128) : twoH a b (ix2 t s) = if s.val < 64 then a (ix2 t s) else b (ix2 t s) := by
  pointwise [twoH, pay63_apply]
  by_cases h : s.val < 64 <;> simp [h, Scalar.select]

/-- Four heads' values, 64 lanes each. -/
def fourH (a b c d : FVec Ideal S128x128 .f32) : FVec Ideal S128x256 .f32 :=
  concatenate S128x256 1 [⟨S128x128, twoH a b⟩, ⟨S128x128, twoH c d⟩] concatenates_S128x128_S128x128_S128x256_d1

/-- Four heads' columns, 64 lanes each. -/
def fourM (a b c d : FVec Ideal S128x64 .f32) : FVec Ideal S128x256 .f32 :=
  concatenate S128x256 1 [⟨S128x64, a⟩, ⟨S128x64, b⟩, ⟨S128x64, c⟩, ⟨S128x64, d⟩] concatenates_S128x64_S128x64_S128x64_S128x64_S128x256_d1

theorem fourH_apply (a b c d) (f : Fin 32 → EReal) (t : Fin 128) (h0 h1 h2 h3 : Fin 32)
    (ha : ∀ s, a (ix2 t s) = f h0) (hb : ∀ s, b (ix2 t s) = f h1) (hc : ∀ s, c (ix2 t s) = f h2) (hd : ∀ s, d (ix2 t s) = f h3)
    (e : Fin 256) (h : Fin 32) (e0 : h0.val + e.val / 64 = h.val) (e1 : h1.val = h0.val + 1) (e2 : h2.val = h0.val + 2) (e3 : h3.val = h0.val + 3) :
    fourH a b c d (ix2 t e) = f h := by
  pointwise [fourH, twoH_apply, ha, hb, hc, hd]
  have := e.isLt
  split_ifs <;> congr 1 <;> apply Fin.ext <;> omega

theorem fourM_apply (a b c d) (G : Fin 32 → Fin 256 → EReal) (t : Fin 128) (h0 h1 h2 h3 : Fin 32)
    (ha : ∀ (p : Fin 64) (e : Fin 256), e.val = 0 + p.val → a (ix2 t p) = G h0 e) (hb : ∀ (p : Fin 64) (e : Fin 256), e.val = 64 + p.val → b (ix2 t p) = G h1 e)
    (hc : ∀ (p : Fin 64) (e : Fin 256), e.val = 128 + p.val → c (ix2 t p) = G h2 e) (hd : ∀ (p : Fin 64) (e : Fin 256), e.val = 192 + p.val → d (ix2 t p) = G h3 e)
    (e : Fin 256) (h : Fin 32) (e0 : h0.val + e.val / 64 = h.val) (e1 : h1.val = h0.val + 1) (e2 : h2.val = h0.val + 2) (e3 : h3.val = h0.val + 3) :
    fourM a b c d (ix2 t e) = G h e := by
  pointwise [fourM]
  have := e.isLt
  by_cases a1 : e.val < 64
  · rw [dif_pos a1]
    exact (ha ⟨e.val, a1⟩ e (Nat.zero_add _).symm).trans (congrArg (G · e) (Fin.ext (by omega)))
  rw [dif_neg a1]
  by_cases a2 : e.val - 64 < 64
  · rw [dif_pos a2]
    exact (hb ⟨e.val - 64, a2⟩ e (show e.val = 64 + (e.val - 64) by omega)).trans (congrArg (G · e) (Fin.ext (by omega)))
  rw [dif_neg a2]
  by_cases a3 : e.val - 64 - 64 < 64
  · rw [dif_pos a3]
    exact (hc ⟨e.val - 64 - 64, a3⟩ e (show e.val = 128 + (e.val - 64 - 64) by omega)).trans (congrArg (G · e) (Fin.ext (by omega)))
  rw [dif_neg a3]
  exact (hd ⟨e.val - 64 - 64 - 64, by omega⟩ e (show e.val = 192 + (e.val - 64 - 64 - 64) by omega)).trans (congrArg (G · e) (Fin.ext (by omega)))

section
variable (o k : Nat) (ho : S256x128.Slices ![o, 0] S128x128) (ho' : S256x256.Slices ![o, 0] S128x256)
  (k0 : S128x32.Slices ![0, k] S128x1) (k1 : S128x32.Slices ![0, k + 1] S128x1) (k2 : S128x32.Slices ![0, k + 2] S128x1) (k3 : S128x32.Slices ![0, k + 3] S128x1)
  (r0 : S32x128.Slices ![k, 0] S1x128) (r1 : S32x128.Slices ![k + 1, 0] S1x128) (r2 : S32x128.Slices ![k + 2, 0] S1x128) (r3 : S32x128.Slices ![k + 3, 0] S1x128)

/-- The decays of four heads. -/
def dec (cum : FVec Ideal S128x32 .f32) : FVec Ideal S128x256 .f32 :=
  fourH (exp2 (colB cum k k0)) (exp2 (colB cum (k + 1) k1)) (exp2 (colB cum (k + 2) k2)) (exp2 (colB cum (k + 3) k3))

theorem dec_apply (cum) (t : Fin 128) (e : Fin 256) (h : Fin 32) (hh : h.val = k + e.val / 64) :
    dec k k0 k1 k2 k3 cum (ix2 t e) = Ideal.exp2 (cum (ix2 t h)) := by
  have hk : k + 3 < 32 := by have := k3.2 1; simpa using this
  unfold dec
  exact fourH_apply _ _ _ _ (fun h => Ideal.exp2 (cum (ix2 t h))) t ⟨k, by omega⟩ ⟨k + 1, by omega⟩ ⟨k + 2, by omega⟩ ⟨k + 3, by omega⟩
    (fun s => by pointwise [colB_apply cum k k0 ⟨k, by omega⟩ rfl]; rfl) (fun s => by pointwise [colB_apply cum (k + 1) k1 ⟨k + 1, by omega⟩ rfl]; rfl)
    (fun s => by pointwise [colB_apply cum (k + 2) k2 ⟨k + 2, by omega⟩ rfl]; rfl) (fun s => by pointwise [colB_apply cum (k + 3) k3 ⟨k + 3, by omega⟩ rfl]; rfl)
    e h hh.symm rfl rfl rfl

/-- The state after a chunk. -/
def newState (xs : FVec Ideal S256x256 .f32) (bs : FVec Ideal S256x128 .bf16) (cum dte : FVec Ideal S128x32 .f32) (st : Vec Ideal S1x128x256 .f32) : FVec Ideal S1x128x256 .f32 :=
  shapeCast S1x128x256 (addf (mulf (shapeCast S128x256 st shapeCasts_S1x128x256_S128x256 : FVec Ideal S128x256 .f32)
      (broadcastTo S128x256 (extractStridedSlice S1x256 ![127, 0] (dec k k0 k1 k2 k3 cum) slices_S128x256_o127_0_S1x256 : FVec Ideal S1x256 .f32) broadcasts_S1x256_S128x256))
    (matmul dot_S128x128_S128x256_S128x256_0_0_1_1_n_n none (extractStridedSlice S128x128 ![o, 0] bs ho : FVec Ideal S128x128 .bf16)
      (truncf .bf16 (mulf (extractStridedSlice S128x256 ![o, 0] xs ho' : FVec Ideal S128x256 .f32) (dec k k0 k1 k2 k3 dte)) bitsLt_bf16_f32) (constant S128x256 .f32 0x00000000#32)))
    shapeCasts_S128x256_S1x128x256

theorem newState_apply (xs bs cum dte st) (n : Fin 128) (e : Fin 256) (h : Fin 32) (hh : h.val = k + e.val / 64) (row : Fin 128 → Fin 256) (hrow : ∀ l, (row l).val = o + l.val) :
    newState o k ho ho' k0 k1 k2 k3 xs bs cum dte st (ix3 0 n e)
      = st (ix3 0 n e) * Ideal.exp2 (cum (ix2 127 h)) + ∑ l : Fin 128, bs (ix2 (row l) n) * (xs (ix2 (row l) e) * Ideal.exp2 (dte (ix2 l h))) := by
  have hr : ∀ l : Fin 128, ∀ hl, (⟨o + l.val, hl⟩ : Fin 256) = row l := fun l hl => Fin.ext (hrow l).symm
  pointwise [newState, dec_apply k k0 k1 k2 k3 _ _ _ h hh]
  simp only [hr]

/-- The output of a chunk before its norm. -/
def yPre (xs : FVec Ideal S256x256 .f32) (bs cs : FVec Ideal S256x128 .bf16) (z : FVec Ideal S256x256 .f32) (cum : FVec Ideal S128x32 .f32) (cumt : FVec Ideal S32x128 .f32)
    (st : Vec Ideal S1x128x256 .f32) (dsk : Vec Ideal S1x256 .f32) : FVec Ideal S128x256 .f32 :=
  let cb : FVec Ideal S128x128 .f32 := matmul dot_S128x128_S128x128_S128x128_1_1_0_0_n_n none (extractStridedSlice S128x128 ![o, 0] cs ho : FVec Ideal S128x128 .bf16)
    (extractStridedSlice S128x128 ![o, 0] bs ho : FVec Ideal S128x128 .bf16) (constant S128x128 .f32 0x00000000#32)
  let x : FVec Ideal S128x256 .bf16 := extractStridedSlice S128x256 ![o, 0] (truncf .bf16 xs bitsLt_bf16_f32 : FVec Ideal S256x256 .bf16) ho'
  let zh : FVec Ideal S128x256 .f32 := mulf (broadcast S128x256 (Scalar.ofBits .f32 0x3F000000#32 : Ideal .f32)) (extractStridedSlice S128x256 ![o, 0] z ho' : FVec Ideal S128x256 .f32)
  mulf (addf (addf (fourM (mixH cb cum cumt x k 0 k0 r0 slices_S128x256_o0_0_S128x64) (mixH cb cum cumt x (k + 1) 64 k1 r1 slices_S128x256_o0_64_S128x64)
        (mixH cb cum cumt x (k + 2) 128 k2 r2 slices_S128x256_o0_128_S128x64) (mixH cb cum cumt x (k + 3) 192 k3 r3 slices_S128x256_o0_192_S128x64))
      (mulf (matmul dot_S128x128_S128x256_S128x256_1_0_0_1_n_n none (extractStridedSlice S128x128 ![o, 0] cs ho : FVec Ideal S128x128 .bf16)
        (truncf .bf16 (shapeCast S128x256 st shapeCasts_S1x128x256_S128x256 : FVec Ideal S128x256 .f32) bitsLt_bf16_f32 : FVec Ideal S128x256 .bf16) (constant S128x256 .f32 0x00000000#32)) (dec k k0 k1 k2 k3 cum)))
    (mulf (extractStridedSlice S128x256 ![o, 0] xs ho' : FVec Ideal S128x256 .f32) (broadcastTo S128x256 (shapeCast S1x256 dsk shapeCasts_S1x256_S1x256 : FVec Ideal S1x256 .f32) broadcasts_S1x256_S128x256)))
    (addf zh (mulf zh (tanh zh)))

/-- The output of a chunk. -/
def yPiece (xs : FVec Ideal S256x256 .f32) (bs cs : FVec Ideal S256x128 .bf16) (z : FVec Ideal S256x256 .f32) (cum : FVec Ideal S128x32 .f32) (cumt : FVec Ideal S32x128 .f32)
    (st : Vec Ideal S1x128x256 .f32) (dsk gw : Vec Ideal S1x256 .f32) : FVec Ideal S128x256 .bf16 :=
  let y := yPre o k ho ho' k0 k1 k2 k3 r0 r1 r2 r3 xs bs cs z cum cumt st dsk
  shapeCast S128x256 (truncf .bf16 (mulf (mulf y (broadcastTo S128x256 (rsqrt (addf (divf
      (shapeCast S128x1 (multiReduction .add [1] S128 (mulf y y) 0x00000000#32 reduces_S128x256_S128 (.inl rfl) rfl : FVec Ideal S128 .f32) shapeCasts_S128_S128x1 : FVec Ideal S128x1 .f32)
      (broadcast S128x1 (Scalar.ofBits .f32 0x43800000#32 : Ideal .f32))) (broadcast S128x1 (Scalar.ofBits .f32 0x358637BD#32 : Ideal .f32)))) broadcasts_S128x1_S128x256))
    (broadcastTo S128x256 (shapeCast S1x256 gw shapeCasts_S1x256_S1x256 : FVec Ideal S1x256 .f32) broadcasts_S1x256_S128x256)) bitsLt_bf16_f32) shapeCasts_S128x256_S128x256

theorem yPre_apply (xs bs cs z cum cumt st dsk) (t : Fin 128) (e : Fin 256) (h : Fin 32) (hh : h.val = k + e.val / 64) (row : Fin 128 → Fin 256) (hrow : ∀ l, (row l).val = o + l.val) :
    yPre o k ho ho' k0 k1 k2 k3 r0 r1 r2 r3 xs bs cs z cum cumt st dsk (ix2 t e)
      = ((∑ s : Fin 128, (∑ n : Fin 128, cs (ix2 (row t) n) * bs (ix2 (row s) n)) * dk (cum (ix2 t h) - cumt (ix2 h s)) t s * xs (ix2 (row s) e))
          + (∑ n : Fin 128, cs (ix2 (row t) n) * st (ix3 0 n e)) * Ideal.exp2 (cum (ix2 t h))
          + xs (ix2 (row t) e) * dsk (ix2 0 e)) * hs (z (ix2 (row t) e)) := by
  have hk : k + 3 < 32 := by have := k3.2 1; simpa using this
  have hr : ∀ l : Fin 128, ∀ hl, (⟨o + l.val, hl⟩ : Fin 256) = row l := fun l hl => Fin.ext (hrow l).symm
  have hm := fun (cb : FVec Ideal S128x128 .f32) (x : FVec Ideal S128x256 .bf16) => fourM_apply
    (mixH cb cum cumt x k 0 k0 r0 slices_S128x256_o0_0_S128x64) (mixH cb cum cumt x (k + 1) 64 k1 r1 slices_S128x256_o0_64_S128x64)
    (mixH cb cum cumt x (k + 2) 128 k2 r2 slices_S128x256_o0_128_S128x64) (mixH cb cum cumt x (k + 3) 192 k3 r3 slices_S128x256_o0_192_S128x64)
    (fun h e => ∑ s : Fin 128, cb (ix2 t s) * dk (cum (ix2 t h) - cumt (ix2 h s)) t s * x (ix2 s e)) t ⟨k, by omega⟩ ⟨k + 1, by omega⟩ ⟨k + 2, by omega⟩ ⟨k + 3, by omega⟩
    (fun p e he => mixH_apply _ _ _ _ _ _ _ _ _ ⟨k, by omega⟩ rfl t p e he) (fun p e he => mixH_apply _ _ _ _ _ _ _ _ _ ⟨k + 1, by omega⟩ rfl t p e he)
    (fun p e he => mixH_apply _ _ _ _ _ _ _ _ _ ⟨k + 2, by omega⟩ rfl t p e he) (fun p e he => mixH_apply _ _ _ _ _ _ _ _ _ ⟨k + 3, by omega⟩ rfl t p e he)
    e h hh.symm rfl rfl rfl
  pointwise [yPre, dec_apply k k0 k1 k2 k3 _ _ _ h hh, hm, hs]
  simp only [hr]

/-- The output of a chunk at an index: the row's norm over the group's columns. -/
theorem yPiece_apply (xs bs cs z cum cumt st dsk gw) (t : Fin 128) (e : Fin 256) :
    yPiece o k ho ho' k0 k1 k2 k3 r0 r1 r2 r3 xs bs cs z cum cumt st dsk gw (ix2 t e)
      = (let y := fun e => yPre o k ho ho' k0 k1 k2 k3 r0 r1 r2 r3 xs bs cs z cum cumt st dsk (ix2 t e)
        y e * Ideal.rsqrt (Ideal.div (∑ e : Fin 256, y e * y e) (Ideal.ofBits .f32 0x43800000#32) + Ideal.ofBits .f32 0x358637BD#32) * gw (ix2 0 e)) := by
  pointwise [yPiece]

end

end Cert.Kernel2Ideal.Ssd

end
-- ==== Proof.Ssd.Point.lean ====
/- One grid point's group of heads: what its convolution, gate, decays and states are as functions of the memories it reads. -/
module

public import proofs.«01_k».proof.Proof.Ssd.Pay

@[expose] public section

set_option maxRecDepth 16384

noncomputable section

namespace Cert.Kernel2Ideal.Ssd

open Cert.Kernel2Ideal Cert.Kernel2Ideal.Gen Cert.Kernel2Ideal.Facts Idealize.ShloMosaic

/-- What a grid point's body reads: the taps of the projected rows (the last tap apart), the weights, the normalised rows, the step sizes' projections. -/
structure Pt where
  T : (o : Fin 3 → Nat) → (∀ a, o a + S1x256x128.size a ≤ S32x264x128.size a) → Vec Ideal S1x256x128 .f32
  T3 : (o : Fin 3 → Nat) → (∀ a, o a + S1x256x128.size a ≤ S32x264x128.size a) → Vec Ideal S1x256x128 .f32
  hn : Vec Ideal S256x1024 .bf16
  wzx : Vec Ideal S1x1024x6144 .bf16
  cw : Vec Ideal S4x4096 .f32
  cb : Vec Ideal S1x4096 .f32
  dtr : Vec Ideal S256x32 .f32
  dttr : Vec Ideal S32x256 .f32
  b : Vec Ideal S1x32 .f32
  bT : Vec Ideal S32x1 .f32
  al : Vec Ideal S1x32 .f32
  alT : Vec Ideal S32x1 .f32
  dsk : Vec Ideal S1x2048 .f32
  gw : Vec Ideal S1x2048 .f32

theorem inbT (j r : Nat) (hj : j < 32) (hr : r ≤ 8) : ∀ a, (![j, r, 0] : Fin 3 → Nat) a + S1x256x128.size a ≤ S32x264x128.size a := by
  intro a
  match a with
  | ⟨0, _⟩ => show j + 1 ≤ 32; omega
  | ⟨1, _⟩ => show r + 256 ≤ 264; omega
  | ⟨2, _⟩ => show 0 + 128 ≤ 128; omega

theorem inbW (k j : Nat) (hk : k < 4) (hj : j < 32) : ∀ a, (![k, 128 * j] : Fin 2 → Nat) a + S1x128.size a ≤ S4x4096.size a := by
  intro a
  match a with
  | ⟨0, _⟩ => show k + 1 ≤ 4; omega
  | ⟨1, _⟩ => show 128 * j + 128 ≤ 4096; omega

theorem inbB (j : Nat) (hj : j < 32) : ∀ a, (![0, 128 * j] : Fin 2 → Nat) a + S1x128.size a ≤ S1x4096.size a := by
  intro a
  match a with
  | ⟨0, _⟩ => show 0 + 1 ≤ 1; omega
  | ⟨1, _⟩ => show 128 * j + 128 ≤ 4096; omega

theorem inbZ (g : Nat) (hg : g < 8) : ∀ a, (![0, 0, 256 * g] : Fin 3 → Nat) a + S1x1024x256.size a ≤ S1x1024x6144.size a := by
  intro a
  match a with
  | ⟨0, _⟩ => show 0 + 1 ≤ 1; omega
  | ⟨1, _⟩ => show 0 + 1024 ≤ 1024; omega
  | ⟨2, _⟩ => show 256 * g + 256 ≤ 6144; omega

theorem inbG (g : Nat) (hg : g < 8) : ∀ a, (![0, 256 * g] : Fin 2 → Nat) a + S1x256.size a ≤ S1x2048.size a := by
  intro a
  match a with
  | ⟨0, _⟩ => show 0 + 1 ≤ 1; omega
  | ⟨1, _⟩ => show 256 * g + 256 ≤ 2048; omega

theorem slK (k : Nat) (hk : k < 32) : S128x32.Slices ![0, k] S128x1 :=
  ⟨rfl, fun a => by
    match a with
    | ⟨0, _⟩ => show 0 + 128 ≤ 128; omega
    | ⟨1, _⟩ => show k + 1 ≤ 32; omega⟩

theorem slR (k : Nat) (hk : k < 32) : S32x128.Slices ![k, 0] S1x128 :=
  ⟨rfl, fun a => by
    match a with
    | ⟨0, _⟩ => show k + 1 ≤ 32; omega
    | ⟨1, _⟩ => show 0 + 128 ≤ 128; omega⟩

theorem slO (o : Nat) (ho : o ≤ 128) : S256x128.Slices ![o, 0] S128x128 :=
  ⟨rfl, fun a => by
    match a with
    | ⟨0, _⟩ => show o + 128 ≤ 256; omega
    | ⟨1, _⟩ => show 0 + 128 ≤ 128; omega⟩

theorem slX (o : Nat) (ho : o ≤ 128) : S256x256.Slices ![o, 0] S128x256 :=
  ⟨rfl, fun a => by
    match a with
    | ⟨0, _⟩ => show o + 128 ≤ 256; omega
    | ⟨1, _⟩ => show 0 + 256 ≤ 256; omega⟩

namespace Pt
variable (P : Pt)

/-- One slab of the convolution. -/
def slab (j : Nat) (hj : j < 32) : FVec Ideal S256x128 .f32 :=
  convV (View.ld P.cb (Rect.unit (s := S1x4096) ![0, 128 * j] S1x128.size (inbB j hj)))
    (View.ld P.cw (Rect.unit (s := S4x4096) ![0, 128 * j] S1x128.size (inbW 0 j (by decide) hj))) (P.T ![j, 5, 0] (inbT j 5 hj (by decide)))
    (View.ld P.cw (Rect.unit (s := S4x4096) ![1, 128 * j] S1x128.size (inbW 1 j (by decide) hj))) (P.T ![j, 6, 0] (inbT j 6 hj (by decide)))
    (View.ld P.cw (Rect.unit (s := S4x4096) ![2, 128 * j] S1x128.size (inbW 2 j (by decide) hj))) (P.T ![j, 7, 0] (inbT j 7 hj (by decide)))
    (View.ld P.cw (Rect.unit (s := S4x4096) ![3, 128 * j] S1x128.size (inbW 3 j (by decide) hj))) (P.T3 ![j, 8, 0] (inbT j 8 hj (by decide)))

/-- A group's inputs of the recurrence. -/
def xs (g : Nat) (hg : g < 8) : FVec Ideal S256x256 .f32 :=
  concatenate S256x256 1 [⟨S256x128, P.slab (2 * g) (by omega)⟩, ⟨S256x128, P.slab (2 * g + 1) (by omega)⟩] concatenates_S256x128_S256x128_S256x256_d1
/-- A group's input matrix. -/
def bs (g : Nat) (hg : g < 8) : FVec Ideal S256x128 .bf16 := truncf .bf16 (P.slab (16 + g) (by omega)) bitsLt_bf16_f32
/-- A group's output matrix. -/
def cs (g : Nat) (hg : g < 8) : FVec Ideal S256x128 .bf16 := truncf .bf16 (P.slab (24 + g) (by omega)) bitsLt_bf16_f32
/-- A group's gate. -/
def z (g : Nat) (hg : g < 8) : FVec Ideal S256x256 .f32 :=
  matmul (φ₁ := .bf16) (φ₂ := .bf16) dot_S256x1024_S1024x256_S256x256_1_0_0_1_n_n none P.hn
    (shapeCast S1024x256 (View.ld P.wzx (Rect.unit (s := S1x1024x6144) ![0, 0, 256 * g] S1x1024x256.size (inbZ g hg))) shapeCasts_S1x1024x256_S1024x256) (constant S256x256 .f32 0x00000000#32)
/-- The step sizes, by row and by head. -/
def dt : FVec Ideal S256x32 .f32 := k0_pay52 P.dtr P.b
/-- The step sizes, by head and by row. -/
def dtt : FVec Ideal S32x256 .f32 := k0_pay59 (k0_pay54 P.dttr P.bT) (k0_pay56 P.dttr P.bT) (k0_pay57 P.dttr P.bT) (k0_pay58 P.dttr P.bT)
/-- The decay exponents, by head and by row. -/
def dat : FVec Ideal S32x256 .f32 := k0_pay61 (k0_pay54 P.dttr P.bT) (k0_pay56 P.dttr P.bT) (k0_pay57 P.dttr P.bT) (k0_pay58 P.dttr P.bT) P.alT
def acc0 : FVec Ideal S128x32 .f32 := k0_pay66 P.dt P.al
def acc1 : FVec Ideal S128x32 .f32 := k0_pay71 (k0_pay60 P.dt P.al) (k0_pay64 (F := Ideal))
def cum0 : FVec Ideal S128x32 .f32 := k0_pay68 P.acc0
def cum1 : FVec Ideal S128x32 .f32 := k0_pay76 P.acc1
def cumt0 : FVec Ideal S32x128 .f32 := k0_pay69 P.dtt (k0_pay65 (F := Ideal)) (k0_pay67 (k0_pay54 P.dttr P.bT) (k0_pay56 P.dttr P.bT) (k0_pay57 P.dttr P.bT) (k0_pay58 P.dttr P.bT) P.alT)
def cumt1 : FVec Ideal S32x128 .f32 := k0_pay77 P.dtt (k0_pay65 (F := Ideal)) (k0_pay73 P.dat) (k0_pay74 P.dat) (k0_pay75 P.dat)
def dte0 : FVec Ideal S128x32 .f32 := k0_pay70 P.dt P.acc0
def dte1 : FVec Ideal S128x32 .f32 := k0_pay78 P.dt P.acc1

/-- A group's state after the point's first chunk. -/
def st0 (g : Nat) (hg : g < 8) (st : Vec Ideal S1x128x256 .f32) : Vec Ideal S1x128x256 .f32 :=
  newState 0 (4 * g) (slO 0 (by decide)) (slX 0 (by decide)) (slK _ (by omega)) (slK _ (by omega)) (slK _ (by omega)) (slK _ (by omega)) (P.xs g hg) (P.bs g hg) P.cum0 P.dte0 st
/-- A group's state after the point's second chunk. -/
def st1 (g : Nat) (hg : g < 8) (st : Vec Ideal S1x128x256 .f32) : Vec Ideal S1x128x256 .f32 :=
  newState 128 (4 * g) (slO 128 (by decide)) (slX 128 (by decide)) (slK _ (by omega)) (slK _ (by omega)) (slK _ (by omega)) (slK _ (by omega)) (P.xs g hg) (P.bs g hg) P.cum1 P.dte1 st
/-- A group's output over the point's first chunk. -/
def y0 (g : Nat) (hg : g < 8) (st : Vec Ideal S1x128x256 .f32) : Vec Ideal S128x256 .bf16 :=
  yPiece 0 (4 * g) (slO 0 (by decide)) (slX 0 (by decide)) (slK _ (by omega)) (slK _ (by omega)) (slK _ (by omega)) (slK _ (by omega))
    (slR _ (by omega)) (slR _ (by omega)) (slR _ (by omega)) (slR _ (by omega)) (P.xs g hg) (P.bs g hg) (P.cs g hg) (P.z g hg) P.cum0 P.cumt0 st
    (View.ld P.dsk (Rect.unit (s := S1x2048) ![0, 256 * g] S1x256.size (inbG g hg))) (View.ld P.gw (Rect.unit (s := S1x2048) ![0, 256 * g] S1x256.size (inbG g hg)))
/-- A group's output over the point's second chunk. -/
def y1 (g : Nat) (hg : g < 8) (st : Vec Ideal S1x128x256 .f32) : Vec Ideal S128x256 .bf16 :=
  yPiece 128 (4 * g) (slO 128 (by decide)) (slX 128 (by decide)) (slK _ (by omega)) (slK _ (by omega)) (slK _ (by omega)) (slK _ (by omega))
    (slR _ (by omega)) (slR _ (by omega)) (slR _ (by omega)) (slR _ (by omega)) (P.xs g hg) (P.bs g hg) (P.cs g hg) (P.z g hg) P.cum1 P.cumt1 st
    (View.ld P.dsk (Rect.unit (s := S1x2048) ![0, 256 * g] S1x256.size (inbG g hg))) (View.ld P.gw (Rect.unit (s := S1x2048) ![0, 256 * g] S1x256.size (inbG g hg)))
end Pt

end Cert.Kernel2Ideal.Ssd

end
-- ==== Proof.Ssd.Cum.lean ====
/- The step sizes, the decays' exponents and their sums, as the kernel computes them, at an index. -/
module

public import proofs.«01_k».proof.Proof.Ssd.Point
public import proofs.«01_k».proof.Proof.Ssd.Spec

@[expose] public section

set_option maxRecDepth 16384

noncomputable section

namespace Cert.Kernel2Ideal.Ssd

open Cert.Kernel2Ideal Cert.Kernel2Ideal.Gen Cert.Kernel2Ideal.Facts Idealize.ShloMosaic Cert.Ssd Cert.Sgu

/-- The logarithm's factor. -/
def kap : EReal := (((Real.log 2)⁻¹ : ℝ) : EReal)

theorem named_kap : Named.named (F := Ideal) Cert.Kernel2Ideal.κ "log2e" (φ := .f32) 0x3FB8AA3B#32 = kap :=
  IdealRules.named_const.ideal_named_scalar _ _ _ _ rfl

theorem zero_bits : Ideal.ofBits .f32 0x00000000#32 = 0 := by simp [Ideal.ofBits, Ideal.ieee]

/-- The comparison of a value with itself never holds. -/
theorem one_self (v : EReal) : Ideal.cmp .one v v = 0#1 := by simp [Ideal.cmp]

/-- The kernel's spelling of the softplus. -/
theorem sp_kernel (v : EReal) : max v 0 + Ideal.log1p (Ideal.exp (0 - max (v - 0) (-(v - 0)))) = sp v := by
  unfold sp
  rw [sub_zero, zero_sub]

theorem pay52_apply (d : Vec Ideal S256x32 .f32) (b : Vec Ideal S1x32 .f32) (i : Fin 256) (h : Fin 32) :
    k0_pay52 d b (ix2 i h) = sp (d (ix2 i h) + b (ix2 0 h)) := by
  pointwise [k0_pay52]
  rw [← sp_kernel]
  simp [zero_bits, one_self, Scalar.select]
  rfl

theorem pay59_apply (d : Vec Ideal S32x256 .f32) (b : Vec Ideal S32x1 .f32) (i : Fin 256) (h : Fin 32) :
    k0_pay59 (k0_pay54 d b) (k0_pay56 d b) (k0_pay57 d b) (k0_pay58 d b) (ix2 h i) = sp (d (ix2 h i) + b (ix2 h 0)) := by
  pointwise [k0_pay59, k0_pay54, k0_pay56, k0_pay57, k0_pay58, k0_pay55, k0_pay53]
  rw [← sp_kernel]
  simp [zero_bits, one_self, Scalar.select]
  rfl

theorem pay60_apply (d : FVec Ideal S256x32 .f32) (a : Vec Ideal S1x32 .f32) (i : Fin 256) (h : Fin 32) :
    k0_pay60 d a (ix2 i h) = d (ix2 i h) * -(Ideal.exp (a (ix2 0 h))) := by
  pointwise [k0_pay60]
  rw [zero_sub]

theorem pay61_apply (d : Vec Ideal S32x256 .f32) (b a : Vec Ideal S32x1 .f32) (i : Fin 256) (h : Fin 32) :
    k0_pay61 (k0_pay54 d b) (k0_pay56 d b) (k0_pay57 d b) (k0_pay58 d b) a (ix2 h i) = sp (d (ix2 h i) + b (ix2 h 0)) * -(Ideal.exp (a (ix2 h 0))) := by
  pointwise [k0_pay61, pay59_apply]
  rw [zero_sub]

theorem sitofp_one : FloatOps.sitofp (F := Ideal) .f32 (1#32) = 1 := by
  show (((1#32 : BitVec 32).toInt : ℝ) : EReal) = 1
  norm_num
theorem sitofp_zero : FloatOps.sitofp (F := Ideal) .f32 (0#32) = 0 := by
  show (((0#32 : BitVec 32).toInt : ℝ) : EReal) = 0
  norm_num

theorem pay64_apply (t s : Fin 128) : k0_pay64 (F := Ideal) (ix2 t s) = if s ≤ t then 1 else 0 := by
  pointwise [k0_pay64, pay62_apply]
  by_cases h : s ≤ t <;> simp [h, sitofp_one, sitofp_zero]

theorem causal' : ∀ t s : Fin 128,
    IntOp.cmpi .sle (BitVec.ofNat 32 t.val) (BitVec.ofNat 32 s.val) = if t ≤ s then 1#1 else 0#1 := by
  decide +kernel

theorem pay65_apply (t s : Fin 128) : k0_pay65 (F := Ideal) (ix2 t s) = if t ≤ s then 1 else 0 := by
  pointwise [k0_pay65, causal']
  by_cases h : t ≤ s <;> simp [h, sitofp_one, sitofp_zero]

/-- Three parts of a value below the upper infinity: for a real number the later two are zero, for the lower infinity all are it. -/
theorem split_one {a : EReal} (ha : a ≠ ⊤) : a + (a - a) + ((a - a) - (a - a)) = a := by
  induction a with
  | top => exact absurd rfl ha
  | bot => simp
  | coe r => rw [← EReal.coe_sub, sub_self]; simp

/-- A sum of such values, part by part. -/
theorem split_sum (f : Fin 128 → EReal) (p : Fin 128 → Prop) [DecidablePred p] (hf : ∀ s, f s ≠ ⊤) :
    (0 + ∑ s, if p s then f s else 0) + (∑ s, if p s then f s - f s else 0) + (∑ s, if p s then (f s - f s) - (f s - f s) else 0)
      = ∑ s, if p s then f s else 0 := by
  rw [zero_add, ← Finset.sum_add_distrib, ← Finset.sum_add_distrib]
  refine Finset.sum_congr rfl fun s _ => ?_
  split_ifs
  · exact split_one (hf s)
  · simp

/-- A place of the first chunk, and of the second. -/
def row0 (l : Fin 128) : Fin 256 := ⟨0 + l.val, by have := l.isLt; omega⟩
def row1 (l : Fin 128) : Fin 256 := ⟨128 + l.val, by have := l.isLt; omega⟩

theorem ite_mul' (c : Prop) [Decidable c] (f : EReal) : (if c then (1 : EReal) else 0) * f = if c then f else 0 := by split_ifs <;> simp
theorem mul_ite' (c : Prop) [Decidable c] (f : EReal) : f * (if c then (1 : EReal) else 0) = if c then f else 0 := by split_ifs <;> simp

theorem pay66_apply (d : FVec Ideal S256x32 .f32) (a : Vec Ideal S1x32 .f32) (hf : ∀ i h, k0_pay60 d a (ix2 i h) ≠ ⊤) (t : Fin 128) (h : Fin 32) :
    k0_pay66 d a (ix2 t h) = ∑ s : Fin 128, if s ≤ t then k0_pay60 d a (ix2 (row0 s) h) else 0 := by
  have e := split_sum (fun s => k0_pay60 d a (ix2 (row0 s) h)) (fun s => s ≤ t) (fun s => hf _ _)
  beta_reduce at e
  rw [← e]
  pointwise [k0_pay66, pay64_apply]
  simp [ite_mul', row0, zero_bits]

theorem pay71_apply (d : FVec Ideal S256x32 .f32) (a : Vec Ideal S1x32 .f32) (hf : ∀ i h, k0_pay60 d a (ix2 i h) ≠ ⊤) (t : Fin 128) (h : Fin 32) :
    k0_pay71 (k0_pay60 d a) (k0_pay64 (F := Ideal)) (ix2 t h) = ∑ s : Fin 128, if s ≤ t then k0_pay60 d a (ix2 (row1 s) h) else 0 := by
  have e := split_sum (fun s => k0_pay60 d a (ix2 (row1 s) h)) (fun s => s ≤ t) (fun s => hf _ _)
  beta_reduce at e
  rw [← e]
  pointwise [k0_pay71, pay64_apply]
  simp [ite_mul', row1, zero_bits]

theorem pay69_apply (D : FVec Ideal S32x256 .f32) (d : Vec Ideal S32x256 .f32) (b a : Vec Ideal S32x1 .f32)
    (hf : ∀ i h, k0_pay61 (k0_pay54 d b) (k0_pay56 d b) (k0_pay57 d b) (k0_pay58 d b) a (ix2 h i) ≠ ⊤) (t : Fin 128) (h : Fin 32) :
    k0_pay69 D (k0_pay65 (F := Ideal)) (k0_pay67 (k0_pay54 d b) (k0_pay56 d b) (k0_pay57 d b) (k0_pay58 d b) a) (ix2 h t)
      = ((∑ s : Fin 128, if s ≤ t then k0_pay61 (k0_pay54 d b) (k0_pay56 d b) (k0_pay57 d b) (k0_pay58 d b) a (ix2 h (row0 s)) else 0) - Ideal.log (D (ix2 h (row0 t)))) * kap := by
  have e := split_sum (fun s => k0_pay61 (k0_pay54 d b) (k0_pay56 d b) (k0_pay57 d b) (k0_pay58 d b) a (ix2 h (row0 s))) (fun s => s ≤ t) (fun s => hf _ _)
  beta_reduce at e
  rw [← e, ← named_kap]
  pointwise [k0_pay69, k0_pay67, pay65_apply]
  simp [mul_ite', row0, zero_bits]

theorem pay77_apply (D : FVec Ideal S32x256 .f32) (A : FVec Ideal S32x256 .f32)
    (hf : ∀ i h, A (ix2 h i) ≠ ⊤) (t : Fin 128) (h : Fin 32) :
    k0_pay77 D (k0_pay65 (F := Ideal)) (k0_pay73 A) (k0_pay74 A) (k0_pay75 A) (ix2 h t)
      = ((∑ s : Fin 128, if s ≤ t then A (ix2 h (row1 s)) else 0) - Ideal.log (D (ix2 h (row1 t)))) * kap := by
  have e := split_sum (fun s => A (ix2 h (row1 s))) (fun s => s ≤ t) (fun s => hf _ _)
  beta_reduce at e
  rw [← e, ← named_kap]
  pointwise [k0_pay77, k0_pay72, k0_pay73, k0_pay74, k0_pay75, pay65_apply]
  simp [mul_ite', row1, zero_bits]

theorem pay68_apply (c : FVec Ideal S128x32 .f32) (t : Fin 128) (h : Fin 32) : k0_pay68 c (ix2 t h) = c (ix2 t h) * kap := by
  rw [← named_kap]; pointwise [k0_pay68]
theorem pay76_apply (c : FVec Ideal S128x32 .f32) (t : Fin 128) (h : Fin 32) : k0_pay76 c (ix2 t h) = c (ix2 t h) * kap := by
  rw [← named_kap]; pointwise [k0_pay76]
theorem pay70_apply (d : FVec Ideal S256x32 .f32) (c : FVec Ideal S128x32 .f32) (t : Fin 128) (h : Fin 32) :
    k0_pay70 d c (ix2 t h) = (c (ix2 127 h) - (c (ix2 t h) - Ideal.log (d (ix2 (row0 t) h)))) * kap := by
  rw [← named_kap]; pointwise [k0_pay70]; simp [row0]
theorem pay78_apply (d : FVec Ideal S256x32 .f32) (c : FVec Ideal S128x32 .f32) (t : Fin 128) (h : Fin 32) :
    k0_pay78 d c (ix2 t h) = (c (ix2 127 h) - (c (ix2 t h) - Ideal.log (d (ix2 (row1 t) h)))) * kap := by
  rw [← named_kap]; pointwise [k0_pay78]; simp [row1]

end Cert.Kernel2Ideal.Ssd

end
-- ==== Proof.Ssd.Good.lean ====
/- What a grid point computes, where what it reads is the layer's: its slabs are the convolution, its states and outputs those
   of its two chunks. -/
module

public import proofs.«01_k».proof.Proof.Ssd.Cum

@[expose] public section

set_option maxRecDepth 16384

noncomputable section

namespace Cert.Kernel2Ideal.Ssd

open Cert.Kernel2Ideal Cert.Kernel2Ideal.Gen Cert.Kernel2Ideal.Facts Idealize.ShloMosaic Cert.Ssd Cert.Sgu

/-- The projected rows a point keeps: 8 rows before the tile (zero at a sequence's start) and the tile's 256. -/
def rawS (I : In) (n : ℕ) (j : Fin 4096) (r : ℕ) : EReal :=
  if n % 16 = 0 ∧ r < 8 then 0 else I.px (256 * n + r - 8) j

/-- A slab's column. -/
def slabC (j : Nat) (hj : j < 32) (l : Fin 128) : Fin 4096 := ⟨128 * j + l.val, by have := l.isLt; omega⟩

/-- A point reads the layer's rows of tile `n`. -/
structure Good (I : In) (P : Pt) (n : ℕ) : Prop where
  fin : I.Fin
  T : ∀ (j : Nat) (hj : j < 32) (r : Nat) (hr : r ≤ 8) (i : Fin 256) (l : Fin 128), 5 ≤ r → r < 8 → P.T ![j, r, 0] (inbT j r hj hr) (ix3 0 i l) = rawS I n (slabC j hj l) (r + i.val)
  T3 : ∀ (j : Nat) (hj : j < 32) (i : Fin 256) (l : Fin 128), P.T3 ![j, 8, 0] (inbT j 8 hj (by decide)) (ix3 0 i l) = rawS I n (slabC j hj l) (8 + i.val)
  hn : ∀ (i : Fin 256) (k : Fin 1024), P.hn (ix2 i k) = I.hn (256 * n + i.val) k
  wz : ∀ (k : Fin 1024) (j : Fin 2048), P.wzx (ix3 0 k ⟨j.val, by have := j.isLt; omega⟩) = I.wz k j
  cw : ∀ (k : Fin 4) (j : Fin 4096), P.cw (ix2 k j) = I.cw k j
  cb : ∀ (j : Fin 4096), P.cb (ix2 0 j) = I.cb j
  dtr : ∀ (i : Fin 256) (h : Fin 32), P.dtr (ix2 i h) = I.pd (256 * n + i.val) h
  dttr : ∀ (i : Fin 256) (h : Fin 32), P.dttr (ix2 h i) = I.pd (256 * n + i.val) h
  b : ∀ h : Fin 32, P.b (ix2 0 h) = I.bias h
  bT : ∀ h : Fin 32, P.bT (ix2 h 0) = I.bias h
  al : ∀ h : Fin 32, P.al (ix2 0 h) = I.al h
  alT : ∀ h : Fin 32, P.alT (ix2 h 0) = I.al h
  dsk : ∀ j : Fin 2048, P.dsk (ix2 0 j) = I.dsk (head j)
  gw : ∀ j : Fin 2048, P.gw (ix2 0 j) = I.gw j

theorem hs_real {v : EReal} (h : IsReal v) : hs v = sil v := by
  obtain ⟨r, rfl⟩ := h
  exact silu_coe r

/-- The kept rows are the convolution's taps. -/
theorem rawS_tap (I : In) (n d i : ℕ) (j : Fin 4096) (hd : d ≤ 3) (hi : i < 256) : rawS I n j (8 - d + i) = I.tap d (256 * n + i) j := by
  unfold rawS In.tap
  have e : (n % 16 = 0 ∧ 8 - d + i < 8) ↔ (256 * n + i) % 4096 < d := by omega
  have e' : 256 * n + (8 - d + i) - 8 = 256 * n + i - d := by omega
  by_cases c : (256 * n + i) % 4096 < d
  · rw [if_pos c, if_pos (e.mpr c)]
  · rw [if_neg c, if_neg (fun h => c (e.mp h)), e']

/-- A group's gate, of the rows and the group's weights. -/
theorem zV_apply (h : FVec Ideal S256x1024 .bf16) (w : FVec Ideal S1x1024x256 .bf16) (i e : Fin 256) :
    matmul (φ₁ := .bf16) (φ₂ := .bf16) dot_S256x1024_S1024x256_S256x256_1_0_0_1_n_n none h
      (shapeCast S1024x256 w shapeCasts_S1x1024x256_S1024x256) (constant S256x256 .f32 0x00000000#32) (ix2 i e) = ∑ k : Fin 1024, h (ix2 i k) * w (ix3 0 k e) := by
  pointwise []

/-- Two slabs side by side. -/
def twoS (a b : FVec Ideal S256x128 .f32) : FVec Ideal S256x256 .f32 :=
  concatenate S256x256 1 [⟨S256x128, a⟩, ⟨S256x128, b⟩] concatenates_S256x128_S256x128_S256x256_d1

theorem twoS_apply (a b : FVec Ideal S256x128 .f32) (G : Fin 256 → EReal) (i : Fin 256)
    (ha : ∀ (l : Fin 128) (e : Fin 256), e.val = l.val → a (ix2 i l) = G e) (hb : ∀ (l : Fin 128) (e : Fin 256), e.val = 128 + l.val → b (ix2 i l) = G e) (e : Fin 256) :
    twoS a b (ix2 i e) = G e := by
  unfold twoS
  by_cases h : e.val < 128
  · refine (concatenate_pair_apply_left (1 : Fin 2) a b concatenates_S256x128_S256x128_S256x256_d1 (ix2 i e) rfl (ix2 i ⟨e.val, h⟩) ?_).trans (ha ⟨e.val, h⟩ e rfl)
    intro b
    match b with
    | ⟨0, _⟩ => rfl
    | ⟨1, _⟩ => rfl
  · refine (concatenate_pair_apply_right (1 : Fin 2) a b concatenates_S256x128_S256x128_S256x256_d1 (ix2 i e) rfl rfl (ix2 i ⟨e.val - 128, by have := e.isLt; omega⟩) ?_ ?_).trans
      (hb ⟨e.val - 128, by have := e.isLt; omega⟩ e (show e.val = 128 + (e.val - 128) by omega))
    · intro b hb
      match b, hb with
      | ⟨0, _⟩, _ => rfl
      | ⟨1, _⟩, hb => exact absurd rfl hb
    · show e.val - 128 + 128 = e.val
      omega

namespace Good
variable {I : In} {P : Pt} {n : ℕ} (H : Good I P n)
include H

theorem slab (j : Nat) (hj : j < 32) (i : Fin 256) (l : Fin 128) : P.slab j hj (ix2 i l) = I.cv (256 * n + i.val) (slabC j hj l) := by
  have hi := i.isLt
  have hw : ∀ k (hk : k < 4), View.ld P.cw (Rect.unit (s := S4x4096) ![k, 128 * j] S1x128.size (inbW k j hk hj)) (ix2 0 l) = I.cw ⟨k, hk⟩ (slabC j hj l) := fun k hk => by
    rw [← H.cw]
    refine congrArg P.cw ?_
    funext a; apply Fin.ext
    match a with
    | ⟨0, _⟩ => show k + 1 * 0 = k; omega
    | ⟨1, _⟩ => show 128 * j + 1 * l.val = 128 * j + l.val; omega
  have hb : View.ld P.cb (Rect.unit (s := S1x4096) ![0, 128 * j] S1x128.size (inbB j hj)) (ix2 0 l) = I.cb (slabC j hj l) := by
    rw [← H.cb]
    refine congrArg P.cb ?_
    funext a; apply Fin.ext
    match a with
    | ⟨0, _⟩ => show 0 + 1 * 0 = 0; omega
    | ⟨1, _⟩ => show 128 * j + 1 * l.val = 128 * j + l.val; omega
  unfold Pt.slab
  rw [convV_apply]
  have t5 := (H.T j hj 5 (by decide) i l (by decide) (by decide)).trans (rawS_tap I n 3 i.val (slabC j hj l) (by decide) hi)
  have t6 := (H.T j hj 6 (by decide) i l (by decide) (by decide)).trans (rawS_tap I n 2 i.val (slabC j hj l) (by decide) hi)
  have t7 := (H.T j hj 7 (by decide) i l (by decide) (by decide)).trans (rawS_tap I n 1 i.val (slabC j hj l) (by decide) hi)
  have t8 := (H.T3 j hj i l).trans (rawS_tap I n 0 i.val (slabC j hj l) (by decide) hi)
  rw [hb, hw 0, hw 1, hw 2, hw 3, t5, t6, t7, t8]
  exact hs_real (In.pre_real H.fin _ _)

theorem xs (g : Nat) (hg : g < 8) (i : Fin 256) (e : Fin 256) : P.xs g hg (ix2 i e) = I.xc (256 * n + i.val) (col ⟨g, hg⟩ e) := by
  refine twoS_apply (P.slab (2 * g) (by omega)) (P.slab (2 * g + 1) (by omega)) (fun e => I.xc (256 * n + i.val) (col ⟨g, hg⟩ e)) i (fun l e he => ?_) (fun l e he => ?_) e
  · rw [H.slab]
    exact congrArg (I.cv _) (Fin.ext (show 128 * (2 * g) + l.val = 256 * g + e.val by omega))
  · rw [H.slab]
    exact congrArg (I.cv _) (Fin.ext (show 128 * (2 * g + 1) + l.val = 256 * g + e.val by omega))

theorem bs (g : Nat) (hg : g < 8) (i : Fin 256) (m : Fin 128) : P.bs g hg (ix2 i m) = I.bc (256 * n + i.val) ⟨g, hg⟩ m := by
  unfold Pt.bs In.bc
  pointwise [H.slab]
  exact congrArg (I.cv _) (Fin.ext (show 128 * (16 + g) + m.val = 2048 + 128 * g + m.val by omega))

theorem cs (g : Nat) (hg : g < 8) (i : Fin 256) (m : Fin 128) : P.cs g hg (ix2 i m) = I.cc (256 * n + i.val) ⟨g, hg⟩ m := by
  unfold Pt.cs In.cc
  pointwise [H.slab]
  exact congrArg (I.cv _) (Fin.ext (show 128 * (24 + g) + m.val = 3072 + 128 * g + m.val by omega))

theorem z (g : Nat) (hg : g < 8) (i : Fin 256) (e : Fin 256) : P.z g hg (ix2 i e) = I.pz (256 * n + i.val) (col ⟨g, hg⟩ e) := by
  have hw : ∀ k : Fin 1024, View.ld P.wzx (Rect.unit (s := S1x1024x6144) ![0, 0, 256 * g] S1x1024x256.size (inbZ g hg)) (ix3 0 k e) = I.wz k (col ⟨g, hg⟩ e) := fun k => by
    rw [← H.wz]
    refine congrArg P.wzx ?_
    funext a; apply Fin.ext
    match a with
    | ⟨0, _⟩ => show 0 + 1 * 0 = 0; omega
    | ⟨1, _⟩ => show 0 + 1 * k.val = k.val; omega
    | ⟨2, _⟩ => show 256 * g + 1 * e.val = 256 * g + e.val; omega
  unfold Pt.z In.pz
  refine (zV_apply _ _ _ _).trans (Finset.sum_congr rfl fun k _ => ?_)
  rw [H.hn]
  exact congrArg _ (hw k)

theorem dt (i : Fin 256) (h : Fin 32) : P.dt (ix2 i h) = I.dt (256 * n + i.val) h := by
  unfold Pt.dt In.dt
  rw [pay52_apply, H.dtr, H.b]
theorem dtt (i : Fin 256) (h : Fin 32) : P.dtt (ix2 h i) = I.dt (256 * n + i.val) h := by
  unfold Pt.dtt In.dt
  rw [pay59_apply, H.dttr, H.bT]
theorem da (i : Fin 256) (h : Fin 32) : k0_pay60 P.dt P.al (ix2 i h) = I.da (256 * n + i.val) h := by
  rw [pay60_apply, H.dt, H.al]; rfl
theorem dat (i : Fin 256) (h : Fin 32) : P.dat (ix2 h i) = I.da (256 * n + i.val) h := by
  unfold Pt.dat
  rw [pay61_apply, H.dttr, H.bT, H.alT]; rfl

/-- The rows of the point's two chunks. -/
theorem r0 (l : Fin 128) : 256 * n + (row0 l).val = 128 * (2 * n) + l.val := by show 256 * n + (0 + l.val) = _; omega
theorem r1 (l : Fin 128) : 256 * n + (row1 l).val = 128 * (2 * n + 1) + l.val := by show 256 * n + (128 + l.val) = _; omega

theorem acc0 (t : Fin 128) (h : Fin 32) : P.acc0 (ix2 t h) = I.cs (2 * n) t h := by
  unfold Pt.acc0
  rw [pay66_apply _ _ (fun i h => by rw [H.da]; exact I.da_ne_top _ _)]
  exact Finset.sum_congr rfl fun s _ => by rw [H.da, H.r0]
theorem acc1 (t : Fin 128) (h : Fin 32) : P.acc1 (ix2 t h) = I.cs (2 * n + 1) t h := by
  unfold Pt.acc1
  rw [pay71_apply _ _ (fun i h => by rw [H.da]; exact I.da_ne_top _ _)]
  exact Finset.sum_congr rfl fun s _ => by rw [H.da, H.r1]
theorem cumt0 (t : Fin 128) (h : Fin 32) : P.cumt0 (ix2 h t) = (I.cs (2 * n) t h - Ideal.log (I.dt (128 * (2 * n) + t.val) h)) * kap := by
  unfold Pt.cumt0
  rw [pay69_apply _ _ _ _ (fun i h => by rw [show k0_pay61 _ _ _ _ _ (ix2 h i) = _ from H.dat i h]; exact I.da_ne_top _ _), H.dtt, H.r0]
  refine congrArg (fun s => (s - _) * kap) (Finset.sum_congr rfl fun s _ => ?_)
  rw [← H.r0, ← H.dat]; rfl
theorem cumt1 (t : Fin 128) (h : Fin 32) : P.cumt1 (ix2 h t) = (I.cs (2 * n + 1) t h - Ideal.log (I.dt (128 * (2 * n + 1) + t.val) h)) * kap := by
  unfold Pt.cumt1
  rw [pay77_apply _ _ (fun i h => (H.dat i h).symm ▸ I.da_ne_top _ _), H.dtt, H.r1]
  refine congrArg (fun s => (s - _) * kap) (Finset.sum_congr rfl fun s _ => ?_)
  rw [← H.r1, ← H.dat]

end Good

/-- The factor of one earlier place. -/
theorem dk_eq (I : In) (q : ℕ) (t s : Fin 128) (h : Fin 32) :
    dk (I.cs q t h * kap - (I.cs q s h - Ideal.log (I.dt (128 * q + s.val) h)) * kap) t s = I.wgt q t s h := by
  unfold dk In.wgt
  by_cases c : s ≤ t
  · rw [if_pos c, if_pos c]
    exact exp2_step (I.cs_ne_top q s h) (I.cs_anti q c h) (I.dt_nonneg _ _)
  · have e : Ideal.ofBits .f32 0xFF800000#32 = ⊥ := by simp [Ideal.ofBits, Ideal.ieee]
    rw [if_neg c, if_neg c, e, Ideal.exp2_bot, zero_mul]

/-- The decay of a chunk's place. -/
theorem dec_eq (I : In) (q : ℕ) (t : Fin 128) (h : Fin 32) : Ideal.exp2 (I.cs q t h * kap) = Ideal.exp (I.cs q t h) :=
  exp2_mul' (I.cs_ne_top q t h)

/-- The weight of a place in the state. -/
theorem dte_eq (I : In) (q : ℕ) (l : Fin 128) (h : Fin 32) :
    Ideal.exp2 ((I.cs q 127 h - (I.cs q l h - Ideal.log (I.dt (128 * q + l.val) h))) * kap) = Ideal.exp (I.cs q 127 h - I.cs q l h) * I.dt (128 * q + l.val) h :=
  exp2_step' (I.cs_ne_top q l h) (I.cs_anti q (Fin.le_last l) h) (I.dt_nonneg _ _)

namespace Good
variable {I : In} {P : Pt} {n : ℕ} (H : Good I P n)
include H

theorem head_col (g : Nat) (hg : g < 8) (e : Fin 256) : (head (col ⟨g, hg⟩ e)).val = 4 * g + e.val / 64 := by
  show (256 * g + e.val) / 64 = _
  omega
theorem grp_col (g : Nat) (hg : g < 8) (e : Fin 256) : Cert.Ssd.grp (col ⟨g, hg⟩ e) = ⟨g, hg⟩ :=
  Fin.ext (show (256 * g + e.val) / 256 = g by have := e.isLt; omega)

theorem st0 (g : Nat) (hg : g < 8) (st : Vec Ideal S1x128x256 .f32) (S : Fin 2048 → Fin 128 → EReal)
    (hst : ∀ m e, st (ix3 0 m e) = S (col ⟨g, hg⟩ e) m) (m : Fin 128) (e : Fin 256) :
    P.st0 g hg st (ix3 0 m e) = I.upd (2 * n) S (col ⟨g, hg⟩ e) m := by
  unfold Pt.st0
  rw [newState_apply _ _ _ _ _ _ _ _ _ _ _ _ _ m e (head (col ⟨g, hg⟩ e)) (H.head_col g hg e) row0 (fun _ => rfl)]
  unfold Pt.cum0 Pt.dte0 In.upd
  simp only [pay68_apply, pay70_apply, H.acc0, H.dt, H.bs, H.xs, H.r0, hst, dec_eq I, dte_eq I, H.grp_col]

theorem st1 (g : Nat) (hg : g < 8) (st : Vec Ideal S1x128x256 .f32) (S : Fin 2048 → Fin 128 → EReal)
    (hst : ∀ m e, st (ix3 0 m e) = S (col ⟨g, hg⟩ e) m) (m : Fin 128) (e : Fin 256) :
    P.st1 g hg st (ix3 0 m e) = I.upd (2 * n + 1) S (col ⟨g, hg⟩ e) m := by
  unfold Pt.st1
  rw [newState_apply _ _ _ _ _ _ _ _ _ _ _ _ _ m e (head (col ⟨g, hg⟩ e)) (H.head_col g hg e) row1 (fun _ => rfl)]
  unfold Pt.cum1 Pt.dte1 In.upd
  simp only [pay76_apply, pay78_apply, H.acc1, H.dt, H.bs, H.xs, H.r1, hst, dec_eq I, dte_eq I, H.grp_col]

theorem ldG (w : Vec Ideal S1x2048 .f32) (g : Nat) (hg : g < 8) (e : Fin 256) :
    View.ld w (Rect.unit (s := S1x2048) ![0, 256 * g] S1x256.size (inbG g hg)) (ix2 0 e) = w (ix2 0 (col ⟨g, hg⟩ e)) := by
  refine congrArg w ?_
  funext a; apply Fin.ext
  match a with
  | ⟨0, _⟩ => show 0 + 1 * 0 = 0; omega
  | ⟨1, _⟩ => show 256 * g + 1 * e.val = 256 * g + e.val; omega

theorem yP0 (g : Nat) (hg : g < 8) (st : Vec Ideal S1x128x256 .f32) (S : Fin 2048 → Fin 128 → EReal)
    (hst : ∀ m e, st (ix3 0 m e) = S (col ⟨g, hg⟩ e) m) (d w : Vec Ideal S1x256 .f32) (hd : ∀ e, d (ix2 0 e) = I.dsk (head (col ⟨g, hg⟩ e)))
    (hw : ∀ e, w (ix2 0 e) = I.gw (col ⟨g, hg⟩ e)) (t : Fin 128) (e : Fin 256) :
    yPiece 0 (4 * g) (slO 0 (by decide)) (slX 0 (by decide)) (slK _ (by omega)) (slK _ (by omega)) (slK _ (by omega)) (slK _ (by omega))
    (slR _ (by omega)) (slR _ (by omega)) (slR _ (by omega)) (slR _ (by omega)) (P.xs g hg) (P.bs g hg) (P.cs g hg) (P.z g hg) P.cum0 P.cumt0 st d w (ix2 t e) = I.yn (2 * n) S t (col ⟨g, hg⟩ e) := by
  rw [yPiece_apply]
  have hy := fun e => yPre_apply 0 (4 * g) (slO 0 (by decide)) (slX 0 (by decide)) (slK _ (by omega)) (slK _ (by omega)) (slK _ (by omega)) (slK _ (by omega))
    (slR _ (by omega)) (slR _ (by omega)) (slR _ (by omega)) (slR _ (by omega)) (P.xs g hg) (P.bs g hg) (P.cs g hg) (P.z g hg) P.cum0 P.cumt0 st d t e (head (col ⟨g, hg⟩ e)) (H.head_col g hg e) row0 (fun _ => rfl)
  unfold In.yn In.y
  simp only [hy, hd, hw, H.grp_col]
  unfold Pt.cum0
  simp only [pay68_apply, H.cumt0, H.acc0, H.bs, H.cs, H.xs, H.z, H.r0, hst, dec_eq I, dk_eq I, hs_real (In.pz_real H.fin _ _)]

theorem y0 (g : Nat) (hg : g < 8) (st : Vec Ideal S1x128x256 .f32) (S : Fin 2048 → Fin 128 → EReal)
    (hst : ∀ m e, st (ix3 0 m e) = S (col ⟨g, hg⟩ e) m) (t : Fin 128) (e : Fin 256) :
    P.y0 g hg st (ix2 t e) = I.yn (2 * n) S t (col ⟨g, hg⟩ e) :=
  H.yP0 g hg st S hst _ _ (fun e => (H.ldG _ g hg e).trans (H.dsk _)) (fun e => (H.ldG _ g hg e).trans (H.gw _)) t e

theorem yP1 (g : Nat) (hg : g < 8) (st : Vec Ideal S1x128x256 .f32) (S : Fin 2048 → Fin 128 → EReal)
    (hst : ∀ m e, st (ix3 0 m e) = S (col ⟨g, hg⟩ e) m) (d w : Vec Ideal S1x256 .f32) (hd : ∀ e, d (ix2 0 e) = I.dsk (head (col ⟨g, hg⟩ e)))
    (hw : ∀ e, w (ix2 0 e) = I.gw (col ⟨g, hg⟩ e)) (t : Fin 128) (e : Fin 256) :
    yPiece 128 (4 * g) (slO 128 (by decide)) (slX 128 (by decide)) (slK _ (by omega)) (slK _ (by omega)) (slK _ (by omega)) (slK _ (by omega))
    (slR _ (by omega)) (slR _ (by omega)) (slR _ (by omega)) (slR _ (by omega)) (P.xs g hg) (P.bs g hg) (P.cs g hg) (P.z g hg) P.cum1 P.cumt1 st d w (ix2 t e) = I.yn (2 * n + 1) S t (col ⟨g, hg⟩ e) := by
  rw [yPiece_apply]
  have hy := fun e => yPre_apply 128 (4 * g) (slO 128 (by decide)) (slX 128 (by decide)) (slK _ (by omega)) (slK _ (by omega)) (slK _ (by omega)) (slK _ (by omega))
    (slR _ (by omega)) (slR _ (by omega)) (slR _ (by omega)) (slR _ (by omega)) (P.xs g hg) (P.bs g hg) (P.cs g hg) (P.z g hg) P.cum1 P.cumt1 st d t e (head (col ⟨g, hg⟩ e)) (H.head_col g hg e) row1 (fun _ => rfl)
  unfold In.yn In.y
  simp only [hy, hd, hw, H.grp_col]
  unfold Pt.cum1
  simp only [pay76_apply, H.cumt1, H.acc1, H.bs, H.cs, H.xs, H.z, H.r1, hst, dec_eq I, dk_eq I, hs_real (In.pz_real H.fin _ _)]

theorem y1 (g : Nat) (hg : g < 8) (st : Vec Ideal S1x128x256 .f32) (S : Fin 2048 → Fin 128 → EReal)
    (hst : ∀ m e, st (ix3 0 m e) = S (col ⟨g, hg⟩ e) m) (t : Fin 128) (e : Fin 256) :
    P.y1 g hg st (ix2 t e) = I.yn (2 * n + 1) S t (col ⟨g, hg⟩ e) :=
  H.yP1 g hg st S hst _ _ (fun e => (H.ldG _ g hg e).trans (H.dsk _)) (fun e => (H.ldG _ g hg e).trans (H.gw _)) t e

end Good

end Cert.Kernel2Ideal.Ssd

end
-- ==== Proof.Ssd.Lists.lean ====
/- The pieces that one grid point's body stores, group by group and slab by slab. -/
module

public import proofs.«01_k».proof.Proof.Ssd.Point

@[expose] public section

set_option maxRecDepth 16384

noncomputable section

namespace Cert.Kernel2Ideal.Ssd

open Cert.Kernel2Ideal Cert.Kernel2Ideal.Gen Cert.Kernel2Ideal.Facts Idealize.ShloMosaic

theorem slP (j : Nat) (hj : j < 32) : S256x4096.Slices ![0, 128 * j] S256x128 :=
  ⟨rfl, fun a => by
    match a with
    | ⟨0, _⟩ => show 0 + 256 ≤ 256; omega
    | ⟨1, _⟩ => show 128 * j + 128 ≤ 4096; omega⟩

theorem inbS (g : Nat) (hg : g < 8) : ∀ a, (![g, 0, 0] : Fin 3 → Nat) a + S1x128x256.size a ≤ S8x128x256.size a := by
  intro a
  match a with
  | ⟨0, _⟩ => show g + 1 ≤ 8; omega
  | ⟨1, _⟩ => show 0 + 128 ≤ 128; omega
  | ⟨2, _⟩ => show 0 + 256 ≤ 256; omega

theorem inbY (o g : Nat) (ho : o ≤ 128) (hg : g < 8) : ∀ a, (![o, 256 * g] : Fin 2 → Nat) a + S128x256.size a ≤ S256x2048.size a := by
  intro a
  match a with
  | ⟨0, _⟩ => show o + 128 ≤ 256; omega
  | ⟨1, _⟩ => show 256 * g + 256 ≤ 2048; omega

/-- Where a slab of the projected rows is stored. -/
def slabR (j : Nat) (hj : j < 32) : Rect S32x264x128 := Rect.unit (s := S32x264x128) ![j, 8, 0] S1x256x128.size (inbT j 8 hj (by decide))
/-- Where a group's state is stored. -/
def stR (g : Nat) (hg : g < 8) : Rect S8x128x256 := Rect.unit (s := S8x128x256) ![g, 0, 0] S1x128x256.size (inbS g hg)

/-- The projected rows' slabs, newest first, over earlier pieces. -/
def rawL (pr : FVec Ideal S256x4096 .f32) (base : List (View.Piece (Elt Ideal) S32x264x128 .f32)) :
    (n : Nat) → n ≤ 32 → List (View.Piece (Elt Ideal) S32x264x128 .f32)
  | 0, _ => base
  | n + 1, h => ⟨Rect.unit (s := S32x264x128) ![n, 8, 0] S1x256x128.size (inbT n 8 h (by decide)),
      (shapeCast S1x256x128 (extractStridedSlice S256x128 ![0, 128 * n] pr (slP n h) : FVec Ideal S256x128 .f32) shapeCasts_S256x128_S1x256x128 : FVec Ideal S1x256x128 .f32)⟩
      :: rawL pr base n (Nat.le_of_succ_le h)

section
variable {sig' : RefSig} (P : Pt) (v : View sig' .tc .vmem S8x128x256 .f32)
  (ld0 : List (View.Piece (Elt Ideal) S8x128x256 .f32) → (g : Nat) → g < 8 → Vec Ideal S1x128x256 .f32)

/-- The states' pieces, newest first, over earlier pieces: each group's state after the first chunk and after the second. -/
def stL (base : List (View.Piece (Elt Ideal) S8x128x256 .f32)) : (n : Nat) → n ≤ 8 → List (View.Piece (Elt Ideal) S8x128x256 .f32)
  | 0, _ => base
  | n + 1, h =>
    ⟨Rect.unit (s := S8x128x256) ![n, 0, 0] S1x128x256.size (inbS n h), P.st1 n h (v.readCov (⟨Rect.unit (s := S8x128x256) ![n, 0, 0] S1x128x256.size (inbS n h), P.st0 n h (ld0 (stL base n (Nat.le_of_succ_le h)) n h)⟩
        :: stL base n (Nat.le_of_succ_le h)) (Rect.unit (s := S8x128x256) ![n, 0, 0] S1x128x256.size (inbS n h)).toLoadRect)⟩
    :: ⟨Rect.unit (s := S8x128x256) ![n, 0, 0] S1x128x256.size (inbS n h), P.st0 n h (ld0 (stL base n (Nat.le_of_succ_le h)) n h)⟩ :: stL base n (Nat.le_of_succ_le h)

/-- The outputs' pieces, newest first: each group's output over the first chunk and over the second. -/
def yL (base : List (View.Piece (Elt Ideal) S8x128x256 .f32)) : (n : Nat) → n ≤ 8 → List (View.Piece (Elt Ideal) S256x2048 .bf16)
  | 0, _ => []
  | n + 1, h =>
    ⟨Rect.unit (s := S256x2048) ![128, 256 * n] S128x256.size (inbY 128 n (by decide) h), P.y1 n h (v.readCov (⟨Rect.unit (s := S8x128x256) ![n, 0, 0] S1x128x256.size (inbS n h), P.st0 n h (ld0 (stL P v ld0 base n (Nat.le_of_succ_le h)) n h)⟩
        :: stL P v ld0 base n (Nat.le_of_succ_le h)) (Rect.unit (s := S8x128x256) ![n, 0, 0] S1x128x256.size (inbS n h)).toLoadRect)⟩
    :: ⟨Rect.unit (s := S256x2048) ![0, 256 * n] S128x256.size (inbY 0 n (by decide) h), P.y0 n h (ld0 (stL P v ld0 base n (Nat.le_of_succ_le h)) n h)⟩
    :: yL base n (Nat.le_of_succ_le h)
end

end Cert.Kernel2Ideal.Ssd

end
-- ==== Proof.Ssd.Canon.lean ====
/- What the lists of stored pieces hold, entry by entry, and the entries of the payloads that need no list. -/
module

public import proofs.«01_k».proof.Proof.Ssd.Good
public import proofs.«01_k».proof.Proof.Ssd.Lists

@[expose] public section

set_option maxRecDepth 16384

noncomputable section

namespace Cert.Kernel2Ideal.Ssd

open Cert.Sgu Cert.Ssd Cert.Kernel2Ideal Cert.Kernel2Ideal.Gen Cert.Kernel2Ideal.Facts Idealize.ShloMosaic

section
variable {s : Shape} {e : EltTy} {off size : Fin s.rank → Nat} {inb : ∀ a, off a + size a ≤ s.size a}
/-- An entry off the last piece. -/
theorem canon_miss (w : (Rect.unit (s := s) off size inb).shape.Idx → Elt Ideal e) (L : List (View.Piece (Elt Ideal) s e)) (y : s.Idx) (a : Fin s.rank)
    (h : (y a).val < off a ∨ off a + size a ≤ (y a).val) :
    View.canon (⟨Rect.unit (s := s) off size inb, w⟩ :: L) y = View.canon L y :=
  View.canon_cons_of_not_mem _ _ fun hm => by
    have hm' : ∀ a : Fin s.rank, off a ≤ (y a).val ∧ (y a).val < off a + size a := (Rect.mem_set_unit (inb := inb)).mp hm
    have := hm' a
    omega
end

/-- Two indices of rank two with equal coordinates. -/
theorem ext2 {a b : Nat} {x y : (⟨2, ![a, b]⟩ : Shape).Idx} (h0 : (x 0).val = (y 0).val) (h1 : (x 1).val = (y 1).val) : x = y := by
  funext i; apply Fin.ext
  match i with
  | ⟨0, _⟩ => exact h0
  | ⟨1, _⟩ => exact h1
/-- Two indices of rank three with equal coordinates. -/
theorem ext3 {a b d : Nat} {x y : (⟨3, ![a, b, d]⟩ : Shape).Idx} (h0 : (x 0).val = (y 0).val) (h1 : (x 1).val = (y 1).val) (h2 : (x 2).val = (y 2).val) : x = y := by
  funext i; apply Fin.ext
  match i with
  | ⟨0, _⟩ => exact h0
  | ⟨1, _⟩ => exact h1
  | ⟨2, _⟩ => exact h2

/-- An entry under a slab's piece. -/
theorem hit_slab (n : Nat) (inb) (w : Vec Ideal S1x256x128 .f32) (L) (j : Fin 32) (r : Fin 264) (l : Fin 128) (i : Fin 256) (hj : j.val = n) (hr : r.val = 8 + i.val) :
    View.canon ((⟨Rect.unit (s := S32x264x128) ![n, 8, 0] S1x256x128.size inb, w⟩ : View.Piece (Elt Ideal) S32x264x128 .f32) :: L) (ix3 j r l) = w (ix3 0 i l) := by
  have h : (Rect.unit (s := S32x264x128) ![n, 8, 0] S1x256x128.size inb).emb (ix3 (0 : Fin 1) i l) = ix3 j r l :=
    ext3 (show n + 1 * 0 = j.val by omega) (show 8 + 1 * i.val = r.val by omega) (show 0 + 1 * l.val = l.val by omega)
  exact (congrArg (View.canon _) h.symm).trans (View.canon_cons_emb _ _ _ _)
theorem miss_slab (n : Nat) (inb) (w : Vec Ideal S1x256x128 .f32) (L) (j : Fin 32) (r : Fin 264) (l : Fin 128) (h : j.val ≠ n ∨ r.val < 8) :
    View.canon ((⟨Rect.unit (s := S32x264x128) ![n, 8, 0] S1x256x128.size inb, w⟩ : View.Piece (Elt Ideal) S32x264x128 .f32) :: L) (ix3 j r l) = View.canon L (ix3 j r l) := by
  rcases h with h | h
  · exact canon_miss _ _ _ (0 : Fin 3) (show j.val < n ∨ n + 1 ≤ j.val by omega)
  · exact canon_miss _ _ _ (1 : Fin 3) (show r.val < 8 ∨ 8 + 256 ≤ r.val by omega)
/-- An entry under a state's piece. -/
theorem hit_st (n : Nat) (inb) (w : Vec Ideal S1x128x256 .f32) (L) (g : Fin 8) (m : Fin 128) (e : Fin 256) (hg : g.val = n) :
    View.canon ((⟨Rect.unit (s := S8x128x256) ![n, 0, 0] S1x128x256.size inb, w⟩ : View.Piece (Elt Ideal) S8x128x256 .f32) :: L) (ix3 g m e) = w (ix3 0 m e) := by
  have h : (Rect.unit (s := S8x128x256) ![n, 0, 0] S1x128x256.size inb).emb (ix3 (0 : Fin 1) m e) = ix3 g m e :=
    ext3 (show n + 1 * 0 = g.val by omega) (show 0 + 1 * m.val = m.val by omega) (show 0 + 1 * e.val = e.val by omega)
  exact (congrArg (View.canon _) h.symm).trans (View.canon_cons_emb _ _ _ _)
theorem miss_st (n : Nat) (inb) (w : Vec Ideal S1x128x256 .f32) (L) (g : Fin 8) (m : Fin 128) (e : Fin 256) (h : g.val ≠ n) :
    View.canon ((⟨Rect.unit (s := S8x128x256) ![n, 0, 0] S1x128x256.size inb, w⟩ : View.Piece (Elt Ideal) S8x128x256 .f32) :: L) (ix3 g m e) = View.canon L (ix3 g m e) :=
  canon_miss _ _ _ (0 : Fin 3) (show g.val < n ∨ n + 1 ≤ g.val by omega)
/-- An entry under an output's piece. -/
theorem hit_y (o n : Nat) (inb) (w : Vec Ideal S128x256 .bf16) (L) (i : Fin 256) (j : Fin 2048) (t : Fin 128) (e : Fin 256) (hi : i.val = o + t.val) (hj : j.val = 256 * n + e.val) :
    View.canon ((⟨Rect.unit (s := S256x2048) ![o, 256 * n] S128x256.size inb, w⟩ : View.Piece (Elt Ideal) S256x2048 .bf16) :: L) (ix2 i j) = w (ix2 t e) := by
  have h : (Rect.unit (s := S256x2048) ![o, 256 * n] S128x256.size inb).emb (ix2 t e) = ix2 i j :=
    ext2 (show o + 1 * t.val = i.val by omega) (show 256 * n + 1 * e.val = j.val by omega)
  exact (congrArg (View.canon _) h.symm).trans (View.canon_cons_emb _ _ _ _)
theorem miss_y (o n : Nat) (inb) (w : Vec Ideal S128x256 .bf16) (L) (i : Fin 256) (j : Fin 2048) (h : (i.val < o ∨ o + 128 ≤ i.val) ∨ (j.val < 256 * n ∨ 256 * n + 256 ≤ j.val)) :
    View.canon ((⟨Rect.unit (s := S256x2048) ![o, 256 * n] S128x256.size inb, w⟩ : View.Piece (Elt Ideal) S256x2048 .bf16) :: L) (ix2 i j) = View.canon L (ix2 i j) := by
  rcases h with h | h
  · exact canon_miss _ _ _ (0 : Fin 2) h
  · exact canon_miss _ _ _ (1 : Fin 2) h

/-- One slab of the projected rows. -/
theorem slab_apply (pr : FVec Ideal S256x4096 .f32) (j : Nat) (hj : j < 32) (i : Fin 256) (l : Fin 128) :
    (shapeCast S1x256x128 (extractStridedSlice S256x128 ![0, 128 * j] pr (slP j hj) : FVec Ideal S256x128 .f32) shapeCasts_S256x128_S1x256x128 : FVec Ideal S1x256x128 .f32) (ix3 0 i l)
      = pr (ix2 i (slabC j hj l)) := by
  pointwise [slabC]

/-- The projected rows' slabs read back. -/
theorem rawL_canon (pr : FVec Ideal S256x4096 .f32) (base : List (View.Piece (Elt Ideal) S32x264x128 .f32)) (j : Fin 32) (r : Fin 264) (l : Fin 128) (i : Fin 256)
    (hr : r.val = 8 + i.val) :
    (n : Nat) → (h : n ≤ 32) → j.val < n → View.canon (rawL pr base n h) (ix3 j r l) = pr (ix2 i (slabC j.val j.isLt l))
  | 0, _, hj => by omega
  | n + 1, h, hjn => by
    unfold rawL
    by_cases hj : j.val = n
    · subst hj
      rw [hit_slab _ _ _ _ j r l i rfl hr]
      exact slab_apply _ _ _ _ _
    · rw [miss_slab _ _ _ _ j r l (Or.inl hj)]
      exact rawL_canon pr base j r l i hr n (Nat.le_of_succ_le h) (by omega)

/-- The first rows of the kept slabs and the projected rows' slabs, read back. -/
theorem carry_hit (w : Vec Ideal S32x8x128 .f32) (L : List (View.Piece (Elt Ideal) S32x264x128 .f32)) (j : Fin 32) (r : Fin 264) (l : Fin 128) (i : Fin 8) (hr : r.val = i.val) :
    View.canon ((⟨Rect.unit (s := S32x264x128) ![0, 0, 0] S32x8x128.size inb_S32x264x128_S32x8x128_0_0_0, w⟩ : View.Piece (Elt Ideal) S32x264x128 .f32) :: L) (ix3 j r l) = w (ix3 j i l) := by
  have h : (Rect.unit (s := S32x264x128) ![0, 0, 0] S32x8x128.size inb_S32x264x128_S32x8x128_0_0_0).emb (ix3 j i l) = ix3 j r l :=
    ext3 (show 0 + 1 * j.val = j.val by omega) (show 0 + 1 * i.val = r.val by omega) (show 0 + 1 * l.val = l.val by omega)
  exact (congrArg (View.canon _) h.symm).trans (View.canon_cons_emb _ _ _ _)
theorem carry_miss (w : Vec Ideal S32x8x128 .f32) (L : List (View.Piece (Elt Ideal) S32x264x128 .f32)) (j : Fin 32) (r : Fin 264) (l : Fin 128) (hr : 8 ≤ r.val) :
    View.canon ((⟨Rect.unit (s := S32x264x128) ![0, 0, 0] S32x8x128.size inb_S32x264x128_S32x8x128_0_0_0, w⟩ : View.Piece (Elt Ideal) S32x264x128 .f32) :: L) (ix3 j r l) = View.canon L (ix3 j r l) :=
  canon_miss _ _ _ (1 : Fin 3) (show r.val < 0 ∨ 0 + 8 ≤ r.val by omega)

section
variable {sig' : RefSig} {I : In} {P : Pt} {n' : ℕ} (H : Good I P n') (v : View sig' .tc .vmem S8x128x256 .f32)
  (ld0 : List (View.Piece (Elt Ideal) S8x128x256 .f32) → (g : Nat) → g < 8 → Vec Ideal S1x128x256 .f32)
  (base : List (View.Piece (Elt Ideal) S8x128x256 .f32)) (S : Fin 2048 → Fin 128 → EReal)
  (hld : ∀ (g : Nat) (hg : g < 8) (L : List (View.Piece (Elt Ideal) S8x128x256 .f32)),
    (∀ (m : Fin 128) (e : Fin 256), View.canon L (ix3 ⟨g, hg⟩ m e) = View.canon base (ix3 ⟨g, hg⟩ m e)) →
    ∀ (m : Fin 128) (e : Fin 256), ld0 L g hg (ix3 0 m e) = S (col ⟨g, hg⟩ e) m)

/-- The states of the groups not done yet are what was there. -/
theorem stL_later (g : Fin 8) (m : Fin 128) (e : Fin 256) : (n : Nat) → (h : n ≤ 8) → n ≤ g.val →
    View.canon (stL P v ld0 base n h) (ix3 g m e) = View.canon base (ix3 g m e)
  | 0, _, _ => rfl
  | n + 1, h, hg => by
    unfold stL
    rw [miss_st _ _ _ _ g m e (by omega), miss_st _ _ _ _ g m e (by omega)]
    exact stL_later g m e n (Nat.le_of_succ_le h) (by omega)

include H hld

/-- What a group's first chunk starts from. -/
theorem ld0_eq (n : Nat) (h : n + 1 ≤ 8) (m : Fin 128) (e : Fin 256) : ld0 (stL P v ld0 base n (Nat.le_of_succ_le h)) n h (ix3 0 m e) = S (col ⟨n, h⟩ e) m :=
  hld n h _ (fun m e => stL_later v ld0 base ⟨n, h⟩ m e n (Nat.le_of_succ_le h) le_rfl) m e

/-- The states of the groups done so far. -/
theorem stL_canon (g : Fin 8) (m : Fin 128) (e : Fin 256) : (n : Nat) → (h : n ≤ 8) → g.val < n →
    View.canon (stL P v ld0 base n h) (ix3 g m e) = I.upd (2 * n' + 1) (I.upd (2 * n') S) (col g e) m
  | 0, _, hg => by omega
  | n + 1, h, hgn => by
    unfold stL
    by_cases hg : g.val = n
    · subst hg
      rw [hit_st _ _ _ _ g m e rfl, View.readCov_cons_toLoadRect]
      exact H.st1 g.val h _ (I.upd (2 * n') S) (fun m e => H.st0 g.val h _ S (ld0_eq H v ld0 base S hld g.val h) m e) m e
    · rw [miss_st _ _ _ _ g m e hg, miss_st _ _ _ _ g m e hg]
      exact stL_canon g m e n (Nat.le_of_succ_le h) (by omega)

/-- The outputs over the first chunk read back. -/
theorem yL_canon0 (g : Fin 8) (t : Fin 128) (e : Fin 256) (i : Fin 256) (hi : i.val = t.val) : (n : Nat) → (h : n ≤ 8) → g.val < n →
    View.canon (yL P v ld0 base n h) (ix2 i (col g e)) = I.yn (2 * n') S t (col g e)
  | 0, _, hg => by omega
  | n + 1, h, hgn => by
    have ht := t.isLt
    have he := e.isLt
    have hc : (col g e).val = 256 * g.val + e.val := rfl
    unfold yL
    rw [miss_y _ _ _ _ _ i (col g e) (Or.inl (by omega))]
    by_cases hg : g.val = n
    · subst hg
      rw [hit_y _ _ _ _ _ i (col g e) t e (by omega) hc]
      exact H.y0 g.val h _ S (ld0_eq H v ld0 base S hld g.val h) t e
    · rw [miss_y _ _ _ _ _ i (col g e) (Or.inr (by omega))]
      exact yL_canon0 g t e i hi n (Nat.le_of_succ_le h) (by omega)

/-- The outputs over the second chunk read back. -/
theorem yL_canon1 (g : Fin 8) (t : Fin 128) (e : Fin 256) (i : Fin 256) (hi : i.val = 128 + t.val) : (n : Nat) → (h : n ≤ 8) → g.val < n →
    View.canon (yL P v ld0 base n h) (ix2 i (col g e)) = I.yn (2 * n' + 1) (I.upd (2 * n') S) t (col g e)
  | 0, _, hg => by omega
  | n + 1, h, hgn => by
    have ht := t.isLt
    have he := e.isLt
    have hc : (col g e).val = 256 * g.val + e.val := rfl
    unfold yL
    by_cases hg : g.val = n
    · subst hg
      rw [hit_y _ _ _ _ _ i (col g e) t e (by omega) hc, View.readCov_cons_toLoadRect]
      exact H.y1 g.val h _ (I.upd (2 * n') S) (fun m e => H.st0 g.val h _ S (ld0_eq H v ld0 base S hld g.val h) m e) t e
    · rw [miss_y _ _ _ _ _ i (col g e) (Or.inr (by omega)), miss_y _ _ _ _ _ i (col g e) (Or.inr (by omega))]
      exact yL_canon1 g t e i hi n (Nat.le_of_succ_le h) (by omega)

/-- The tile's outputs read back. -/
theorem yL_canon (hS : S = I.st (2 * n')) (i : Fin 256) (j : Fin 2048) :
    View.canon (yL P v ld0 base 8 (by decide)) (ix2 i j) = I.yr (256 * n' + i.val) j := by
  have hj := j.isLt
  have hi := i.isLt
  obtain ⟨g, e, rfl⟩ : ∃ g e, j = col g e := ⟨⟨j.val / 256, by omega⟩, ⟨j.val % 256, by omega⟩, Fin.ext (by show j.val = 256 * (j.val / 256) + j.val % 256; omega)⟩
  unfold In.yr
  subst hS
  by_cases c : i.val < 128
  · have e1 : (256 * n' + i.val) / 128 = 2 * n' := by omega
    have e2 : (⟨(256 * n' + i.val) % 128, Nat.mod_lt _ (by norm_num)⟩ : Fin 128) = ⟨i.val, c⟩ := Fin.ext (by show (256 * n' + i.val) % 128 = i.val; omega)
    rw [e1, e2]
    exact yL_canon0 H v ld0 base _ hld g ⟨i.val, c⟩ e i rfl 8 (by decide) g.isLt
  · have e1 : (256 * n' + i.val) / 128 = 2 * n' + 1 := by omega
    have e2 : (⟨(256 * n' + i.val) % 128, Nat.mod_lt _ (by norm_num)⟩ : Fin 128) = ⟨i.val - 128, by omega⟩ := Fin.ext (by show (256 * n' + i.val) % 128 = i.val - 128; omega)
    have e3 : I.st (2 * n' + 1) = I.upd (2 * n') (I.st (2 * n')) := if_neg (by omega)
    rw [e1, e2, e3]
    exact yL_canon1 H v ld0 base _ hld g ⟨i.val - 128, by omega⟩ e i (show i.val = 128 + (i.val - 128) by omega) 8 (by decide) g.isLt
end

/-- The normalised rows of a tile. -/
theorem pay2_apply (x : Vec Ideal S1x256x1024 .f32) (w : Vec Ideal S1x1024 .f32) (i : Fin 256) (k : Fin 1024) :
    k0_pay2 x w (ix2 i k) = rms (fun k => x (ix3 0 i k)) (fun k => w (ix2 0 k)) k := by
  pointwise [k0_pay2, rms]
theorem pay3_apply (x : Vec Ideal S1x256x1024 .f32) (w : Vec Ideal S1x1024 .f32) (i : Fin 256) (k : Fin 1024) :
    k0_pay3 x w (ix2 i k) = rms (fun k => x (ix3 0 i k)) (fun k => w (ix2 0 k)) k := by
  pointwise [k0_pay3, pay2_apply]
/-- A tile's projected rows. -/
theorem pay4_apply (x : Vec Ideal S1x256x1024 .f32) (w : Vec Ideal S1x1024 .f32) (wx : Vec Ideal S1x1024x4096 .bf16) (i : Fin 256) (j : Fin 4096) :
    k0_pay4 x w wx (ix2 i j) = ∑ k : Fin 1024, k0_pay2 x w (ix2 i k) * wx (ix3 0 k j) := by
  pointwise [k0_pay4]
theorem pay42_apply (h : FVec Ideal S256x1024 .bf16) (w : Vec Ideal S1024x32 .bf16) (i : Fin 256) (j : Fin 32) :
    k0_pay42 (k0_pay41 h w) (ix2 i j) = ∑ k : Fin 1024, h (ix2 i k) * w (ix2 k j) := by
  pointwise [k0_pay42, k0_pay41]
theorem pay43_apply (h : FVec Ideal S256x1024 .bf16) (w : Vec Ideal S32x1024 .bf16) (i : Fin 256) (j : Fin 32) :
    k0_pay43 h w (ix2 j i) = ∑ k : Fin 1024, w (ix2 j k) * h (ix2 i k) := by
  pointwise [k0_pay43]
theorem pay46_apply (g : Fin 8) (m : Fin 128) (e : Fin 256) : k0_pay46 (F := Ideal) (ix3 g m e) = 0 := by
  pointwise [k0_pay46]
theorem pay47_apply (j : Fin 32) (r : Fin 8) (l : Fin 128) : k0_pay47 (F := Ideal) (ix3 j r l) = 0 := by
  pointwise [k0_pay47]
/-- The finished rows before the last norm's scale, and after it. -/
theorem pay50_apply (fw : Vec Ideal S1x1024 .f32) (y : Vec Ideal S256x2048 .bf16) (wo : Vec Ideal S1x2048x1024 .bf16) (x : Vec Ideal S256x1024 .f32) (i : Fin 256) (k : Fin 1024) :
    k0_pay50 (k0_pay48 fw) (k0_pay49 y wo x) (ix3 0 i k)
      = rms (fun k => (∑ j : Fin 2048, y (ix2 i j) * wo (ix3 0 j k)) + x (ix2 i k)) (fun k => fw (ix2 0 k)) k := by
  pointwise [k0_pay50, k0_pay48, k0_pay49, rms]
theorem pay51_apply (x : Vec Ideal S1x256x1024 .f32) (i : Fin 256) (k : Fin 1024) : k0_pay1 (k0_pay51 x) (ix2 i k) = x (ix3 0 i k) := by
  pointwise [k0_pay1, k0_pay51]
theorem pay545_eq (x : Vec Ideal S32x8x128 .f32) : k0_pay545 x = x := by
  unfold k0_pay545; exact shapeCast_self _ _
theorem pay586_eq (x : Vec Ideal S32x8x128 .f32) : k0_pay586 x = x := by
  unfold k0_pay586; exact shapeCast_self _ _
theorem pay587_eq (x : Vec Ideal S256x2048 .bf16) : k0_pay587 x = x := by
  unfold k0_pay587; exact shapeCast_self _ _

end Cert.Kernel2Ideal.Ssd

end
-- ==== Proof.Ssd.Step.lean ====
/- What the grid points keep from one to the next, and the loads of it. -/
module

public import proofs.«01_k».proof.Proof.Ssd.Canon
public import Idealize.ShloMosaic.Lib.WritesUnit

@[expose] public section

set_option maxRecDepth 16384

noncomputable section

namespace Cert.Kernel2Ideal.Ssd

open Cert.Sgu Cert.Ssd Cert.Kernel2Ideal Cert.Kernel2Ideal.Gen Cert.Kernel2Ideal.Facts Idealize.ShloMosaic

theorem hz2 : (![0, 0] : Fin 2 → Nat) = fun _ => 0 := funext fun a => by fin_cases a <;> rfl
theorem hz3 : (![0, 0, 0] : Fin 3 → Nat) = fun _ => 0 := funext fun a => by fin_cases a <;> rfl

/-- The blocks that grid point `n` reads. -/
structure Blk (I : In) (n : ℕ) (x0 x1 : Vec Ideal S1x256x1024 .f32) (x2 : Vec Ideal S1x1024 .f32) (x3 : Vec Ideal S1x1024x6144 .bf16) (x4 : Vec Ideal S1024x32 .bf16)
    (x5 : Vec Ideal S32x1024 .bf16) (x6 : Vec Ideal S4x4096 .f32) (x7 : Vec Ideal S1x4096 .f32) (x8 : Vec Ideal S1x32 .f32) (x9 : Vec Ideal S32x1 .f32)
    (x10 : Vec Ideal S1x32 .f32) (x11 : Vec Ideal S32x1 .f32) (x12 x13 : Vec Ideal S1x2048 .f32) (x14 : Vec Ideal S1x2048x1024 .bf16) (x15 : Vec Ideal S1x1024 .f32) : Prop where
  x0 : ∀ (i : Fin 256) (k : Fin 1024), x0 (ix3 0 i k) = I.x (256 * n + i.val) k
  x1 : ∀ (i : Fin 256) (k : Fin 1024), x1 (ix3 0 i k) = I.x (256 * (n + 1) + i.val) k
  x2 : ∀ k : Fin 1024, x2 (ix2 0 k) = I.nw k
  wz : ∀ (k : Fin 1024) (j : Fin 2048), x3 (ix3 0 k ⟨j.val, by have := j.isLt; omega⟩) = I.wz k j
  wx : ∀ (k : Fin 1024) (j : Fin 4096), x3 (ix3 0 k ⟨2048 + j.val, by have := j.isLt; omega⟩) = I.wx k j
  x4 : ∀ (k : Fin 1024) (h : Fin 32), x4 (ix2 k h) = I.wd k h
  x5 : ∀ (k : Fin 1024) (h : Fin 32), x5 (ix2 h k) = I.wd k h
  x6 : ∀ (k : Fin 4) (j : Fin 4096), x6 (ix2 k j) = I.cw k j
  x7 : ∀ j : Fin 4096, x7 (ix2 0 j) = I.cb j
  x8 : ∀ h : Fin 32, x8 (ix2 0 h) = I.bias h
  x9 : ∀ h : Fin 32, x9 (ix2 h 0) = I.bias h
  x10 : ∀ h : Fin 32, x10 (ix2 0 h) = I.al h
  x11 : ∀ h : Fin 32, x11 (ix2 h 0) = I.al h
  x12 : ∀ j : Fin 2048, x12 (ix2 0 j) = I.dsk (head j)
  x13 : ∀ j : Fin 2048, x13 (ix2 0 j) = I.gw j
  x14 : ∀ (j : Fin 2048) (k : Fin 1024), x14 (ix3 0 j k) = I.wo j k
  x15 : ∀ k : Fin 1024, x15 (ix2 0 k) = I.fw k

/-- What grid point `n` leaves: the next tile's projections with the last eight rows of this one before them, the state, and this tile's outputs and inputs. -/
structure Inv (I : In) (n : ℕ) (raw : Vec Ideal S32x264x128 .f32) (hn : Vec Ideal S256x1024 .bf16) (dtr : Vec Ideal S256x32 .f32) (dttr : Vec Ideal S32x256 .f32)
    (st : Vec Ideal S8x128x256 .f32) (yp : Vec Ideal S256x2048 .bf16) (xp : Vec Ideal S256x1024 .f32) : Prop where
  raw : ∀ (j : Fin 32) (r : Fin 264) (l : Fin 128), raw (ix3 j r l) = I.px (256 * (n + 1) + r.val - 8) (slabC j.val j.isLt l)
  hn : ∀ (i : Fin 256) (k : Fin 1024), hn (ix2 i k) = I.hn (256 * (n + 1) + i.val) k
  dtr : ∀ (i : Fin 256) (h : Fin 32), dtr (ix2 i h) = I.pd (256 * (n + 1) + i.val) h
  dttr : ∀ (i : Fin 256) (h : Fin 32), dttr (ix2 h i) = I.pd (256 * (n + 1) + i.val) h
  st : ∀ (g : Fin 8) (m : Fin 128) (e : Fin 256), st (ix3 g m e) = I.upd (2 * n + 1) (I.upd (2 * n) (I.st (2 * n))) (col g e) m
  yp : ∀ (i : Fin 256) (j : Fin 2048), yp (ix2 i j) = I.yr (256 * n + i.val) j
  xp : ∀ (i : Fin 256) (k : Fin 1024), xp (ix2 i k) = I.x (256 * n + i.val) k

/-- The state before a point that starts no sequence. -/
theorem st_succ (I : In) (n : ℕ) (h : ¬(n + 1) % 16 = 0) : I.st (2 * (n + 1)) = I.upd (2 * n + 1) (I.upd (2 * n) (I.st (2 * n))) := by
  have e1 : I.st (2 * n + 1) = I.upd (2 * n) (I.st (2 * n)) := if_neg (by omega)
  have e2 : I.st (2 * n + 1 + 1) = I.upd (2 * n + 1) (I.st (2 * n + 1)) := if_neg (by omega)
  rw [show 2 * (n + 1) = 2 * n + 1 + 1 by omega, e2, e1]
/-- The state before a point that starts a sequence. -/
theorem st_zero (I : In) (n : ℕ) (h : n % 16 = 0) : I.st (2 * n) = fun _ _ => 0 := by
  cases n with
  | zero => rfl
  | succ n =>
    have e2 : I.st (2 * n + 1 + 1) = fun _ _ => 0 := if_pos (by omega)
    rw [show 2 * (n + 1) = 2 * n + 1 + 1 by omega, e2]

section
variable {s : Shape} {e : EltTy} (a : Memref sig .tc .vmem s e) (h : a.IsWhole) (x : Vec Ideal s e)
/-- A load of a whole buffer. -/
theorem rd {off : Fin s.rank → Nat} (hz : off = fun _ => 0) (inb : ∀ a, off a + s.size a ≤ s.size a) :
    (View.readAt (Elt Ideal) a.view (Rect.unit (s := s) off s.size inb).toLoadRect (h.unread x) : Vec Ideal s e) = x := by
  refine (show _ = View.ld (a.view.read (Elt Ideal) (h.unread x)) (Rect.unit (s := s) off s.size inb) from rfl).trans ?_
  rw [h.read_unread]
  exact View.ld_unit_zero hz _ _
/-- A load of part of a buffer. -/
theorem rdAt (R : Rect s) (y : R.shape.Idx) : View.readAt (Elt Ideal) a.view R.toLoadRect (h.unread x) y = x (R.emb y) := by
  show View.ld (a.view.read (Elt Ideal) (h.unread x)) R y = _
  rw [h.read_unread]
  rfl
/-- A load of part of what pieces left. -/
theorem rdC {sig' : RefSig} (v : View sig' .tc .vmem s e) (L : List (View.Piece (Elt Ideal) s e)) (R : Rect s) (y : R.shape.Idx) :
    v.readCov L R.toLoadRect y = View.canon L (R.emb y) := by
  rw [View.readCov_eq_canon']
  rfl
end

theorem emb_slab (j r : Nat) (hj : j < 32) (hr : r ≤ 8) (h) (i : Fin 256) (l : Fin 128) :
    (Rect.unit (s := S32x264x128) ![j, r, 0] S1x256x128.size h).emb (ix3 (0 : Fin 1) i l) = ix3 (⟨j, hj⟩ : Fin 32) (⟨r + i.val, by have := i.isLt; omega⟩ : Fin 264) l :=
  ext3 (show j + 1 * 0 = j by omega) (show r + 1 * i.val = r + i.val by omega) (show 0 + 1 * l.val = l.val by omega)
theorem emb_tail (j : Fin 32) (r : Fin 8) (h) (l : Fin 128) :
    (Rect.unit (s := S32x264x128) ![0, 256, 0] S32x8x128.size h).emb (ix3 j r l) = ix3 j (⟨256 + r.val, by have := r.isLt; omega⟩ : Fin 264) l :=
  ext3 (show 0 + 1 * j.val = j.val by omega) (show 256 + 1 * r.val = 256 + r.val by omega) (show 0 + 1 * l.val = l.val by omega)
theorem emb_wx (h) (k : Fin 1024) (j : Fin 4096) :
    (Rect.unit (s := S1x1024x6144) ![0, 0, 2048] S1x1024x4096.size h).emb (ix3 (0 : Fin 1) k j) = ix3 (0 : Fin 1) k (⟨2048 + j.val, by have := j.isLt; omega⟩ : Fin 6144) :=
  ext3 (show 0 + 1 * 0 = 0 by omega) (show 0 + 1 * k.val = k.val by omega) (show 2048 + 1 * j.val = 2048 + j.val by omega)
theorem emb_st (g : Nat) (hg : g < 8) (h) (m : Fin 128) (e : Fin 256) :
    (Rect.unit (s := S8x128x256) ![g, 0, 0] S1x128x256.size h).emb (ix3 (0 : Fin 1) m e) = ix3 (⟨g, hg⟩ : Fin 8) m e :=
  ext3 (show g + 1 * 0 = g by omega) (show 0 + 1 * m.val = m.val by omega) (show 0 + 1 * e.val = e.val by omega)

section
variable (a : Memref sig .tc .vmem S32x264x128 .f32) (h : a.IsWhole) (x : Vec Ideal S32x264x128 .f32)
theorem rd_slab (j r : Nat) (hj : j < 32) (hr : r ≤ 8) (hb) (i : Fin 256) (l : Fin 128) :
    View.readAt (Elt Ideal) a.view (Rect.unit (s := S32x264x128) ![j, r, 0] S1x256x128.size hb).toLoadRect (h.unread x) (ix3 (0 : Fin 1) i l)
      = x (ix3 (⟨j, hj⟩ : Fin 32) (⟨r + i.val, by have := i.isLt; omega⟩ : Fin 264) l) :=
  (rdAt a h x _ _).trans (congrArg x (emb_slab j r hj hr hb i l))
theorem rd_tail (j : Fin 32) (r : Fin 8) (hb) (l : Fin 128) :
    View.readAt (Elt Ideal) a.view (Rect.unit (s := S32x264x128) ![0, 256, 0] S32x8x128.size hb).toLoadRect (h.unread x) (ix3 j r l)
      = x (ix3 j (⟨256 + r.val, by have := r.isLt; omega⟩ : Fin 264) l) :=
  (rdAt a h x _ _).trans (congrArg x (emb_tail j r hb l))
/-- A load of a slab after its first rows were zeroed. -/
theorem rd_slab_zeroed (j r : Nat) (hj : j < 32) (hr : r ≤ 8) (hb) (i : Fin 256) (l : Fin 128) :
    View.readAt (Elt Ideal) a.view (Rect.unit (s := S32x264x128) ![j, r, 0] S1x256x128.size hb).toLoadRect
        (a.view.writes (Elt Ideal) (h.unread x) [⟨Rect.unit (s := S32x264x128) ![0, 0, 0] S32x8x128.size inb_S32x264x128_S32x8x128_0_0_0, k0_pay47 (F := Ideal)⟩]) (ix3 (0 : Fin 1) i l)
      = if r + i.val < 8 then 0 else x (ix3 (⟨j, hj⟩ : Fin 32) (⟨r + i.val, by have := i.isLt; omega⟩ : Fin 264) l) := by
  refine (show _ = a.view.read (Elt Ideal) (a.view.writes (Elt Ideal) (h.unread x) _) ((Rect.unit (s := S32x264x128) ![j, r, 0] S1x256x128.size hb).emb (ix3 (0 : Fin 1) i l)) from rfl).trans ?_
  rw [emb_slab j r hj hr hb i l]
  by_cases c : r + i.val < 8
  · rw [if_pos c]
    refine (View.read_writes_cons_unit_of_mem a.view _ _ _ _ _ (ix3 (⟨j, hj⟩ : Fin 32) (⟨r + i.val, c⟩ : Fin 8) l) rfl ?_).trans (pay47_apply _ _ _)
    intro b
    match b with
    | ⟨0, _⟩ => show j = 0 + j; omega
    | ⟨1, _⟩ => show r + i.val = 0 + (r + i.val); omega
    | ⟨2, _⟩ => show l.val = 0 + l.val; omega
  · rw [if_neg c]
    refine (View.read_writes_cons_unit_of_not_mem a.view _ _ _ _ _ rfl (1 : Fin 3) (show r + i.val < 0 ∨ 0 + 8 ≤ r + i.val by omega)).trans ?_
    show a.view.read (Elt Ideal) (h.unread x) _ = _
    rw [h.read_unread]
end

theorem rd_wx (a : Memref sig .tc .vmem S1x1024x6144 .bf16) (h : a.IsWhole) (x : Vec Ideal S1x1024x6144 .bf16) (hb) (k : Fin 1024) (j : Fin 4096) :
    View.readAt (Elt Ideal) a.view (Rect.unit (s := S1x1024x6144) ![0, 0, 2048] S1x1024x4096.size hb).toLoadRect (h.unread x) (ix3 (0 : Fin 1) k j)
      = x (ix3 (0 : Fin 1) k (⟨2048 + j.val, by have := j.isLt; omega⟩ : Fin 6144)) :=
  (rdAt a h x _ _).trans (congrArg x (emb_wx hb k j))
theorem rd_st (a : Memref sig .tc .vmem S8x128x256 .f32) (h : a.IsWhole) (x : Vec Ideal S8x128x256 .f32) (g : Nat) (hg : g < 8) (hb) (m : Fin 128) (e : Fin 256) :
    View.readAt (Elt Ideal) a.view (Rect.unit (s := S8x128x256) ![g, 0, 0] S1x128x256.size hb).toLoadRect (h.unread x) (ix3 (0 : Fin 1) m e)
      = x (ix3 (⟨g, hg⟩ : Fin 8) m e) :=
  (rdAt a h x _ _).trans (congrArg x (emb_st g hg hb m e))
theorem rdC_slab {sig' : RefSig} (v : View sig' .tc .vmem S32x264x128 .f32) (L) (j r : Nat) (hj : j < 32) (hr : r ≤ 8) (hb) (i : Fin 256) (l : Fin 128) :
    v.readCov (Val := Elt Ideal) L (Rect.unit (s := S32x264x128) ![j, r, 0] S1x256x128.size hb).toLoadRect (ix3 (0 : Fin 1) i l)
      = View.canon L (ix3 (⟨j, hj⟩ : Fin 32) (⟨r + i.val, by have := i.isLt; omega⟩ : Fin 264) l) :=
  (rdC v L _ _).trans (congrArg (View.canon L) (emb_slab j r hj hr hb i l))
theorem rdC_tail {sig' : RefSig} (v : View sig' .tc .vmem S32x264x128 .f32) (L) (j : Fin 32) (r : Fin 8) (hb) (l : Fin 128) :
    v.readCov (Val := Elt Ideal) L (Rect.unit (s := S32x264x128) ![0, 256, 0] S32x8x128.size hb).toLoadRect (ix3 j r l)
      = View.canon L (ix3 j (⟨256 + r.val, by have := r.isLt; omega⟩ : Fin 264) l) :=
  (rdC v L _ _).trans (congrArg (View.canon L) (emb_tail j r hb l))
theorem rdC_st {sig' : RefSig} (v : View sig' .tc .vmem S8x128x256 .f32) (L) (g : Nat) (hg : g < 8) (hb) (m : Fin 128) (e : Fin 256) :
    v.readCov (Val := Elt Ideal) L (Rect.unit (s := S8x128x256) ![g, 0, 0] S1x128x256.size hb).toLoadRect (ix3 (0 : Fin 1) m e)
      = View.canon L (ix3 (⟨g, hg⟩ : Fin 8) m e) :=
  (rdC v L _ _).trans (congrArg (View.canon L) (emb_st g hg hb m e))
theorem rdC_yp {sig' : RefSig} (v : View sig' .tc .vmem S256x2048 .bf16) (L) (hb) (i : Fin 256) (j : Fin 2048) :
    v.readCov (Val := Elt Ideal) L (Rect.unit (s := S256x2048) ![0, 0] S256x2048.size hb).toLoadRect (ix2 i j) = View.canon L (ix2 i j) :=
  (rdC v L _ _).trans (congrArg (View.canon L) (ext2 (show 0 + 1 * i.val = i.val by omega) (show 0 + 1 * j.val = j.val by omega)))

section
variable {I : In} (r0 : ℕ) (X : Vec Ideal S1x256x1024 .f32) (W : Vec Ideal S1x1024 .f32)
  (hX : ∀ (i : Fin 256) (k : Fin 1024), X (ix3 0 i k) = I.x (r0 + i.val) k) (hW : ∀ k : Fin 1024, W (ix2 0 k) = I.nw k)
include hX hW
theorem hn_eq (i : Fin 256) (k : Fin 1024) : k0_pay2 X W (ix2 i k) = I.hn (r0 + i.val) k := by
  rw [pay2_apply, show (fun k => X (ix3 0 i k)) = I.x (r0 + i.val) from funext (hX i), show (fun k => W (ix2 0 k)) = I.nw from funext hW]; rfl
theorem hn3_eq (i : Fin 256) (k : Fin 1024) : k0_pay3 X W (ix2 i k) = I.hn (r0 + i.val) k := by
  rw [pay3_apply, show (fun k => X (ix3 0 i k)) = I.x (r0 + i.val) from funext (hX i), show (fun k => W (ix2 0 k)) = I.nw from funext hW]; rfl
theorem px_eq (WX : Vec Ideal S1x1024x4096 .bf16) (hWX : ∀ (k : Fin 1024) (j : Fin 4096), WX (ix3 0 k j) = I.wx k j) (i : Fin 256) (j : Fin 4096) :
    k0_pay4 X W WX (ix2 i j) = I.px (r0 + i.val) j := by
  rw [pay4_apply]
  exact Finset.sum_congr rfl fun k _ => by rw [hn_eq r0 X W hX hW, hWX]
theorem pd_eq (WD : Vec Ideal S1024x32 .bf16) (hWD : ∀ (k : Fin 1024) (h : Fin 32), WD (ix2 k h) = I.wd k h) (i : Fin 256) (h : Fin 32) :
    k0_pay42 (k0_pay41 (k0_pay2 X W) WD) (ix2 i h) = I.pd (r0 + i.val) h := by
  rw [pay42_apply]
  exact Finset.sum_congr rfl fun k _ => by rw [hn_eq r0 X W hX hW, hWD]
theorem pdt_eq (WD : Vec Ideal S32x1024 .bf16) (hWD : ∀ (k : Fin 1024) (h : Fin 32), WD (ix2 h k) = I.wd k h) (i : Fin 256) (h : Fin 32) :
    k0_pay43 (k0_pay2 X W) WD (ix2 h i) = I.pd (r0 + i.val) h := by
  rw [pay43_apply]
  exact Finset.sum_congr rfl fun k _ => by rw [hn_eq r0 X W hX hW, hWD, mul_comm]
end

end Cert.Kernel2Ideal.Ssd

end
-- ==== Proof.Ssd.Host.lean ====
/- What the host code hands the call, and the blocks of the grid's points. -/
module

public import proofs.«01_k».proof.Proof.Gen.Kernel2Ideal.Value
public import proofs.«01_k».proof.Proof.Ssd.Args
public import proofs.«01_k».proof.Proof.Ssd.Step

@[expose] public section

set_option maxRecDepth 16384

noncomputable section

namespace Cert.Kernel2Ideal.Ssd

open Cert.Sgu Cert.Ssd Cert.Kernel2Ideal Cert.Kernel2Ideal.Gen Cert.Kernel2Ideal.Facts Cert.Kernel2Ideal.Value Idealize.ShloMosaic
  Idealize.ShloMosaic.TcCoe Idealize.SL.Sem

variable (m : (ℓ : Loc nD τ sig) → Buf (Elt Ideal) ℓ) (ρ : Dev nD → PrngReg)

theorem V_main_v0 (c : Dev nD) : V m c main_v0 = (truncf (F := Ideal) (s := S2x1024x6176) (φ := .f32) .bf16 (m ((c : Thread nD τ).loc main_arg3)) bitsLt_bf16_f32 : FVec Ideal S2x1024x6176 .bf16) := by
  show StableHlo.after hostOps0 _ _ = _
  simp only [hostOps0]
  after_results_simp <;> rfl
theorem V_main_v1 (c : Dev nD) : V m c main_v1 = (truncf (F := Ideal) (s := S2x2048x1024) (φ := .f32) .bf16 (m ((c : Thread nD τ).loc main_arg10)) bitsLt_bf16_f32 : FVec Ideal S2x2048x1024 .bf16) := by
  show StableHlo.after hostOps0 _ _ = _
  simp only [hostOps0]
  after_results_simp <;> rfl
theorem V_main_v18 (c : Dev nD) : V m c main_v18 = (shapeCast S1x1024 (shapeCast S1024 (extractStridedSlice S1x1024 ![3, 0] (m ((c : Thread nD τ).loc main_arg1) : Vec Ideal S4x1024 .f32) slices_S4x1024_S1x1024_3_0) shapeCasts_S1x1024_S1024) shapeCasts_S1024_S1x1024 : Vec Ideal S1x1024 .f32) := by
  show StableHlo.after hostOps0 _ _ = _
  simp only [hostOps0]
  after_results_simp <;> rfl
theorem V_main_v5 (c : Dev nD) : V m c main_v5 = (shapeCast S4x4096 (extractStridedSlice S1x4x4096 ![1, 0, 0] (m ((c : Thread nD τ).loc main_arg4) : Vec Ideal S2x4x4096 .f32) slices_S2x4x4096_S1x4x4096_1_0_0) shapeCasts_S1x4x4096_S4x4096 : Vec Ideal S4x4096 .f32) := by
  show StableHlo.after hostOps0 _ _ = _
  simp only [hostOps0]
  after_results_simp <;> rfl
theorem V_main_v20 (c : Dev nD) : V m c main_v20 = (shapeCast S1x4096 (shapeCast S4096 (extractStridedSlice S1x4096 ![1, 0] (m ((c : Thread nD τ).loc main_arg5) : Vec Ideal S2x4096 .f32) slices_S2x4096_S1x4096_1_0) shapeCasts_S1x4096_S4096) shapeCasts_S4096_S1x4096 : Vec Ideal S1x4096 .f32) := by
  show StableHlo.after hostOps0 _ _ = _
  simp only [hostOps0]
  after_results_simp <;> rfl
theorem V_main_v21 (c : Dev nD) : V m c main_v21 = (shapeCast S1x32 (shapeCast S32 (extractStridedSlice S1x32 ![1, 0] (m ((c : Thread nD τ).loc main_arg6) : Vec Ideal S2x32 .f32) slices_S2x32_S1x32_1_0) shapeCasts_S1x32_S32) shapeCasts_S32_S1x32 : Vec Ideal S1x32 .f32) := by
  show StableHlo.after hostOps0 _ _ = _
  simp only [hostOps0]
  after_results_simp <;> rfl
theorem V_main_v22 (c : Dev nD) : V m c main_v22 = (shapeCast S32x1 (shapeCast S32 (extractStridedSlice S1x32 ![1, 0] (m ((c : Thread nD τ).loc main_arg6) : Vec Ideal S2x32 .f32) slices_S2x32_S1x32_1_0) shapeCasts_S1x32_S32) shapeCasts_S32_S32x1 : Vec Ideal S32x1 .f32) := by
  show StableHlo.after hostOps0 _ _ = _
  simp only [hostOps0]
  after_results_simp <;> rfl
theorem V_main_v23 (c : Dev nD) : V m c main_v23 = (shapeCast S1x32 (shapeCast S32 (extractStridedSlice S1x32 ![1, 0] (m ((c : Thread nD τ).loc main_arg7) : Vec Ideal S2x32 .f32) slices_S2x32_S1x32_1_0) shapeCasts_S1x32_S32) shapeCasts_S32_S1x32 : Vec Ideal S1x32 .f32) := by
  show StableHlo.after hostOps0 _ _ = _
  simp only [hostOps0]
  after_results_simp <;> rfl
theorem V_main_v24 (c : Dev nD) : V m c main_v24 = (shapeCast S32x1 (shapeCast S32 (extractStridedSlice S1x32 ![1, 0] (m ((c : Thread nD τ).loc main_arg7) : Vec Ideal S2x32 .f32) slices_S2x32_S1x32_1_0) shapeCasts_S1x32_S32) shapeCasts_S32_S32x1 : Vec Ideal S32x1 .f32) := by
  show StableHlo.after hostOps0 _ _ = _
  simp only [hostOps0]
  after_results_simp <;> rfl
theorem V_main_v27 (c : Dev nD) : V m c main_v27 = (shapeCast S1x2048 (shapeCast S2048 (broadcastInDim S32x64 ![0] bcast_S32_S32x64_0 (shapeCast S32 (extractStridedSlice S1x32 ![1, 0] (m ((c : Thread nD τ).loc main_arg8) : Vec Ideal S2x32 .f32) slices_S2x32_S1x32_1_0) shapeCasts_S1x32_S32)) shapeCasts_S32x64_S2048) shapeCasts_S2048_S1x2048 : Vec Ideal S1x2048 .f32) := by
  show StableHlo.after hostOps0 _ _ = _
  simp only [hostOps0]
  after_results_simp <;> rfl
theorem V_main_v28 (c : Dev nD) : V m c main_v28 = (shapeCast S1x2048 (shapeCast S2048 (extractStridedSlice S1x2048 ![1, 0] (m ((c : Thread nD τ).loc main_arg9) : Vec Ideal S2x2048 .f32) slices_S2x2048_S1x2048_1_0) shapeCasts_S1x2048_S2048) shapeCasts_S2048_S1x2048 : Vec Ideal S1x2048 .f32) := by
  show StableHlo.after hostOps0 _ _ = _
  simp only [hostOps0]
  after_results_simp <;> rfl
theorem V_main_v17 (c : Dev nD) : V m c main_v17 = (shapeCast S1024x32 (extractStridedSlice S1x1024x32 ![1, 0, 6144] (truncf (F := Ideal) (s := S2x1024x6176) (φ := .f32) .bf16 (m ((c : Thread nD τ).loc main_arg3)) bitsLt_bf16_f32 : FVec Ideal S2x1024x6176 .bf16) slices_S2x1024x6176_S1x1024x32_1_0_6144) shapeCasts_S1x1024x32_S1024x32 : Vec Ideal S1024x32 .bf16) := by
  show StableHlo.after hostOps0 _ _ = _
  simp only [hostOps0]
  after_results_simp <;> rfl
theorem V_main_v19 (c : Dev nD) : V m c main_v19 = (transpose S32x1024 [1, 0] (shapeCast S1024x32 (extractStridedSlice S1x1024x32 ![1, 0, 6144] (truncf (F := Ideal) (s := S2x1024x6176) (φ := .f32) .bf16 (m ((c : Thread nD τ).loc main_arg3)) bitsLt_bf16_f32 : FVec Ideal S2x1024x6176 .bf16) slices_S2x1024x6176_S1x1024x32_1_0_6144) shapeCasts_S1x1024x32_S1024x32) transposes_S1024x32_S32x1024_1_0 : Vec Ideal S32x1024 .bf16) := by
  show StableHlo.after hostOps0 _ _ = _
  simp only [hostOps0]
  after_results_simp <;> rfl
theorem V_main_v29 (c : Dev nD) : V m c main_v29 = (shapeCast S1x1024 ((m ((c : Thread nD τ).loc main_arg2) : Vec Ideal S1024 .f32)) shapeCasts_S1024_S1x1024 : Vec Ideal S1x1024 .f32) := by
  show StableHlo.after hostOps0 _ _ = _
  simp only [hostOps0]
  after_results_simp <;> rfl
theorem idx0 : ∀ t : Fin cfg0.N, win0_0.index t (0 : Fin 3) = min t.val 127 / 16 ∧ win0_0.index t (1 : Fin 3) = min t.val 127 % 16 ∧ win0_0.index t (2 : Fin 3) = 0 :=
  (by decide +kernel : ∀ t : Fin grid0.N, _)
theorem emb0 (t : Fin cfg0.N) (r : Fin 256) (k : Fin 1024) : ((cfg0.win 0).blk t).view.emb (ix3 0 r k : S1x256x1024.Idx)
    = (ix3 (⟨min t.val 127 / 16, by have : t.val < 129 := t.isLt; omega⟩ : Fin 8) (⟨min t.val 127 % 16 * 256 + r.val, by have := r.isLt; omega⟩ : Fin 4096) k : S8x4096x1024.Idx) := by
  obtain ⟨e0, e1, e2⟩ := idx0 t
  funext a; apply Fin.ext
  match a with
  | ⟨0, _⟩ => show win0_0.index t (0 : Fin 3) * 1 + 1 * 0 = min t.val 127 / 16; omega
  | ⟨1, _⟩ => show win0_0.index t (1 : Fin 3) * 256 + 1 * r.val = min t.val 127 % 16 * 256 + r.val; omega
  | ⟨2, _⟩ => show win0_0.index t (2 : Fin 3) * 1024 + 1 * k.val = k.val; omega
theorem idx1 : ∀ t : Fin cfg0.N, win0_1.index t (0 : Fin 3) = min (t.val + 1) 127 / 16 ∧ win0_1.index t (1 : Fin 3) = min (t.val + 1) 127 % 16 ∧ win0_1.index t (2 : Fin 3) = 0 :=
  (by decide +kernel : ∀ t : Fin grid0.N, _)
theorem emb1 (t : Fin cfg0.N) (r : Fin 256) (k : Fin 1024) : ((cfg0.win 1).blk t).view.emb (ix3 0 r k : S1x256x1024.Idx)
    = (ix3 (⟨min (t.val + 1) 127 / 16, by have : t.val < 129 := t.isLt; omega⟩ : Fin 8) (⟨min (t.val + 1) 127 % 16 * 256 + r.val, by have := r.isLt; omega⟩ : Fin 4096) k : S8x4096x1024.Idx) := by
  obtain ⟨e0, e1, e2⟩ := idx1 t
  funext a; apply Fin.ext
  match a with
  | ⟨0, _⟩ => show win0_1.index t (0 : Fin 3) * 1 + 1 * 0 = min (t.val + 1) 127 / 16; omega
  | ⟨1, _⟩ => show win0_1.index t (1 : Fin 3) * 256 + 1 * r.val = min (t.val + 1) 127 % 16 * 256 + r.val; omega
  | ⟨2, _⟩ => show win0_1.index t (2 : Fin 3) * 1024 + 1 * k.val = k.val; omega
theorem idx16 : ∀ t : Fin cfg0.N, win0_16.index t (0 : Fin 3) = (t.val - 1) / 16 ∧ win0_16.index t (1 : Fin 3) = (t.val - 1) % 16 ∧ win0_16.index t (2 : Fin 3) = 0 :=
  (by decide +kernel : ∀ t : Fin grid0.N, _)
theorem emb16 (t : Fin cfg0.N) (r : Fin 256) (k : Fin 1024) : ((cfg0.win 16).blk t).view.emb (ix3 0 r k : S1x256x1024.Idx)
    = (ix3 (⟨(t.val - 1) / 16, by have : t.val < 129 := t.isLt; omega⟩ : Fin 8) (⟨(t.val - 1) % 16 * 256 + r.val, by have := r.isLt; omega⟩ : Fin 4096) k : S8x4096x1024.Idx) := by
  obtain ⟨e0, e1, e2⟩ := idx16 t
  funext a; apply Fin.ext
  match a with
  | ⟨0, _⟩ => show win0_16.index t (0 : Fin 3) * 1 + 1 * 0 = (t.val - 1) / 16; omega
  | ⟨1, _⟩ => show win0_16.index t (1 : Fin 3) * 256 + 1 * r.val = (t.val - 1) % 16 * 256 + r.val; omega
  | ⟨2, _⟩ => show win0_16.index t (2 : Fin 3) * 1024 + 1 * k.val = k.val; omega
theorem idx2 : ∀ t : Fin cfg0.N, win0_2.index t (0 : Fin 2) = 0 ∧ win0_2.index t (1 : Fin 2) = 0 := (by decide +kernel : ∀ t : Fin grid0.N, _)
theorem emb2 (t : Fin cfg0.N) (y : S1x1024.Idx) : ((cfg0.win 2).blk t).view.emb y = y := by
  obtain ⟨e0, e1⟩ := idx2 t
  funext a; apply Fin.ext
  match a with
  | ⟨0, _⟩ => show win0_2.index t (0 : Fin 2) * 1 + 1 * (y 0).val = (y 0).val; omega
  | ⟨1, _⟩ => show win0_2.index t (1 : Fin 2) * 1024 + 1 * (y 1).val = (y 1).val; omega
theorem idx4 : ∀ t : Fin cfg0.N, win0_4.index t (0 : Fin 2) = 0 ∧ win0_4.index t (1 : Fin 2) = 0 := (by decide +kernel : ∀ t : Fin grid0.N, _)
theorem emb4 (t : Fin cfg0.N) (y : S1024x32.Idx) : ((cfg0.win 4).blk t).view.emb y = y := by
  obtain ⟨e0, e1⟩ := idx4 t
  funext a; apply Fin.ext
  match a with
  | ⟨0, _⟩ => show win0_4.index t (0 : Fin 2) * 1024 + 1 * (y 0).val = (y 0).val; omega
  | ⟨1, _⟩ => show win0_4.index t (1 : Fin 2) * 32 + 1 * (y 1).val = (y 1).val; omega
theorem idx5 : ∀ t : Fin cfg0.N, win0_5.index t (0 : Fin 2) = 0 ∧ win0_5.index t (1 : Fin 2) = 0 := (by decide +kernel : ∀ t : Fin grid0.N, _)
theorem emb5 (t : Fin cfg0.N) (y : S32x1024.Idx) : ((cfg0.win 5).blk t).view.emb y = y := by
  obtain ⟨e0, e1⟩ := idx5 t
  funext a; apply Fin.ext
  match a with
  | ⟨0, _⟩ => show win0_5.index t (0 : Fin 2) * 32 + 1 * (y 0).val = (y 0).val; omega
  | ⟨1, _⟩ => show win0_5.index t (1 : Fin 2) * 1024 + 1 * (y 1).val = (y 1).val; omega
theorem idx6 : ∀ t : Fin cfg0.N, win0_6.index t (0 : Fin 2) = 0 ∧ win0_6.index t (1 : Fin 2) = 0 := (by decide +kernel : ∀ t : Fin grid0.N, _)
theorem emb6 (t : Fin cfg0.N) (y : S4x4096.Idx) : ((cfg0.win 6).blk t).view.emb y = y := by
  obtain ⟨e0, e1⟩ := idx6 t
  funext a; apply Fin.ext
  match a with
  | ⟨0, _⟩ => show win0_6.index t (0 : Fin 2) * 4 + 1 * (y 0).val = (y 0).val; omega
  | ⟨1, _⟩ => show win0_6.index t (1 : Fin 2) * 4096 + 1 * (y 1).val = (y 1).val; omega
theorem idx7 : ∀ t : Fin cfg0.N, win0_7.index t (0 : Fin 2) = 0 ∧ win0_7.index t (1 : Fin 2) = 0 := (by decide +kernel : ∀ t : Fin grid0.N, _)
theorem emb7 (t : Fin cfg0.N) (y : S1x4096.Idx) : ((cfg0.win 7).blk t).view.emb y = y := by
  obtain ⟨e0, e1⟩ := idx7 t
  funext a; apply Fin.ext
  match a with
  | ⟨0, _⟩ => show win0_7.index t (0 : Fin 2) * 1 + 1 * (y 0).val = (y 0).val; omega
  | ⟨1, _⟩ => show win0_7.index t (1 : Fin 2) * 4096 + 1 * (y 1).val = (y 1).val; omega
theorem idx8 : ∀ t : Fin cfg0.N, win0_8.index t (0 : Fin 2) = 0 ∧ win0_8.index t (1 : Fin 2) = 0 := (by decide +kernel : ∀ t : Fin grid0.N, _)
theorem emb8 (t : Fin cfg0.N) (y : S1x32.Idx) : ((cfg0.win 8).blk t).view.emb y = y := by
  obtain ⟨e0, e1⟩ := idx8 t
  funext a; apply Fin.ext
  match a with
  | ⟨0, _⟩ => show win0_8.index t (0 : Fin 2) * 1 + 1 * (y 0).val = (y 0).val; omega
  | ⟨1, _⟩ => show win0_8.index t (1 : Fin 2) * 32 + 1 * (y 1).val = (y 1).val; omega
theorem idx9 : ∀ t : Fin cfg0.N, win0_9.index t (0 : Fin 2) = 0 ∧ win0_9.index t (1 : Fin 2) = 0 := (by decide +kernel : ∀ t : Fin grid0.N, _)
theorem emb9 (t : Fin cfg0.N) (y : S32x1.Idx) : ((cfg0.win 9).blk t).view.emb y = y := by
  obtain ⟨e0, e1⟩ := idx9 t
  funext a; apply Fin.ext
  match a with
  | ⟨0, _⟩ => show win0_9.index t (0 : Fin 2) * 32 + 1 * (y 0).val = (y 0).val; omega
  | ⟨1, _⟩ => show win0_9.index t (1 : Fin 2) * 1 + 1 * (y 1).val = (y 1).val; omega
theorem idx10 : ∀ t : Fin cfg0.N, win0_10.index t (0 : Fin 2) = 0 ∧ win0_10.index t (1 : Fin 2) = 0 := (by decide +kernel : ∀ t : Fin grid0.N, _)
theorem emb10 (t : Fin cfg0.N) (y : S1x32.Idx) : ((cfg0.win 10).blk t).view.emb y = y := by
  obtain ⟨e0, e1⟩ := idx10 t
  funext a; apply Fin.ext
  match a with
  | ⟨0, _⟩ => show win0_10.index t (0 : Fin 2) * 1 + 1 * (y 0).val = (y 0).val; omega
  | ⟨1, _⟩ => show win0_10.index t (1 : Fin 2) * 32 + 1 * (y 1).val = (y 1).val; omega
theorem idx11 : ∀ t : Fin cfg0.N, win0_11.index t (0 : Fin 2) = 0 ∧ win0_11.index t (1 : Fin 2) = 0 := (by decide +kernel : ∀ t : Fin grid0.N, _)
theorem emb11 (t : Fin cfg0.N) (y : S32x1.Idx) : ((cfg0.win 11).blk t).view.emb y = y := by
  obtain ⟨e0, e1⟩ := idx11 t
  funext a; apply Fin.ext
  match a with
  | ⟨0, _⟩ => show win0_11.index t (0 : Fin 2) * 32 + 1 * (y 0).val = (y 0).val; omega
  | ⟨1, _⟩ => show win0_11.index t (1 : Fin 2) * 1 + 1 * (y 1).val = (y 1).val; omega
theorem idx12 : ∀ t : Fin cfg0.N, win0_12.index t (0 : Fin 2) = 0 ∧ win0_12.index t (1 : Fin 2) = 0 := (by decide +kernel : ∀ t : Fin grid0.N, _)
theorem emb12 (t : Fin cfg0.N) (y : S1x2048.Idx) : ((cfg0.win 12).blk t).view.emb y = y := by
  obtain ⟨e0, e1⟩ := idx12 t
  funext a; apply Fin.ext
  match a with
  | ⟨0, _⟩ => show win0_12.index t (0 : Fin 2) * 1 + 1 * (y 0).val = (y 0).val; omega
  | ⟨1, _⟩ => show win0_12.index t (1 : Fin 2) * 2048 + 1 * (y 1).val = (y 1).val; omega
theorem idx13 : ∀ t : Fin cfg0.N, win0_13.index t (0 : Fin 2) = 0 ∧ win0_13.index t (1 : Fin 2) = 0 := (by decide +kernel : ∀ t : Fin grid0.N, _)
theorem emb13 (t : Fin cfg0.N) (y : S1x2048.Idx) : ((cfg0.win 13).blk t).view.emb y = y := by
  obtain ⟨e0, e1⟩ := idx13 t
  funext a; apply Fin.ext
  match a with
  | ⟨0, _⟩ => show win0_13.index t (0 : Fin 2) * 1 + 1 * (y 0).val = (y 0).val; omega
  | ⟨1, _⟩ => show win0_13.index t (1 : Fin 2) * 2048 + 1 * (y 1).val = (y 1).val; omega
theorem idx15 : ∀ t : Fin cfg0.N, win0_15.index t (0 : Fin 2) = 0 ∧ win0_15.index t (1 : Fin 2) = 0 := (by decide +kernel : ∀ t : Fin grid0.N, _)
theorem emb15 (t : Fin cfg0.N) (y : S1x1024.Idx) : ((cfg0.win 15).blk t).view.emb y = y := by
  obtain ⟨e0, e1⟩ := idx15 t
  funext a; apply Fin.ext
  match a with
  | ⟨0, _⟩ => show win0_15.index t (0 : Fin 2) * 1 + 1 * (y 0).val = (y 0).val; omega
  | ⟨1, _⟩ => show win0_15.index t (1 : Fin 2) * 1024 + 1 * (y 1).val = (y 1).val; omega
theorem idx3 : ∀ t : Fin cfg0.N, win0_3.index t (0 : Fin 3) = 1 ∧ win0_3.index t (1 : Fin 3) = 0 ∧ win0_3.index t (2 : Fin 3) = 0 :=
  (by decide +kernel : ∀ t : Fin grid0.N, _)
theorem emb3 (t : Fin cfg0.N) (i : Fin 1024) (j : Fin 6144) (y : ((cfg0.win 3).xblock (cfg0.grid.coords t)).Idx) (h0 : (y (0 : Fin 3)).val = 0) (h1 : (y (1 : Fin 3)).val = i.val) (h2 : (y (2 : Fin 3)).val = j.val) :
    ((cfg0.win 3).blk t).view.emb y = (ix3 (1 : Fin 2) i (⟨j.val, by have := j.isLt; omega⟩ : Fin 6176) : S2x1024x6176.Idx) := by
  obtain ⟨e0, e1, e2⟩ := idx3 t
  funext a; apply Fin.ext
  match a with
  | ⟨0, _⟩ => show win0_3.index t (0 : Fin 3) * 1 + 1 * (y (0 : Fin 3)).val = 1; omega
  | ⟨1, _⟩ => show win0_3.index t (1 : Fin 3) * 1024 + 1 * (y (1 : Fin 3)).val = i.val; omega
  | ⟨2, _⟩ => show win0_3.index t (2 : Fin 3) * 6144 + 1 * (y (2 : Fin 3)).val = j.val; omega
/-- The projections' block: whole at every point. -/
theorem X3_apply (c : Dev nD) (t : Fin cfg0.N) (i : Fin 1024) (j : Fin 6144) :
    X0_3 m c t (ix3 0 i j : S1x1024x6144.Idx) = V m c main_v0 (ix3 (1 : Fin 2) i (⟨j.val, by have := j.isLt; omega⟩ : Fin 6176) : S2x1024x6176.Idx) := by
  unfold X0_3 Pipeline.Window.fill
  rw [dif_pos (moved0_3 t _)]
  show V m c main_v0 (((cfg0.win 3).blk t).view.emb _) = _
  rw [emb3 t i j _ rfl rfl rfl]
theorem idx14 : ∀ t : Fin cfg0.N, win0_14.index t (0 : Fin 3) = 1 ∧ win0_14.index t (1 : Fin 3) = 0 ∧ win0_14.index t (2 : Fin 3) = 0 :=
  (by decide +kernel : ∀ t : Fin grid0.N, _)
theorem emb14 (t : Fin cfg0.N) (i : Fin 2048) (j : Fin 1024) : ((cfg0.win 14).blk t).view.emb (ix3 0 i j : S1x2048x1024.Idx) = (ix3 (1 : Fin 2) i j : S2x2048x1024.Idx) := by
  obtain ⟨e0, e1, e2⟩ := idx14 t
  funext a; apply Fin.ext
  match a with
  | ⟨0, _⟩ => show win0_14.index t (0 : Fin 3) * 1 + 1 * 0 = 1; omega
  | ⟨1, _⟩ => show win0_14.index t (1 : Fin 3) * 2048 + 1 * i.val = i.val; omega
  | ⟨2, _⟩ => show win0_14.index t (2 : Fin 3) * 1024 + 1 * j.val = j.val; omega

/-- The layer's rows and weights, of the arguments as launched. -/
abbrev inK (c : Dev nD) : In := inOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

theorem blk_x0 (c : Dev nD) (t : Fin cfg0.N) (i : Fin 256) (k : Fin 1024) : (iblk m c 0 t : Vec Ideal S1x256x1024 .f32) (ix3 0 i k) = (inK m c).x (256 * t.val + i.val) k := by
  have hi := i.isLt
  have ht : t.val < 129 := t.isLt
  show V m c main_arg0 (((cfg0.win 0).blk t).view.emb (ix3 0 i k)) = xrow _ (256 * t.val + i.val) k
  rw [emb0, V_main_arg0]
  unfold xrow
  exact congrArg (m ((c : Thread nD τ).loc main_arg0)) (ext3 (show min t.val 127 / 16 = (256 * min ((256 * t.val + i.val) / 256) 127 + (256 * t.val + i.val) % 256) / 4096 by omega)
    (show min t.val 127 % 16 * 256 + i.val = (256 * min ((256 * t.val + i.val) / 256) 127 + (256 * t.val + i.val) % 256) % 4096 by omega) rfl)
theorem blk_x1 (c : Dev nD) (t : Fin cfg0.N) (i : Fin 256) (k : Fin 1024) : (iblk m c 1 t : Vec Ideal S1x256x1024 .f32) (ix3 0 i k) = (inK m c).x (256 * (t.val + 1) + i.val) k := by
  have hi := i.isLt
  have ht : t.val < 129 := t.isLt
  show V m c main_arg0 (((cfg0.win 1).blk t).view.emb (ix3 0 i k)) = xrow _ (256 * (t.val + 1) + i.val) k
  rw [emb1, V_main_arg0]
  unfold xrow
  exact congrArg (m ((c : Thread nD τ).loc main_arg0)) (ext3 (show min (t.val + 1) 127 / 16 = (256 * min ((256 * (t.val + 1) + i.val) / 256) 127 + (256 * (t.val + 1) + i.val) % 256) / 4096 by omega)
    (show min (t.val + 1) 127 % 16 * 256 + i.val = (256 * min ((256 * (t.val + 1) + i.val) / 256) 127 + (256 * (t.val + 1) + i.val) % 256) % 4096 by omega) rfl)
theorem blk_wz (c : Dev nD) (t : Fin cfg0.N) (k : Fin 1024) (j : Fin 2048) : (X0_3 m c t : Vec Ideal S1x1024x6144 .bf16) (ix3 0 k ⟨j.val, by have := j.isLt; omega⟩) = (inK m c).wz k j := by
  exact (X3_apply m c t k ⟨j.val, by have := j.isLt; omega⟩).trans (by rw [V_main_v0]; rfl)
theorem blk_wx (c : Dev nD) (t : Fin cfg0.N) (k : Fin 1024) (j : Fin 4096) : (X0_3 m c t : Vec Ideal S1x1024x6144 .bf16) (ix3 0 k ⟨2048 + j.val, by have := j.isLt; omega⟩) = (inK m c).wx k j := by
  exact (X3_apply m c t k ⟨2048 + j.val, by have := j.isLt; omega⟩).trans (by rw [V_main_v0]; rfl)
theorem blk_x2 (c : Dev nD) (t : Fin cfg0.N) (k : Fin 1024) : (iblk m c 2 t : Vec Ideal S1x1024 .f32) (ix2 0 k) = (inK m c).nw k := by
  show V m c main_v18 (((cfg0.win 2).blk t).view.emb (ix2 0 k)) = _
  rw [emb2, V_main_v18]; pointwise; rfl
theorem blk_x4 (c : Dev nD) (t : Fin cfg0.N) (k : Fin 1024) (h : Fin 32) : (iblk m c 4 t : Vec Ideal S1024x32 .bf16) (ix2 k h) = (inK m c).wd k h := by
  show V m c main_v17 (((cfg0.win 4).blk t).view.emb (ix2 k h)) = _
  rw [emb4, V_main_v17]; pointwise; rfl
theorem blk_x5 (c : Dev nD) (t : Fin cfg0.N) (k : Fin 1024) (h : Fin 32) : (iblk m c 5 t : Vec Ideal S32x1024 .bf16) (ix2 h k) = (inK m c).wd k h := by
  show V m c main_v19 (((cfg0.win 5).blk t).view.emb (ix2 h k)) = _
  rw [emb5, V_main_v19]; pointwise; rfl
theorem blk_x6 (c : Dev nD) (t : Fin cfg0.N) (k : Fin 4) (j : Fin 4096) : (iblk m c 6 t : Vec Ideal S4x4096 .f32) (ix2 k j) = (inK m c).cw k j := by
  show V m c main_v5 (((cfg0.win 6).blk t).view.emb (ix2 k j)) = _
  rw [emb6, V_main_v5]; pointwise; rfl
theorem blk_x7 (c : Dev nD) (t : Fin cfg0.N) (j : Fin 4096) : (iblk m c 7 t : Vec Ideal S1x4096 .f32) (ix2 0 j) = (inK m c).cb j := by
  show V m c main_v20 (((cfg0.win 7).blk t).view.emb (ix2 0 j)) = _
  rw [emb7, V_main_v20]; pointwise; rfl
theorem blk_x8 (c : Dev nD) (t : Fin cfg0.N) (h : Fin 32) : (iblk m c 8 t : Vec Ideal S1x32 .f32) (ix2 0 h) = (inK m c).bias h := by
  show V m c main_v21 (((cfg0.win 8).blk t).view.emb (ix2 0 h)) = _
  rw [emb8, V_main_v21]; pointwise; rfl
theorem blk_x9 (c : Dev nD) (t : Fin cfg0.N) (h : Fin 32) : (iblk m c 9 t : Vec Ideal S32x1 .f32) (ix2 h 0) = (inK m c).bias h := by
  show V m c main_v22 (((cfg0.win 9).blk t).view.emb (ix2 h 0)) = _
  rw [emb9, V_main_v22]; pointwise; rfl
theorem blk_x10 (c : Dev nD) (t : Fin cfg0.N) (h : Fin 32) : (iblk m c 10 t : Vec Ideal S1x32 .f32) (ix2 0 h) = (inK m c).al h := by
  show V m c main_v23 (((cfg0.win 10).blk t).view.emb (ix2 0 h)) = _
  rw [emb10, V_main_v23]; pointwise; rfl
theorem blk_x11 (c : Dev nD) (t : Fin cfg0.N) (h : Fin 32) : (iblk m c 11 t : Vec Ideal S32x1 .f32) (ix2 h 0) = (inK m c).al h := by
  show V m c main_v24 (((cfg0.win 11).blk t).view.emb (ix2 h 0)) = _
  rw [emb11, V_main_v24]; pointwise; rfl
theorem blk_x12 (c : Dev nD) (t : Fin cfg0.N) (j : Fin 2048) : (iblk m c 12 t : Vec Ideal S1x2048 .f32) (ix2 0 j) = (inK m c).dsk (head j) := by
  show V m c main_v27 (((cfg0.win 12).blk t).view.emb (ix2 0 j)) = _
  rw [emb12, V_main_v27]; pointwise; rfl
theorem blk_x13 (c : Dev nD) (t : Fin cfg0.N) (j : Fin 2048) : (iblk m c 13 t : Vec Ideal S1x2048 .f32) (ix2 0 j) = (inK m c).gw j := by
  show V m c main_v28 (((cfg0.win 13).blk t).view.emb (ix2 0 j)) = _
  rw [emb13, V_main_v28]; pointwise; rfl
theorem blk_x15 (c : Dev nD) (t : Fin cfg0.N) (k : Fin 1024) : (iblk m c 15 t : Vec Ideal S1x1024 .f32) (ix2 0 k) = (inK m c).fw k := by
  show V m c main_v29 (((cfg0.win 15).blk t).view.emb (ix2 0 k)) = _
  rw [emb15, V_main_v29]; pointwise; rfl
theorem blk_x14 (c : Dev nD) (t : Fin cfg0.N) (j : Fin 2048) (k : Fin 1024) : (iblk m c 14 t : Vec Ideal S1x2048x1024 .bf16) (ix3 0 j k) = (inK m c).wo j k := by
  show V m c main_v1 (((cfg0.win 14).blk t).view.emb (ix3 0 j k)) = _
  rw [emb14, V_main_v1]; rfl

/-- A point's blocks hold the layer's rows and weights. -/
theorem blk (c : Dev nD) (t : Fin cfg0.N) : Blk (inK m c) t.val (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) :=
  ⟨blk_x0 m c t, blk_x1 m c t, blk_x2 m c t, blk_wz m c t, blk_wx m c t, blk_x4 m c t, blk_x5 m c t, blk_x6 m c t, blk_x7 m c t, blk_x8 m c t, blk_x9 m c t, blk_x10 m c t, blk_x11 m c t, blk_x12 m c t, blk_x13 m c t, blk_x14 m c t, blk_x15 m c t⟩

end Cert.Kernel2Ideal.Ssd

end
-- ==== Proof.Ssd.RunA.lean ====
/- What the runs of case A store, as lists of pieces over what they load. -/
module

public import proofs.«01_k».proof.Proof.Gen.Kernel2Ideal.Frame.RunA
public import proofs.«01_k».proof.Proof.Gen.Kernel2Ideal.Frame
public import proofs.«01_k».proof.Proof.Ssd.Lists

@[expose] public section

set_option maxRecDepth 16384

noncomputable section

namespace Cert.Kernel2Ideal.Ssd

open Cert.Kernel2Ideal Cert.Kernel2Ideal.Gen Cert.Kernel2Ideal.Facts Idealize.ShloMosaic Idealize.SL.Sem

section
variable (c : Dev nD) (i : grid0.Coords) (arg1 : Memref sig .tc .vmem S1x256x1024 .f32) (harg1 : arg1.IsWhole) (arg2 : Memref sig .tc .vmem S1x256x1024 .f32) (harg2 : arg2.IsWhole) (arg3 : Memref sig .tc .vmem S1x1024 .f32) (harg3 : arg3.IsWhole) (arg4 : Memref sig .tc .vmem S1x1024x6144 .bf16) (harg4 : arg4.IsWhole) (arg5 : Memref sig .tc .vmem S1024x32 .bf16) (harg5 : arg5.IsWhole) (arg6 : Memref sig .tc .vmem S32x1024 .bf16) (harg6 : arg6.IsWhole) (arg7 : Memref sig .tc .vmem S4x4096 .f32) (harg7 : arg7.IsWhole) (arg8 : Memref sig .tc .vmem S1x4096 .f32) (harg8 : arg8.IsWhole) (arg9 : Memref sig .tc .vmem S1x32 .f32) (harg9 : arg9.IsWhole) (arg10 : Memref sig .tc .vmem S32x1 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048x1024 .bf16) (harg15 : arg15.IsWhole) (arg16 : Memref sig .tc .vmem S1x1024 .f32) (harg16 : arg16.IsWhole) (arg17 : Memref sig .tc .vmem S1x256x1024 .f32) (harg17 : arg17.IsWhole) (arg18 : Memref sig .tc .vmem S32x264x128 .f32) (harg18 : arg18.IsWhole) (arg19 : Memref sig .tc .vmem S32x8x128 .f32) (harg19 : arg19.IsWhole) (arg20 : Memref sig .tc .vmem S256x1024 .bf16) (harg20 : arg20.IsWhole) (arg21 : Memref sig .tc .vmem S256x32 .f32) (harg21 : arg21.IsWhole) (arg22 : Memref sig .tc .vmem S32x256 .f32) (harg22 : arg22.IsWhole) (arg23 : Memref sig .tc .vmem S8x128x256 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x1024 .f32) (harg26 : arg26.IsWhole) (hc0 : cond0_0 i) (hc1 : cond0_1 i)
    (x0 : Vec Ideal S1x256x1024 .f32) (x1 : Vec Ideal S1x256x1024 .f32) (x2 : Vec Ideal S1x1024 .f32) (x3 : Vec Ideal S1x1024x6144 .bf16) (x4 : Vec Ideal S1024x32 .bf16) (x5 : Vec Ideal S32x1024 .bf16) (x6 : Vec Ideal S4x4096 .f32) (x7 : Vec Ideal S1x4096 .f32) (x8 : Vec Ideal S1x32 .f32) (x9 : Vec Ideal S32x1 .f32) (x10 : Vec Ideal S1x32 .f32) (x11 : Vec Ideal S32x1 .f32) (x12 : Vec Ideal S1x2048 .f32) (x13 : Vec Ideal S1x2048 .f32) (x14 : Vec Ideal S1x2048x1024 .bf16) (x15 : Vec Ideal S1x1024 .f32)

/-- What case A's body reads. -/
def ptA : Pt where
  T o h := arg18.view.readCov (⟨Rect.unit (s := S32x264x128) ![0, 0, 0] S32x8x128.size inb_S32x264x128_S32x8x128_0_0_0, k0_pay47 (F := Ideal)⟩ :: rawL (k0_pay4 (View.readAt (Elt Ideal) arg1.view (Rect.unit (s := S1x256x1024) ![0, 0, 0] S1x256x1024.size inb_S1x256x1024_S1x256x1024_0_0_0).toLoadRect (harg1.unread x0)) (View.readAt (Elt Ideal) arg3.view (Rect.unit (s := S1x1024) ![0, 0] S1x1024.size inb_S1x1024_S1x1024_0_0).toLoadRect (harg3.unread x2)) (View.readAt (Elt Ideal) arg4.view (Rect.unit (s := S1x1024x6144) ![0, 0, 2048] S1x1024x4096.size inb_S1x1024x6144_S1x1024x4096_0_0_2048).toLoadRect (harg4.unread x3))) [] 32 (by decide)) (Rect.unit (s := S32x264x128) o S1x256x128.size h).toLoadRect
  T3 o h := arg18.view.readCov (⟨Rect.unit (s := S32x264x128) ![0, 0, 0] S32x8x128.size inb_S32x264x128_S32x8x128_0_0_0, k0_pay47 (F := Ideal)⟩ :: rawL (k0_pay4 (View.readAt (Elt Ideal) arg1.view (Rect.unit (s := S1x256x1024) ![0, 0, 0] S1x256x1024.size inb_S1x256x1024_S1x256x1024_0_0_0).toLoadRect (harg1.unread x0)) (View.readAt (Elt Ideal) arg3.view (Rect.unit (s := S1x1024) ![0, 0] S1x1024.size inb_S1x1024_S1x1024_0_0).toLoadRect (harg3.unread x2)) (View.readAt (Elt Ideal) arg4.view (Rect.unit (s := S1x1024x6144) ![0, 0, 2048] S1x1024x4096.size inb_S1x1024x6144_S1x1024x4096_0_0_2048).toLoadRect (harg4.unread x3))) [] 32 (by decide)) (Rect.unit (s := S32x264x128) o S1x256x128.size h).toLoadRect
  hn := (arg20.view.readCov [⟨Rect.unit (s := S256x1024) ![0, 0] S256x1024.size inb_S256x1024_S256x1024_0_0, k0_pay3 (View.readAt (Elt Ideal) arg1.view (Rect.unit (s := S1x256x1024) ![0, 0, 0] S1x256x1024.size inb_S1x256x1024_S1x256x1024_0_0_0).toLoadRect (harg1.unread x0)) (View.readAt (Elt Ideal) arg3.view (Rect.unit (s := S1x1024) ![0, 0] S1x1024.size inb_S1x1024_S1x1024_0_0).toLoadRect (harg3.unread x2))⟩] (Rect.unit (s := S256x1024) ![0, 0] S256x1024.size inb_S256x1024_S256x1024_0_0).toLoadRect)
  wzx := arg4.view.read (Elt Ideal) (harg4.unread x3)
  cw := arg7.view.read (Elt Ideal) (harg7.unread x6)
  cb := arg8.view.read (Elt Ideal) (harg8.unread x7)
  dtr := (arg21.view.readCov [⟨Rect.unit (s := S256x32) ![0, 0] S256x32.size inb_S256x32_S256x32_0_0, k0_pay42 (k0_pay41 (k0_pay2 (View.readAt (Elt Ideal) arg1.view (Rect.unit (s := S1x256x1024) ![0, 0, 0] S1x256x1024.size inb_S1x256x1024_S1x256x1024_0_0_0).toLoadRect (harg1.unread x0)) (View.readAt (Elt Ideal) arg3.view (Rect.unit (s := S1x1024) ![0, 0] S1x1024.size inb_S1x1024_S1x1024_0_0).toLoadRect (harg3.unread x2))) (View.readAt (Elt Ideal) arg5.view (Rect.unit (s := S1024x32) ![0, 0] S1024x32.size inb_S1024x32_S1024x32_0_0).toLoadRect (harg5.unread x4)))⟩] (Rect.unit (s := S256x32) ![0, 0] S256x32.size inb_S256x32_S256x32_0_0).toLoadRect)
  dttr := (arg22.view.readCov [⟨Rect.unit (s := S32x256) ![0, 0] S32x256.size inb_S32x256_S32x256_0_0, k0_pay43 (k0_pay2 (View.readAt (Elt Ideal) arg1.view (Rect.unit (s := S1x256x1024) ![0, 0, 0] S1x256x1024.size inb_S1x256x1024_S1x256x1024_0_0_0).toLoadRect (harg1.unread x0)) (View.readAt (Elt Ideal) arg3.view (Rect.unit (s := S1x1024) ![0, 0] S1x1024.size inb_S1x1024_S1x1024_0_0).toLoadRect (harg3.unread x2))) (View.readAt (Elt Ideal) arg6.view (Rect.unit (s := S32x1024) ![0, 0] S32x1024.size inb_S32x1024_S32x1024_0_0).toLoadRect (harg6.unread x5))⟩] (Rect.unit (s := S32x256) ![0, 0] S32x256.size inb_S32x256_S32x256_0_0).toLoadRect)
  b := (View.readAt (Elt Ideal) arg9.view (Rect.unit (s := S1x32) ![0, 0] S1x32.size inb_S1x32_S1x32_0_0).toLoadRect (harg9.unread x8))
  bT := (View.readAt (Elt Ideal) arg10.view (Rect.unit (s := S32x1) ![0, 0] S32x1.size inb_S32x1_S32x1_0_0).toLoadRect (harg10.unread x9))
  al := (View.readAt (Elt Ideal) arg11.view (Rect.unit (s := S1x32) ![0, 0] S1x32.size inb_S1x32_S1x32_0_0).toLoadRect (harg11.unread x10))
  alT := (View.readAt (Elt Ideal) arg12.view (Rect.unit (s := S32x1) ![0, 0] S32x1.size inb_S32x1_S32x1_0_0).toLoadRect (harg12.unread x11))
  dsk := arg13.view.read (Elt Ideal) (harg13.unread x12)
  gw := arg14.view.read (Elt Ideal) (harg14.unread x13)

/-- The projected rows of the next tile, and the last rows of this one. -/
theorem runA_raw : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15).2.1
    = (⟨Rect.unit (s := S32x264x128) ![0, 0, 0] S32x8x128.size inb_S32x264x128_S32x8x128_0_0_0, k0_pay586 (F := Ideal) (arg19.view.readCov [⟨Rect.unit (s := S32x8x128) ![0, 0, 0] S32x8x128.size inb_S32x8x128_S32x8x128_0_0_0, k0_pay545 (F := Ideal) (arg18.view.readCov (⟨Rect.unit (s := S32x264x128) ![0, 0, 0] S32x8x128.size inb_S32x264x128_S32x8x128_0_0_0, k0_pay47 (F := Ideal)⟩ :: rawL (k0_pay4 (View.readAt (Elt Ideal) arg1.view (Rect.unit (s := S1x256x1024) ![0, 0, 0] S1x256x1024.size inb_S1x256x1024_S1x256x1024_0_0_0).toLoadRect (harg1.unread x0)) (View.readAt (Elt Ideal) arg3.view (Rect.unit (s := S1x1024) ![0, 0] S1x1024.size inb_S1x1024_S1x1024_0_0).toLoadRect (harg3.unread x2)) (View.readAt (Elt Ideal) arg4.view (Rect.unit (s := S1x1024x6144) ![0, 0, 2048] S1x1024x4096.size inb_S1x1024x6144_S1x1024x4096_0_0_2048).toLoadRect (harg4.unread x3))) [] 32 (by decide)) (Rect.unit (s := S32x264x128) ![0, 256, 0] S32x8x128.size inb_S32x264x128_S32x8x128_0_256_0).toLoadRect)⟩] (Rect.unit (s := S32x8x128) ![0, 0, 0] S32x8x128.size inb_S32x8x128_S32x8x128_0_0_0).toLoadRect)⟩ :: rawL (k0_pay4 (View.readAt (Elt Ideal) arg2.view (Rect.unit (s := S1x256x1024) ![0, 0, 0] S1x256x1024.size inb_S1x256x1024_S1x256x1024_0_0_0).toLoadRect (harg2.unread x1)) (View.readAt (Elt Ideal) arg3.view (Rect.unit (s := S1x1024) ![0, 0] S1x1024.size inb_S1x1024_S1x1024_0_0).toLoadRect (harg3.unread x2)) (View.readAt (Elt Ideal) arg4.view (Rect.unit (s := S1x1024x6144) ![0, 0, 2048] S1x1024x4096.size inb_S1x1024x6144_S1x1024x4096_0_0_2048).toLoadRect (harg4.unread x3))) (⟨Rect.unit (s := S32x264x128) ![0, 0, 0] S32x8x128.size inb_S32x264x128_S32x8x128_0_0_0, k0_pay47 (F := Ideal)⟩ :: rawL (k0_pay4 (View.readAt (Elt Ideal) arg1.view (Rect.unit (s := S1x256x1024) ![0, 0, 0] S1x256x1024.size inb_S1x256x1024_S1x256x1024_0_0_0).toLoadRect (harg1.unread x0)) (View.readAt (Elt Ideal) arg3.view (Rect.unit (s := S1x1024) ![0, 0] S1x1024.size inb_S1x1024_S1x1024_0_0).toLoadRect (harg3.unread x2)) (View.readAt (Elt Ideal) arg4.view (Rect.unit (s := S1x1024x6144) ![0, 0, 2048] S1x1024x4096.size inb_S1x1024x6144_S1x1024x4096_0_0_2048).toLoadRect (harg4.unread x3))) [] 32 (by decide)) 32 (by decide) : List (View.Piece (Elt Ideal) S32x264x128 .f32)) := by
  sl_kernel_rfl

/-- The normalised rows of the next tile. -/
theorem runA_hn : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15).2.2.1
    = ([⟨Rect.unit (s := S256x1024) ![0, 0] S256x1024.size inb_S256x1024_S256x1024_0_0, k0_pay3 (View.readAt (Elt Ideal) arg2.view (Rect.unit (s := S1x256x1024) ![0, 0, 0] S1x256x1024.size inb_S1x256x1024_S1x256x1024_0_0_0).toLoadRect (harg2.unread x1)) (View.readAt (Elt Ideal) arg3.view (Rect.unit (s := S1x1024) ![0, 0] S1x1024.size inb_S1x1024_S1x1024_0_0).toLoadRect (harg3.unread x2))⟩, ⟨Rect.unit (s := S256x1024) ![0, 0] S256x1024.size inb_S256x1024_S256x1024_0_0, k0_pay3 (View.readAt (Elt Ideal) arg1.view (Rect.unit (s := S1x256x1024) ![0, 0, 0] S1x256x1024.size inb_S1x256x1024_S1x256x1024_0_0_0).toLoadRect (harg1.unread x0)) (View.readAt (Elt Ideal) arg3.view (Rect.unit (s := S1x1024) ![0, 0] S1x1024.size inb_S1x1024_S1x1024_0_0).toLoadRect (harg3.unread x2))⟩] : List (View.Piece (Elt Ideal) S256x1024 .bf16)) := by
  sl_kernel_rfl

/-- The next tile's step size projections, by row. -/
theorem runA_dtr : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15).2.2.2.1
    = ([⟨Rect.unit (s := S256x32) ![0, 0] S256x32.size inb_S256x32_S256x32_0_0, k0_pay42 (k0_pay41 (k0_pay2 (View.readAt (Elt Ideal) arg2.view (Rect.unit (s := S1x256x1024) ![0, 0, 0] S1x256x1024.size inb_S1x256x1024_S1x256x1024_0_0_0).toLoadRect (harg2.unread x1)) (View.readAt (Elt Ideal) arg3.view (Rect.unit (s := S1x1024) ![0, 0] S1x1024.size inb_S1x1024_S1x1024_0_0).toLoadRect (harg3.unread x2))) (View.readAt (Elt Ideal) arg5.view (Rect.unit (s := S1024x32) ![0, 0] S1024x32.size inb_S1024x32_S1024x32_0_0).toLoadRect (harg5.unread x4)))⟩, ⟨Rect.unit (s := S256x32) ![0, 0] S256x32.size inb_S256x32_S256x32_0_0, k0_pay42 (k0_pay41 (k0_pay2 (View.readAt (Elt Ideal) arg1.view (Rect.unit (s := S1x256x1024) ![0, 0, 0] S1x256x1024.size inb_S1x256x1024_S1x256x1024_0_0_0).toLoadRect (harg1.unread x0)) (View.readAt (Elt Ideal) arg3.view (Rect.unit (s := S1x1024) ![0, 0] S1x1024.size inb_S1x1024_S1x1024_0_0).toLoadRect (harg3.unread x2))) (View.readAt (Elt Ideal) arg5.view (Rect.unit (s := S1024x32) ![0, 0] S1024x32.size inb_S1024x32_S1024x32_0_0).toLoadRect (harg5.unread x4)))⟩] : List (View.Piece (Elt Ideal) S256x32 .f32)) := by
  sl_kernel_rfl

/-- The next tile's step size projections, by head. -/
theorem runA_dttr : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15).2.2.2.2.1
    = ([⟨Rect.unit (s := S32x256) ![0, 0] S32x256.size inb_S32x256_S32x256_0_0, k0_pay43 (k0_pay2 (View.readAt (Elt Ideal) arg2.view (Rect.unit (s := S1x256x1024) ![0, 0, 0] S1x256x1024.size inb_S1x256x1024_S1x256x1024_0_0_0).toLoadRect (harg2.unread x1)) (View.readAt (Elt Ideal) arg3.view (Rect.unit (s := S1x1024) ![0, 0] S1x1024.size inb_S1x1024_S1x1024_0_0).toLoadRect (harg3.unread x2))) (View.readAt (Elt Ideal) arg6.view (Rect.unit (s := S32x1024) ![0, 0] S32x1024.size inb_S32x1024_S32x1024_0_0).toLoadRect (harg6.unread x5))⟩, ⟨Rect.unit (s := S32x256) ![0, 0] S32x256.size inb_S32x256_S32x256_0_0, k0_pay43 (k0_pay2 (View.readAt (Elt Ideal) arg1.view (Rect.unit (s := S1x256x1024) ![0, 0, 0] S1x256x1024.size inb_S1x256x1024_S1x256x1024_0_0_0).toLoadRect (harg1.unread x0)) (View.readAt (Elt Ideal) arg3.view (Rect.unit (s := S1x1024) ![0, 0] S1x1024.size inb_S1x1024_S1x1024_0_0).toLoadRect (harg3.unread x2))) (View.readAt (Elt Ideal) arg6.view (Rect.unit (s := S32x1024) ![0, 0] S32x1024.size inb_S32x1024_S32x1024_0_0).toLoadRect (harg6.unread x5))⟩] : List (View.Piece (Elt Ideal) S32x256 .f32)) := by
  sl_kernel_rfl

/-- The states. -/
theorem runA_st : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15).2.2.2.2.2.1
    = (stL (ptA arg1 harg1 arg3 harg3 arg4 harg4 arg5 harg5 arg6 harg6 arg7 harg7 arg8 harg8 arg9 harg9 arg10 harg10 arg11 harg11 arg12 harg12 arg13 harg13 arg14 harg14 arg18 arg20 arg21 arg22 x0 x2 x3 x4 x5 x6 x7 x8 x9 x10 x11 x12 x13) arg23.view (fun L g hg => arg23.view.readCov L (Rect.unit (s := S8x128x256) ![g, 0, 0] S1x128x256.size (inbS g hg)).toLoadRect) [⟨Rect.unit (s := S8x128x256) ![0, 0, 0] S8x128x256.size inb_S8x128x256_S8x128x256_0_0_0, k0_pay46 (F := Ideal)⟩] 8 (by decide) : List (View.Piece (Elt Ideal) S8x128x256 .f32)) := by
  sl_kernel_rfl

/-- The tile's outputs. -/
theorem runA_yp : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15).2.2.2.2.2.2.1
    = ([⟨Rect.unit (s := S256x2048) ![0, 0] S256x2048.size inb_S256x2048_S256x2048_0_0, k0_pay587 (arg24.view.readCov (yL (ptA arg1 harg1 arg3 harg3 arg4 harg4 arg5 harg5 arg6 harg6 arg7 harg7 arg8 harg8 arg9 harg9 arg10 harg10 arg11 harg11 arg12 harg12 arg13 harg13 arg14 harg14 arg18 arg20 arg21 arg22 x0 x2 x3 x4 x5 x6 x7 x8 x9 x10 x11 x12 x13) arg23.view (fun L g hg => arg23.view.readCov L (Rect.unit (s := S8x128x256) ![g, 0, 0] S1x128x256.size (inbS g hg)).toLoadRect) [⟨Rect.unit (s := S8x128x256) ![0, 0, 0] S8x128x256.size inb_S8x128x256_S8x128x256_0_0_0, k0_pay46 (F := Ideal)⟩] 8 (by decide)) (Rect.unit (s := S256x2048) ![0, 0] S256x2048.size inb_S256x2048_S256x2048_0_0).toLoadRect)⟩, ⟨Rect.unit (s := S256x2048) ![0, 0] S256x2048.size inb_S256x2048_S256x2048_0_0, k0_pay44 (F := Ideal)⟩] : List (View.Piece (Elt Ideal) S256x2048 .bf16)) := by
  sl_kernel_rfl

/-- The tile's inputs. -/
theorem runA_xp : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15).2.2.2.2.2.2.2.1
    = ([⟨Rect.unit (s := S256x1024) ![0, 0] S256x1024.size inb_S256x1024_S256x1024_0_0, k0_pay1 (k0_pay51 (View.readAt (Elt Ideal) arg1.view (Rect.unit (s := S1x256x1024) ![0, 0, 0] S1x256x1024.size inb_S1x256x1024_S1x256x1024_0_0_0).toLoadRect (harg1.unread x0)))⟩, ⟨Rect.unit (s := S256x1024) ![0, 0] S256x1024.size inb_S256x1024_S256x1024_0_0, k0_pay45 (F := Ideal)⟩] : List (View.Piece (Elt Ideal) S256x1024 .f32)) := by
  sl_kernel_rfl

end

end Cert.Kernel2Ideal.Ssd

end
-- ==== Proof.Ssd.StepA.lean ====
/- What a grid point of case A leaves, from what the point before it left. -/
module

public import proofs.«01_k».proof.Proof.Ssd.Step
public import proofs.«01_k».proof.Proof.Ssd.RunA

@[expose] public section

set_option maxRecDepth 16384

noncomputable section

namespace Cert.Kernel2Ideal.Ssd

open Cert.Sgu Cert.Ssd Cert.Kernel2Ideal Cert.Kernel2Ideal.Gen Cert.Kernel2Ideal.Facts Idealize.ShloMosaic Idealize.SL.Sem

section
variable (c : Dev nD) (i : grid0.Coords) (arg1 : Memref sig .tc .vmem S1x256x1024 .f32) (harg1 : arg1.IsWhole) (arg2 : Memref sig .tc .vmem S1x256x1024 .f32) (harg2 : arg2.IsWhole) (arg3 : Memref sig .tc .vmem S1x1024 .f32) (harg3 : arg3.IsWhole) (arg4 : Memref sig .tc .vmem S1x1024x6144 .bf16) (harg4 : arg4.IsWhole) (arg5 : Memref sig .tc .vmem S1024x32 .bf16) (harg5 : arg5.IsWhole) (arg6 : Memref sig .tc .vmem S32x1024 .bf16) (harg6 : arg6.IsWhole) (arg7 : Memref sig .tc .vmem S4x4096 .f32) (harg7 : arg7.IsWhole) (arg8 : Memref sig .tc .vmem S1x4096 .f32) (harg8 : arg8.IsWhole) (arg9 : Memref sig .tc .vmem S1x32 .f32) (harg9 : arg9.IsWhole) (arg10 : Memref sig .tc .vmem S32x1 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048x1024 .bf16) (harg15 : arg15.IsWhole) (arg16 : Memref sig .tc .vmem S1x1024 .f32) (harg16 : arg16.IsWhole) (arg17 : Memref sig .tc .vmem S1x256x1024 .f32) (harg17 : arg17.IsWhole) (arg18 : Memref sig .tc .vmem S32x264x128 .f32) (harg18 : arg18.IsWhole) (arg19 : Memref sig .tc .vmem S32x8x128 .f32) (harg19 : arg19.IsWhole) (arg20 : Memref sig .tc .vmem S256x1024 .bf16) (harg20 : arg20.IsWhole) (arg21 : Memref sig .tc .vmem S256x32 .f32) (harg21 : arg21.IsWhole) (arg22 : Memref sig .tc .vmem S32x256 .f32) (harg22 : arg22.IsWhole) (arg23 : Memref sig .tc .vmem S8x128x256 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x1024 .f32) (harg26 : arg26.IsWhole) (hc0 : cond0_0 i) (hc1 : cond0_1 i)
    (x0 : Vec Ideal S1x256x1024 .f32) (x1 : Vec Ideal S1x256x1024 .f32) (x2 : Vec Ideal S1x1024 .f32) (x3 : Vec Ideal S1x1024x6144 .bf16) (x4 : Vec Ideal S1024x32 .bf16) (x5 : Vec Ideal S32x1024 .bf16) (x6 : Vec Ideal S4x4096 .f32) (x7 : Vec Ideal S1x4096 .f32) (x8 : Vec Ideal S1x32 .f32) (x9 : Vec Ideal S32x1 .f32) (x10 : Vec Ideal S1x32 .f32) (x11 : Vec Ideal S32x1 .f32) (x12 : Vec Ideal S1x2048 .f32) (x13 : Vec Ideal S1x2048 .f32) (x14 : Vec Ideal S1x2048x1024 .bf16) (x15 : Vec Ideal S1x1024 .f32)

/-- What the point reads is what the mathematics says. -/
theorem goodA {I : In} (F : I.Fin) (b : Blk I 0 x0 x1 x2 x3 x4 x5 x6 x7 x8 x9 x10 x11 x12 x13 x14 x15) : Good I (ptA arg1 harg1 arg3 harg3 arg4 harg4 arg5 harg5 arg6 harg6 arg7 harg7 arg8 harg8 arg9 harg9 arg10 harg10 arg11 harg11 arg12 harg12 arg13 harg13 arg14 harg14 arg18 arg20 arg21 arg22 x0 x2 x3 x4 x5 x6 x7 x8 x9 x10 x11 x12 x13) 0 where
  fin := F
  T := by
    intro j hj R hR i l hR5 hR8
    refine (rdC_slab arg18.view _ j R hj (by omega) _ i l).trans ?_
    unfold rawS
    by_cases c : R + i.val < 8
    · rw [if_pos ⟨by omega, c⟩]
      exact (carry_hit _ _ _ _ _ (⟨R + i.val, c⟩ : Fin 8) rfl).trans (pay47_apply _ _ _)
    · rw [if_neg (fun h => c h.2), carry_miss _ _ _ _ _ (show 8 ≤ R + i.val by omega),
        rawL_canon _ _ _ _ l (⟨R + i.val - 8, by have := i.isLt; omega⟩ : Fin 256) (show R + i.val = 8 + (R + i.val - 8) by omega) _ _ hj, px_eq (I := I) 0]
      · exact congrArg (fun r => I.px r _) (show 0 + (R + i.val - 8) = 256 * 0 + (R + i.val) - 8 by omega)
      · rw [rd arg1 harg1 x0 hz3]; exact fun i k => (b.x0 i k).trans (congrArg (fun r => I.x r k) (by omega))
      · rw [rd arg3 harg3 x2 hz2]; exact b.x2
      · exact fun k j => (rd_wx arg4 harg4 x3 _ k j).trans (b.wx k j)
  T3 := by
    intro j hj i l
    refine (rdC_slab arg18.view _ j 8 hj (by omega) _ i l).trans ?_
    unfold rawS
    by_cases c : 8 + i.val < 8
    · rw [if_pos ⟨by omega, c⟩]
      exact (carry_hit _ _ _ _ _ (⟨8 + i.val, c⟩ : Fin 8) rfl).trans (pay47_apply _ _ _)
    · rw [if_neg (fun h => c h.2), carry_miss _ _ _ _ _ (show 8 ≤ 8 + i.val by omega),
        rawL_canon _ _ _ _ l (⟨8 + i.val - 8, by have := i.isLt; omega⟩ : Fin 256) (show 8 + i.val = 8 + (8 + i.val - 8) by omega) _ _ hj, px_eq (I := I) 0]
      · exact congrArg (fun r => I.px r _) (show 0 + (8 + i.val - 8) = 256 * 0 + (8 + i.val) - 8 by omega)
      · rw [rd arg1 harg1 x0 hz3]; exact fun i k => (b.x0 i k).trans (congrArg (fun r => I.x r k) (by omega))
      · rw [rd arg3 harg3 x2 hz2]; exact b.x2
      · exact fun k j => (rd_wx arg4 harg4 x3 _ k j).trans (b.wx k j)
  hn i k := by
    refine (congrFun (View.readCov_unit_zero (Val := Elt Ideal) arg20.view hz2 inb_S256x1024_S256x1024_0_0 _) _).trans ?_
    rw [rd arg1 harg1 x0 hz3, rd arg3 harg3 x2 hz2]
    exact hn3_eq (256 * 0) x0 x2 b.x0 b.x2 i k
  dtr i h := by
    refine (congrFun (View.readCov_unit_zero (Val := Elt Ideal) arg21.view hz2 inb_S256x32_S256x32_0_0 _) _).trans ?_
    rw [rd arg1 harg1 x0 hz3, rd arg3 harg3 x2 hz2, rd arg5 harg5 x4 hz2]
    exact pd_eq (256 * 0) x0 x2 b.x0 b.x2 x4 b.x4 i h
  dttr i h := by
    refine (congrFun (View.readCov_unit_zero (Val := Elt Ideal) arg22.view hz2 inb_S32x256_S32x256_0_0 _) _).trans ?_
    rw [rd arg1 harg1 x0 hz3, rd arg3 harg3 x2 hz2, rd arg6 harg6 x5 hz2]
    exact pdt_eq (256 * 0) x0 x2 b.x0 b.x2 x5 b.x5 i h
  wz k j := (congrFun (harg4.read_unread x3) _).trans (b.wz k j)
  cw k j := (congrFun (harg7.read_unread x6) _).trans (b.x6 k j)
  cb j := (congrFun (harg8.read_unread x7) _).trans (b.x7 j)
  b h := (congrFun (rd arg9 harg9 x8 hz2 _) _).trans (b.x8 h)
  bT h := (congrFun (rd arg10 harg10 x9 hz2 _) _).trans (b.x9 h)
  al h := (congrFun (rd arg11 harg11 x10 hz2 _) _).trans (b.x10 h)
  alT h := (congrFun (rd arg12 harg12 x11 hz2 _) _).trans (b.x11 h)
  dsk j := (congrFun (harg13.read_unread x12) _).trans (b.x12 j)
  gw j := (congrFun (harg14.read_unread x13) _).trans (b.x13 j)

/-- The state the point starts from. -/
theorem ldA (I : In) : ∀ (g : Nat) (hg : g < 8) (L : List (View.Piece (Elt Ideal) S8x128x256 .f32)),
    (∀ m e, View.canon L (ix3 (⟨g, hg⟩ : Fin 8) m e) = View.canon ([⟨Rect.unit (s := S8x128x256) ![0, 0, 0] S8x128x256.size inb_S8x128x256_S8x128x256_0_0_0, k0_pay46 (F := Ideal)⟩] : List (View.Piece (Elt Ideal) S8x128x256 .f32)) (ix3 ⟨g, hg⟩ m e)) →
    ∀ (m : Fin 128) (e : Fin 256), ((fun L g hg => arg23.view.readCov L (Rect.unit (s := S8x128x256) ![g, 0, 0] S1x128x256.size (inbS g hg)).toLoadRect) : List (View.Piece (Elt Ideal) S8x128x256 .f32) → (g : Nat) → g < 8 → Vec Ideal S1x128x256 .f32) L g hg (ix3 0 m e) = (I.st (2 * 0)) (col ⟨g, hg⟩ e) m := by
  intro g hg L hL m e
  refine (rdC_st arg23.view L g hg _ m e).trans ?_
  rw [hL, View.canon_unit_zero hz3, pay46_apply, st_zero I 0 (by omega)]

/-- What the point leaves. -/
theorem stepA {I : In} (F : I.Fin) (b : Blk I 0 x0 x1 x2 x3 x4 x5 x6 x7 x8 x9 x10 x11 x12 x13 x14 x15) : Inv I 0
    (View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15).2.1)
    (View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15).2.2.1)
    (View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15).2.2.2.1)
    (View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15).2.2.2.2.1)
    (View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15).2.2.2.2.2.1)
    (View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15).2.2.2.2.2.2.1)
    (View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15).2.2.2.2.2.2.2.1) where
  raw j r l := by
    have hr := r.isLt
    rw [runA_raw]
    by_cases c : r.val < 8
    · rw [carry_hit _ _ _ _ _ (⟨r.val, c⟩ : Fin 8) rfl, pay586_eq, View.readCov_unit_zero _ hz3, pay545_eq]
      refine (rdC_tail arg18.view _ j ⟨r.val, c⟩ _ l).trans ?_
      rw [carry_miss _ _ _ _ _ (show 8 ≤ 256 + r.val by omega),
        rawL_canon _ _ _ _ l (⟨248 + r.val, by omega⟩ : Fin 256) (show 256 + r.val = 8 + (248 + r.val) by omega) _ _ j.isLt, px_eq (I := I) 0]
      · exact congrArg (fun r => I.px r _) (show 0 + (248 + r.val) = 256 * (0 + 1) + r.val - 8 by omega)
      · rw [rd arg1 harg1 x0 hz3]; exact fun i k => (b.x0 i k).trans (congrArg (fun r => I.x r k) (by omega))
      · rw [rd arg3 harg3 x2 hz2]; exact b.x2
      · exact fun k j => (rd_wx arg4 harg4 x3 _ k j).trans (b.wx k j)
    · rw [carry_miss _ _ _ _ _ (show 8 ≤ r.val by omega),
        rawL_canon _ _ _ _ l (⟨r.val - 8, by omega⟩ : Fin 256) (show r.val = 8 + (r.val - 8) by omega) _ _ j.isLt, px_eq (I := I) (256 * (0 + 1))]
      · exact congrArg (fun r => I.px r _) (show 256 * (0 + 1) + (r.val - 8) = 256 * (0 + 1) + r.val - 8 by omega)
      · rw [rd arg2 harg2 x1 hz3]; exact b.x1
      · rw [rd arg3 harg3 x2 hz2]; exact b.x2
      · exact fun k j => (rd_wx arg4 harg4 x3 _ k j).trans (b.wx k j)
  hn i k := by
    rw [runA_hn, View.canon_cons_unit_zero hz2, rd arg2 harg2 x1 hz3, rd arg3 harg3 x2 hz2]
    exact hn3_eq _ x1 x2 b.x1 b.x2 i k
  dtr i h := by
    rw [runA_dtr, View.canon_cons_unit_zero hz2, rd arg2 harg2 x1 hz3, rd arg3 harg3 x2 hz2, rd arg5 harg5 x4 hz2]
    exact pd_eq _ x1 x2 b.x1 b.x2 x4 b.x4 i h
  dttr i h := by
    rw [runA_dttr, View.canon_cons_unit_zero hz2, rd arg2 harg2 x1 hz3, rd arg3 harg3 x2 hz2, rd arg6 harg6 x5 hz2]
    exact pdt_eq _ x1 x2 b.x1 b.x2 x5 b.x5 i h
  st g m e := by
    rw [runA_st]
    exact stL_canon (goodA arg1 harg1 arg3 harg3 arg4 harg4 arg5 harg5 arg6 harg6 arg7 harg7 arg8 harg8 arg9 harg9 arg10 harg10 arg11 harg11 arg12 harg12 arg13 harg13 arg14 harg14 arg18 arg20 arg21 arg22 x0 x1 x2 x3 x4 x5 x6 x7 x8 x9 x10 x11 x12 x13 x14 x15 F b) arg23.view _ _ _ (ldA arg23 I) g m e 8 (by decide) g.isLt
  yp i j := by
    rw [runA_yp, View.canon_cons_unit_zero hz2, pay587_eq]
    exact (rdC_yp _ _ _ i j).trans (yL_canon (goodA arg1 harg1 arg3 harg3 arg4 harg4 arg5 harg5 arg6 harg6 arg7 harg7 arg8 harg8 arg9 harg9 arg10 harg10 arg11 harg11 arg12 harg12 arg13 harg13 arg14 harg14 arg18 arg20 arg21 arg22 x0 x1 x2 x3 x4 x5 x6 x7 x8 x9 x10 x11 x12 x13 x14 x15 F b) arg23.view _ _ _ (ldA arg23 I) rfl i j)
  xp i k := by
    rw [runA_xp, View.canon_cons_unit_zero hz2, pay51_apply, rd arg1 harg1 x0 hz3]
    exact b.x0 i k

end

end Cert.Kernel2Ideal.Ssd

end
-- ==== Proof.Ssd.RunB.lean ====
/- What the runs of case B store, as lists of pieces over what they load. -/
module

public import proofs.«01_k».proof.Proof.Gen.Kernel2Ideal.Frame.RunB
public import proofs.«01_k».proof.Proof.Gen.Kernel2Ideal.Frame
public import proofs.«01_k».proof.Proof.Ssd.Lists

@[expose] public section

set_option maxRecDepth 16384

noncomputable section

namespace Cert.Kernel2Ideal.Ssd

open Cert.Kernel2Ideal Cert.Kernel2Ideal.Gen Cert.Kernel2Ideal.Facts Idealize.ShloMosaic Idealize.SL.Sem

section
variable (c : Dev nD) (i : grid0.Coords) (arg1 : Memref sig .tc .vmem S1x256x1024 .f32) (harg1 : arg1.IsWhole) (arg2 : Memref sig .tc .vmem S1x256x1024 .f32) (harg2 : arg2.IsWhole) (arg3 : Memref sig .tc .vmem S1x1024 .f32) (harg3 : arg3.IsWhole) (arg4 : Memref sig .tc .vmem S1x1024x6144 .bf16) (harg4 : arg4.IsWhole) (arg5 : Memref sig .tc .vmem S1024x32 .bf16) (harg5 : arg5.IsWhole) (arg6 : Memref sig .tc .vmem S32x1024 .bf16) (harg6 : arg6.IsWhole) (arg7 : Memref sig .tc .vmem S4x4096 .f32) (harg7 : arg7.IsWhole) (arg8 : Memref sig .tc .vmem S1x4096 .f32) (harg8 : arg8.IsWhole) (arg9 : Memref sig .tc .vmem S1x32 .f32) (harg9 : arg9.IsWhole) (arg10 : Memref sig .tc .vmem S32x1 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048x1024 .bf16) (harg15 : arg15.IsWhole) (arg16 : Memref sig .tc .vmem S1x1024 .f32) (harg16 : arg16.IsWhole) (arg17 : Memref sig .tc .vmem S1x256x1024 .f32) (harg17 : arg17.IsWhole) (arg18 : Memref sig .tc .vmem S32x264x128 .f32) (harg18 : arg18.IsWhole) (arg19 : Memref sig .tc .vmem S32x8x128 .f32) (harg19 : arg19.IsWhole) (arg20 : Memref sig .tc .vmem S256x1024 .bf16) (harg20 : arg20.IsWhole) (arg21 : Memref sig .tc .vmem S256x32 .f32) (harg21 : arg21.IsWhole) (arg22 : Memref sig .tc .vmem S32x256 .f32) (harg22 : arg22.IsWhole) (arg23 : Memref sig .tc .vmem S8x128x256 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x1024 .f32) (harg26 : arg26.IsWhole) (hc0 : ¬cond0_0 i) (hc1 : ¬cond0_1 i)
    (x0 : Vec Ideal S1x256x1024 .f32) (x1 : Vec Ideal S1x256x1024 .f32) (x2 : Vec Ideal S1x1024 .f32) (x3 : Vec Ideal S1x1024x6144 .bf16) (x4 : Vec Ideal S1024x32 .bf16) (x5 : Vec Ideal S32x1024 .bf16) (x6 : Vec Ideal S4x4096 .f32) (x7 : Vec Ideal S1x4096 .f32) (x8 : Vec Ideal S1x32 .f32) (x9 : Vec Ideal S32x1 .f32) (x10 : Vec Ideal S1x32 .f32) (x11 : Vec Ideal S32x1 .f32) (x12 : Vec Ideal S1x2048 .f32) (x13 : Vec Ideal S1x2048 .f32) (x14 : Vec Ideal S1x2048x1024 .bf16) (x15 : Vec Ideal S1x1024 .f32) (xs0 : Vec Ideal S32x264x128 .f32) (xs2 : Vec Ideal S256x1024 .bf16) (xs3 : Vec Ideal S256x32 .f32) (xs4 : Vec Ideal S32x256 .f32) (xs5 : Vec Ideal S8x128x256 .f32) (xs7 : Vec Ideal S256x2048 .bf16) (xs8 : Vec Ideal S256x1024 .f32)

/-- What case B's body reads. -/
def ptB : Pt where
  T o h := (View.readAt (Elt Ideal) arg18.view (Rect.unit (s := S32x264x128) o S1x256x128.size h).toLoadRect (harg18.unread xs0))
  T3 o h := (View.readAt (Elt Ideal) arg18.view (Rect.unit (s := S32x264x128) o S1x256x128.size h).toLoadRect (harg18.unread xs0))
  hn := (View.readAt (Elt Ideal) arg20.view (Rect.unit (s := S256x1024) ![0, 0] S256x1024.size inb_S256x1024_S256x1024_0_0).toLoadRect (harg20.unread xs2))
  wzx := arg4.view.read (Elt Ideal) (harg4.unread x3)
  cw := arg7.view.read (Elt Ideal) (harg7.unread x6)
  cb := arg8.view.read (Elt Ideal) (harg8.unread x7)
  dtr := (View.readAt (Elt Ideal) arg21.view (Rect.unit (s := S256x32) ![0, 0] S256x32.size inb_S256x32_S256x32_0_0).toLoadRect (harg21.unread xs3))
  dttr := (View.readAt (Elt Ideal) arg22.view (Rect.unit (s := S32x256) ![0, 0] S32x256.size inb_S32x256_S32x256_0_0).toLoadRect (harg22.unread xs4))
  b := (View.readAt (Elt Ideal) arg9.view (Rect.unit (s := S1x32) ![0, 0] S1x32.size inb_S1x32_S1x32_0_0).toLoadRect (harg9.unread x8))
  bT := (View.readAt (Elt Ideal) arg10.view (Rect.unit (s := S32x1) ![0, 0] S32x1.size inb_S32x1_S32x1_0_0).toLoadRect (harg10.unread x9))
  al := (View.readAt (Elt Ideal) arg11.view (Rect.unit (s := S1x32) ![0, 0] S1x32.size inb_S1x32_S1x32_0_0).toLoadRect (harg11.unread x10))
  alT := (View.readAt (Elt Ideal) arg12.view (Rect.unit (s := S32x1) ![0, 0] S32x1.size inb_S32x1_S32x1_0_0).toLoadRect (harg12.unread x11))
  dsk := arg13.view.read (Elt Ideal) (harg13.unread x12)
  gw := arg14.view.read (Elt Ideal) (harg14.unread x13)

/-- The output block. -/
theorem runB_out : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs5 xs7 xs8).1
    = ([⟨Rect.unit (s := S1x256x1024) ![0, 0, 0] S1x256x1024.size inb_S1x256x1024_S1x256x1024_0_0_0, k0_pay50 (k0_pay48 (View.readAt (Elt Ideal) arg16.view (Rect.unit (s := S1x1024) ![0, 0] S1x1024.size inb_S1x1024_S1x1024_0_0).toLoadRect (harg16.unread x15))) (k0_pay49 (View.readAt (Elt Ideal) arg25.view (Rect.unit (s := S256x2048) ![0, 0] S256x2048.size inb_S256x2048_S256x2048_0_0).toLoadRect (harg25.unread xs7)) (View.readAt (Elt Ideal) arg15.view (Rect.unit (s := S1x2048x1024) ![0, 0, 0] S1x2048x1024.size inb_S1x2048x1024_S1x2048x1024_0_0_0).toLoadRect (harg15.unread x14)) (View.readAt (Elt Ideal) arg26.view (Rect.unit (s := S256x1024) ![0, 0] S256x1024.size inb_S256x1024_S256x1024_0_0).toLoadRect (harg26.unread xs8)))⟩] : List (View.Piece (Elt Ideal) S1x256x1024 .f32)) := by
  sl_kernel_rfl

/-- The projected rows of the next tile, and the last rows of this one. -/
theorem runB_raw : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs5 xs7 xs8).2.1
    = (⟨Rect.unit (s := S32x264x128) ![0, 0, 0] S32x8x128.size inb_S32x264x128_S32x8x128_0_0_0, k0_pay586 (F := Ideal) (arg19.view.readCov [⟨Rect.unit (s := S32x8x128) ![0, 0, 0] S32x8x128.size inb_S32x8x128_S32x8x128_0_0_0, k0_pay545 (F := Ideal) (View.readAt (Elt Ideal) arg18.view (Rect.unit (s := S32x264x128) ![0, 256, 0] S32x8x128.size inb_S32x264x128_S32x8x128_0_256_0).toLoadRect (harg18.unread xs0))⟩] (Rect.unit (s := S32x8x128) ![0, 0, 0] S32x8x128.size inb_S32x8x128_S32x8x128_0_0_0).toLoadRect)⟩ :: rawL (k0_pay4 (View.readAt (Elt Ideal) arg2.view (Rect.unit (s := S1x256x1024) ![0, 0, 0] S1x256x1024.size inb_S1x256x1024_S1x256x1024_0_0_0).toLoadRect (harg2.unread x1)) (View.readAt (Elt Ideal) arg3.view (Rect.unit (s := S1x1024) ![0, 0] S1x1024.size inb_S1x1024_S1x1024_0_0).toLoadRect (harg3.unread x2)) (View.readAt (Elt Ideal) arg4.view (Rect.unit (s := S1x1024x6144) ![0, 0, 2048] S1x1024x4096.size inb_S1x1024x6144_S1x1024x4096_0_0_2048).toLoadRect (harg4.unread x3))) [] 32 (by decide) : List (View.Piece (Elt Ideal) S32x264x128 .f32)) := by
  sl_kernel_rfl

/-- The normalised rows of the next tile. -/
theorem runB_hn : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs5 xs7 xs8).2.2.1
    = ([⟨Rect.unit (s := S256x1024) ![0, 0] S256x1024.size inb_S256x1024_S256x1024_0_0, k0_pay3 (View.readAt (Elt Ideal) arg2.view (Rect.unit (s := S1x256x1024) ![0, 0, 0] S1x256x1024.size inb_S1x256x1024_S1x256x1024_0_0_0).toLoadRect (harg2.unread x1)) (View.readAt (Elt Ideal) arg3.view (Rect.unit (s := S1x1024) ![0, 0] S1x1024.size inb_S1x1024_S1x1024_0_0).toLoadRect (harg3.unread x2))⟩] : List (View.Piece (Elt Ideal) S256x1024 .bf16)) := by
  sl_kernel_rfl

/-- The next tile's step size projections, by row. -/
theorem runB_dtr : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs5 xs7 xs8).2.2.2.1
    = ([⟨Rect.unit (s := S256x32) ![0, 0] S256x32.size inb_S256x32_S256x32_0_0, k0_pay42 (k0_pay41 (k0_pay2 (View.readAt (Elt Ideal) arg2.view (Rect.unit (s := S1x256x1024) ![0, 0, 0] S1x256x1024.size inb_S1x256x1024_S1x256x1024_0_0_0).toLoadRect (harg2.unread x1)) (View.readAt (Elt Ideal) arg3.view (Rect.unit (s := S1x1024) ![0, 0] S1x1024.size inb_S1x1024_S1x1024_0_0).toLoadRect (harg3.unread x2))) (View.readAt (Elt Ideal) arg5.view (Rect.unit (s := S1024x32) ![0, 0] S1024x32.size inb_S1024x32_S1024x32_0_0).toLoadRect (harg5.unread x4)))⟩] : List (View.Piece (Elt Ideal) S256x32 .f32)) := by
  sl_kernel_rfl

/-- The next tile's step size projections, by head. -/
theorem runB_dttr : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs5 xs7 xs8).2.2.2.2.1
    = ([⟨Rect.unit (s := S32x256) ![0, 0] S32x256.size inb_S32x256_S32x256_0_0, k0_pay43 (k0_pay2 (View.readAt (Elt Ideal) arg2.view (Rect.unit (s := S1x256x1024) ![0, 0, 0] S1x256x1024.size inb_S1x256x1024_S1x256x1024_0_0_0).toLoadRect (harg2.unread x1)) (View.readAt (Elt Ideal) arg3.view (Rect.unit (s := S1x1024) ![0, 0] S1x1024.size inb_S1x1024_S1x1024_0_0).toLoadRect (harg3.unread x2))) (View.readAt (Elt Ideal) arg6.view (Rect.unit (s := S32x1024) ![0, 0] S32x1024.size inb_S32x1024_S32x1024_0_0).toLoadRect (harg6.unread x5))⟩] : List (View.Piece (Elt Ideal) S32x256 .f32)) := by
  sl_kernel_rfl

/-- The states. -/
theorem runB_st : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs5 xs7 xs8).2.2.2.2.2.1
    = (stL (ptB arg4 harg4 arg7 harg7 arg8 harg8 arg9 harg9 arg10 harg10 arg11 harg11 arg12 harg12 arg13 harg13 arg14 harg14 arg18 harg18 arg20 harg20 arg21 harg21 arg22 harg22 x3 x6 x7 x8 x9 x10 x11 x12 x13 xs0 xs2 xs3 xs4) arg23.view (fun _ g hg => View.readAt (Elt Ideal) arg23.view (Rect.unit (s := S8x128x256) ![g, 0, 0] S1x128x256.size (inbS g hg)).toLoadRect (harg23.unread xs5)) [] 8 (by decide) : List (View.Piece (Elt Ideal) S8x128x256 .f32)) := by
  sl_kernel_rfl

/-- The tile's outputs. -/
theorem runB_yp : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs5 xs7 xs8).2.2.2.2.2.2.1
    = ([⟨Rect.unit (s := S256x2048) ![0, 0] S256x2048.size inb_S256x2048_S256x2048_0_0, k0_pay587 (arg24.view.readCov (yL (ptB arg4 harg4 arg7 harg7 arg8 harg8 arg9 harg9 arg10 harg10 arg11 harg11 arg12 harg12 arg13 harg13 arg14 harg14 arg18 harg18 arg20 harg20 arg21 harg21 arg22 harg22 x3 x6 x7 x8 x9 x10 x11 x12 x13 xs0 xs2 xs3 xs4) arg23.view (fun _ g hg => View.readAt (Elt Ideal) arg23.view (Rect.unit (s := S8x128x256) ![g, 0, 0] S1x128x256.size (inbS g hg)).toLoadRect (harg23.unread xs5)) [] 8 (by decide)) (Rect.unit (s := S256x2048) ![0, 0] S256x2048.size inb_S256x2048_S256x2048_0_0).toLoadRect)⟩] : List (View.Piece (Elt Ideal) S256x2048 .bf16)) := by
  sl_kernel_rfl

/-- The tile's inputs. -/
theorem runB_xp : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs5 xs7 xs8).2.2.2.2.2.2.2.1
    = ([⟨Rect.unit (s := S256x1024) ![0, 0] S256x1024.size inb_S256x1024_S256x1024_0_0, k0_pay1 (k0_pay51 (View.readAt (Elt Ideal) arg1.view (Rect.unit (s := S1x256x1024) ![0, 0, 0] S1x256x1024.size inb_S1x256x1024_S1x256x1024_0_0_0).toLoadRect (harg1.unread x0)))⟩] : List (View.Piece (Elt Ideal) S256x1024 .f32)) := by
  sl_kernel_rfl

end

end Cert.Kernel2Ideal.Ssd

end
-- ==== Proof.Ssd.StepB.lean ====
/- What a grid point of case B leaves, from what the point before it left. -/
module

public import proofs.«01_k».proof.Proof.Ssd.Step
public import proofs.«01_k».proof.Proof.Ssd.RunB

@[expose] public section

set_option maxRecDepth 16384

noncomputable section

namespace Cert.Kernel2Ideal.Ssd

open Cert.Sgu Cert.Ssd Cert.Kernel2Ideal Cert.Kernel2Ideal.Gen Cert.Kernel2Ideal.Facts Idealize.ShloMosaic Idealize.SL.Sem

section
variable (c : Dev nD) (i : grid0.Coords) (arg1 : Memref sig .tc .vmem S1x256x1024 .f32) (harg1 : arg1.IsWhole) (arg2 : Memref sig .tc .vmem S1x256x1024 .f32) (harg2 : arg2.IsWhole) (arg3 : Memref sig .tc .vmem S1x1024 .f32) (harg3 : arg3.IsWhole) (arg4 : Memref sig .tc .vmem S1x1024x6144 .bf16) (harg4 : arg4.IsWhole) (arg5 : Memref sig .tc .vmem S1024x32 .bf16) (harg5 : arg5.IsWhole) (arg6 : Memref sig .tc .vmem S32x1024 .bf16) (harg6 : arg6.IsWhole) (arg7 : Memref sig .tc .vmem S4x4096 .f32) (harg7 : arg7.IsWhole) (arg8 : Memref sig .tc .vmem S1x4096 .f32) (harg8 : arg8.IsWhole) (arg9 : Memref sig .tc .vmem S1x32 .f32) (harg9 : arg9.IsWhole) (arg10 : Memref sig .tc .vmem S32x1 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048x1024 .bf16) (harg15 : arg15.IsWhole) (arg16 : Memref sig .tc .vmem S1x1024 .f32) (harg16 : arg16.IsWhole) (arg17 : Memref sig .tc .vmem S1x256x1024 .f32) (harg17 : arg17.IsWhole) (arg18 : Memref sig .tc .vmem S32x264x128 .f32) (harg18 : arg18.IsWhole) (arg19 : Memref sig .tc .vmem S32x8x128 .f32) (harg19 : arg19.IsWhole) (arg20 : Memref sig .tc .vmem S256x1024 .bf16) (harg20 : arg20.IsWhole) (arg21 : Memref sig .tc .vmem S256x32 .f32) (harg21 : arg21.IsWhole) (arg22 : Memref sig .tc .vmem S32x256 .f32) (harg22 : arg22.IsWhole) (arg23 : Memref sig .tc .vmem S8x128x256 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x1024 .f32) (harg26 : arg26.IsWhole) (hc0 : ¬cond0_0 i) (hc1 : ¬cond0_1 i)
    (x0 : Vec Ideal S1x256x1024 .f32) (x1 : Vec Ideal S1x256x1024 .f32) (x2 : Vec Ideal S1x1024 .f32) (x3 : Vec Ideal S1x1024x6144 .bf16) (x4 : Vec Ideal S1024x32 .bf16) (x5 : Vec Ideal S32x1024 .bf16) (x6 : Vec Ideal S4x4096 .f32) (x7 : Vec Ideal S1x4096 .f32) (x8 : Vec Ideal S1x32 .f32) (x9 : Vec Ideal S32x1 .f32) (x10 : Vec Ideal S1x32 .f32) (x11 : Vec Ideal S32x1 .f32) (x12 : Vec Ideal S1x2048 .f32) (x13 : Vec Ideal S1x2048 .f32) (x14 : Vec Ideal S1x2048x1024 .bf16) (x15 : Vec Ideal S1x1024 .f32) (xs0 : Vec Ideal S32x264x128 .f32) (xs2 : Vec Ideal S256x1024 .bf16) (xs3 : Vec Ideal S256x32 .f32) (xs4 : Vec Ideal S32x256 .f32) (xs5 : Vec Ideal S8x128x256 .f32) (xs7 : Vec Ideal S256x2048 .bf16) (xs8 : Vec Ideal S256x1024 .f32)

/-- What the point reads is what the mathematics says. -/
theorem goodB {I : In} (F : I.Fin) {n : ℕ} (hn : ¬(n + 1) % 16 = 0) (b : Blk I (n + 1) x0 x1 x2 x3 x4 x5 x6 x7 x8 x9 x10 x11 x12 x13 x14 x15) (V : Inv I n xs0 xs2 xs3 xs4 xs5 xs7 xs8) : Good I (ptB arg4 harg4 arg7 harg7 arg8 harg8 arg9 harg9 arg10 harg10 arg11 harg11 arg12 harg12 arg13 harg13 arg14 harg14 arg18 harg18 arg20 harg20 arg21 harg21 arg22 harg22 x3 x6 x7 x8 x9 x10 x11 x12 x13 xs0 xs2 xs3 xs4) (n + 1) where
  fin := F
  T := by
    intro j hj R hR i l hR5 hR8
    refine (rd_slab arg18 harg18 xs0 j R hj (by omega) _ i l).trans ?_
    rw [V.raw]
    unfold rawS
    rw [if_neg (fun h => hn h.1)]
  T3 := by
    intro j hj i l
    refine (rd_slab arg18 harg18 xs0 j 8 hj (by omega) _ i l).trans ?_
    rw [V.raw]
    unfold rawS
    rw [if_neg (fun h => hn h.1)]
  hn i k := (congrFun (rd arg20 harg20 xs2 hz2 _) _).trans (V.hn i k)
  dtr i h := (congrFun (rd arg21 harg21 xs3 hz2 _) _).trans (V.dtr i h)
  dttr i h := (congrFun (rd arg22 harg22 xs4 hz2 _) _).trans (V.dttr i h)
  wz k j := (congrFun (harg4.read_unread x3) _).trans (b.wz k j)
  cw k j := (congrFun (harg7.read_unread x6) _).trans (b.x6 k j)
  cb j := (congrFun (harg8.read_unread x7) _).trans (b.x7 j)
  b h := (congrFun (rd arg9 harg9 x8 hz2 _) _).trans (b.x8 h)
  bT h := (congrFun (rd arg10 harg10 x9 hz2 _) _).trans (b.x9 h)
  al h := (congrFun (rd arg11 harg11 x10 hz2 _) _).trans (b.x10 h)
  alT h := (congrFun (rd arg12 harg12 x11 hz2 _) _).trans (b.x11 h)
  dsk j := (congrFun (harg13.read_unread x12) _).trans (b.x12 j)
  gw j := (congrFun (harg14.read_unread x13) _).trans (b.x13 j)

/-- The state the point starts from. -/
theorem ldB {I : In} {n : ℕ} (hn : ¬(n + 1) % 16 = 0) (V : Inv I n xs0 xs2 xs3 xs4 xs5 xs7 xs8) : ∀ (g : Nat) (hg : g < 8) (L : List (View.Piece (Elt Ideal) S8x128x256 .f32)),
    (∀ m e, View.canon L (ix3 (⟨g, hg⟩ : Fin 8) m e) = View.canon ([] : List (View.Piece (Elt Ideal) S8x128x256 .f32)) (ix3 ⟨g, hg⟩ m e)) →
    ∀ (m : Fin 128) (e : Fin 256), ((fun _ g hg => View.readAt (Elt Ideal) arg23.view (Rect.unit (s := S8x128x256) ![g, 0, 0] S1x128x256.size (inbS g hg)).toLoadRect (harg23.unread xs5)) : List (View.Piece (Elt Ideal) S8x128x256 .f32) → (g : Nat) → g < 8 → Vec Ideal S1x128x256 .f32) L g hg (ix3 0 m e) = (I.st (2 * (n + 1))) (col ⟨g, hg⟩ e) m := by
  intro g hg L _ m e
  refine (rd_st arg23 harg23 xs5 g hg _ m e).trans ?_
  rw [V.st, st_succ I n hn]

/-- What the point leaves. -/
theorem stepB {I : In} (F : I.Fin) {n : ℕ} (hn : ¬(n + 1) % 16 = 0) (b : Blk I (n + 1) x0 x1 x2 x3 x4 x5 x6 x7 x8 x9 x10 x11 x12 x13 x14 x15) (V : Inv I n xs0 xs2 xs3 xs4 xs5 xs7 xs8) : Inv I (n + 1)
    (View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs5 xs7 xs8).2.1)
    (View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs5 xs7 xs8).2.2.1)
    (View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs5 xs7 xs8).2.2.2.1)
    (View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs5 xs7 xs8).2.2.2.2.1)
    (View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs5 xs7 xs8).2.2.2.2.2.1)
    (View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs5 xs7 xs8).2.2.2.2.2.2.1)
    (View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs5 xs7 xs8).2.2.2.2.2.2.2.1) where
  raw j r l := by
    have hr := r.isLt
    rw [runB_raw]
    by_cases c : r.val < 8
    · rw [carry_hit _ _ _ _ _ (⟨r.val, c⟩ : Fin 8) rfl, pay586_eq, View.readCov_unit_zero _ hz3, pay545_eq]
      refine (rd_tail arg18 harg18 xs0 j ⟨r.val, c⟩ _ l).trans ?_
      exact (V.raw _ _ _).trans (congrArg (fun r => I.px r _) (show 256 * (n + 1) + (256 + r.val) - 8 = 256 * (n + 1 + 1) + r.val - 8 by omega))
    · rw [carry_miss _ _ _ _ _ (show 8 ≤ r.val by omega),
        rawL_canon _ _ _ _ l (⟨r.val - 8, by omega⟩ : Fin 256) (show r.val = 8 + (r.val - 8) by omega) _ _ j.isLt, px_eq (I := I) (256 * ((n + 1) + 1))]
      · exact congrArg (fun r => I.px r _) (show 256 * ((n + 1) + 1) + (r.val - 8) = 256 * ((n + 1) + 1) + r.val - 8 by omega)
      · rw [rd arg2 harg2 x1 hz3]; exact b.x1
      · rw [rd arg3 harg3 x2 hz2]; exact b.x2
      · exact fun k j => (rd_wx arg4 harg4 x3 _ k j).trans (b.wx k j)
  hn i k := by
    rw [runB_hn, View.canon_unit_zero hz2, rd arg2 harg2 x1 hz3, rd arg3 harg3 x2 hz2]
    exact hn3_eq _ x1 x2 b.x1 b.x2 i k
  dtr i h := by
    rw [runB_dtr, View.canon_unit_zero hz2, rd arg2 harg2 x1 hz3, rd arg3 harg3 x2 hz2, rd arg5 harg5 x4 hz2]
    exact pd_eq _ x1 x2 b.x1 b.x2 x4 b.x4 i h
  dttr i h := by
    rw [runB_dttr, View.canon_unit_zero hz2, rd arg2 harg2 x1 hz3, rd arg3 harg3 x2 hz2, rd arg6 harg6 x5 hz2]
    exact pdt_eq _ x1 x2 b.x1 b.x2 x5 b.x5 i h
  st g m e := by
    rw [runB_st]
    exact stL_canon (goodB arg4 harg4 arg7 harg7 arg8 harg8 arg9 harg9 arg10 harg10 arg11 harg11 arg12 harg12 arg13 harg13 arg14 harg14 arg18 harg18 arg20 harg20 arg21 harg21 arg22 harg22 x0 x1 x2 x3 x4 x5 x6 x7 x8 x9 x10 x11 x12 x13 x14 x15 xs0 xs2 xs3 xs4 xs5 xs7 xs8 F hn b V) arg23.view _ _ _ (ldB arg23 harg23 xs0 xs2 xs3 xs4 xs5 xs7 xs8 hn V) g m e 8 (by decide) g.isLt
  yp i j := by
    rw [runB_yp, View.canon_unit_zero hz2, pay587_eq]
    exact (rdC_yp _ _ _ i j).trans (yL_canon (goodB arg4 harg4 arg7 harg7 arg8 harg8 arg9 harg9 arg10 harg10 arg11 harg11 arg12 harg12 arg13 harg13 arg14 harg14 arg18 harg18 arg20 harg20 arg21 harg21 arg22 harg22 x0 x1 x2 x3 x4 x5 x6 x7 x8 x9 x10 x11 x12 x13 x14 x15 xs0 xs2 xs3 xs4 xs5 xs7 xs8 F hn b V) arg23.view _ _ _ (ldB arg23 harg23 xs0 xs2 xs3 xs4 xs5 xs7 xs8 hn V) rfl i j)
  xp i k := by
    rw [runB_xp, View.canon_unit_zero hz2, pay51_apply, rd arg1 harg1 x0 hz3]
    exact b.x0 i k

/-- The output block: the tile before. -/
theorem outB {I : In} {n : ℕ} (b : Blk I (n + 1) x0 x1 x2 x3 x4 x5 x6 x7 x8 x9 x10 x11 x12 x13 x14 x15) (V : Inv I n xs0 xs2 xs3 xs4 xs5 xs7 xs8) (q : Fin 256) (k : Fin 1024) : View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs5 xs7 xs8).1 (ix3 0 q k) = I.out (256 * n + q.val) k := by
  rw [runB_out, View.canon_unit_zero hz3, pay50_apply, rd arg16 harg16 x15 hz2, rd arg25 harg25 xs7 hz2, rd arg15 harg15 x14 hz3, rd arg26 harg26 xs8 hz2]
  unfold In.out
  rw [show (fun k => x15 (ix2 0 k)) = I.fw from funext b.x15]
  refine congrArg (fun u => rms u I.fw k) (funext fun k => ?_)
  unfold In.u
  rw [V.xp]
  congr 1
  exact Finset.sum_congr rfl fun j _ => by rw [V.yp, b.x14]

end

end Cert.Kernel2Ideal.Ssd

end
-- ==== Proof.Ssd.RunC.lean ====
/- What the runs of case C store, as lists of pieces over what they load. -/
module

public import proofs.«01_k».proof.Proof.Gen.Kernel2Ideal.Frame.RunC
public import proofs.«01_k».proof.Proof.Gen.Kernel2Ideal.Frame
public import proofs.«01_k».proof.Proof.Ssd.Lists

@[expose] public section

set_option maxRecDepth 16384

noncomputable section

namespace Cert.Kernel2Ideal.Ssd

open Cert.Kernel2Ideal Cert.Kernel2Ideal.Gen Cert.Kernel2Ideal.Facts Idealize.ShloMosaic Idealize.SL.Sem

section
variable (c : Dev nD) (i : grid0.Coords) (arg1 : Memref sig .tc .vmem S1x256x1024 .f32) (harg1 : arg1.IsWhole) (arg2 : Memref sig .tc .vmem S1x256x1024 .f32) (harg2 : arg2.IsWhole) (arg3 : Memref sig .tc .vmem S1x1024 .f32) (harg3 : arg3.IsWhole) (arg4 : Memref sig .tc .vmem S1x1024x6144 .bf16) (harg4 : arg4.IsWhole) (arg5 : Memref sig .tc .vmem S1024x32 .bf16) (harg5 : arg5.IsWhole) (arg6 : Memref sig .tc .vmem S32x1024 .bf16) (harg6 : arg6.IsWhole) (arg7 : Memref sig .tc .vmem S4x4096 .f32) (harg7 : arg7.IsWhole) (arg8 : Memref sig .tc .vmem S1x4096 .f32) (harg8 : arg8.IsWhole) (arg9 : Memref sig .tc .vmem S1x32 .f32) (harg9 : arg9.IsWhole) (arg10 : Memref sig .tc .vmem S32x1 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048x1024 .bf16) (harg15 : arg15.IsWhole) (arg16 : Memref sig .tc .vmem S1x1024 .f32) (harg16 : arg16.IsWhole) (arg17 : Memref sig .tc .vmem S1x256x1024 .f32) (harg17 : arg17.IsWhole) (arg18 : Memref sig .tc .vmem S32x264x128 .f32) (harg18 : arg18.IsWhole) (arg19 : Memref sig .tc .vmem S32x8x128 .f32) (harg19 : arg19.IsWhole) (arg20 : Memref sig .tc .vmem S256x1024 .bf16) (harg20 : arg20.IsWhole) (arg21 : Memref sig .tc .vmem S256x32 .f32) (harg21 : arg21.IsWhole) (arg22 : Memref sig .tc .vmem S32x256 .f32) (harg22 : arg22.IsWhole) (arg23 : Memref sig .tc .vmem S8x128x256 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x1024 .f32) (harg26 : arg26.IsWhole) (hc0 : ¬cond0_0 i) (hc1 : cond0_1 i)
    (x0 : Vec Ideal S1x256x1024 .f32) (x1 : Vec Ideal S1x256x1024 .f32) (x2 : Vec Ideal S1x1024 .f32) (x3 : Vec Ideal S1x1024x6144 .bf16) (x4 : Vec Ideal S1024x32 .bf16) (x5 : Vec Ideal S32x1024 .bf16) (x6 : Vec Ideal S4x4096 .f32) (x7 : Vec Ideal S1x4096 .f32) (x8 : Vec Ideal S1x32 .f32) (x9 : Vec Ideal S32x1 .f32) (x10 : Vec Ideal S1x32 .f32) (x11 : Vec Ideal S32x1 .f32) (x12 : Vec Ideal S1x2048 .f32) (x13 : Vec Ideal S1x2048 .f32) (x14 : Vec Ideal S1x2048x1024 .bf16) (x15 : Vec Ideal S1x1024 .f32) (xs0 : Vec Ideal S32x264x128 .f32) (xs2 : Vec Ideal S256x1024 .bf16) (xs3 : Vec Ideal S256x32 .f32) (xs4 : Vec Ideal S32x256 .f32) (xs7 : Vec Ideal S256x2048 .bf16) (xs8 : Vec Ideal S256x1024 .f32)

/-- What case C's body reads. -/
def ptC : Pt where
  T o h := (View.readAt (Elt Ideal) arg18.view (Rect.unit (s := S32x264x128) o S1x256x128.size h).toLoadRect (arg18.view.writes (Elt Ideal) (harg18.unread xs0) [⟨Rect.unit (s := S32x264x128) ![0, 0, 0] S32x8x128.size inb_S32x264x128_S32x8x128_0_0_0, k0_pay47 (F := Ideal)⟩]))
  T3 o h := (View.readAt (Elt Ideal) arg18.view (Rect.unit (s := S32x264x128) o S1x256x128.size h).toLoadRect (harg18.unread xs0))
  hn := (View.readAt (Elt Ideal) arg20.view (Rect.unit (s := S256x1024) ![0, 0] S256x1024.size inb_S256x1024_S256x1024_0_0).toLoadRect (harg20.unread xs2))
  wzx := arg4.view.read (Elt Ideal) (harg4.unread x3)
  cw := arg7.view.read (Elt Ideal) (harg7.unread x6)
  cb := arg8.view.read (Elt Ideal) (harg8.unread x7)
  dtr := (View.readAt (Elt Ideal) arg21.view (Rect.unit (s := S256x32) ![0, 0] S256x32.size inb_S256x32_S256x32_0_0).toLoadRect (harg21.unread xs3))
  dttr := (View.readAt (Elt Ideal) arg22.view (Rect.unit (s := S32x256) ![0, 0] S32x256.size inb_S32x256_S32x256_0_0).toLoadRect (harg22.unread xs4))
  b := (View.readAt (Elt Ideal) arg9.view (Rect.unit (s := S1x32) ![0, 0] S1x32.size inb_S1x32_S1x32_0_0).toLoadRect (harg9.unread x8))
  bT := (View.readAt (Elt Ideal) arg10.view (Rect.unit (s := S32x1) ![0, 0] S32x1.size inb_S32x1_S32x1_0_0).toLoadRect (harg10.unread x9))
  al := (View.readAt (Elt Ideal) arg11.view (Rect.unit (s := S1x32) ![0, 0] S1x32.size inb_S1x32_S1x32_0_0).toLoadRect (harg11.unread x10))
  alT := (View.readAt (Elt Ideal) arg12.view (Rect.unit (s := S32x1) ![0, 0] S32x1.size inb_S32x1_S32x1_0_0).toLoadRect (harg12.unread x11))
  dsk := arg13.view.read (Elt Ideal) (harg13.unread x12)
  gw := arg14.view.read (Elt Ideal) (harg14.unread x13)

/-- The output block. -/
theorem runC_out : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs7 xs8).1
    = ([⟨Rect.unit (s := S1x256x1024) ![0, 0, 0] S1x256x1024.size inb_S1x256x1024_S1x256x1024_0_0_0, k0_pay50 (k0_pay48 (View.readAt (Elt Ideal) arg16.view (Rect.unit (s := S1x1024) ![0, 0] S1x1024.size inb_S1x1024_S1x1024_0_0).toLoadRect (harg16.unread x15))) (k0_pay49 (View.readAt (Elt Ideal) arg25.view (Rect.unit (s := S256x2048) ![0, 0] S256x2048.size inb_S256x2048_S256x2048_0_0).toLoadRect (harg25.unread xs7)) (View.readAt (Elt Ideal) arg15.view (Rect.unit (s := S1x2048x1024) ![0, 0, 0] S1x2048x1024.size inb_S1x2048x1024_S1x2048x1024_0_0_0).toLoadRect (harg15.unread x14)) (View.readAt (Elt Ideal) arg26.view (Rect.unit (s := S256x1024) ![0, 0] S256x1024.size inb_S256x1024_S256x1024_0_0).toLoadRect (harg26.unread xs8)))⟩] : List (View.Piece (Elt Ideal) S1x256x1024 .f32)) := by
  sl_kernel_rfl

/-- The projected rows of the next tile, and the last rows of this one. -/
theorem runC_raw : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs7 xs8).2.1
    = (⟨Rect.unit (s := S32x264x128) ![0, 0, 0] S32x8x128.size inb_S32x264x128_S32x8x128_0_0_0, k0_pay586 (F := Ideal) (arg19.view.readCov [⟨Rect.unit (s := S32x8x128) ![0, 0, 0] S32x8x128.size inb_S32x8x128_S32x8x128_0_0_0, k0_pay545 (F := Ideal) (View.readAt (Elt Ideal) arg18.view (Rect.unit (s := S32x264x128) ![0, 256, 0] S32x8x128.size inb_S32x264x128_S32x8x128_0_256_0).toLoadRect (harg18.unread xs0))⟩] (Rect.unit (s := S32x8x128) ![0, 0, 0] S32x8x128.size inb_S32x8x128_S32x8x128_0_0_0).toLoadRect)⟩ :: rawL (k0_pay4 (View.readAt (Elt Ideal) arg2.view (Rect.unit (s := S1x256x1024) ![0, 0, 0] S1x256x1024.size inb_S1x256x1024_S1x256x1024_0_0_0).toLoadRect (harg2.unread x1)) (View.readAt (Elt Ideal) arg3.view (Rect.unit (s := S1x1024) ![0, 0] S1x1024.size inb_S1x1024_S1x1024_0_0).toLoadRect (harg3.unread x2)) (View.readAt (Elt Ideal) arg4.view (Rect.unit (s := S1x1024x6144) ![0, 0, 2048] S1x1024x4096.size inb_S1x1024x6144_S1x1024x4096_0_0_2048).toLoadRect (harg4.unread x3))) [⟨Rect.unit (s := S32x264x128) ![0, 0, 0] S32x8x128.size inb_S32x264x128_S32x8x128_0_0_0, k0_pay47 (F := Ideal)⟩] 32 (by decide) : List (View.Piece (Elt Ideal) S32x264x128 .f32)) := by
  sl_kernel_rfl

/-- The normalised rows of the next tile. -/
theorem runC_hn : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs7 xs8).2.2.1
    = ([⟨Rect.unit (s := S256x1024) ![0, 0] S256x1024.size inb_S256x1024_S256x1024_0_0, k0_pay3 (View.readAt (Elt Ideal) arg2.view (Rect.unit (s := S1x256x1024) ![0, 0, 0] S1x256x1024.size inb_S1x256x1024_S1x256x1024_0_0_0).toLoadRect (harg2.unread x1)) (View.readAt (Elt Ideal) arg3.view (Rect.unit (s := S1x1024) ![0, 0] S1x1024.size inb_S1x1024_S1x1024_0_0).toLoadRect (harg3.unread x2))⟩] : List (View.Piece (Elt Ideal) S256x1024 .bf16)) := by
  sl_kernel_rfl

/-- The next tile's step size projections, by row. -/
theorem runC_dtr : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs7 xs8).2.2.2.1
    = ([⟨Rect.unit (s := S256x32) ![0, 0] S256x32.size inb_S256x32_S256x32_0_0, k0_pay42 (k0_pay41 (k0_pay2 (View.readAt (Elt Ideal) arg2.view (Rect.unit (s := S1x256x1024) ![0, 0, 0] S1x256x1024.size inb_S1x256x1024_S1x256x1024_0_0_0).toLoadRect (harg2.unread x1)) (View.readAt (Elt Ideal) arg3.view (Rect.unit (s := S1x1024) ![0, 0] S1x1024.size inb_S1x1024_S1x1024_0_0).toLoadRect (harg3.unread x2))) (View.readAt (Elt Ideal) arg5.view (Rect.unit (s := S1024x32) ![0, 0] S1024x32.size inb_S1024x32_S1024x32_0_0).toLoadRect (harg5.unread x4)))⟩] : List (View.Piece (Elt Ideal) S256x32 .f32)) := by
  sl_kernel_rfl

/-- The next tile's step size projections, by head. -/
theorem runC_dttr : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs7 xs8).2.2.2.2.1
    = ([⟨Rect.unit (s := S32x256) ![0, 0] S32x256.size inb_S32x256_S32x256_0_0, k0_pay43 (k0_pay2 (View.readAt (Elt Ideal) arg2.view (Rect.unit (s := S1x256x1024) ![0, 0, 0] S1x256x1024.size inb_S1x256x1024_S1x256x1024_0_0_0).toLoadRect (harg2.unread x1)) (View.readAt (Elt Ideal) arg3.view (Rect.unit (s := S1x1024) ![0, 0] S1x1024.size inb_S1x1024_S1x1024_0_0).toLoadRect (harg3.unread x2))) (View.readAt (Elt Ideal) arg6.view (Rect.unit (s := S32x1024) ![0, 0] S32x1024.size inb_S32x1024_S32x1024_0_0).toLoadRect (harg6.unread x5))⟩] : List (View.Piece (Elt Ideal) S32x256 .f32)) := by
  sl_kernel_rfl

/-- The states. -/
theorem runC_st : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs7 xs8).2.2.2.2.2.1
    = (stL (ptC arg4 harg4 arg7 harg7 arg8 harg8 arg9 harg9 arg10 harg10 arg11 harg11 arg12 harg12 arg13 harg13 arg14 harg14 arg18 harg18 arg20 harg20 arg21 harg21 arg22 harg22 x3 x6 x7 x8 x9 x10 x11 x12 x13 xs0 xs2 xs3 xs4) arg23.view (fun L g hg => arg23.view.readCov L (Rect.unit (s := S8x128x256) ![g, 0, 0] S1x128x256.size (inbS g hg)).toLoadRect) [⟨Rect.unit (s := S8x128x256) ![0, 0, 0] S8x128x256.size inb_S8x128x256_S8x128x256_0_0_0, k0_pay46 (F := Ideal)⟩] 8 (by decide) : List (View.Piece (Elt Ideal) S8x128x256 .f32)) := by
  sl_kernel_rfl

/-- The tile's outputs. -/
theorem runC_yp : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs7 xs8).2.2.2.2.2.2.1
    = ([⟨Rect.unit (s := S256x2048) ![0, 0] S256x2048.size inb_S256x2048_S256x2048_0_0, k0_pay587 (arg24.view.readCov (yL (ptC arg4 harg4 arg7 harg7 arg8 harg8 arg9 harg9 arg10 harg10 arg11 harg11 arg12 harg12 arg13 harg13 arg14 harg14 arg18 harg18 arg20 harg20 arg21 harg21 arg22 harg22 x3 x6 x7 x8 x9 x10 x11 x12 x13 xs0 xs2 xs3 xs4) arg23.view (fun L g hg => arg23.view.readCov L (Rect.unit (s := S8x128x256) ![g, 0, 0] S1x128x256.size (inbS g hg)).toLoadRect) [⟨Rect.unit (s := S8x128x256) ![0, 0, 0] S8x128x256.size inb_S8x128x256_S8x128x256_0_0_0, k0_pay46 (F := Ideal)⟩] 8 (by decide)) (Rect.unit (s := S256x2048) ![0, 0] S256x2048.size inb_S256x2048_S256x2048_0_0).toLoadRect)⟩] : List (View.Piece (Elt Ideal) S256x2048 .bf16)) := by
  sl_kernel_rfl

/-- The tile's inputs. -/
theorem runC_xp : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs7 xs8).2.2.2.2.2.2.2.1
    = ([⟨Rect.unit (s := S256x1024) ![0, 0] S256x1024.size inb_S256x1024_S256x1024_0_0, k0_pay1 (k0_pay51 (View.readAt (Elt Ideal) arg1.view (Rect.unit (s := S1x256x1024) ![0, 0, 0] S1x256x1024.size inb_S1x256x1024_S1x256x1024_0_0_0).toLoadRect (harg1.unread x0)))⟩] : List (View.Piece (Elt Ideal) S256x1024 .f32)) := by
  sl_kernel_rfl

end

end Cert.Kernel2Ideal.Ssd

end
-- ==== Proof.Ssd.StepC.lean ====
/- What a grid point of case C leaves, from what the point before it left. -/
module

public import proofs.«01_k».proof.Proof.Ssd.Step
public import proofs.«01_k».proof.Proof.Ssd.RunC

@[expose] public section

set_option maxRecDepth 16384

noncomputable section

namespace Cert.Kernel2Ideal.Ssd

open Cert.Sgu Cert.Ssd Cert.Kernel2Ideal Cert.Kernel2Ideal.Gen Cert.Kernel2Ideal.Facts Idealize.ShloMosaic Idealize.SL.Sem

section
variable (c : Dev nD) (i : grid0.Coords) (arg1 : Memref sig .tc .vmem S1x256x1024 .f32) (harg1 : arg1.IsWhole) (arg2 : Memref sig .tc .vmem S1x256x1024 .f32) (harg2 : arg2.IsWhole) (arg3 : Memref sig .tc .vmem S1x1024 .f32) (harg3 : arg3.IsWhole) (arg4 : Memref sig .tc .vmem S1x1024x6144 .bf16) (harg4 : arg4.IsWhole) (arg5 : Memref sig .tc .vmem S1024x32 .bf16) (harg5 : arg5.IsWhole) (arg6 : Memref sig .tc .vmem S32x1024 .bf16) (harg6 : arg6.IsWhole) (arg7 : Memref sig .tc .vmem S4x4096 .f32) (harg7 : arg7.IsWhole) (arg8 : Memref sig .tc .vmem S1x4096 .f32) (harg8 : arg8.IsWhole) (arg9 : Memref sig .tc .vmem S1x32 .f32) (harg9 : arg9.IsWhole) (arg10 : Memref sig .tc .vmem S32x1 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048x1024 .bf16) (harg15 : arg15.IsWhole) (arg16 : Memref sig .tc .vmem S1x1024 .f32) (harg16 : arg16.IsWhole) (arg17 : Memref sig .tc .vmem S1x256x1024 .f32) (harg17 : arg17.IsWhole) (arg18 : Memref sig .tc .vmem S32x264x128 .f32) (harg18 : arg18.IsWhole) (arg19 : Memref sig .tc .vmem S32x8x128 .f32) (harg19 : arg19.IsWhole) (arg20 : Memref sig .tc .vmem S256x1024 .bf16) (harg20 : arg20.IsWhole) (arg21 : Memref sig .tc .vmem S256x32 .f32) (harg21 : arg21.IsWhole) (arg22 : Memref sig .tc .vmem S32x256 .f32) (harg22 : arg22.IsWhole) (arg23 : Memref sig .tc .vmem S8x128x256 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x1024 .f32) (harg26 : arg26.IsWhole) (hc0 : ¬cond0_0 i) (hc1 : cond0_1 i)
    (x0 : Vec Ideal S1x256x1024 .f32) (x1 : Vec Ideal S1x256x1024 .f32) (x2 : Vec Ideal S1x1024 .f32) (x3 : Vec Ideal S1x1024x6144 .bf16) (x4 : Vec Ideal S1024x32 .bf16) (x5 : Vec Ideal S32x1024 .bf16) (x6 : Vec Ideal S4x4096 .f32) (x7 : Vec Ideal S1x4096 .f32) (x8 : Vec Ideal S1x32 .f32) (x9 : Vec Ideal S32x1 .f32) (x10 : Vec Ideal S1x32 .f32) (x11 : Vec Ideal S32x1 .f32) (x12 : Vec Ideal S1x2048 .f32) (x13 : Vec Ideal S1x2048 .f32) (x14 : Vec Ideal S1x2048x1024 .bf16) (x15 : Vec Ideal S1x1024 .f32) (xs0 : Vec Ideal S32x264x128 .f32) (xs2 : Vec Ideal S256x1024 .bf16) (xs3 : Vec Ideal S256x32 .f32) (xs4 : Vec Ideal S32x256 .f32) (xs7 : Vec Ideal S256x2048 .bf16) (xs8 : Vec Ideal S256x1024 .f32)

/-- What the point reads is what the mathematics says. -/
theorem goodC {I : In} (F : I.Fin) {n : ℕ} {xst : Vec Ideal S8x128x256 .f32} (hn : (n + 1) % 16 = 0) (b : Blk I (n + 1) x0 x1 x2 x3 x4 x5 x6 x7 x8 x9 x10 x11 x12 x13 x14 x15) (V : Inv I n xs0 xs2 xs3 xs4 xst xs7 xs8) : Good I (ptC arg4 harg4 arg7 harg7 arg8 harg8 arg9 harg9 arg10 harg10 arg11 harg11 arg12 harg12 arg13 harg13 arg14 harg14 arg18 harg18 arg20 harg20 arg21 harg21 arg22 harg22 x3 x6 x7 x8 x9 x10 x11 x12 x13 xs0 xs2 xs3 xs4) (n + 1) where
  fin := F
  T := by
    intro j hj R hR i l hR5 hR8
    refine (rd_slab_zeroed arg18 harg18 xs0 j R hj (by omega) _ i l).trans ?_
    unfold rawS
    rw [V.raw]
    by_cases c : R + i.val < 8
    · rw [if_pos c, if_pos ⟨hn, c⟩]
    · rw [if_neg c, if_neg (fun h => c h.2)]
  T3 := by
    intro j hj i l
    refine (rd_slab arg18 harg18 xs0 j 8 hj (by omega) _ i l).trans ?_
    unfold rawS
    rw [V.raw]
    rw [if_neg (by omega)]
  hn i k := (congrFun (rd arg20 harg20 xs2 hz2 _) _).trans (V.hn i k)
  dtr i h := (congrFun (rd arg21 harg21 xs3 hz2 _) _).trans (V.dtr i h)
  dttr i h := (congrFun (rd arg22 harg22 xs4 hz2 _) _).trans (V.dttr i h)
  wz k j := (congrFun (harg4.read_unread x3) _).trans (b.wz k j)
  cw k j := (congrFun (harg7.read_unread x6) _).trans (b.x6 k j)
  cb j := (congrFun (harg8.read_unread x7) _).trans (b.x7 j)
  b h := (congrFun (rd arg9 harg9 x8 hz2 _) _).trans (b.x8 h)
  bT h := (congrFun (rd arg10 harg10 x9 hz2 _) _).trans (b.x9 h)
  al h := (congrFun (rd arg11 harg11 x10 hz2 _) _).trans (b.x10 h)
  alT h := (congrFun (rd arg12 harg12 x11 hz2 _) _).trans (b.x11 h)
  dsk j := (congrFun (harg13.read_unread x12) _).trans (b.x12 j)
  gw j := (congrFun (harg14.read_unread x13) _).trans (b.x13 j)

/-- The state the point starts from. -/
theorem ldC {I : In} {n : ℕ} (hn : (n + 1) % 16 = 0) : ∀ (g : Nat) (hg : g < 8) (L : List (View.Piece (Elt Ideal) S8x128x256 .f32)),
    (∀ m e, View.canon L (ix3 (⟨g, hg⟩ : Fin 8) m e) = View.canon ([⟨Rect.unit (s := S8x128x256) ![0, 0, 0] S8x128x256.size inb_S8x128x256_S8x128x256_0_0_0, k0_pay46 (F := Ideal)⟩] : List (View.Piece (Elt Ideal) S8x128x256 .f32)) (ix3 ⟨g, hg⟩ m e)) →
    ∀ (m : Fin 128) (e : Fin 256), ((fun L g hg => arg23.view.readCov L (Rect.unit (s := S8x128x256) ![g, 0, 0] S1x128x256.size (inbS g hg)).toLoadRect) : List (View.Piece (Elt Ideal) S8x128x256 .f32) → (g : Nat) → g < 8 → Vec Ideal S1x128x256 .f32) L g hg (ix3 0 m e) = (I.st (2 * (n + 1))) (col ⟨g, hg⟩ e) m := by
  intro g hg L hL m e
  refine (rdC_st arg23.view L g hg _ m e).trans ?_
  rw [hL, View.canon_unit_zero hz3, pay46_apply, st_zero I (n + 1) (by omega)]

/-- What the point leaves. -/
theorem stepC {I : In} (F : I.Fin) {n : ℕ} {xst : Vec Ideal S8x128x256 .f32} (hn : (n + 1) % 16 = 0) (b : Blk I (n + 1) x0 x1 x2 x3 x4 x5 x6 x7 x8 x9 x10 x11 x12 x13 x14 x15) (V : Inv I n xs0 xs2 xs3 xs4 xst xs7 xs8) : Inv I (n + 1)
    (View.canon (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs7 xs8).2.1)
    (View.canon (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs7 xs8).2.2.1)
    (View.canon (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs7 xs8).2.2.2.1)
    (View.canon (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs7 xs8).2.2.2.2.1)
    (View.canon (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs7 xs8).2.2.2.2.2.1)
    (View.canon (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs7 xs8).2.2.2.2.2.2.1)
    (View.canon (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs7 xs8).2.2.2.2.2.2.2.1) where
  raw j r l := by
    have hr := r.isLt
    rw [runC_raw]
    by_cases c : r.val < 8
    · rw [carry_hit _ _ _ _ _ (⟨r.val, c⟩ : Fin 8) rfl, pay586_eq, View.readCov_unit_zero _ hz3, pay545_eq]
      refine (rd_tail arg18 harg18 xs0 j ⟨r.val, c⟩ _ l).trans ?_
      exact (V.raw _ _ _).trans (congrArg (fun r => I.px r _) (show 256 * (n + 1) + (256 + r.val) - 8 = 256 * (n + 1 + 1) + r.val - 8 by omega))
    · rw [carry_miss _ _ _ _ _ (show 8 ≤ r.val by omega),
        rawL_canon _ _ _ _ l (⟨r.val - 8, by omega⟩ : Fin 256) (show r.val = 8 + (r.val - 8) by omega) _ _ j.isLt, px_eq (I := I) (256 * ((n + 1) + 1))]
      · exact congrArg (fun r => I.px r _) (show 256 * ((n + 1) + 1) + (r.val - 8) = 256 * ((n + 1) + 1) + r.val - 8 by omega)
      · rw [rd arg2 harg2 x1 hz3]; exact b.x1
      · rw [rd arg3 harg3 x2 hz2]; exact b.x2
      · exact fun k j => (rd_wx arg4 harg4 x3 _ k j).trans (b.wx k j)
  hn i k := by
    rw [runC_hn, View.canon_unit_zero hz2, rd arg2 harg2 x1 hz3, rd arg3 harg3 x2 hz2]
    exact hn3_eq _ x1 x2 b.x1 b.x2 i k
  dtr i h := by
    rw [runC_dtr, View.canon_unit_zero hz2, rd arg2 harg2 x1 hz3, rd arg3 harg3 x2 hz2, rd arg5 harg5 x4 hz2]
    exact pd_eq _ x1 x2 b.x1 b.x2 x4 b.x4 i h
  dttr i h := by
    rw [runC_dttr, View.canon_unit_zero hz2, rd arg2 harg2 x1 hz3, rd arg3 harg3 x2 hz2, rd arg6 harg6 x5 hz2]
    exact pdt_eq _ x1 x2 b.x1 b.x2 x5 b.x5 i h
  st g m e := by
    rw [runC_st]
    exact stL_canon (goodC arg4 harg4 arg7 harg7 arg8 harg8 arg9 harg9 arg10 harg10 arg11 harg11 arg12 harg12 arg13 harg13 arg14 harg14 arg18 harg18 arg20 harg20 arg21 harg21 arg22 harg22 x0 x1 x2 x3 x4 x5 x6 x7 x8 x9 x10 x11 x12 x13 x14 x15 xs0 xs2 xs3 xs4 xs7 xs8 F hn b V) arg23.view _ _ _ (ldC arg23 hn) g m e 8 (by decide) g.isLt
  yp i j := by
    rw [runC_yp, View.canon_unit_zero hz2, pay587_eq]
    exact (rdC_yp _ _ _ i j).trans (yL_canon (goodC arg4 harg4 arg7 harg7 arg8 harg8 arg9 harg9 arg10 harg10 arg11 harg11 arg12 harg12 arg13 harg13 arg14 harg14 arg18 harg18 arg20 harg20 arg21 harg21 arg22 harg22 x0 x1 x2 x3 x4 x5 x6 x7 x8 x9 x10 x11 x12 x13 x14 x15 xs0 xs2 xs3 xs4 xs7 xs8 F hn b V) arg23.view _ _ _ (ldC arg23 hn) rfl i j)
  xp i k := by
    rw [runC_xp, View.canon_unit_zero hz2, pay51_apply, rd arg1 harg1 x0 hz3]
    exact b.x0 i k

/-- The output block: the tile before. -/
theorem outC {I : In} {n : ℕ} {xst : Vec Ideal S8x128x256 .f32} (b : Blk I (n + 1) x0 x1 x2 x3 x4 x5 x6 x7 x8 x9 x10 x11 x12 x13 x14 x15) (V : Inv I n xs0 xs2 xs3 xs4 xst xs7 xs8) (q : Fin 256) (k : Fin 1024) : View.canon (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs7 xs8).1 (ix3 0 q k) = I.out (256 * n + q.val) k := by
  rw [runC_out, View.canon_unit_zero hz3, pay50_apply, rd arg16 harg16 x15 hz2, rd arg25 harg25 xs7 hz2, rd arg15 harg15 x14 hz3, rd arg26 harg26 xs8 hz2]
  unfold In.out
  rw [show (fun k => x15 (ix2 0 k)) = I.fw from funext b.x15]
  refine congrArg (fun u => rms u I.fw k) (funext fun k => ?_)
  unfold In.u
  rw [V.xp]
  congr 1
  exact Finset.sum_congr rfl fun j _ => by rw [V.yp, b.x14]

end

end Cert.Kernel2Ideal.Ssd

end
-- ==== Proof.Ssd.Chain.lean ====
/- The kernel's result array as one function of the arguments: every row is the layer's. -/
module

public import proofs.«01_k».proof.Proof.Ssd.Host
public import proofs.«01_k».proof.Proof.Ssd.StepA
public import proofs.«01_k».proof.Proof.Ssd.StepB
public import proofs.«01_k».proof.Proof.Ssd.StepC

@[expose] public section

set_option maxRecDepth 16384

noncomputable section

namespace Cert.Kernel2Ideal.Ssd

open Cert.Sgu Cert.Ssd Cert.Kernel2Ideal Cert.Kernel2Ideal.Gen Cert.Kernel2Ideal.Facts Cert.Kernel2Ideal.Value Idealize.ShloMosaic
  Idealize.ShloMosaic.TcCoe Idealize.SL.Sem

/-- What is left in the scratch buffers, read back. -/
theorem inv_read {I : In} {n : ℕ} {L0 L2 L3 L4 L5 L7 L8} (h : Inv I n (View.canon L0) (View.canon L2) (View.canon L3) (View.canon L4) (View.canon L5) (View.canon L7) (View.canon L8)) :
    Inv I n (VS0_0.read (Elt Ideal) (VS0_0.writes (Elt Ideal) VS0_0.junk L0)) (VS0_2.read (Elt Ideal) (VS0_2.writes (Elt Ideal) VS0_2.junk L2))
      (VS0_3.read (Elt Ideal) (VS0_3.writes (Elt Ideal) VS0_3.junk L3)) (VS0_4.read (Elt Ideal) (VS0_4.writes (Elt Ideal) VS0_4.junk L4))
      (VS0_5.read (Elt Ideal) (VS0_5.writes (Elt Ideal) VS0_5.junk L5)) (VS0_7.read (Elt Ideal) (VS0_7.writes (Elt Ideal) VS0_7.junk L7))
      (VS0_8.read (Elt Ideal) (VS0_8.writes (Elt Ideal) VS0_8.junk L8)) := by
  simp only [View.read_writes_junk_eq_canon]
  exact h

/-- The parts of a point's outcome. -/
theorem inv_of_eq {I : In} {n : ℕ} {o : Vec Ideal S1x256x1024 .f32 × Vec Ideal S32x264x128 .f32 × Vec Ideal S256x1024 .bf16 × Vec Ideal S256x32 .f32 × Vec Ideal S32x256 .f32 × Vec Ideal S8x128x256 .f32 × Vec Ideal S256x2048 .bf16 × Vec Ideal S256x1024 .f32}
    {x raw hn dtr dttr st yp xp} (h : o = (x, raw, hn, dtr, dttr, st, yp, xp)) (H : Inv I n raw hn dtr dttr st yp xp) :
    Inv I n o.2.1 o.2.2.1 o.2.2.2.1 o.2.2.2.2.1 o.2.2.2.2.2.1 o.2.2.2.2.2.2.1 o.2.2.2.2.2.2.2 := by subst h; exact H
theorem fst_of_eq {o : Vec Ideal S1x256x1024 .f32 × Vec Ideal S32x264x128 .f32 × Vec Ideal S256x1024 .bf16 × Vec Ideal S256x32 .f32 × Vec Ideal S32x256 .f32 × Vec Ideal S8x128x256 .f32 × Vec Ideal S256x2048 .bf16 × Vec Ideal S256x1024 .f32}
    {x y} (h : o = (x, y)) : o.1 = x := by subst h; rfl

section
variable (c : Dev nD) (i : grid0.Coords) (arg1 : Memref sig .tc .vmem S1x256x1024 .f32) (harg1 : arg1.IsWhole) (arg2 : Memref sig .tc .vmem S1x256x1024 .f32) (harg2 : arg2.IsWhole) (arg3 : Memref sig .tc .vmem S1x1024 .f32) (harg3 : arg3.IsWhole) (arg4 : Memref sig .tc .vmem S1x1024x6144 .bf16) (harg4 : arg4.IsWhole) (arg5 : Memref sig .tc .vmem S1024x32 .bf16) (harg5 : arg5.IsWhole) (arg6 : Memref sig .tc .vmem S32x1024 .bf16) (harg6 : arg6.IsWhole) (arg7 : Memref sig .tc .vmem S4x4096 .f32) (harg7 : arg7.IsWhole) (arg8 : Memref sig .tc .vmem S1x4096 .f32) (harg8 : arg8.IsWhole) (arg9 : Memref sig .tc .vmem S1x32 .f32) (harg9 : arg9.IsWhole) (arg10 : Memref sig .tc .vmem S32x1 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048x1024 .bf16) (harg15 : arg15.IsWhole) (arg16 : Memref sig .tc .vmem S1x1024 .f32) (harg16 : arg16.IsWhole) (arg17 : Memref sig .tc .vmem S1x256x1024 .f32) (harg17 : arg17.IsWhole) (arg18 : Memref sig .tc .vmem S32x264x128 .f32) (harg18 : arg18.IsWhole) (arg19 : Memref sig .tc .vmem S32x8x128 .f32) (harg19 : arg19.IsWhole) (arg20 : Memref sig .tc .vmem S256x1024 .bf16) (harg20 : arg20.IsWhole) (arg21 : Memref sig .tc .vmem S256x32 .f32) (harg21 : arg21.IsWhole) (arg22 : Memref sig .tc .vmem S32x256 .f32) (harg22 : arg22.IsWhole) (arg23 : Memref sig .tc .vmem S8x128x256 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x1024 .f32) (harg26 : arg26.IsWhole) (hc0 : cond0_0 i) (hc1 : cond0_1 i)
    (x0 : Vec Ideal S1x256x1024 .f32) (x1 : Vec Ideal S1x256x1024 .f32) (x2 : Vec Ideal S1x1024 .f32) (x3 : Vec Ideal S1x1024x6144 .bf16) (x4 : Vec Ideal S1024x32 .bf16) (x5 : Vec Ideal S32x1024 .bf16) (x6 : Vec Ideal S4x4096 .f32) (x7 : Vec Ideal S1x4096 .f32) (x8 : Vec Ideal S1x32 .f32) (x9 : Vec Ideal S32x1 .f32) (x10 : Vec Ideal S1x32 .f32) (x11 : Vec Ideal S32x1 .f32) (x12 : Vec Ideal S1x2048 .f32) (x13 : Vec Ideal S1x2048 .f32) (x14 : Vec Ideal S1x2048x1024 .bf16) (x15 : Vec Ideal S1x1024 .f32)
/-- What a point of this case leaves in the scratch buffers. -/
theorem leftA {I : In} (F : I.Fin) (b : Blk I 0 x0 x1 x2 x3 x4 x5 x6 x7 x8 x9 x10 x11 x12 x13 x14 x15) : Inv I 0 (sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15) (sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15) (sout0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15) (sout0_A_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15) (sout0_A_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15) (sout0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15) (sout0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15) := by
  unfold sout0_A_0 sout0_A_2 sout0_A_3 sout0_A_4 sout0_A_5 sout0_A_7 sout0_A_8
  exact inv_read (stepA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 F b)
end

section
variable (c : Dev nD) (i : grid0.Coords) (arg1 : Memref sig .tc .vmem S1x256x1024 .f32) (harg1 : arg1.IsWhole) (arg2 : Memref sig .tc .vmem S1x256x1024 .f32) (harg2 : arg2.IsWhole) (arg3 : Memref sig .tc .vmem S1x1024 .f32) (harg3 : arg3.IsWhole) (arg4 : Memref sig .tc .vmem S1x1024x6144 .bf16) (harg4 : arg4.IsWhole) (arg5 : Memref sig .tc .vmem S1024x32 .bf16) (harg5 : arg5.IsWhole) (arg6 : Memref sig .tc .vmem S32x1024 .bf16) (harg6 : arg6.IsWhole) (arg7 : Memref sig .tc .vmem S4x4096 .f32) (harg7 : arg7.IsWhole) (arg8 : Memref sig .tc .vmem S1x4096 .f32) (harg8 : arg8.IsWhole) (arg9 : Memref sig .tc .vmem S1x32 .f32) (harg9 : arg9.IsWhole) (arg10 : Memref sig .tc .vmem S32x1 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048x1024 .bf16) (harg15 : arg15.IsWhole) (arg16 : Memref sig .tc .vmem S1x1024 .f32) (harg16 : arg16.IsWhole) (arg17 : Memref sig .tc .vmem S1x256x1024 .f32) (harg17 : arg17.IsWhole) (arg18 : Memref sig .tc .vmem S32x264x128 .f32) (harg18 : arg18.IsWhole) (arg19 : Memref sig .tc .vmem S32x8x128 .f32) (harg19 : arg19.IsWhole) (arg20 : Memref sig .tc .vmem S256x1024 .bf16) (harg20 : arg20.IsWhole) (arg21 : Memref sig .tc .vmem S256x32 .f32) (harg21 : arg21.IsWhole) (arg22 : Memref sig .tc .vmem S32x256 .f32) (harg22 : arg22.IsWhole) (arg23 : Memref sig .tc .vmem S8x128x256 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x1024 .f32) (harg26 : arg26.IsWhole) (hc0 : ¬cond0_0 i) (hc1 : ¬cond0_1 i)
    (x0 : Vec Ideal S1x256x1024 .f32) (x1 : Vec Ideal S1x256x1024 .f32) (x2 : Vec Ideal S1x1024 .f32) (x3 : Vec Ideal S1x1024x6144 .bf16) (x4 : Vec Ideal S1024x32 .bf16) (x5 : Vec Ideal S32x1024 .bf16) (x6 : Vec Ideal S4x4096 .f32) (x7 : Vec Ideal S1x4096 .f32) (x8 : Vec Ideal S1x32 .f32) (x9 : Vec Ideal S32x1 .f32) (x10 : Vec Ideal S1x32 .f32) (x11 : Vec Ideal S32x1 .f32) (x12 : Vec Ideal S1x2048 .f32) (x13 : Vec Ideal S1x2048 .f32) (x14 : Vec Ideal S1x2048x1024 .bf16) (x15 : Vec Ideal S1x1024 .f32) (xs0 : Vec Ideal S32x264x128 .f32) (xs2 : Vec Ideal S256x1024 .bf16) (xs3 : Vec Ideal S256x32 .f32) (xs4 : Vec Ideal S32x256 .f32) (xs5 : Vec Ideal S8x128x256 .f32) (xs7 : Vec Ideal S256x2048 .bf16) (xs8 : Vec Ideal S256x1024 .f32)
/-- What a point of this case leaves in the scratch buffers. -/
theorem leftB {I : In} (F : I.Fin) {n : ℕ} (hn : ¬(n + 1) % 16 = 0) (b : Blk I (n + 1) x0 x1 x2 x3 x4 x5 x6 x7 x8 x9 x10 x11 x12 x13 x14 x15) (V : Inv I n xs0 xs2 xs3 xs4 xs5 xs7 xs8) : Inv I (n + 1) (sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs5 xs7 xs8) (sout0_B_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs5 xs7 xs8) (sout0_B_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs5 xs7 xs8) (sout0_B_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs5 xs7 xs8) (sout0_B_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs5 xs7 xs8) (sout0_B_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs5 xs7 xs8) (sout0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs5 xs7 xs8) := by
  unfold sout0_B_0 sout0_B_2 sout0_B_3 sout0_B_4 sout0_B_5 sout0_B_7 sout0_B_8
  exact inv_read (stepB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs5 xs7 xs8 F hn b V)
/-- What it leaves in the output block. -/
theorem blockB {I : In} {n : ℕ} (b : Blk I (n + 1) x0 x1 x2 x3 x4 x5 x6 x7 x8 x9 x10 x11 x12 x13 x14 x15) (V : Inv I n xs0 xs2 xs3 xs4 xs5 xs7 xs8) (q : Fin 256) (k : Fin 1024) :
    out0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs5 xs7 xs8 (ix3 0 q k) = I.out (256 * n + q.val) k := by
  unfold out0_B_16
  exact (congrFun (View.read_writes_junk_eq_canon VO0_16 _) _).trans (outB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs5 xs7 xs8 b V q k)
end

section
variable (c : Dev nD) (i : grid0.Coords) (arg1 : Memref sig .tc .vmem S1x256x1024 .f32) (harg1 : arg1.IsWhole) (arg2 : Memref sig .tc .vmem S1x256x1024 .f32) (harg2 : arg2.IsWhole) (arg3 : Memref sig .tc .vmem S1x1024 .f32) (harg3 : arg3.IsWhole) (arg4 : Memref sig .tc .vmem S1x1024x6144 .bf16) (harg4 : arg4.IsWhole) (arg5 : Memref sig .tc .vmem S1024x32 .bf16) (harg5 : arg5.IsWhole) (arg6 : Memref sig .tc .vmem S32x1024 .bf16) (harg6 : arg6.IsWhole) (arg7 : Memref sig .tc .vmem S4x4096 .f32) (harg7 : arg7.IsWhole) (arg8 : Memref sig .tc .vmem S1x4096 .f32) (harg8 : arg8.IsWhole) (arg9 : Memref sig .tc .vmem S1x32 .f32) (harg9 : arg9.IsWhole) (arg10 : Memref sig .tc .vmem S32x1 .f32) (harg10 : arg10.IsWhole) (arg11 : Memref sig .tc .vmem S1x32 .f32) (harg11 : arg11.IsWhole) (arg12 : Memref sig .tc .vmem S32x1 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048x1024 .bf16) (harg15 : arg15.IsWhole) (arg16 : Memref sig .tc .vmem S1x1024 .f32) (harg16 : arg16.IsWhole) (arg17 : Memref sig .tc .vmem S1x256x1024 .f32) (harg17 : arg17.IsWhole) (arg18 : Memref sig .tc .vmem S32x264x128 .f32) (harg18 : arg18.IsWhole) (arg19 : Memref sig .tc .vmem S32x8x128 .f32) (harg19 : arg19.IsWhole) (arg20 : Memref sig .tc .vmem S256x1024 .bf16) (harg20 : arg20.IsWhole) (arg21 : Memref sig .tc .vmem S256x32 .f32) (harg21 : arg21.IsWhole) (arg22 : Memref sig .tc .vmem S32x256 .f32) (harg22 : arg22.IsWhole) (arg23 : Memref sig .tc .vmem S8x128x256 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x1024 .f32) (harg26 : arg26.IsWhole) (hc0 : ¬cond0_0 i) (hc1 : cond0_1 i)
    (x0 : Vec Ideal S1x256x1024 .f32) (x1 : Vec Ideal S1x256x1024 .f32) (x2 : Vec Ideal S1x1024 .f32) (x3 : Vec Ideal S1x1024x6144 .bf16) (x4 : Vec Ideal S1024x32 .bf16) (x5 : Vec Ideal S32x1024 .bf16) (x6 : Vec Ideal S4x4096 .f32) (x7 : Vec Ideal S1x4096 .f32) (x8 : Vec Ideal S1x32 .f32) (x9 : Vec Ideal S32x1 .f32) (x10 : Vec Ideal S1x32 .f32) (x11 : Vec Ideal S32x1 .f32) (x12 : Vec Ideal S1x2048 .f32) (x13 : Vec Ideal S1x2048 .f32) (x14 : Vec Ideal S1x2048x1024 .bf16) (x15 : Vec Ideal S1x1024 .f32) (xs0 : Vec Ideal S32x264x128 .f32) (xs2 : Vec Ideal S256x1024 .bf16) (xs3 : Vec Ideal S256x32 .f32) (xs4 : Vec Ideal S32x256 .f32) (xs7 : Vec Ideal S256x2048 .bf16) (xs8 : Vec Ideal S256x1024 .f32)
/-- What a point of this case leaves in the scratch buffers. -/
theorem leftC {I : In} (F : I.Fin) {n : ℕ} {xst : Vec Ideal S8x128x256 .f32} (hn : (n + 1) % 16 = 0) (b : Blk I (n + 1) x0 x1 x2 x3 x4 x5 x6 x7 x8 x9 x10 x11 x12 x13 x14 x15) (V : Inv I n xs0 xs2 xs3 xs4 xst xs7 xs8) : Inv I (n + 1) (sout0_C_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs7 xs8) (sout0_C_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs7 xs8) (sout0_C_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs7 xs8) (sout0_C_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs7 xs8) (sout0_C_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs7 xs8) (sout0_C_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs7 xs8) (sout0_C_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs7 xs8) := by
  unfold sout0_C_0 sout0_C_2 sout0_C_3 sout0_C_4 sout0_C_5 sout0_C_7 sout0_C_8
  exact inv_read (stepC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs7 xs8 F hn b V)
/-- What it leaves in the output block. -/
theorem blockC {I : In} {n : ℕ} {xst : Vec Ideal S8x128x256 .f32} (b : Blk I (n + 1) x0 x1 x2 x3 x4 x5 x6 x7 x8 x9 x10 x11 x12 x13 x14 x15) (V : Inv I n xs0 xs2 xs3 xs4 xst xs7 xs8) (q : Fin 256) (k : Fin 1024) :
    out0_C_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs7 xs8 (ix3 0 q k) = I.out (256 * n + q.val) k := by
  unfold out0_C_16
  exact (congrFun (View.read_writes_junk_eq_canon VO0_16 _) _).trans (outC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs2 xs3 xs4 xs7 xs8 b V q k)
end

variable (m : (ℓ : Loc nD τ sig) → Buf (Elt Ideal) ℓ) (ρ : Dev nD → PrngReg)

/-- What a point leaves, as the invariant. -/
abbrev InvAt (c : Dev nD) (k n : ℕ) (hn : n < cfg0.N) : Prop :=
  Inv (inK m c) k (outsAt0 m c n hn).2.1 (outsAt0 m c n hn).2.2.1 (outsAt0 m c n hn).2.2.2.1 (outsAt0 m c n hn).2.2.2.2.1 (outsAt0 m c n hn).2.2.2.2.2.1
    (outsAt0 m c n hn).2.2.2.2.2.2.1 (outsAt0 m c n hn).2.2.2.2.2.2.2

/-- The first point. -/
theorem inv_A (c : Dev nD) (F : (inK m c).Fin) (t : Fin cfg0.N) (ht : t.val = 0) : InvAt m c 0 t.val t.isLt := by
  have h0 : t.val % 129 = 0 := by omega
  have h1 : t.val % 16 = 0 := by omega
  have b := blk m c t
  rw [ht] at b
  exact inv_of_eq (outsAt0_A m c t h0 h1) (leftA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) ((hcond0_1 t).mpr h1) (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) F b)

/-- A point that continues a sequence. -/
theorem inv_B (c : Dev nD) (F : (inK m c).Fin) (t : Fin cfg0.N) (n : ℕ) (ht : t.val = n + 1) (h0 : ¬t.val % 129 = 0) (h1 : ¬t.val % 16 = 0)
    (V : InvAt m c n (t.val - 1) (Nat.lt_of_le_of_lt (Nat.sub_le _ _) t.isLt)) : InvAt m c (n + 1) t.val t.isLt := by
  have b := blk m c t
  rw [ht] at b
  have h2 := h1
  rw [ht] at h2
  exact inv_of_eq (outsAt0_B m c t h0 h1) (leftB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 F h2 b V)
/-- Its output block. -/
theorem out_B (c : Dev nD) (t : Fin cfg0.N) (n : ℕ) (ht : t.val = n + 1) (h0 : ¬t.val % 129 = 0) (h1 : ¬t.val % 16 = 0)
    (V : InvAt m c n (t.val - 1) (Nat.lt_of_le_of_lt (Nat.sub_le _ _) t.isLt)) (q : Fin 256) (k : Fin 1024) :
    (outsAt0 m c t.val t.isLt).1 (ix3 0 q k) = (inK m c).out (256 * n + q.val) k := by
  have b := blk m c t
  rw [ht] at b
  exact (congrFun (fst_of_eq (outsAt0_B m c t h0 h1)) _).trans (blockB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 b V q k)

/-- A point that starts a sequence. -/
theorem inv_C (c : Dev nD) (F : (inK m c).Fin) (t : Fin cfg0.N) (n : ℕ) (ht : t.val = n + 1) (h0 : ¬t.val % 129 = 0) (h1 : t.val % 16 = 0)
    (V : InvAt m c n (t.val - 1) (Nat.lt_of_le_of_lt (Nat.sub_le _ _) t.isLt)) : InvAt m c (n + 1) t.val t.isLt := by
  have b := blk m c t
  rw [ht] at b
  have h2 := h1
  rw [ht] at h2
  exact inv_of_eq (outsAt0_C m c t h0 h1) (leftC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 F h2 b V)
/-- Its output block. -/
theorem out_C (c : Dev nD) (t : Fin cfg0.N) (n : ℕ) (ht : t.val = n + 1) (h0 : ¬t.val % 129 = 0) (h1 : t.val % 16 = 0)
    (V : InvAt m c n (t.val - 1) (Nat.lt_of_le_of_lt (Nat.sub_le _ _) t.isLt)) (q : Fin 256) (k : Fin 1024) :
    (outsAt0 m c t.val t.isLt).1 (ix3 0 q k) = (inK m c).out (256 * n + q.val) k := by
  have b := blk m c t
  rw [ht] at b
  exact (congrFun (fst_of_eq (outsAt0_C m c t h0 h1)) _).trans (blockC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 b V q k)

/-- What every point leaves. -/
theorem inv (c : Dev nD) (F : (inK m c).Fin) : (n : ℕ) → (hn : n < cfg0.N) → InvAt m c n n hn
  | 0, hn => inv_A m c F ⟨0, hn⟩ rfl
  | n + 1, hn => by
    have hN : n + 1 < 129 := hn
    by_cases h1 : (n + 1) % 16 = 0
    · exact inv_C m c F ⟨n + 1, hn⟩ n rfl (show ¬(n + 1) % 129 = 0 by omega) h1 (inv c F n (Nat.lt_of_succ_lt hn))
    · exact inv_B m c F ⟨n + 1, hn⟩ n rfl (show ¬(n + 1) % 129 = 0 by omega) h1 (inv c F n (Nat.lt_of_succ_lt hn))

/-- The output block of every point after the first. -/
theorem out (c : Dev nD) (F : (inK m c).Fin) (n : ℕ) (hn : n + 1 < cfg0.N) (q : Fin 256) (k : Fin 1024) :
    (outsAt0 m c (n + 1) hn).1 (ix3 0 q k) = (inK m c).out (256 * n + q.val) k := by
  have hN : n + 1 < 129 := hn
  by_cases h1 : (n + 1) % 16 = 0
  · exact out_C m c ⟨n + 1, hn⟩ n rfl (show ¬(n + 1) % 129 = 0 by omega) h1 (inv m c F n (Nat.lt_of_succ_lt hn)) q k
  · exact out_B m c ⟨n + 1, hn⟩ n rfl (show ¬(n + 1) % 129 = 0 by omega) h1 (inv m c F n (Nat.lt_of_succ_lt hn)) q k

/-- The result, of the arguments as launched. -/
abbrev G (c : Dev nD) : Vec Ideal S8x4096x1024 .f32 := res (inK m c)

/-- The first point writes nothing back. -/
theorem flush_zero : ∀ t : Fin cfg0.N, (cfg0.win 16).flush t = true → t.val ≠ 0 := (by decide +kernel : ∀ t : Fin grid0.N, _)
theorem flush_pos : ∀ t : Fin cfg0.N, t.val ≠ 0 → (cfg0.win 16).flush t = true := (by decide +kernel : ∀ t : Fin grid0.N, _)

theorem idx_block (y : S1x256x1024.Idx) : ∃ (r : Fin 256) (j : Fin 1024), y = ix3 0 r j := by
  refine ⟨y 1, y 2, (eq_ix3 y).trans (congrArg (fun a => ix3 a (y 1) (y 2)) (Fin.ext ?_))⟩
  have h : (y 0).val < 1 := (y 0).isLt
  exact Nat.lt_one_iff.mp h

/-- What a point writes back is its block of the result. -/
theorem flushed_eq (c : Dev nD) (F : (inK m c).Fin) (t : Fin cfg0.N) (ht : t.val ≠ 0) :
    (dats m 0 c).flushed 16 t = ((cfg0.win 16).blk t).view.read (Elt Ideal) (G m c) := by
  rw [flushed16]
  obtain ⟨n, hn⟩ := t
  cases n with
  | zero => exact absurd rfl ht
  | succ n =>
    have hN : n + 1 < 129 := hn
    funext y
    obtain ⟨r, j, rfl⟩ := idx_block y
    show (outsAt0 m c (n + 1) hn).1 (ix3 0 r j) = G m c (((cfg0.win 16).blk ⟨n + 1, hn⟩).view.emb (ix3 0 r j))
    refine Eq.trans ?_ (congrArg (G m c) (emb16 ⟨n + 1, hn⟩ r j).symm)
    refine (out m c F n hn r j).trans ?_
    have hr := r.isLt
    exact congrArg (fun r => (inK m c).out r j) (show 256 * n + r.val = 4096 * ((n + 1 - 1) / 16) + ((n + 1 - 1) % 16 * 256 + r.val) by omega)

/-- Every index of the result is in some point's block. -/
theorem covered (i : S8x4096x1024.Idx) : ∃ t : Fin cfg0.N, (cfg0.win 16).flush t = true ∧ i ∈ ((cfg0.win 16).blk t).view.set := by
  have h0 : (i 0).val < 8 := (i 0).isLt
  have h1 : (i 1).val < 4096 := (i 1).isLt
  let t : Fin cfg0.N := ⟨(i 0).val * 16 + (i 1).val / 256 + 1, by show _ < 129; omega⟩
  refine ⟨t, flush_pos t (Nat.succ_ne_zero _), ?_⟩
  have e : ((cfg0.win 16).blk t).view.emb (ix3 0 ⟨(i 1).val % 256, Nat.mod_lt _ (by norm_num)⟩ (i 2) : S1x256x1024.Idx) = i := by
    refine (emb16 t _ _).trans ?_
    exact ext3 (show ((i 0).val * 16 + (i 1).val / 256 + 1 - 1) / 16 = (i 0).val by omega)
      (show ((i 0).val * 16 + (i 1).val / 256 + 1 - 1) % 16 * 256 + (i 1).val % 256 = (i 1).val by omega) rfl
  exact e ▸ ((cfg0.win 16).blk t).view.emb_mem_set (ix3 0 ⟨(i 1).val % 256, Nat.mod_lt _ (by norm_num)⟩ (i 2) : S1x256x1024.Idx)

/-- The result array after the run. -/
theorem final (c : Dev nD) (F : (inK m c).Fin) : (dats m 0 c).arrAt 16 cfg0.N = G m c :=
  (dats m 0 c).arrAt_eq_of_cover 16 (G m c) (fun t h => flushed_eq m c F t (flush_zero t h)) covered

end Cert.Kernel2Ideal.Ssd

end
-- ==== Proof.Ssd.RefDefs.lean ====
/- The reference's named intermediate arrays, each as a function of the arrays it is computed from. -/
module

public import proofs.«01_k».proof.Proof.Gen.Reference2Ideal.Run
public import proofs.«01_k».proof.Proof.Ssd.Args

@[expose] public section

set_option maxRecDepth 16384

noncomputable section

namespace Cert.Reference2Ideal.Ssd

open Cert.Reference2Ideal Cert.Reference2Ideal.Gen Cert.Reference2Ideal.Facts Cert.Reference2Ideal.Value Idealize.ShloMosaic
  Idealize.ShloMosaic.StableHlo Idealize.SL.Sem

variable {F : FTy → Type} [FloatOps F]

/-- What `main_v14` holds, from the buffers it is computed from. -/
def t_v14 (x_arg0 : (⟨S8x4096x1024, .f32⟩ : BufTy).Contents (Elt F)) (x_arg1 : (⟨S4x1024, .f32⟩ : BufTy).Contents (Elt F)) : (⟨S8x4096x1024, .f32⟩ : BufTy).Contents (Elt F) :=
  (mulf (mulf x_arg0 (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x_arg0 x_arg0) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast S1024 (extractStridedSlice S1x1024 ![3, 0] x_arg1 slices_S4x1024_S1x1024_3_0) shapeCasts_S1x1024_S1024))))

/-- What `main_v18` holds, from the buffers it is computed from. -/
def t_v18 (x_arg4 : (⟨S2x4x4096, .f32⟩ : BufTy).Contents (Elt F)) : (⟨S4x4096, .f32⟩ : BufTy).Contents (Elt F) :=
  (shapeCast S4x4096 (extractStridedSlice S1x4x4096 ![1, 0, 0] x_arg4 slices_S2x4x4096_S1x4x4096_1_0_0) shapeCasts_S1x4x4096_S4x4096)

/-- What `main_v20` holds, from the buffers it is computed from. -/
def t_v20 (x_arg5 : (⟨S2x4096, .f32⟩ : BufTy).Contents (Elt F)) : (⟨S4096, .f32⟩ : BufTy).Contents (Elt F) :=
  (shapeCast S4096 (extractStridedSlice S1x4096 ![1, 0] x_arg5 slices_S2x4096_S1x4096_1_0) shapeCasts_S1x4096_S4096)

/-- What `main_v22` holds, from the buffers it is computed from. -/
def t_v22 (x_arg6 : (⟨S2x32, .f32⟩ : BufTy).Contents (Elt F)) : (⟨S32, .f32⟩ : BufTy).Contents (Elt F) :=
  (shapeCast S32 (extractStridedSlice S1x32 ![1, 0] x_arg6 slices_S2x32_S1x32_1_0) shapeCasts_S1x32_S32)

/-- What `main_v24` holds, from the buffers it is computed from. -/
def t_v24 (x_arg7 : (⟨S2x32, .f32⟩ : BufTy).Contents (Elt F)) : (⟨S32, .f32⟩ : BufTy).Contents (Elt F) :=
  (shapeCast S32 (extractStridedSlice S1x32 ![1, 0] x_arg7 slices_S2x32_S1x32_1_0) shapeCasts_S1x32_S32)

/-- What `main_v26` holds, from the buffers it is computed from. -/
def t_v26 (x_arg8 : (⟨S2x32, .f32⟩ : BufTy).Contents (Elt F)) : (⟨S32, .f32⟩ : BufTy).Contents (Elt F) :=
  (shapeCast S32 (extractStridedSlice S1x32 ![1, 0] x_arg8 slices_S2x32_S1x32_1_0) shapeCasts_S1x32_S32)

/-- What `main_v28` holds, from the buffers it is computed from. -/
def t_v28 (x_arg9 : (⟨S2x2048, .f32⟩ : BufTy).Contents (Elt F)) : (⟨S2048, .f32⟩ : BufTy).Contents (Elt F) :=
  (shapeCast S2048 (extractStridedSlice S1x2048 ![1, 0] x_arg9 slices_S2x2048_S1x2048_1_0) shapeCasts_S1x2048_S2048)

/-- What `main_v30` holds, from the buffers it is computed from. -/
def t_v30 (x_arg10 : (⟨S2x2048x1024, .f32⟩ : BufTy).Contents (Elt F)) : (⟨S2048x1024, .f32⟩ : BufTy).Contents (Elt F) :=
  (shapeCast S2048x1024 (extractStridedSlice S1x2048x1024 ![1, 0, 0] x_arg10 slices_S2x2048x1024_S1x2048x1024_1_0_0) shapeCasts_S1x2048x1024_S2048x1024)

/-- What `main_v31` holds, from the buffers it is computed from. -/
def t_v31 (x_v14 : (⟨S8x4096x1024, .f32⟩ : BufTy).Contents (Elt F)) (x_arg3 : (⟨S2x1024x6176, .f32⟩ : BufTy).Contents (Elt F)) : (⟨S8x4096x6176, .f32⟩ : BufTy).Contents (Elt F) :=
  (Host.dotGeneral dot_S8x4096x1024_S1024x6176_S8x4096x6176_2_0_01_1_n_n none x_v14 (shapeCast S1024x6176 (extractStridedSlice S1x1024x6176 ![1, 0, 0] x_arg3 slices_S2x1024x6176_S1x1024x6176_1_0_0) shapeCasts_S1x1024x6176_S1024x6176))

/-- What `main_v32` holds, from the buffers it is computed from. -/
def t_v32 (x_v31 : (⟨S8x4096x6176, .f32⟩ : BufTy).Contents (Elt F)) : (⟨S8x4096x2048, .f32⟩ : BufTy).Contents (Elt F) :=
  (extractStridedSlice S8x4096x2048 ![0, 0, 0] x_v31 slices_S8x4096x6176_S8x4096x2048_0_0_0)

/-- What `main_v33` holds, from the buffers it is computed from. -/
def t_v33 (x_v31 : (⟨S8x4096x6176, .f32⟩ : BufTy).Contents (Elt F)) : (⟨S8x4096x4096, .f32⟩ : BufTy).Contents (Elt F) :=
  (extractStridedSlice S8x4096x4096 ![0, 0, 2048] x_v31 slices_S8x4096x6176_S8x4096x4096_0_0_2048)

/-- What `main_v34` holds, from the buffers it is computed from. -/
def t_v34 (x_v31 : (⟨S8x4096x6176, .f32⟩ : BufTy).Contents (Elt F)) : (⟨S8x4096x32, .f32⟩ : BufTy).Contents (Elt F) :=
  (extractStridedSlice S8x4096x32 ![0, 0, 6144] x_v31 slices_S8x4096x6176_S8x4096x32_0_0_6144)

/-- What `main_c` holds, from the buffers it is computed from. -/
def t_c  : (⟨S_, .i32⟩ : BufTy).Contents (Elt F) :=
  (constantI S_ 32 0#32)

/-- What `main_v35` holds, from the buffers it is computed from. -/
def t_v35 (x_v33 : (⟨S8x4096x4096, .f32⟩ : BufTy).Contents (Elt F)) (x_c : (⟨S_, .i32⟩ : BufTy).Contents (Elt F)) : (⟨S8x4099x4096, .f32⟩ : BufTy).Contents (Elt F) :=
  (pad S8x4099x4096 ![0, 3, 0] ![0, 0, 0] ![0, 0, 0] x_v33 (sitofp .f32 x_c) pads_S8x4096x4096_S8x4099x4096_000_300_000 h_S_)

/-- What `main_v67` holds, from the buffers it is computed from. -/
def t_v67 (x_v35 : (⟨S8x4099x4096, .f32⟩ : BufTy).Contents (Elt F)) (x_v18 : (⟨S4x4096, .f32⟩ : BufTy).Contents (Elt F)) (x_v20 : (⟨S4096, .f32⟩ : BufTy).Contents (Elt F)) : (⟨S8x4096x4096, .f32⟩ : BufTy).Contents (Elt F) :=
  (addf (addf (addf (addf (addf (broadcastInDim S8x4096x4096 ![] bcast_S_S8x4096x4096 (constant S_ .f32 0x00000000#32)) (mulf (extractStridedSlice S8x4096x4096 ![0, 0, 0] x_v35 slices_S8x4099x4096_S8x4096x4096_0_0_0) (broadcastInDim S8x4096x4096 ![0, 1, 2] bcast_S1x1x4096_S8x4096x4096_0_1_2 (broadcastInDim S1x1x4096 ![2] bcast_S4096_S1x1x4096_2 (shapeCast S4096 (extractStridedSlice S1x4096 ![0, 0] x_v18 slices_S4x4096_S1x4096_0_0) shapeCasts_S1x4096_S4096))))) (mulf (extractStridedSlice S8x4096x4096 ![0, 1, 0] x_v35 slices_S8x4099x4096_S8x4096x4096_0_1_0) (broadcastInDim S8x4096x4096 ![0, 1, 2] bcast_S1x1x4096_S8x4096x4096_0_1_2 (broadcastInDim S1x1x4096 ![2] bcast_S4096_S1x1x4096_2 (shapeCast S4096 (extractStridedSlice S1x4096 ![1, 0] x_v18 slices_S4x4096_S1x4096_1_0) shapeCasts_S1x4096_S4096))))) (mulf (extractStridedSlice S8x4096x4096 ![0, 2, 0] x_v35 slices_S8x4099x4096_S8x4096x4096_0_2_0) (broadcastInDim S8x4096x4096 ![0, 1, 2] bcast_S1x1x4096_S8x4096x4096_0_1_2 (broadcastInDim S1x1x4096 ![2] bcast_S4096_S1x1x4096_2 (shapeCast S4096 (extractStridedSlice S1x4096 ![2, 0] x_v18 slices_S4x4096_S1x4096_2_0) shapeCasts_S1x4096_S4096))))) (mulf (extractStridedSlice S8x4096x4096 ![0, 3, 0] x_v35 slices_S8x4099x4096_S8x4096x4096_0_3_0) (broadcastInDim S8x4096x4096 ![0, 1, 2] bcast_S1x1x4096_S8x4096x4096_0_1_2 (broadcastInDim S1x1x4096 ![2] bcast_S4096_S1x1x4096_2 (shapeCast S4096 (extractStridedSlice S1x4096 ![3, 0] x_v18 slices_S4x4096_S1x4096_3_0) shapeCasts_S1x4096_S4096))))) (broadcastInDim S8x4096x4096 ![0, 1, 2] bcast_S1x1x4096_S8x4096x4096_0_1_2 (broadcastInDim S1x1x4096 ![2] bcast_S4096_S1x1x4096_2 x_v20)))

/-- What `main_v68` holds, from the buffers it is computed from. -/
def t_v68 (x_v67 : (⟨S8x4096x4096, .f32⟩ : BufTy).Contents (Elt F)) : (⟨S8x4096x4096, .f32⟩ : BufTy).Contents (Elt F) :=
  (mulf x_v67 (Host.divf (broadcastInDim S8x4096x4096 ![] bcast_S_S8x4096x4096 (constant S_ .f32 0x3F800000#32)) (addf (broadcastInDim S8x4096x4096 ![] bcast_S_S8x4096x4096 (constant S_ .f32 0x3F800000#32)) (Host.exp (Host.negf x_v67)))))

/-- What `main_v70` holds, from the buffers it is computed from. -/
def t_v70 (x_v68 : (⟨S8x4096x4096, .f32⟩ : BufTy).Contents (Elt F)) : (⟨S8x32x128x8x4x64, .f32⟩ : BufTy).Contents (Elt F) :=
  (shapeCast S8x32x128x8x4x64 (extractStridedSlice S8x4096x2048 ![0, 0, 0] x_v68 slices_S8x4096x4096_S8x4096x2048_0_0_0) shapeCasts_S8x4096x2048_S8x32x128x8x4x64)

/-- What `main_v72` holds, from the buffers it is computed from. -/
def t_v72 (x_v68 : (⟨S8x4096x4096, .f32⟩ : BufTy).Contents (Elt F)) : (⟨S8x32x128x8x128, .f32⟩ : BufTy).Contents (Elt F) :=
  (shapeCast S8x32x128x8x128 (extractStridedSlice S8x4096x1024 ![0, 0, 2048] x_v68 slices_S8x4096x4096_S8x4096x1024_0_0_2048) shapeCasts_S8x4096x1024_S8x32x128x8x128)

/-- What `main_v74` holds, from the buffers it is computed from. -/
def t_v74 (x_v68 : (⟨S8x4096x4096, .f32⟩ : BufTy).Contents (Elt F)) : (⟨S8x32x128x8x128, .f32⟩ : BufTy).Contents (Elt F) :=
  (shapeCast S8x32x128x8x128 (extractStridedSlice S8x4096x1024 ![0, 0, 3072] x_v68 slices_S8x4096x4096_S8x4096x1024_0_0_3072) shapeCasts_S8x4096x1024_S8x32x128x8x128)

/-- What `main_v77` holds, from the buffers it is computed from. -/
def t_v77 (x_v34 : (⟨S8x4096x32, .f32⟩ : BufTy).Contents (Elt F)) (x_v22 : (⟨S32, .f32⟩ : BufTy).Contents (Elt F)) : (⟨S8x4096x32, .f32⟩ : BufTy).Contents (Elt F) :=
  (addf x_v34 (broadcastInDim S8x4096x32 ![0, 1, 2] bcast_S1x1x32_S8x4096x32_0_1_2 (broadcastInDim S1x1x32 ![2] bcast_S32_S1x1x32_2 x_v22)))

/-- What `main_v78` holds, from the buffers it is computed from. -/
def t_v78 (x_v77 : (⟨S8x4096x32, .f32⟩ : BufTy).Contents (Elt F)) : (⟨S8x4096x32, .f32⟩ : BufTy).Contents (Elt F) :=
  (select (cmpf .une (subf x_v77 (broadcastInDim S8x4096x32 ![] bcast_S_S8x4096x32 (constant S_ .f32 0x00000000#32))) (subf x_v77 (broadcastInDim S8x4096x32 ![] bcast_S_S8x4096x32 (constant S_ .f32 0x00000000#32)))) (addf x_v77 (broadcastInDim S8x4096x32 ![] bcast_S_S8x4096x32 (constant S_ .f32 0x00000000#32))) (addf (maximumf x_v77 (broadcastInDim S8x4096x32 ![] bcast_S_S8x4096x32 (constant S_ .f32 0x00000000#32))) (Host.log1p (Host.exp (Host.negf (Host.absf (subf x_v77 (broadcastInDim S8x4096x32 ![] bcast_S_S8x4096x32 (constant S_ .f32 0x00000000#32)))))))))

/-- What `main_v79` holds, from the buffers it is computed from. -/
def t_v79 (x_v78 : (⟨S8x4096x32, .f32⟩ : BufTy).Contents (Elt F)) : (⟨S8x32x128x8x4, .f32⟩ : BufTy).Contents (Elt F) :=
  (shapeCast S8x32x128x8x4 x_v78 shapeCasts_S8x4096x32_S8x32x128x8x4)

/-- What `main_v85` holds, from the buffers it is computed from. -/
def t_v85 (x_v79 : (⟨S8x32x128x8x4, .f32⟩ : BufTy).Contents (Elt F)) (x_v24 : (⟨S32, .f32⟩ : BufTy).Contents (Elt F)) : (⟨S8x32x128x8x4, .f32⟩ : BufTy).Contents (Elt F) :=
  (mulf x_v79 (broadcastInDim S8x32x128x8x4 ![0, 1, 2, 3, 4] bcast_S1x1x1x8x4_S8x32x128x8x4_0_1_2_3_4 (broadcastInDim S1x1x1x8x4 ![3, 4] bcast_S8x4_S1x1x1x8x4_3_4 (Host.negf (shapeCast S8x4 (Host.exp x_v24) shapeCasts_S32_S8x4)))))

/-- What `main_v86` holds, from the buffers it is computed from. -/
def t_v86 (x_v85 : (⟨S8x32x128x8x4, .f32⟩ : BufTy).Contents (Elt F)) : (⟨S8x32x128x8x4, .f32⟩ : BufTy).Contents (Elt F) :=
  (Host.reduceWindowAdd ![1, 1, 128, 1, 1] ![1, 1, 1, 1, 1] ![0, 0, 127, 0, 0] ![0, 0, 0, 0, 0] x_v85 (broadcastInDim S_ ![] bcast_S_S_ (constant S_ .f32 0x00000000#32)) reduceWindows_S8x32x128x8x4_S8x32x128x8x4_w1s1p0_0_w1s1p0_0_w128s1p127_0_w1s1p0_0_w1s1p0_0 h_S_)

/-- What `main_v91` holds, from the buffers it is computed from. -/
def t_v91 (x_v86 : (⟨S8x32x128x8x4, .f32⟩ : BufTy).Contents (Elt F)) : (⟨S8x32x128x128x8x4, .f32⟩ : BufTy).Contents (Elt F) :=
  (subf (broadcastInDim S8x32x128x128x8x4 ![0, 1, 2, 3, 4, 5] bcast_S8x32x128x1x8x4_S8x32x128x128x8x4_0_1_2_3_4_5 (broadcastInDim S8x32x128x1x8x4 ![0, 1, 2, 4, 5] bcast_S8x32x128x8x4_S8x32x128x1x8x4_0_1_2_4_5 x_v86)) (broadcastInDim S8x32x128x128x8x4 ![0, 1, 2, 3, 4, 5] bcast_S8x32x1x128x8x4_S8x32x128x128x8x4_0_1_2_3_4_5 (broadcastInDim S8x32x1x128x8x4 ![0, 1, 3, 4, 5] bcast_S8x32x128x8x4_S8x32x1x128x8x4_0_1_3_4_5 x_v86)))

/-- What `main_v92` holds, from the buffers it is computed from. -/
def t_v92  : (⟨S128x128, .i1⟩ : BufTy).Contents (Elt F) :=
  (broadcastInDim S128x128 ![] bcast_S_S128x128 (constantI S_ 1 1#1))

/-- What `main_v93` holds, from the buffers it is computed from. -/
def t_v93 (x_v92 : (⟨S128x128, .i1⟩ : BufTy).Contents (Elt F)) : (⟨S128x128, .i1⟩ : BufTy).Contents (Elt F) :=
  (select (cmpi .sge (addi (iotaInDim S128x128 32 0) (broadcastInDim S128x128 ![] bcast_S_S128x128 (constantI S_ 32 0#32))) (iotaInDim S128x128 32 1)) x_v92 (broadcastInDim S128x128 ![] bcast_S_S128x128 (constantI S_ 1 0#1)))

/-- What `main_v94` holds, from the buffers it is computed from. -/
def t_v94 (x_v93 : (⟨S128x128, .i1⟩ : BufTy).Contents (Elt F)) : (⟨S128x128x1x1, .i1⟩ : BufTy).Contents (Elt F) :=
  (broadcastInDim S128x128x1x1 ![0, 1] bcast_S128x128_S128x128x1x1_0_1 x_v93)

/-- What `main_cst_4` holds, from the buffers it is computed from. -/
def t_cst_4  : (⟨S_, .f32⟩ : BufTy).Contents (Elt F) :=
  (constant S_ .f32 0xFF800000#32)

/-- What `main_v95` holds, from the buffers it is computed from. -/
def t_v95 (x_v94 : (⟨S128x128x1x1, .i1⟩ : BufTy).Contents (Elt F)) (x_v91 : (⟨S8x32x128x128x8x4, .f32⟩ : BufTy).Contents (Elt F)) (x_cst_4 : (⟨S_, .f32⟩ : BufTy).Contents (Elt F)) : (⟨S8x32x128x128x8x4, .f32⟩ : BufTy).Contents (Elt F) :=
  (select (broadcastInDim S8x32x128x128x8x4 ![2, 3, 4, 5] bcast_S128x128x1x1_S8x32x128x128x8x4_2_3_4_5 x_v94) x_v91 (broadcastInDim S8x32x128x128x8x4 ![] bcast_S_S8x32x128x128x8x4 (id x_cst_4)))

/-- What `main_v96` holds, from the buffers it is computed from. -/
def t_v96 (x_v95 : (⟨S8x32x128x128x8x4, .f32⟩ : BufTy).Contents (Elt F)) : (⟨S8x32x128x128x8x4, .f32⟩ : BufTy).Contents (Elt F) :=
  (Host.exp x_v95)

/-- What `main_v104` holds, from the buffers it is computed from. -/
def t_v104 (x_v72 : (⟨S8x32x128x8x128, .f32⟩ : BufTy).Contents (Elt F)) (x_v74 : (⟨S8x32x128x8x128, .f32⟩ : BufTy).Contents (Elt F)) (x_v96 : (⟨S8x32x128x128x8x4, .f32⟩ : BufTy).Contents (Elt F)) (x_v79 : (⟨S8x32x128x8x4, .f32⟩ : BufTy).Contents (Elt F)) : (⟨S8x32x128x128x8x4, .f32⟩ : BufTy).Contents (Elt F) :=
  (mulf (mulf (broadcastInDim S8x32x128x128x8x4 ![0, 1, 2, 3, 4, 5] bcast_S8x32x128x128x8x1_S8x32x128x128x8x4_0_1_2_3_4_5 (broadcastInDim S8x32x128x128x8x1 ![0, 1, 2, 3, 4] bcast_S8x32x128x128x8_S8x32x128x128x8x1_0_1_2_3_4 (transpose S8x32x128x128x8 [0, 1, 4, 3, 2] (Host.dotGeneral dot_S8x32x128x8x128_S8x32x128x8x128_S8x32x8x128x128_4_4_2_2_013_013 none x_v72 x_v74) transposes_S8x32x8x128x128_S8x32x128x128x8_0_1_4_3_2))) x_v96) (broadcastInDim S8x32x128x128x8x4 ![0, 1, 2, 3, 4, 5] bcast_S8x32x1x128x8x4_S8x32x128x128x8x4_0_1_2_3_4_5 (broadcastInDim S8x32x1x128x8x4 ![0, 1, 3, 4, 5] bcast_S8x32x128x8x4_S8x32x1x128x8x4_0_1_3_4_5 x_v79)))

/-- What `main_v105` holds, from the buffers it is computed from. -/
def t_v105 (x_v70 : (⟨S8x32x128x8x4x64, .f32⟩ : BufTy).Contents (Elt F)) (x_v104 : (⟨S8x32x128x128x8x4, .f32⟩ : BufTy).Contents (Elt F)) : (⟨S8x32x8x4x64x128, .f32⟩ : BufTy).Contents (Elt F) :=
  (Host.dotGeneral dot_S8x32x128x8x4x64_S8x32x128x128x8x4_S8x32x8x4x64x128_2_3_5_2_0134_0145 none x_v70 x_v104)

/-- What `main_v106` holds, from the buffers it is computed from. -/
def t_v106 (x_v105 : (⟨S8x32x8x4x64x128, .f32⟩ : BufTy).Contents (Elt F)) : (⟨S8x32x128x8x4x64, .f32⟩ : BufTy).Contents (Elt F) :=
  (transpose S8x32x128x8x4x64 [0, 1, 5, 2, 3, 4] x_v105 transposes_S8x32x8x4x64x128_S8x32x128x8x4x64_0_1_5_2_3_4)

/-- What `main_v114` holds, from the buffers it is computed from. -/
def t_v114 (x_v86 : (⟨S8x32x128x8x4, .f32⟩ : BufTy).Contents (Elt F)) (x_v79 : (⟨S8x32x128x8x4, .f32⟩ : BufTy).Contents (Elt F)) (x_v70 : (⟨S8x32x128x8x4x64, .f32⟩ : BufTy).Contents (Elt F)) : (⟨S8x32x128x8x4x64, .f32⟩ : BufTy).Contents (Elt F) :=
  (mulf (broadcastInDim S8x32x128x8x4x64 ![0, 1, 2, 3, 4, 5] bcast_S8x32x128x8x4x1_S8x32x128x8x4x64_0_1_2_3_4_5 (broadcastInDim S8x32x128x8x4x1 ![0, 1, 2, 3, 4] bcast_S8x32x128x8x4_S8x32x128x8x4x1_0_1_2_3_4 (mulf (Host.exp (subf (broadcastInDim S8x32x128x8x4 ![0, 1, 2, 3, 4] bcast_S8x32x1x8x4_S8x32x128x8x4_0_1_2_3_4 (extractStridedSlice S8x32x1x8x4 ![0, 0, 127, 0, 0] x_v86 slices_S8x32x128x8x4_S8x32x1x8x4_0_0_127_0_0)) x_v86)) x_v79))) x_v70)

/-- What `main_v115` holds, from the buffers it is computed from. -/
def t_v115 (x_v114 : (⟨S8x32x128x8x4x64, .f32⟩ : BufTy).Contents (Elt F)) (x_v72 : (⟨S8x32x128x8x128, .f32⟩ : BufTy).Contents (Elt F)) : (⟨S8x32x8x4x64x128, .f32⟩ : BufTy).Contents (Elt F) :=
  (Host.dotGeneral dot_S8x32x128x8x4x64_S8x32x128x8x128_S8x32x8x4x64x128_2_2_45_4_013_013 none x_v114 x_v72)

/-- What `main_v118` holds, from the buffers it is computed from. -/
def t_v118 (x_v86 : (⟨S8x32x128x8x4, .f32⟩ : BufTy).Contents (Elt F)) : (⟨S8x32x8x4, .f32⟩ : BufTy).Contents (Elt F) :=
  (Host.exp (shapeCast S8x32x8x4 (extractStridedSlice S8x32x1x8x4 ![0, 0, 127, 0, 0] x_v86 slices_S8x32x128x8x4_S8x32x1x8x4_0_0_127_0_0) shapeCasts_S8x32x1x8x4_S8x32x8x4))

/-- What `main_v123_0` holds, from the buffers it is computed from. -/
def t_v123_0 (x_v115 : (⟨S8x32x8x4x64x128, .f32⟩ : BufTy).Contents (Elt F)) : (⟨S32x8x8x4x64x128, .f32⟩ : BufTy).Contents (Elt F) :=
  (id (transpose S32x8x8x4x64x128 [1, 0, 2, 3, 4, 5] x_v115 transposes_S8x32x8x4x64x128_S32x8x8x4x64x128_1_0_2_3_4_5))

/-- What `main_v123_1` holds, from the buffers it is computed from. -/
def t_v123_1 (x_v118 : (⟨S8x32x8x4, .f32⟩ : BufTy).Contents (Elt F)) : (⟨S32x8x8x4, .f32⟩ : BufTy).Contents (Elt F) :=
  (id (transpose S32x8x8x4 [1, 0, 2, 3] x_v118 transposes_S8x32x8x4_S32x8x8x4_1_0_2_3))

/-- What `main_v123_2` holds, from the buffers it is computed from. -/
def t_v123_2  : (⟨S_, .i32⟩ : BufTy).Contents (Elt F) :=
  (id (constantI S_ 32 0#32))

/-- What `main_v123_3` holds, from the buffers it is computed from. -/
def t_v123_3  : (⟨S8x8x4x64x128, .f32⟩ : BufTy).Contents (Elt F) :=
  (id (broadcastInDim S8x8x4x64x128 ![] bcast_S_S8x8x4x64x128 (constant S_ .f32 0x00000000#32)))

/-- What `main_v123_4` holds, from the buffers it is computed from. -/
def t_v123_4  : (⟨S32x8x8x4x64x128, .f32⟩ : BufTy).Contents (Elt F) :=
  (id (broadcastInDim S32x8x8x4x64x128 ![] bcast_S_S32x8x8x4x64x128 (constant S_ .f32 0x00000000#32)))

/-- What `main_v126` holds, from the buffers it is computed from. -/
def t_v126 (x_v123_4 : (⟨S32x8x8x4x64x128, .f32⟩ : BufTy).Contents (Elt F)) (x_v74 : (⟨S8x32x128x8x128, .f32⟩ : BufTy).Contents (Elt F)) : (⟨S8x32x128x8x4x64, .f32⟩ : BufTy).Contents (Elt F) :=
  (transpose S8x32x128x8x4x64 [0, 1, 5, 2, 3, 4] (Host.dotGeneral dot_S8x32x8x4x64x128_S8x32x128x8x128_S8x32x8x4x64x128_5_4_34_2_012_013 none (transpose S8x32x8x4x64x128 [1, 0, 2, 3, 4, 5] x_v123_4 transposes_S32x8x8x4x64x128_S8x32x8x4x64x128_1_0_2_3_4_5) x_v74) transposes_S8x32x8x4x64x128_S8x32x128x8x4x64_0_1_5_2_3_4)

/-- What `main_v137` holds, from the buffers it is computed from. -/
def t_v137 (x_v106 : (⟨S8x32x128x8x4x64, .f32⟩ : BufTy).Contents (Elt F)) (x_v126 : (⟨S8x32x128x8x4x64, .f32⟩ : BufTy).Contents (Elt F)) (x_v86 : (⟨S8x32x128x8x4, .f32⟩ : BufTy).Contents (Elt F)) (x_v70 : (⟨S8x32x128x8x4x64, .f32⟩ : BufTy).Contents (Elt F)) (x_v26 : (⟨S32, .f32⟩ : BufTy).Contents (Elt F)) : (⟨S8x32x128x8x4x64, .f32⟩ : BufTy).Contents (Elt F) :=
  (addf (addf x_v106 (mulf x_v126 (broadcastInDim S8x32x128x8x4x64 ![0, 1, 2, 3, 4, 5] bcast_S8x32x128x8x4x1_S8x32x128x8x4x64_0_1_2_3_4_5 (broadcastInDim S8x32x128x8x4x1 ![0, 1, 2, 3, 4] bcast_S8x32x128x8x4_S8x32x128x8x4x1_0_1_2_3_4 (Host.exp x_v86))))) (mulf x_v70 (broadcastInDim S8x32x128x8x4x64 ![0, 1, 2, 3, 4, 5] bcast_S1x1x1x8x4x1_S8x32x128x8x4x64_0_1_2_3_4_5 (broadcastInDim S1x1x1x8x4x1 ![3, 4, 5] bcast_S8x4x1_S1x1x1x8x4x1_3_4_5 (broadcastInDim S8x4x1 ![0, 1] bcast_S8x4_S8x4x1_0_1 (shapeCast S8x4 x_v26 shapeCasts_S32_S8x4))))))

/-- What `main_v138` holds, from the buffers it is computed from. -/
def t_v138 (x_v137 : (⟨S8x32x128x8x4x64, .f32⟩ : BufTy).Contents (Elt F)) : (⟨S8x4096x2048, .f32⟩ : BufTy).Contents (Elt F) :=
  (shapeCast S8x4096x2048 x_v137 shapeCasts_S8x32x128x8x4x64_S8x4096x2048)

/-- What `main_v139` holds, from the buffers it is computed from. -/
def t_v139 (x_v32 : (⟨S8x4096x2048, .f32⟩ : BufTy).Contents (Elt F)) : (⟨S8x4096x2048, .f32⟩ : BufTy).Contents (Elt F) :=
  (mulf x_v32 (Host.divf (broadcastInDim S8x4096x2048 ![] bcast_S_S8x4096x2048 (constant S_ .f32 0x3F800000#32)) (addf (broadcastInDim S8x4096x2048 ![] bcast_S_S8x4096x2048 (constant S_ .f32 0x3F800000#32)) (Host.exp (Host.negf x_v32)))))

/-- What `main_v140` holds, from the buffers it is computed from. -/
def t_v140 (x_v138 : (⟨S8x4096x2048, .f32⟩ : BufTy).Contents (Elt F)) (x_v139 : (⟨S8x4096x2048, .f32⟩ : BufTy).Contents (Elt F)) : (⟨S8x4096x2048, .f32⟩ : BufTy).Contents (Elt F) :=
  (mulf x_v138 x_v139)

/-- What `main_v155` holds, from the buffers it is computed from. -/
def t_v155 (x_v140 : (⟨S8x4096x2048, .f32⟩ : BufTy).Contents (Elt F)) (x_v28 : (⟨S2048, .f32⟩ : BufTy).Contents (Elt F)) : (⟨S8x4096x8x256, .f32⟩ : BufTy).Contents (Elt F) :=
  (mulf (mulf (shapeCast S8x4096x8x256 x_v140 shapeCasts_S8x4096x2048_S8x4096x8x256) (broadcastInDim S8x4096x8x256 ![0, 1, 2, 3] bcast_S8x4096x8x1_S8x4096x8x256_0_1_2_3 (Host.rsqrt (addf (Host.divf (broadcastInDim S8x4096x8x1 ![0, 1, 2] bcast_S8x4096x8_S8x4096x8x1_0_1_2 (Host.reduceAdd (mulf (shapeCast S8x4096x8x256 x_v140 shapeCasts_S8x4096x2048_S8x4096x8x256) (shapeCast S8x4096x8x256 x_v140 shapeCasts_S8x4096x2048_S8x4096x8x256)) (constant S_ .f32 0x00000000#32) reducesTo_S8x4096x8x256_S8x4096x8_d3 h_S_)) (broadcastInDim S8x4096x8x1 ![] bcast_S_S8x4096x8x1 (constant S_ .f32 0x43800000#32))) (broadcastInDim S8x4096x8x1 ![] bcast_S_S8x4096x8x1 (constant S_ .f32 0x358637BD#32)))))) (broadcastInDim S8x4096x8x256 ![0, 1, 2, 3] bcast_S1x1x8x256_S8x4096x8x256_0_1_2_3 (broadcastInDim S1x1x8x256 ![2, 3] bcast_S8x256_S1x1x8x256_2_3 (shapeCast S8x256 x_v28 shapeCasts_S2048_S8x256))))

/-- What `main_v156` holds, from the buffers it is computed from. -/
def t_v156 (x_v155 : (⟨S8x4096x8x256, .f32⟩ : BufTy).Contents (Elt F)) : (⟨S8x4096x2048, .f32⟩ : BufTy).Contents (Elt F) :=
  (shapeCast S8x4096x2048 x_v155 shapeCasts_S8x4096x8x256_S8x4096x2048)

/-- What `main_v158` holds, from the buffers it is computed from. -/
def t_v158 (x_arg0 : (⟨S8x4096x1024, .f32⟩ : BufTy).Contents (Elt F)) (x_v156 : (⟨S8x4096x2048, .f32⟩ : BufTy).Contents (Elt F)) (x_v30 : (⟨S2048x1024, .f32⟩ : BufTy).Contents (Elt F)) : (⟨S8x4096x1024, .f32⟩ : BufTy).Contents (Elt F) :=
  (addf x_arg0 (Host.dotGeneral dot_S8x4096x2048_S2048x1024_S8x4096x1024_2_0_01_1_n_n none x_v156 x_v30))

/-- What `main_v171` holds, from the buffers it is computed from. -/
def t_v171 (x_v158 : (⟨S8x4096x1024, .f32⟩ : BufTy).Contents (Elt F)) (x_arg2 : (⟨S1024, .f32⟩ : BufTy).Contents (Elt F)) : (⟨S8x4096x1024, .f32⟩ : BufTy).Contents (Elt F) :=
  (mulf (mulf x_v158 (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x_v158 x_v158) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 x_arg2)))

end Cert.Reference2Ideal.Ssd
-- ==== Proof.Ssd.RefLoc.lean ====
/- Each named array of the reference after the operations that compute it. -/
module

public import proofs.«01_k».proof.Proof.Gen.Reference2Ideal.Run
public import proofs.«01_k».proof.Proof.Ssd.RefDefs

@[expose] public section

set_option maxRecDepth 16384

noncomputable section

namespace Cert.Reference2Ideal.Ssd

open Cert.Reference2Ideal Cert.Reference2Ideal.Gen Cert.Reference2Ideal.Facts Cert.Reference2Ideal.Value Idealize.ShloMosaic
  Idealize.ShloMosaic.StableHlo Idealize.SL.Sem

/-- `main_v14` after its stretch. -/
theorem loc_v14 (X : Valuation τ sig (Elt Ideal)) :
    (after (hostOps0 (F := Ideal)) X (Proc.devRef .tc main_v14) : Vec Ideal S8x4096x1024 .f32)
      = t_v14 (F := Ideal) (after (hostOps0 (F := Ideal)) X (Proc.devRef .tc main_arg0) : Vec Ideal S8x4096x1024 .f32) (after (hostOps0 (F := Ideal)) X (Proc.devRef .tc main_arg1) : Vec Ideal S4x1024 .f32) := by
  unfold t_v14
  after_reads_simp <;> rfl

/-- `main_v18` after its stretch. -/
theorem loc_v18 (X : Valuation τ sig (Elt Ideal)) :
    (after (hostOps0 (F := Ideal)) X (Proc.devRef .tc main_v18) : Vec Ideal S4x4096 .f32)
      = t_v18 (F := Ideal) (after (hostOps0 (F := Ideal)) X (Proc.devRef .tc main_arg4) : Vec Ideal S2x4x4096 .f32) := by
  unfold t_v18
  after_reads_simp <;> rfl

/-- `main_v20` after its stretch. -/
theorem loc_v20 (X : Valuation τ sig (Elt Ideal)) :
    (after (hostOps0 (F := Ideal)) X (Proc.devRef .tc main_v20) : Vec Ideal S4096 .f32)
      = t_v20 (F := Ideal) (after (hostOps0 (F := Ideal)) X (Proc.devRef .tc main_arg5) : Vec Ideal S2x4096 .f32) := by
  unfold t_v20
  after_reads_simp <;> rfl

/-- `main_v22` after its stretch. -/
theorem loc_v22 (X : Valuation τ sig (Elt Ideal)) :
    (after (hostOps0 (F := Ideal)) X (Proc.devRef .tc main_v22) : Vec Ideal S32 .f32)
      = t_v22 (F := Ideal) (after (hostOps0 (F := Ideal)) X (Proc.devRef .tc main_arg6) : Vec Ideal S2x32 .f32) := by
  unfold t_v22
  after_reads_simp <;> rfl

/-- `main_v24` after its stretch. -/
theorem loc_v24 (X : Valuation τ sig (Elt Ideal)) :
    (after (hostOps0 (F := Ideal)) X (Proc.devRef .tc main_v24) : Vec Ideal S32 .f32)
      = t_v24 (F := Ideal) (after (hostOps0 (F := Ideal)) X (Proc.devRef .tc main_arg7) : Vec Ideal S2x32 .f32) := by
  unfold t_v24
  after_reads_simp <;> rfl

/-- `main_v26` after its stretch. -/
theorem loc_v26 (X : Valuation τ sig (Elt Ideal)) :
    (after (hostOps0 (F := Ideal)) X (Proc.devRef .tc main_v26) : Vec Ideal S32 .f32)
      = t_v26 (F := Ideal) (after (hostOps0 (F := Ideal)) X (Proc.devRef .tc main_arg8) : Vec Ideal S2x32 .f32) := by
  unfold t_v26
  after_reads_simp <;> rfl

/-- `main_v28` after its stretch. -/
theorem loc_v28 (X : Valuation τ sig (Elt Ideal)) :
    (after (hostOps0 (F := Ideal)) X (Proc.devRef .tc main_v28) : Vec Ideal S2048 .f32)
      = t_v28 (F := Ideal) (after (hostOps0 (F := Ideal)) X (Proc.devRef .tc main_arg9) : Vec Ideal S2x2048 .f32) := by
  unfold t_v28
  after_reads_simp <;> rfl

/-- `main_v30` after its stretch. -/
theorem loc_v30 (X : Valuation τ sig (Elt Ideal)) :
    (after (hostOps0 (F := Ideal)) X (Proc.devRef .tc main_v30) : Vec Ideal S2048x1024 .f32)
      = t_v30 (F := Ideal) (after (hostOps0 (F := Ideal)) X (Proc.devRef .tc main_arg10) : Vec Ideal S2x2048x1024 .f32) := by
  unfold t_v30
  after_reads_simp <;> rfl

/-- `main_v31` after its stretch. -/
theorem loc_v31 (X : Valuation τ sig (Elt Ideal)) :
    (after (hostOps0 (F := Ideal)) X (Proc.devRef .tc main_v31) : Vec Ideal S8x4096x6176 .f32)
      = t_v31 (F := Ideal) (after (hostOps0 (F := Ideal)) X (Proc.devRef .tc main_v14) : Vec Ideal S8x4096x1024 .f32) (after (hostOps0 (F := Ideal)) X (Proc.devRef .tc main_arg3) : Vec Ideal S2x1024x6176 .f32) := by
  unfold t_v31
  after_reads_simp <;> rfl

/-- `main_v32` after its stretch. -/
theorem loc_v32 (X : Valuation τ sig (Elt Ideal)) :
    (after (hostOps0 (F := Ideal)) X (Proc.devRef .tc main_v32) : Vec Ideal S8x4096x2048 .f32)
      = t_v32 (F := Ideal) (after (hostOps0 (F := Ideal)) X (Proc.devRef .tc main_v31) : Vec Ideal S8x4096x6176 .f32) := by
  unfold t_v32
  after_reads_simp <;> rfl

/-- `main_v33` after its stretch. -/
theorem loc_v33 (X : Valuation τ sig (Elt Ideal)) :
    (after (hostOps0 (F := Ideal)) X (Proc.devRef .tc main_v33) : Vec Ideal S8x4096x4096 .f32)
      = t_v33 (F := Ideal) (after (hostOps0 (F := Ideal)) X (Proc.devRef .tc main_v31) : Vec Ideal S8x4096x6176 .f32) := by
  unfold t_v33
  after_reads_simp <;> rfl

/-- `main_v34` after its stretch. -/
theorem loc_v34 (X : Valuation τ sig (Elt Ideal)) :
    (after (hostOps0 (F := Ideal)) X (Proc.devRef .tc main_v34) : Vec Ideal S8x4096x32 .f32)
      = t_v34 (F := Ideal) (after (hostOps0 (F := Ideal)) X (Proc.devRef .tc main_v31) : Vec Ideal S8x4096x6176 .f32) := by
  unfold t_v34
  after_reads_simp <;> rfl

/-- `main_c` after its stretch. -/
theorem loc_c (X : Valuation τ sig (Elt Ideal)) :
    (after (hostOps0 (F := Ideal)) X (Proc.devRef .tc main_c) : Vec Ideal S_ .i32)
      = t_c (F := Ideal) := by
  unfold t_c
  after_reads_simp <;> rfl

/-- `main_v35` after its stretch. -/
theorem loc_v35 (X : Valuation τ sig (Elt Ideal)) :
    (after (hostOps0_1 (F := Ideal)) X (Proc.devRef .tc main_v35) : Vec Ideal S8x4099x4096 .f32)
      = t_v35 (F := Ideal) (after (hostOps0_1 (F := Ideal)) X (Proc.devRef .tc main_v33) : Vec Ideal S8x4096x4096 .f32) (after (hostOps0_1 (F := Ideal)) X (Proc.devRef .tc main_c) : Vec Ideal S_ .i32) := by
  unfold t_v35
  after_reads_simp <;> rfl

/-- `main_v67` after its stretch. -/
theorem loc_v67 (X : Valuation τ sig (Elt Ideal)) :
    (after (hostOps0_2 (F := Ideal)) X (Proc.devRef .tc main_v67) : Vec Ideal S8x4096x4096 .f32)
      = t_v67 (F := Ideal) (after (hostOps0_2 (F := Ideal)) X (Proc.devRef .tc main_v35) : Vec Ideal S8x4099x4096 .f32) (after (hostOps0_2 (F := Ideal)) X (Proc.devRef .tc main_v18) : Vec Ideal S4x4096 .f32) (after (hostOps0_2 (F := Ideal)) X (Proc.devRef .tc main_v20) : Vec Ideal S4096 .f32) := by
  unfold t_v67
  after_reads_simp <;> rfl

/-- `main_v68` after its stretch. -/
theorem loc_v68 (X : Valuation τ sig (Elt Ideal)) :
    (after (hostOps0_3 (F := Ideal)) X (Proc.devRef .tc main_v68) : Vec Ideal S8x4096x4096 .f32)
      = t_v68 (F := Ideal) (after (hostOps0_3 (F := Ideal)) X (Proc.devRef .tc main_v67) : Vec Ideal S8x4096x4096 .f32) := by
  unfold t_v68
  after_reads_simp <;> rfl

/-- `main_v70` after its stretch. -/
theorem loc_v70 (X : Valuation τ sig (Elt Ideal)) :
    (after (hostOps0_4 (F := Ideal)) X (Proc.devRef .tc main_v70) : Vec Ideal S8x32x128x8x4x64 .f32)
      = t_v70 (F := Ideal) (after (hostOps0_4 (F := Ideal)) X (Proc.devRef .tc main_v68) : Vec Ideal S8x4096x4096 .f32) := by
  unfold t_v70
  after_reads_simp <;> rfl

/-- `main_v72` after its stretch. -/
theorem loc_v72 (X : Valuation τ sig (Elt Ideal)) :
    (after (hostOps0_4 (F := Ideal)) X (Proc.devRef .tc main_v72) : Vec Ideal S8x32x128x8x128 .f32)
      = t_v72 (F := Ideal) (after (hostOps0_4 (F := Ideal)) X (Proc.devRef .tc main_v68) : Vec Ideal S8x4096x4096 .f32) := by
  unfold t_v72
  after_reads_simp <;> rfl

/-- `main_v74` after its stretch. -/
theorem loc_v74 (X : Valuation τ sig (Elt Ideal)) :
    (after (hostOps0_4 (F := Ideal)) X (Proc.devRef .tc main_v74) : Vec Ideal S8x32x128x8x128 .f32)
      = t_v74 (F := Ideal) (after (hostOps0_4 (F := Ideal)) X (Proc.devRef .tc main_v68) : Vec Ideal S8x4096x4096 .f32) := by
  unfold t_v74
  after_reads_simp <;> rfl

/-- `main_v77` after its stretch. -/
theorem loc_v77 (X : Valuation τ sig (Elt Ideal)) :
    (after (hostOps0_4 (F := Ideal)) X (Proc.devRef .tc main_v77) : Vec Ideal S8x4096x32 .f32)
      = t_v77 (F := Ideal) (after (hostOps0_4 (F := Ideal)) X (Proc.devRef .tc main_v34) : Vec Ideal S8x4096x32 .f32) (after (hostOps0_4 (F := Ideal)) X (Proc.devRef .tc main_v22) : Vec Ideal S32 .f32) := by
  unfold t_v77
  after_reads_simp <;> rfl

/-- `main_v78` after its stretch. -/
theorem loc_v78 (X : Valuation τ sig (Elt Ideal)) :
    (after (hostOps0_5 (F := Ideal)) X (Proc.devRef .tc main_v78) : Vec Ideal S8x4096x32 .f32)
      = t_v78 (F := Ideal) (after (hostOps0_5 (F := Ideal)) X (Proc.devRef .tc main_v77) : Vec Ideal S8x4096x32 .f32) := by
  unfold t_v78
  after_reads_simp <;> rfl

/-- `main_v79` after its stretch. -/
theorem loc_v79 (X : Valuation τ sig (Elt Ideal)) :
    (after (hostOps0_6 (F := Ideal)) X (Proc.devRef .tc main_v79) : Vec Ideal S8x32x128x8x4 .f32)
      = t_v79 (F := Ideal) (after (hostOps0_6 (F := Ideal)) X (Proc.devRef .tc main_v78) : Vec Ideal S8x4096x32 .f32) := by
  unfold t_v79
  after_reads_simp <;> rfl

/-- `main_v85` after its stretch. -/
theorem loc_v85 (X : Valuation τ sig (Elt Ideal)) :
    (after (hostOps0_6 (F := Ideal)) X (Proc.devRef .tc main_v85) : Vec Ideal S8x32x128x8x4 .f32)
      = t_v85 (F := Ideal) (after (hostOps0_6 (F := Ideal)) X (Proc.devRef .tc main_v79) : Vec Ideal S8x32x128x8x4 .f32) (after (hostOps0_6 (F := Ideal)) X (Proc.devRef .tc main_v24) : Vec Ideal S32 .f32) := by
  unfold t_v85
  after_reads_simp <;> rfl

/-- `main_v86` after its stretch. -/
theorem loc_v86 (X : Valuation τ sig (Elt Ideal)) :
    (after (hostOps0_7 (F := Ideal)) X (Proc.devRef .tc main_v86) : Vec Ideal S8x32x128x8x4 .f32)
      = t_v86 (F := Ideal) (after (hostOps0_7 (F := Ideal)) X (Proc.devRef .tc main_v85) : Vec Ideal S8x32x128x8x4 .f32) := by
  unfold t_v86
  after_reads_simp <;> rfl

/-- `main_v91` after its stretch. -/
theorem loc_v91 (X : Valuation τ sig (Elt Ideal)) :
    (after (hostOps0_8 (F := Ideal)) X (Proc.devRef .tc main_v91) : Vec Ideal S8x32x128x128x8x4 .f32)
      = t_v91 (F := Ideal) (after (hostOps0_8 (F := Ideal)) X (Proc.devRef .tc main_v86) : Vec Ideal S8x32x128x8x4 .f32) := by
  unfold t_v91
  after_reads_simp <;> rfl

/-- `main_v92` after its stretch. -/
theorem loc_v92 (X : Valuation τ sig (Elt Ideal)) :
    (after (hostOps0_8 (F := Ideal)) X (Proc.devRef .tc main_v92) : Vec Ideal S128x128 .i1)
      = t_v92 (F := Ideal) := by
  unfold t_v92
  after_reads_simp <;> rfl

/-- `main_v93` after its stretch. -/
theorem loc_v93 (X : Valuation τ sig (Elt Ideal)) :
    (after (hostOps0_9 (F := Ideal)) X (Proc.devRef .tc main_v93) : Vec Ideal S128x128 .i1)
      = t_v93 (F := Ideal) (after (hostOps0_9 (F := Ideal)) X (Proc.devRef .tc main_v92) : Vec Ideal S128x128 .i1) := by
  unfold t_v93
  after_reads_simp <;> rfl

/-- `main_v94` after its stretch. -/
theorem loc_v94 (X : Valuation τ sig (Elt Ideal)) :
    (after (hostOps0_10 (F := Ideal)) X (Proc.devRef .tc main_v94) : Vec Ideal S128x128x1x1 .i1)
      = t_v94 (F := Ideal) (after (hostOps0_10 (F := Ideal)) X (Proc.devRef .tc main_v93) : Vec Ideal S128x128 .i1) := by
  unfold t_v94
  after_reads_simp <;> rfl

/-- `main_cst_4` after its stretch. -/
theorem loc_cst_4 (X : Valuation τ sig (Elt Ideal)) :
    (after (hostOps0_10 (F := Ideal)) X (Proc.devRef .tc main_cst_4) : Vec Ideal S_ .f32)
      = t_cst_4 (F := Ideal) := by
  unfold t_cst_4
  after_reads_simp <;> rfl

/-- `main_v95` after its stretch. -/
theorem loc_v95 (X : Valuation τ sig (Elt Ideal)) :
    (after (hostOps0_11 (F := Ideal)) X (Proc.devRef .tc main_v95) : Vec Ideal S8x32x128x128x8x4 .f32)
      = t_v95 (F := Ideal) (after (hostOps0_11 (F := Ideal)) X (Proc.devRef .tc main_v94) : Vec Ideal S128x128x1x1 .i1) (after (hostOps0_11 (F := Ideal)) X (Proc.devRef .tc main_v91) : Vec Ideal S8x32x128x128x8x4 .f32) (after (hostOps0_11 (F := Ideal)) X (Proc.devRef .tc main_cst_4) : Vec Ideal S_ .f32) := by
  unfold t_v95
  after_reads_simp <;> rfl

/-- `main_v96` after its stretch. -/
theorem loc_v96 (X : Valuation τ sig (Elt Ideal)) :
    (after (hostOps0_12 (F := Ideal)) X (Proc.devRef .tc main_v96) : Vec Ideal S8x32x128x128x8x4 .f32)
      = t_v96 (F := Ideal) (after (hostOps0_12 (F := Ideal)) X (Proc.devRef .tc main_v95) : Vec Ideal S8x32x128x128x8x4 .f32) := by
  unfold t_v96
  after_reads_simp <;> rfl

/-- `main_v104` after its stretch. -/
theorem loc_v104 (X : Valuation τ sig (Elt Ideal)) :
    (after (hostOps0_12 (F := Ideal)) X (Proc.devRef .tc main_v104) : Vec Ideal S8x32x128x128x8x4 .f32)
      = t_v104 (F := Ideal) (after (hostOps0_12 (F := Ideal)) X (Proc.devRef .tc main_v72) : Vec Ideal S8x32x128x8x128 .f32) (after (hostOps0_12 (F := Ideal)) X (Proc.devRef .tc main_v74) : Vec Ideal S8x32x128x8x128 .f32) (after (hostOps0_12 (F := Ideal)) X (Proc.devRef .tc main_v96) : Vec Ideal S8x32x128x128x8x4 .f32) (after (hostOps0_12 (F := Ideal)) X (Proc.devRef .tc main_v79) : Vec Ideal S8x32x128x8x4 .f32) := by
  unfold t_v104
  after_reads_simp <;> rfl

/-- `main_v105` after its stretch. -/
theorem loc_v105 (X : Valuation τ sig (Elt Ideal)) :
    (after (hostOps0_12 (F := Ideal)) X (Proc.devRef .tc main_v105) : Vec Ideal S8x32x8x4x64x128 .f32)
      = t_v105 (F := Ideal) (after (hostOps0_12 (F := Ideal)) X (Proc.devRef .tc main_v70) : Vec Ideal S8x32x128x8x4x64 .f32) (after (hostOps0_12 (F := Ideal)) X (Proc.devRef .tc main_v104) : Vec Ideal S8x32x128x128x8x4 .f32) := by
  unfold t_v105
  after_reads_simp <;> rfl

/-- `main_v106` after its stretch. -/
theorem loc_v106 (X : Valuation τ sig (Elt Ideal)) :
    (after (hostOps0_12 (F := Ideal)) X (Proc.devRef .tc main_v106) : Vec Ideal S8x32x128x8x4x64 .f32)
      = t_v106 (F := Ideal) (after (hostOps0_12 (F := Ideal)) X (Proc.devRef .tc main_v105) : Vec Ideal S8x32x8x4x64x128 .f32) := by
  unfold t_v106
  after_reads_simp <;> rfl

/-- `main_v114` after its stretch. -/
theorem loc_v114 (X : Valuation τ sig (Elt Ideal)) :
    (after (hostOps0_12 (F := Ideal)) X (Proc.devRef .tc main_v114) : Vec Ideal S8x32x128x8x4x64 .f32)
      = t_v114 (F := Ideal) (after (hostOps0_12 (F := Ideal)) X (Proc.devRef .tc main_v86) : Vec Ideal S8x32x128x8x4 .f32) (after (hostOps0_12 (F := Ideal)) X (Proc.devRef .tc main_v79) : Vec Ideal S8x32x128x8x4 .f32) (after (hostOps0_12 (F := Ideal)) X (Proc.devRef .tc main_v70) : Vec Ideal S8x32x128x8x4x64 .f32) := by
  unfold t_v114
  after_reads_simp <;> rfl

/-- `main_v115` after its stretch. -/
theorem loc_v115 (X : Valuation τ sig (Elt Ideal)) :
    (after (hostOps0_12 (F := Ideal)) X (Proc.devRef .tc main_v115) : Vec Ideal S8x32x8x4x64x128 .f32)
      = t_v115 (F := Ideal) (after (hostOps0_12 (F := Ideal)) X (Proc.devRef .tc main_v114) : Vec Ideal S8x32x128x8x4x64 .f32) (after (hostOps0_12 (F := Ideal)) X (Proc.devRef .tc main_v72) : Vec Ideal S8x32x128x8x128 .f32) := by
  unfold t_v115
  after_reads_simp <;> rfl

/-- `main_v118` after its stretch. -/
theorem loc_v118 (X : Valuation τ sig (Elt Ideal)) :
    (after (hostOps0_12 (F := Ideal)) X (Proc.devRef .tc main_v118) : Vec Ideal S8x32x8x4 .f32)
      = t_v118 (F := Ideal) (after (hostOps0_12 (F := Ideal)) X (Proc.devRef .tc main_v86) : Vec Ideal S8x32x128x8x4 .f32) := by
  unfold t_v118
  after_reads_simp <;> rfl

/-- `main_v123_0` after its stretch. -/
theorem loc_v123_0 (X : Valuation τ sig (Elt Ideal)) :
    (after (hostOps0_12 (F := Ideal)) X (Proc.devRef .tc main_v123_0) : Vec Ideal S32x8x8x4x64x128 .f32)
      = t_v123_0 (F := Ideal) (after (hostOps0_12 (F := Ideal)) X (Proc.devRef .tc main_v115) : Vec Ideal S8x32x8x4x64x128 .f32) := by
  unfold t_v123_0
  after_reads_simp <;> rfl

/-- `main_v123_1` after its stretch. -/
theorem loc_v123_1 (X : Valuation τ sig (Elt Ideal)) :
    (after (hostOps0_12 (F := Ideal)) X (Proc.devRef .tc main_v123_1) : Vec Ideal S32x8x8x4 .f32)
      = t_v123_1 (F := Ideal) (after (hostOps0_12 (F := Ideal)) X (Proc.devRef .tc main_v118) : Vec Ideal S8x32x8x4 .f32) := by
  unfold t_v123_1
  after_reads_simp <;> rfl

/-- `main_v123_2` after its stretch. -/
theorem loc_v123_2 (X : Valuation τ sig (Elt Ideal)) :
    (after (hostOps0_12 (F := Ideal)) X (Proc.devRef .tc main_v123_2) : Vec Ideal S_ .i32)
      = t_v123_2 (F := Ideal) := by
  unfold t_v123_2
  after_reads_simp <;> rfl

/-- `main_v123_3` after its stretch. -/
theorem loc_v123_3 (X : Valuation τ sig (Elt Ideal)) :
    (after (hostOps0_12 (F := Ideal)) X (Proc.devRef .tc main_v123_3) : Vec Ideal S8x8x4x64x128 .f32)
      = t_v123_3 (F := Ideal) := by
  unfold t_v123_3
  after_reads_simp <;> rfl

/-- `main_v123_4` after its stretch. -/
theorem loc_v123_4 (X : Valuation τ sig (Elt Ideal)) :
    (after (hostOps0_12 (F := Ideal)) X (Proc.devRef .tc main_v123_4) : Vec Ideal S32x8x8x4x64x128 .f32)
      = t_v123_4 (F := Ideal) := by
  unfold t_v123_4
  after_reads_simp <;> rfl

/-- `main_v126` after its stretch. -/
theorem loc_v126 (X : Valuation τ sig (Elt Ideal)) :
    (after (hostOps0_13 (F := Ideal)) X (Proc.devRef .tc main_v126) : Vec Ideal S8x32x128x8x4x64 .f32)
      = t_v126 (F := Ideal) (after (hostOps0_13 (F := Ideal)) X (Proc.devRef .tc main_v123_4) : Vec Ideal S32x8x8x4x64x128 .f32) (after (hostOps0_13 (F := Ideal)) X (Proc.devRef .tc main_v74) : Vec Ideal S8x32x128x8x128 .f32) := by
  unfold t_v126
  after_reads_simp <;> rfl

/-- `main_v137` after its stretch. -/
theorem loc_v137 (X : Valuation τ sig (Elt Ideal)) :
    (after (hostOps0_13 (F := Ideal)) X (Proc.devRef .tc main_v137) : Vec Ideal S8x32x128x8x4x64 .f32)
      = t_v137 (F := Ideal) (after (hostOps0_13 (F := Ideal)) X (Proc.devRef .tc main_v106) : Vec Ideal S8x32x128x8x4x64 .f32) (after (hostOps0_13 (F := Ideal)) X (Proc.devRef .tc main_v126) : Vec Ideal S8x32x128x8x4x64 .f32) (after (hostOps0_13 (F := Ideal)) X (Proc.devRef .tc main_v86) : Vec Ideal S8x32x128x8x4 .f32) (after (hostOps0_13 (F := Ideal)) X (Proc.devRef .tc main_v70) : Vec Ideal S8x32x128x8x4x64 .f32) (after (hostOps0_13 (F := Ideal)) X (Proc.devRef .tc main_v26) : Vec Ideal S32 .f32) := by
  unfold t_v137
  after_reads_simp <;> rfl

/-- `main_v138` after its stretch. -/
theorem loc_v138 (X : Valuation τ sig (Elt Ideal)) :
    (after (hostOps0_13 (F := Ideal)) X (Proc.devRef .tc main_v138) : Vec Ideal S8x4096x2048 .f32)
      = t_v138 (F := Ideal) (after (hostOps0_13 (F := Ideal)) X (Proc.devRef .tc main_v137) : Vec Ideal S8x32x128x8x4x64 .f32) := by
  unfold t_v138
  after_reads_simp <;> rfl

/-- `main_v139` after its stretch. -/
theorem loc_v139 (X : Valuation τ sig (Elt Ideal)) :
    (after (hostOps0_14 (F := Ideal)) X (Proc.devRef .tc main_v139) : Vec Ideal S8x4096x2048 .f32)
      = t_v139 (F := Ideal) (after (hostOps0_14 (F := Ideal)) X (Proc.devRef .tc main_v32) : Vec Ideal S8x4096x2048 .f32) := by
  unfold t_v139
  after_reads_simp <;> rfl

/-- `main_v140` after its stretch. -/
theorem loc_v140 (X : Valuation τ sig (Elt Ideal)) :
    (after (hostOps0_15 (F := Ideal)) X (Proc.devRef .tc main_v140) : Vec Ideal S8x4096x2048 .f32)
      = t_v140 (F := Ideal) (after (hostOps0_15 (F := Ideal)) X (Proc.devRef .tc main_v138) : Vec Ideal S8x4096x2048 .f32) (after (hostOps0_15 (F := Ideal)) X (Proc.devRef .tc main_v139) : Vec Ideal S8x4096x2048 .f32) := by
  unfold t_v140
  after_reads_simp <;> rfl

/-- `main_v155` after its stretch. -/
theorem loc_v155 (X : Valuation τ sig (Elt Ideal)) :
    (after (hostOps0_15 (F := Ideal)) X (Proc.devRef .tc main_v155) : Vec Ideal S8x4096x8x256 .f32)
      = t_v155 (F := Ideal) (after (hostOps0_15 (F := Ideal)) X (Proc.devRef .tc main_v140) : Vec Ideal S8x4096x2048 .f32) (after (hostOps0_15 (F := Ideal)) X (Proc.devRef .tc main_v28) : Vec Ideal S2048 .f32) := by
  unfold t_v155
  after_reads_simp <;> rfl

/-- `main_v156` after its stretch. -/
theorem loc_v156 (X : Valuation τ sig (Elt Ideal)) :
    (after (hostOps0_15 (F := Ideal)) X (Proc.devRef .tc main_v156) : Vec Ideal S8x4096x2048 .f32)
      = t_v156 (F := Ideal) (after (hostOps0_15 (F := Ideal)) X (Proc.devRef .tc main_v155) : Vec Ideal S8x4096x8x256 .f32) := by
  unfold t_v156
  after_reads_simp <;> rfl

/-- `main_v158` after its stretch. -/
theorem loc_v158 (X : Valuation τ sig (Elt Ideal)) :
    (after (hostOps0_15 (F := Ideal)) X (Proc.devRef .tc main_v158) : Vec Ideal S8x4096x1024 .f32)
      = t_v158 (F := Ideal) (after (hostOps0_15 (F := Ideal)) X (Proc.devRef .tc main_arg0) : Vec Ideal S8x4096x1024 .f32) (after (hostOps0_15 (F := Ideal)) X (Proc.devRef .tc main_v156) : Vec Ideal S8x4096x2048 .f32) (after (hostOps0_15 (F := Ideal)) X (Proc.devRef .tc main_v30) : Vec Ideal S2048x1024 .f32) := by
  unfold t_v158
  after_reads_simp <;> rfl

/-- `main_v171` after its stretch. -/
theorem loc_v171 (X : Valuation τ sig (Elt Ideal)) :
    (after (hostOps0_15 (F := Ideal)) X (Proc.devRef .tc main_v171) : Vec Ideal S8x4096x1024 .f32)
      = t_v171 (F := Ideal) (after (hostOps0_15 (F := Ideal)) X (Proc.devRef .tc main_v158) : Vec Ideal S8x4096x1024 .f32) (after (hostOps0_15 (F := Ideal)) X (Proc.devRef .tc main_arg2) : Vec Ideal S1024 .f32) := by
  unfold t_v171
  after_reads_simp <;> rfl

end Cert.Reference2Ideal.Ssd
-- ==== Proof.Ssd.RefE.lean ====
/- The reference's arrays at the loop's entry and at the end. -/
module

public import proofs.«01_k».proof.Proof.Gen.Reference2Ideal.Run
public import proofs.«01_k».proof.Proof.Ssd.RefLoc

@[expose] public section

set_option maxRecDepth 65536

noncomputable section

namespace Cert.Reference2Ideal.Ssd

open Cert.Reference2Ideal Cert.Reference2Ideal.Gen Cert.Reference2Ideal.Facts Cert.Reference2Ideal.Value Idealize.ShloMosaic
  Idealize.ShloMosaic.StableHlo Idealize.SL.Sem

variable (m : (ℓ : Loc nD τ sig) → Buf (Elt Ideal) ℓ) (c : Dev nD)

/-- The contents at the launch. -/
def X0 : Valuation τ sig (Elt Ideal) := launchContents m c
/-- The contents after the first 1 stretches. -/
def X1 : Valuation τ sig (Elt Ideal) := after hostOps0 (X0 m c)
/-- The contents after the first 2 stretches. -/
def X2 : Valuation τ sig (Elt Ideal) := after hostOps0_1 (X1 m c)
/-- The contents after the first 3 stretches. -/
def X3 : Valuation τ sig (Elt Ideal) := after hostOps0_2 (X2 m c)
/-- The contents after the first 4 stretches. -/
def X4 : Valuation τ sig (Elt Ideal) := after hostOps0_3 (X3 m c)
/-- The contents after the first 5 stretches. -/
def X5 : Valuation τ sig (Elt Ideal) := after hostOps0_4 (X4 m c)
/-- The contents after the first 6 stretches. -/
def X6 : Valuation τ sig (Elt Ideal) := after hostOps0_5 (X5 m c)
/-- The contents after the first 7 stretches. -/
def X7 : Valuation τ sig (Elt Ideal) := after hostOps0_6 (X6 m c)
/-- The contents after the first 8 stretches. -/
def X8 : Valuation τ sig (Elt Ideal) := after hostOps0_7 (X7 m c)
/-- The contents after the first 9 stretches. -/
def X9 : Valuation τ sig (Elt Ideal) := after hostOps0_8 (X8 m c)
/-- The contents after the first 10 stretches. -/
def X10 : Valuation τ sig (Elt Ideal) := after hostOps0_9 (X9 m c)
/-- The contents after the first 11 stretches. -/
def X11 : Valuation τ sig (Elt Ideal) := after hostOps0_10 (X10 m c)
/-- The contents after the first 12 stretches. -/
def X12 : Valuation τ sig (Elt Ideal) := after hostOps0_11 (X11 m c)
/-- The contents after the first 13 stretches. -/
def X13 : Valuation τ sig (Elt Ideal) := after hostOps0_12 (X12 m c)
/-- The contents at the loop's entry. -/
def E : Valuation τ sig (Elt Ideal) := X13 m c
theorem E_eq : E m c = entryContents preI m c := rfl

/-- What the stretches after the thirteenth write. -/
abbrev late12 : List (Ref sig .tc) := []
/-- What the stretches after number 11 write. -/
abbrev late11 : List (Ref sig .tc) := hostOps0_12_W ++ late12
/-- What the stretches after number 10 write. -/
abbrev late10 : List (Ref sig .tc) := hostOps0_11_W ++ late11
/-- What the stretches after number 9 write. -/
abbrev late9 : List (Ref sig .tc) := hostOps0_10_W ++ late10
/-- What the stretches after number 8 write. -/
abbrev late8 : List (Ref sig .tc) := hostOps0_9_W ++ late9
/-- What the stretches after number 7 write. -/
abbrev late7 : List (Ref sig .tc) := hostOps0_8_W ++ late8
/-- What the stretches after number 6 write. -/
abbrev late6 : List (Ref sig .tc) := hostOps0_7_W ++ late7
/-- What the stretches after number 5 write. -/
abbrev late5 : List (Ref sig .tc) := hostOps0_6_W ++ late6
/-- What the stretches after number 4 write. -/
abbrev late4 : List (Ref sig .tc) := hostOps0_5_W ++ late5
/-- What the stretches after number 3 write. -/
abbrev late3 : List (Ref sig .tc) := hostOps0_4_W ++ late4
/-- What the stretches after number 2 write. -/
abbrev late2 : List (Ref sig .tc) := hostOps0_3_W ++ late3
/-- What the stretches after number 1 write. -/
abbrev late1 : List (Ref sig .tc) := hostOps0_2_W ++ late2
/-- What the stretches after number 0 write. -/
abbrev late0 : List (Ref sig .tc) := hostOps0_1_W ++ late1
/-- What all of them write. -/
abbrev lateA : List (Ref sig .tc) := hostOps0_W ++ late0
theorem keep12 (r : Ref sig .tc) (_ : r ∉ late12) : E m c (Proc.devRef .tc r) = after hostOps0_12 (X12 m c) (Proc.devRef .tc r) := rfl
theorem keep11 (r : Ref sig .tc) (h : r ∉ late11) : E m c (Proc.devRef .tc r) = after hostOps0_11 (X11 m c) (Proc.devRef .tc r) :=
  (keep12 m c r fun h' => h (List.mem_append_right _ h')).trans (after_of_writes_sub hostOps0_12 _ hostOps0_12_writes fun h' => h (List.mem_append_left _ h'))
theorem keep10 (r : Ref sig .tc) (h : r ∉ late10) : E m c (Proc.devRef .tc r) = after hostOps0_10 (X10 m c) (Proc.devRef .tc r) :=
  (keep11 m c r fun h' => h (List.mem_append_right _ h')).trans (after_of_writes_sub hostOps0_11 _ hostOps0_11_writes fun h' => h (List.mem_append_left _ h'))
theorem keep9 (r : Ref sig .tc) (h : r ∉ late9) : E m c (Proc.devRef .tc r) = after hostOps0_9 (X9 m c) (Proc.devRef .tc r) :=
  (keep10 m c r fun h' => h (List.mem_append_right _ h')).trans (after_of_writes_sub hostOps0_10 _ hostOps0_10_writes fun h' => h (List.mem_append_left _ h'))
theorem keep8 (r : Ref sig .tc) (h : r ∉ late8) : E m c (Proc.devRef .tc r) = after hostOps0_8 (X8 m c) (Proc.devRef .tc r) :=
  (keep9 m c r fun h' => h (List.mem_append_right _ h')).trans (after_of_writes_sub hostOps0_9 _ hostOps0_9_writes fun h' => h (List.mem_append_left _ h'))
theorem keep7 (r : Ref sig .tc) (h : r ∉ late7) : E m c (Proc.devRef .tc r) = after hostOps0_7 (X7 m c) (Proc.devRef .tc r) :=
  (keep8 m c r fun h' => h (List.mem_append_right _ h')).trans (after_of_writes_sub hostOps0_8 _ hostOps0_8_writes fun h' => h (List.mem_append_left _ h'))
theorem keep6 (r : Ref sig .tc) (h : r ∉ late6) : E m c (Proc.devRef .tc r) = after hostOps0_6 (X6 m c) (Proc.devRef .tc r) :=
  (keep7 m c r fun h' => h (List.mem_append_right _ h')).trans (after_of_writes_sub hostOps0_7 _ hostOps0_7_writes fun h' => h (List.mem_append_left _ h'))
theorem keep5 (r : Ref sig .tc) (h : r ∉ late5) : E m c (Proc.devRef .tc r) = after hostOps0_5 (X5 m c) (Proc.devRef .tc r) :=
  (keep6 m c r fun h' => h (List.mem_append_right _ h')).trans (after_of_writes_sub hostOps0_6 _ hostOps0_6_writes fun h' => h (List.mem_append_left _ h'))
theorem keep4 (r : Ref sig .tc) (h : r ∉ late4) : E m c (Proc.devRef .tc r) = after hostOps0_4 (X4 m c) (Proc.devRef .tc r) :=
  (keep5 m c r fun h' => h (List.mem_append_right _ h')).trans (after_of_writes_sub hostOps0_5 _ hostOps0_5_writes fun h' => h (List.mem_append_left _ h'))
theorem keep3 (r : Ref sig .tc) (h : r ∉ late3) : E m c (Proc.devRef .tc r) = after hostOps0_3 (X3 m c) (Proc.devRef .tc r) :=
  (keep4 m c r fun h' => h (List.mem_append_right _ h')).trans (after_of_writes_sub hostOps0_4 _ hostOps0_4_writes fun h' => h (List.mem_append_left _ h'))
theorem keep2 (r : Ref sig .tc) (h : r ∉ late2) : E m c (Proc.devRef .tc r) = after hostOps0_2 (X2 m c) (Proc.devRef .tc r) :=
  (keep3 m c r fun h' => h (List.mem_append_right _ h')).trans (after_of_writes_sub hostOps0_3 _ hostOps0_3_writes fun h' => h (List.mem_append_left _ h'))
theorem keep1 (r : Ref sig .tc) (h : r ∉ late1) : E m c (Proc.devRef .tc r) = after hostOps0_1 (X1 m c) (Proc.devRef .tc r) :=
  (keep2 m c r fun h' => h (List.mem_append_right _ h')).trans (after_of_writes_sub hostOps0_2 _ hostOps0_2_writes fun h' => h (List.mem_append_left _ h'))
theorem keep0 (r : Ref sig .tc) (h : r ∉ late0) : E m c (Proc.devRef .tc r) = after hostOps0 (X0 m c) (Proc.devRef .tc r) :=
  (keep1 m c r fun h' => h (List.mem_append_right _ h')).trans (after_of_writes_sub hostOps0_1 _ hostOps0_1_writes fun h' => h (List.mem_append_left _ h'))
theorem keepA (r : Ref sig .tc) (h : r ∉ lateA) : E m c (Proc.devRef .tc r) = X0 m c (Proc.devRef .tc r) :=
  (keep0 m c r fun h' => h (List.mem_append_right _ h')).trans (after_of_writes_sub hostOps0 _ hostOps0_writes fun h' => h (List.mem_append_left _ h'))

/-- `main_v14` at the loop's entry. -/
theorem E_v14 : (E m c (Proc.devRef .tc main_v14) : Vec Ideal S8x4096x1024 .f32) = t_v14 (F := Ideal) (E m c (Proc.devRef .tc main_arg0) : Vec Ideal S8x4096x1024 .f32) (E m c (Proc.devRef .tc main_arg1) : Vec Ideal S4x1024 .f32) := by
  rw [keep0 m c main_v14 (by decide), keep0 m c main_arg0 (by decide), keep0 m c main_arg1 (by decide)]
  exact loc_v14 (X0 m c)

/-- `main_v18` at the loop's entry. -/
theorem E_v18 : (E m c (Proc.devRef .tc main_v18) : Vec Ideal S4x4096 .f32) = t_v18 (F := Ideal) (E m c (Proc.devRef .tc main_arg4) : Vec Ideal S2x4x4096 .f32) := by
  rw [keep0 m c main_v18 (by decide), keep0 m c main_arg4 (by decide)]
  exact loc_v18 (X0 m c)

/-- `main_v20` at the loop's entry. -/
theorem E_v20 : (E m c (Proc.devRef .tc main_v20) : Vec Ideal S4096 .f32) = t_v20 (F := Ideal) (E m c (Proc.devRef .tc main_arg5) : Vec Ideal S2x4096 .f32) := by
  rw [keep0 m c main_v20 (by decide), keep0 m c main_arg5 (by decide)]
  exact loc_v20 (X0 m c)

/-- `main_v22` at the loop's entry. -/
theorem E_v22 : (E m c (Proc.devRef .tc main_v22) : Vec Ideal S32 .f32) = t_v22 (F := Ideal) (E m c (Proc.devRef .tc main_arg6) : Vec Ideal S2x32 .f32) := by
  rw [keep0 m c main_v22 (by decide), keep0 m c main_arg6 (by decide)]
  exact loc_v22 (X0 m c)

/-- `main_v24` at the loop's entry. -/
theorem E_v24 : (E m c (Proc.devRef .tc main_v24) : Vec Ideal S32 .f32) = t_v24 (F := Ideal) (E m c (Proc.devRef .tc main_arg7) : Vec Ideal S2x32 .f32) := by
  rw [keep0 m c main_v24 (by decide), keep0 m c main_arg7 (by decide)]
  exact loc_v24 (X0 m c)

/-- `main_v26` at the loop's entry. -/
theorem E_v26 : (E m c (Proc.devRef .tc main_v26) : Vec Ideal S32 .f32) = t_v26 (F := Ideal) (E m c (Proc.devRef .tc main_arg8) : Vec Ideal S2x32 .f32) := by
  rw [keep0 m c main_v26 (by decide), keep0 m c main_arg8 (by decide)]
  exact loc_v26 (X0 m c)

/-- `main_v28` at the loop's entry. -/
theorem E_v28 : (E m c (Proc.devRef .tc main_v28) : Vec Ideal S2048 .f32) = t_v28 (F := Ideal) (E m c (Proc.devRef .tc main_arg9) : Vec Ideal S2x2048 .f32) := by
  rw [keep0 m c main_v28 (by decide), keep0 m c main_arg9 (by decide)]
  exact loc_v28 (X0 m c)

/-- `main_v30` at the loop's entry. -/
theorem E_v30 : (E m c (Proc.devRef .tc main_v30) : Vec Ideal S2048x1024 .f32) = t_v30 (F := Ideal) (E m c (Proc.devRef .tc main_arg10) : Vec Ideal S2x2048x1024 .f32) := by
  rw [keep0 m c main_v30 (by decide), keep0 m c main_arg10 (by decide)]
  exact loc_v30 (X0 m c)

/-- `main_v31` at the loop's entry. -/
theorem E_v31 : (E m c (Proc.devRef .tc main_v31) : Vec Ideal S8x4096x6176 .f32) = t_v31 (F := Ideal) (E m c (Proc.devRef .tc main_v14) : Vec Ideal S8x4096x1024 .f32) (E m c (Proc.devRef .tc main_arg3) : Vec Ideal S2x1024x6176 .f32) := by
  rw [keep0 m c main_v31 (by decide), keep0 m c main_v14 (by decide), keep0 m c main_arg3 (by decide)]
  exact loc_v31 (X0 m c)

/-- `main_v32` at the loop's entry. -/
theorem E_v32 : (E m c (Proc.devRef .tc main_v32) : Vec Ideal S8x4096x2048 .f32) = t_v32 (F := Ideal) (E m c (Proc.devRef .tc main_v31) : Vec Ideal S8x4096x6176 .f32) := by
  rw [keep0 m c main_v32 (by decide), keep0 m c main_v31 (by decide)]
  exact loc_v32 (X0 m c)

/-- `main_v33` at the loop's entry. -/
theorem E_v33 : (E m c (Proc.devRef .tc main_v33) : Vec Ideal S8x4096x4096 .f32) = t_v33 (F := Ideal) (E m c (Proc.devRef .tc main_v31) : Vec Ideal S8x4096x6176 .f32) := by
  rw [keep0 m c main_v33 (by decide), keep0 m c main_v31 (by decide)]
  exact loc_v33 (X0 m c)

/-- `main_v34` at the loop's entry. -/
theorem E_v34 : (E m c (Proc.devRef .tc main_v34) : Vec Ideal S8x4096x32 .f32) = t_v34 (F := Ideal) (E m c (Proc.devRef .tc main_v31) : Vec Ideal S8x4096x6176 .f32) := by
  rw [keep0 m c main_v34 (by decide), keep0 m c main_v31 (by decide)]
  exact loc_v34 (X0 m c)

/-- `main_c` at the loop's entry. -/
theorem E_c : (E m c (Proc.devRef .tc main_c) : Vec Ideal S_ .i32) = t_c (F := Ideal) := by
  rw [keep0 m c main_c (by decide)]
  exact loc_c (X0 m c)

/-- `main_v35` at the loop's entry. -/
theorem E_v35 : (E m c (Proc.devRef .tc main_v35) : Vec Ideal S8x4099x4096 .f32) = t_v35 (F := Ideal) (E m c (Proc.devRef .tc main_v33) : Vec Ideal S8x4096x4096 .f32) (E m c (Proc.devRef .tc main_c) : Vec Ideal S_ .i32) := by
  rw [keep1 m c main_v35 (by decide), keep1 m c main_v33 (by decide), keep1 m c main_c (by decide)]
  exact loc_v35 (X1 m c)

/-- `main_v67` at the loop's entry. -/
theorem E_v67 : (E m c (Proc.devRef .tc main_v67) : Vec Ideal S8x4096x4096 .f32) = t_v67 (F := Ideal) (E m c (Proc.devRef .tc main_v35) : Vec Ideal S8x4099x4096 .f32) (E m c (Proc.devRef .tc main_v18) : Vec Ideal S4x4096 .f32) (E m c (Proc.devRef .tc main_v20) : Vec Ideal S4096 .f32) := by
  rw [keep2 m c main_v67 (by decide), keep2 m c main_v35 (by decide), keep2 m c main_v18 (by decide), keep2 m c main_v20 (by decide)]
  exact loc_v67 (X2 m c)

/-- `main_v68` at the loop's entry. -/
theorem E_v68 : (E m c (Proc.devRef .tc main_v68) : Vec Ideal S8x4096x4096 .f32) = t_v68 (F := Ideal) (E m c (Proc.devRef .tc main_v67) : Vec Ideal S8x4096x4096 .f32) := by
  rw [keep3 m c main_v68 (by decide), keep3 m c main_v67 (by decide)]
  exact loc_v68 (X3 m c)

/-- `main_v70` at the loop's entry. -/
theorem E_v70 : (E m c (Proc.devRef .tc main_v70) : Vec Ideal S8x32x128x8x4x64 .f32) = t_v70 (F := Ideal) (E m c (Proc.devRef .tc main_v68) : Vec Ideal S8x4096x4096 .f32) := by
  rw [keep4 m c main_v70 (by decide), keep4 m c main_v68 (by decide)]
  exact loc_v70 (X4 m c)

/-- `main_v72` at the loop's entry. -/
theorem E_v72 : (E m c (Proc.devRef .tc main_v72) : Vec Ideal S8x32x128x8x128 .f32) = t_v72 (F := Ideal) (E m c (Proc.devRef .tc main_v68) : Vec Ideal S8x4096x4096 .f32) := by
  rw [keep4 m c main_v72 (by decide), keep4 m c main_v68 (by decide)]
  exact loc_v72 (X4 m c)

/-- `main_v74` at the loop's entry. -/
theorem E_v74 : (E m c (Proc.devRef .tc main_v74) : Vec Ideal S8x32x128x8x128 .f32) = t_v74 (F := Ideal) (E m c (Proc.devRef .tc main_v68) : Vec Ideal S8x4096x4096 .f32) := by
  rw [keep4 m c main_v74 (by decide), keep4 m c main_v68 (by decide)]
  exact loc_v74 (X4 m c)

/-- `main_v77` at the loop's entry. -/
theorem E_v77 : (E m c (Proc.devRef .tc main_v77) : Vec Ideal S8x4096x32 .f32) = t_v77 (F := Ideal) (E m c (Proc.devRef .tc main_v34) : Vec Ideal S8x4096x32 .f32) (E m c (Proc.devRef .tc main_v22) : Vec Ideal S32 .f32) := by
  rw [keep4 m c main_v77 (by decide), keep4 m c main_v34 (by decide), keep4 m c main_v22 (by decide)]
  exact loc_v77 (X4 m c)

/-- `main_v78` at the loop's entry. -/
theorem E_v78 : (E m c (Proc.devRef .tc main_v78) : Vec Ideal S8x4096x32 .f32) = t_v78 (F := Ideal) (E m c (Proc.devRef .tc main_v77) : Vec Ideal S8x4096x32 .f32) := by
  rw [keep5 m c main_v78 (by decide), keep5 m c main_v77 (by decide)]
  exact loc_v78 (X5 m c)

/-- `main_v79` at the loop's entry. -/
theorem E_v79 : (E m c (Proc.devRef .tc main_v79) : Vec Ideal S8x32x128x8x4 .f32) = t_v79 (F := Ideal) (E m c (Proc.devRef .tc main_v78) : Vec Ideal S8x4096x32 .f32) := by
  rw [keep6 m c main_v79 (by decide), keep6 m c main_v78 (by decide)]
  exact loc_v79 (X6 m c)

/-- `main_v85` at the loop's entry. -/
theorem E_v85 : (E m c (Proc.devRef .tc main_v85) : Vec Ideal S8x32x128x8x4 .f32) = t_v85 (F := Ideal) (E m c (Proc.devRef .tc main_v79) : Vec Ideal S8x32x128x8x4 .f32) (E m c (Proc.devRef .tc main_v24) : Vec Ideal S32 .f32) := by
  rw [keep6 m c main_v85 (by decide), keep6 m c main_v79 (by decide), keep6 m c main_v24 (by decide)]
  exact loc_v85 (X6 m c)

/-- `main_v86` at the loop's entry. -/
theorem E_v86 : (E m c (Proc.devRef .tc main_v86) : Vec Ideal S8x32x128x8x4 .f32) = t_v86 (F := Ideal) (E m c (Proc.devRef .tc main_v85) : Vec Ideal S8x32x128x8x4 .f32) := by
  rw [keep7 m c main_v86 (by decide), keep7 m c main_v85 (by decide)]
  exact loc_v86 (X7 m c)

/-- `main_v91` at the loop's entry. -/
theorem E_v91 : (E m c (Proc.devRef .tc main_v91) : Vec Ideal S8x32x128x128x8x4 .f32) = t_v91 (F := Ideal) (E m c (Proc.devRef .tc main_v86) : Vec Ideal S8x32x128x8x4 .f32) := by
  rw [keep8 m c main_v91 (by decide), keep8 m c main_v86 (by decide)]
  exact loc_v91 (X8 m c)

/-- `main_v92` at the loop's entry. -/
theorem E_v92 : (E m c (Proc.devRef .tc main_v92) : Vec Ideal S128x128 .i1) = t_v92 (F := Ideal) := by
  rw [keep8 m c main_v92 (by decide)]
  exact loc_v92 (X8 m c)

/-- `main_v93` at the loop's entry. -/
theorem E_v93 : (E m c (Proc.devRef .tc main_v93) : Vec Ideal S128x128 .i1) = t_v93 (F := Ideal) (E m c (Proc.devRef .tc main_v92) : Vec Ideal S128x128 .i1) := by
  rw [keep9 m c main_v93 (by decide), keep9 m c main_v92 (by decide)]
  exact loc_v93 (X9 m c)

/-- `main_v94` at the loop's entry. -/
theorem E_v94 : (E m c (Proc.devRef .tc main_v94) : Vec Ideal S128x128x1x1 .i1) = t_v94 (F := Ideal) (E m c (Proc.devRef .tc main_v93) : Vec Ideal S128x128 .i1) := by
  rw [keep10 m c main_v94 (by decide), keep10 m c main_v93 (by decide)]
  exact loc_v94 (X10 m c)

/-- `main_cst_4` at the loop's entry. -/
theorem E_cst_4 : (E m c (Proc.devRef .tc main_cst_4) : Vec Ideal S_ .f32) = t_cst_4 (F := Ideal) := by
  rw [keep10 m c main_cst_4 (by decide)]
  exact loc_cst_4 (X10 m c)

/-- `main_v95` at the loop's entry. -/
theorem E_v95 : (E m c (Proc.devRef .tc main_v95) : Vec Ideal S8x32x128x128x8x4 .f32) = t_v95 (F := Ideal) (E m c (Proc.devRef .tc main_v94) : Vec Ideal S128x128x1x1 .i1) (E m c (Proc.devRef .tc main_v91) : Vec Ideal S8x32x128x128x8x4 .f32) (E m c (Proc.devRef .tc main_cst_4) : Vec Ideal S_ .f32) := by
  rw [keep11 m c main_v95 (by decide), keep11 m c main_v94 (by decide), keep11 m c main_v91 (by decide), keep11 m c main_cst_4 (by decide)]
  exact loc_v95 (X11 m c)

/-- `main_v96` at the loop's entry. -/
theorem E_v96 : (E m c (Proc.devRef .tc main_v96) : Vec Ideal S8x32x128x128x8x4 .f32) = t_v96 (F := Ideal) (E m c (Proc.devRef .tc main_v95) : Vec Ideal S8x32x128x128x8x4 .f32) := by
  rw [keep12 m c main_v96 (by decide), keep12 m c main_v95 (by decide)]
  exact loc_v96 (X12 m c)

/-- `main_v104` at the loop's entry. -/
theorem E_v104 : (E m c (Proc.devRef .tc main_v104) : Vec Ideal S8x32x128x128x8x4 .f32) = t_v104 (F := Ideal) (E m c (Proc.devRef .tc main_v72) : Vec Ideal S8x32x128x8x128 .f32) (E m c (Proc.devRef .tc main_v74) : Vec Ideal S8x32x128x8x128 .f32) (E m c (Proc.devRef .tc main_v96) : Vec Ideal S8x32x128x128x8x4 .f32) (E m c (Proc.devRef .tc main_v79) : Vec Ideal S8x32x128x8x4 .f32) := by
  rw [keep12 m c main_v104 (by decide), keep12 m c main_v72 (by decide), keep12 m c main_v74 (by decide), keep12 m c main_v96 (by decide), keep12 m c main_v79 (by decide)]
  exact loc_v104 (X12 m c)

/-- `main_v105` at the loop's entry. -/
theorem E_v105 : (E m c (Proc.devRef .tc main_v105) : Vec Ideal S8x32x8x4x64x128 .f32) = t_v105 (F := Ideal) (E m c (Proc.devRef .tc main_v70) : Vec Ideal S8x32x128x8x4x64 .f32) (E m c (Proc.devRef .tc main_v104) : Vec Ideal S8x32x128x128x8x4 .f32) := by
  rw [keep12 m c main_v105 (by decide), keep12 m c main_v70 (by decide), keep12 m c main_v104 (by decide)]
  exact loc_v105 (X12 m c)

/-- `main_v106` at the loop's entry. -/
theorem E_v106 : (E m c (Proc.devRef .tc main_v106) : Vec Ideal S8x32x128x8x4x64 .f32) = t_v106 (F := Ideal) (E m c (Proc.devRef .tc main_v105) : Vec Ideal S8x32x8x4x64x128 .f32) := by
  rw [keep12 m c main_v106 (by decide), keep12 m c main_v105 (by decide)]
  exact loc_v106 (X12 m c)

/-- `main_v114` at the loop's entry. -/
theorem E_v114 : (E m c (Proc.devRef .tc main_v114) : Vec Ideal S8x32x128x8x4x64 .f32) = t_v114 (F := Ideal) (E m c (Proc.devRef .tc main_v86) : Vec Ideal S8x32x128x8x4 .f32) (E m c (Proc.devRef .tc main_v79) : Vec Ideal S8x32x128x8x4 .f32) (E m c (Proc.devRef .tc main_v70) : Vec Ideal S8x32x128x8x4x64 .f32) := by
  rw [keep12 m c main_v114 (by decide), keep12 m c main_v86 (by decide), keep12 m c main_v79 (by decide), keep12 m c main_v70 (by decide)]
  exact loc_v114 (X12 m c)

/-- `main_v115` at the loop's entry. -/
theorem E_v115 : (E m c (Proc.devRef .tc main_v115) : Vec Ideal S8x32x8x4x64x128 .f32) = t_v115 (F := Ideal) (E m c (Proc.devRef .tc main_v114) : Vec Ideal S8x32x128x8x4x64 .f32) (E m c (Proc.devRef .tc main_v72) : Vec Ideal S8x32x128x8x128 .f32) := by
  rw [keep12 m c main_v115 (by decide), keep12 m c main_v114 (by decide), keep12 m c main_v72 (by decide)]
  exact loc_v115 (X12 m c)

/-- `main_v118` at the loop's entry. -/
theorem E_v118 : (E m c (Proc.devRef .tc main_v118) : Vec Ideal S8x32x8x4 .f32) = t_v118 (F := Ideal) (E m c (Proc.devRef .tc main_v86) : Vec Ideal S8x32x128x8x4 .f32) := by
  rw [keep12 m c main_v118 (by decide), keep12 m c main_v86 (by decide)]
  exact loc_v118 (X12 m c)

/-- `main_v123_0` at the loop's entry. -/
theorem E_v123_0 : (E m c (Proc.devRef .tc main_v123_0) : Vec Ideal S32x8x8x4x64x128 .f32) = t_v123_0 (F := Ideal) (E m c (Proc.devRef .tc main_v115) : Vec Ideal S8x32x8x4x64x128 .f32) := by
  rw [keep12 m c main_v123_0 (by decide), keep12 m c main_v115 (by decide)]
  exact loc_v123_0 (X12 m c)

/-- `main_v123_1` at the loop's entry. -/
theorem E_v123_1 : (E m c (Proc.devRef .tc main_v123_1) : Vec Ideal S32x8x8x4 .f32) = t_v123_1 (F := Ideal) (E m c (Proc.devRef .tc main_v118) : Vec Ideal S8x32x8x4 .f32) := by
  rw [keep12 m c main_v123_1 (by decide), keep12 m c main_v118 (by decide)]
  exact loc_v123_1 (X12 m c)

/-- `main_v123_2` at the loop's entry. -/
theorem E_v123_2 : (E m c (Proc.devRef .tc main_v123_2) : Vec Ideal S_ .i32) = t_v123_2 (F := Ideal) := by
  rw [keep12 m c main_v123_2 (by decide)]
  exact loc_v123_2 (X12 m c)

/-- `main_v123_3` at the loop's entry. -/
theorem E_v123_3 : (E m c (Proc.devRef .tc main_v123_3) : Vec Ideal S8x8x4x64x128 .f32) = t_v123_3 (F := Ideal) := by
  rw [keep12 m c main_v123_3 (by decide)]
  exact loc_v123_3 (X12 m c)

/-- `main_v123_4` at the loop's entry. -/
theorem E_v123_4 : (E m c (Proc.devRef .tc main_v123_4) : Vec Ideal S32x8x8x4x64x128 .f32) = t_v123_4 (F := Ideal) := by
  rw [keep12 m c main_v123_4 (by decide)]
  exact loc_v123_4 (X12 m c)

/-- The contents before the operations after the loop. -/
def C : Valuation τ sig (Elt Ideal) := after condOps (atTrip condOps bodyI (entryContents preI m) 32 c)
/-- The contents after the first stretch after the loop. -/
def C1 : Valuation τ sig (Elt Ideal) := after hostOps0_13 (C m c)
/-- The contents after the second stretch after the loop. -/
def C2 : Valuation τ sig (Elt Ideal) := after hostOps0_14 (C1 m c)
/-- The contents at the end. -/
def Z : Valuation τ sig (Elt Ideal) := after hostOps0_15 (C2 m c)
theorem Z_eq : Z m c = finalContents condOps preI bodyI postI 32 m c := rfl

/-- What stretch 13 writes. -/
abbrev W13 : List (Ref sig .tc) := [main_v124, main_v125, main_v126, main_v127, main_v128, main_v129, main_v130, main_v131, main_v132, main_v133, main_v134, main_v135, main_v136, main_v137, main_v138]
theorem W13_writes : (hostOps0_13 : List (HloOp τ sig (Elt Ideal))).Forall fun op => op.writes ⊆ (W13.map (Proc.devRef (τ := τ) .tc)).toFinset :=
  StableHlo.forall_writes_sub_of_map rfl
/-- What stretch 14 writes. -/
abbrev W14 : List (Ref sig .tc) := [main_call9_v0, main_call9_v1, main_call9_cst, main_call9_v2, main_call9_v3, main_call9_cst_0, main_call9_v4, main_call9_v5, main_v139]
theorem W14_writes : (hostOps0_14 : List (HloOp τ sig (Elt Ideal))).Forall fun op => op.writes ⊆ (W14.map (Proc.devRef (τ := τ) .tc)).toFinset :=
  StableHlo.forall_writes_sub_of_map rfl
/-- What stretch 15 writes. -/
abbrev W15 : List (Ref sig .tc) := [main_v140, main_v141, main_v142, main_v143, main_cst_8, main_v144, main_v145, main_cst_9, main_v146, main_v147, main_cst_10, main_v148, main_v149, main_v150, main_v151, main_v152, main_v153, main_v154, main_v155, main_v156, main_v157, main_v158, main_v159, main_cst_11, main_v160, main_v161, main_cst_12, main_v162, main_v163, main_cst_13, main_v164, main_v165, main_v166, main_v167, main_v168, main_v169, main_v170, main_v171]
theorem W15_writes : (hostOps0_15 : List (HloOp τ sig (Elt Ideal))).Forall fun op => op.writes ⊆ (W15.map (Proc.devRef (τ := τ) .tc)).toFinset :=
  StableHlo.forall_writes_sub_of_map rfl
theorem keep15 (r : Ref sig .tc) (_ : r ∉ ([] : List (Ref sig .tc))) : Z m c (Proc.devRef .tc r) = after hostOps0_15 (C2 m c) (Proc.devRef .tc r) := rfl
theorem keep14 (r : Ref sig .tc) (h : r ∉ W15) : Z m c (Proc.devRef .tc r) = after hostOps0_14 (C1 m c) (Proc.devRef .tc r) :=
  after_of_writes_sub hostOps0_15 _ W15_writes h
theorem keep13 (r : Ref sig .tc) (h : r ∉ W14 ++ W15) : Z m c (Proc.devRef .tc r) = after hostOps0_13 (C m c) (Proc.devRef .tc r) :=
  (keep14 m c r fun h' => h (List.mem_append_right _ h')).trans (after_of_writes_sub hostOps0_14 _ W14_writes fun h' => h (List.mem_append_left _ h'))
theorem keepC (r : Ref sig .tc) (h : r ∉ W13 ++ (W14 ++ W15)) : Z m c (Proc.devRef .tc r) = C m c (Proc.devRef .tc r) :=
  (keep13 m c r fun h' => h (List.mem_append_right _ h')).trans (after_of_writes_sub hostOps0_13 _ W13_writes fun h' => h (List.mem_append_left _ h'))

/-- What the loop's operations write. -/
abbrev WL : List (Ref sig .tc) := condOps_W ++ (while0Ops0_W ++ (while0Ops0_1_W ++ (while0Ops0_2_W ++ (while0Ops0_3_W ++ while0Ops0_4_W))))
theorem keepTrip (X : Valuation τ sig (Elt Ideal)) (r : Ref sig .tc) (h : r ∉ WL) :
    afterL bodyI (after condOps X) (Proc.devRef .tc r) = X (Proc.devRef .tc r) := by
  simp only [WL, List.mem_append, not_or] at h
  obtain ⟨h0, h1, h2, h3, h4, h5⟩ := h
  show after while0Ops0_4 (after while0Ops0_3 (after while0Ops0_2 (after while0Ops0_1 (after while0Ops0 (after condOps X))))) (Proc.devRef .tc r) = _
  rw [after_of_writes_sub while0Ops0_4 _ while0Ops0_4_writes h5, after_of_writes_sub while0Ops0_3 _ while0Ops0_3_writes h4,
    after_of_writes_sub while0Ops0_2 _ while0Ops0_2_writes h3, after_of_writes_sub while0Ops0_1 _ while0Ops0_1_writes h2,
    after_of_writes_sub while0Ops0 _ while0Ops0_writes h1, after_of_writes_sub condOps _ condOps_writes h0]
theorem keepLoop (r : Ref sig .tc) (h : r ∉ WL) : ∀ k, atTrip condOps bodyI (entryContents preI m) k c (Proc.devRef .tc r) = E m c (Proc.devRef .tc r)
  | 0 => rfl
  | k + 1 => (keepTrip _ r h).trans (keepLoop r h k)
/-- A buffer that neither the loop nor the operations after it write is at the end as at the loop's entry. -/
theorem Z_keep (r : Ref sig .tc) (h : r ∉ W13 ++ (W14 ++ W15)) (hL : r ∉ WL) : Z m c (Proc.devRef .tc r) = E m c (Proc.devRef .tc r) :=
  (keepC m c r h).trans ((after_of_writes_sub condOps _ condOps_writes fun h' => hL (List.mem_append_left _ h')).trans (keepLoop m c r hL 32))
/-- The stacked states at the end. -/
theorem Z_carry : Z m c (Proc.devRef .tc main_v123_4) = (STEP^[32] (E m c)) (Proc.devRef .tc main_v123_4) :=
  (keepC m c main_v123_4 (by decide)).trans ((cond_keeps _ main_v123_4 (by decide)).trans (atK_agree m c 32 main_v123_4 (by decide)))

/-- `main_v126` at the end. -/
theorem Z_v126 : (Z m c (Proc.devRef .tc main_v126) : Vec Ideal S8x32x128x8x4x64 .f32) = t_v126 (F := Ideal) (Z m c (Proc.devRef .tc main_v123_4) : Vec Ideal S32x8x8x4x64x128 .f32) (Z m c (Proc.devRef .tc main_v74) : Vec Ideal S8x32x128x8x128 .f32) := by
  rw [keep13 m c main_v126 (by decide), keep13 m c main_v123_4 (by decide), keep13 m c main_v74 (by decide)]
  exact loc_v126 _

/-- `main_v137` at the end. -/
theorem Z_v137 : (Z m c (Proc.devRef .tc main_v137) : Vec Ideal S8x32x128x8x4x64 .f32) = t_v137 (F := Ideal) (Z m c (Proc.devRef .tc main_v106) : Vec Ideal S8x32x128x8x4x64 .f32) (Z m c (Proc.devRef .tc main_v126) : Vec Ideal S8x32x128x8x4x64 .f32) (Z m c (Proc.devRef .tc main_v86) : Vec Ideal S8x32x128x8x4 .f32) (Z m c (Proc.devRef .tc main_v70) : Vec Ideal S8x32x128x8x4x64 .f32) (Z m c (Proc.devRef .tc main_v26) : Vec Ideal S32 .f32) := by
  rw [keep13 m c main_v137 (by decide), keep13 m c main_v106 (by decide), keep13 m c main_v126 (by decide), keep13 m c main_v86 (by decide), keep13 m c main_v70 (by decide), keep13 m c main_v26 (by decide)]
  exact loc_v137 _

/-- `main_v138` at the end. -/
theorem Z_v138 : (Z m c (Proc.devRef .tc main_v138) : Vec Ideal S8x4096x2048 .f32) = t_v138 (F := Ideal) (Z m c (Proc.devRef .tc main_v137) : Vec Ideal S8x32x128x8x4x64 .f32) := by
  rw [keep13 m c main_v138 (by decide), keep13 m c main_v137 (by decide)]
  exact loc_v138 _

/-- `main_v139` at the end. -/
theorem Z_v139 : (Z m c (Proc.devRef .tc main_v139) : Vec Ideal S8x4096x2048 .f32) = t_v139 (F := Ideal) (Z m c (Proc.devRef .tc main_v32) : Vec Ideal S8x4096x2048 .f32) := by
  rw [keep14 m c main_v139 (by decide), keep14 m c main_v32 (by decide)]
  exact loc_v139 _

/-- `main_v140` at the end. -/
theorem Z_v140 : (Z m c (Proc.devRef .tc main_v140) : Vec Ideal S8x4096x2048 .f32) = t_v140 (F := Ideal) (Z m c (Proc.devRef .tc main_v138) : Vec Ideal S8x4096x2048 .f32) (Z m c (Proc.devRef .tc main_v139) : Vec Ideal S8x4096x2048 .f32) := by
  rw [keep15 m c main_v140 (by decide), keep15 m c main_v138 (by decide), keep15 m c main_v139 (by decide)]
  exact loc_v140 _

/-- `main_v155` at the end. -/
theorem Z_v155 : (Z m c (Proc.devRef .tc main_v155) : Vec Ideal S8x4096x8x256 .f32) = t_v155 (F := Ideal) (Z m c (Proc.devRef .tc main_v140) : Vec Ideal S8x4096x2048 .f32) (Z m c (Proc.devRef .tc main_v28) : Vec Ideal S2048 .f32) := by
  rw [keep15 m c main_v155 (by decide), keep15 m c main_v140 (by decide), keep15 m c main_v28 (by decide)]
  exact loc_v155 _

/-- `main_v156` at the end. -/
theorem Z_v156 : (Z m c (Proc.devRef .tc main_v156) : Vec Ideal S8x4096x2048 .f32) = t_v156 (F := Ideal) (Z m c (Proc.devRef .tc main_v155) : Vec Ideal S8x4096x8x256 .f32) := by
  rw [keep15 m c main_v156 (by decide), keep15 m c main_v155 (by decide)]
  exact loc_v156 _

/-- `main_v158` at the end. -/
theorem Z_v158 : (Z m c (Proc.devRef .tc main_v158) : Vec Ideal S8x4096x1024 .f32) = t_v158 (F := Ideal) (Z m c (Proc.devRef .tc main_arg0) : Vec Ideal S8x4096x1024 .f32) (Z m c (Proc.devRef .tc main_v156) : Vec Ideal S8x4096x2048 .f32) (Z m c (Proc.devRef .tc main_v30) : Vec Ideal S2048x1024 .f32) := by
  rw [keep15 m c main_v158 (by decide), keep15 m c main_arg0 (by decide), keep15 m c main_v156 (by decide), keep15 m c main_v30 (by decide)]
  exact loc_v158 _

/-- `main_v171` at the end. -/
theorem Z_v171 : (Z m c (Proc.devRef .tc main_v171) : Vec Ideal S8x4096x1024 .f32) = t_v171 (F := Ideal) (Z m c (Proc.devRef .tc main_v158) : Vec Ideal S8x4096x1024 .f32) (Z m c (Proc.devRef .tc main_arg2) : Vec Ideal S1024 .f32) := by
  rw [keep15 m c main_v171 (by decide), keep15 m c main_v158 (by decide), keep15 m c main_arg2 (by decide)]
  exact loc_v171 _

theorem Z_arg0 : Z m c (Proc.devRef .tc main_arg0) = E m c (Proc.devRef .tc main_arg0) := Z_keep m c main_arg0 (by decide) (by decide)
theorem Z_arg2 : Z m c (Proc.devRef .tc main_arg2) = E m c (Proc.devRef .tc main_arg2) := Z_keep m c main_arg2 (by decide) (by decide)
theorem Z_v106 : Z m c (Proc.devRef .tc main_v106) = E m c (Proc.devRef .tc main_v106) := Z_keep m c main_v106 (by decide) (by decide)
theorem Z_v26 : Z m c (Proc.devRef .tc main_v26) = E m c (Proc.devRef .tc main_v26) := Z_keep m c main_v26 (by decide) (by decide)
theorem Z_v28 : Z m c (Proc.devRef .tc main_v28) = E m c (Proc.devRef .tc main_v28) := Z_keep m c main_v28 (by decide) (by decide)
theorem Z_v30 : Z m c (Proc.devRef .tc main_v30) = E m c (Proc.devRef .tc main_v30) := Z_keep m c main_v30 (by decide) (by decide)
theorem Z_v32 : Z m c (Proc.devRef .tc main_v32) = E m c (Proc.devRef .tc main_v32) := Z_keep m c main_v32 (by decide) (by decide)
theorem Z_v70 : Z m c (Proc.devRef .tc main_v70) = E m c (Proc.devRef .tc main_v70) := Z_keep m c main_v70 (by decide) (by decide)
theorem Z_v74 : Z m c (Proc.devRef .tc main_v74) = E m c (Proc.devRef .tc main_v74) := Z_keep m c main_v74 (by decide) (by decide)
theorem Z_v86 : Z m c (Proc.devRef .tc main_v86) = E m c (Proc.devRef .tc main_v86) := Z_keep m c main_v86 (by decide) (by decide)
theorem E_arg0 : E m c (Proc.devRef .tc main_arg0) = m ((c.tc : Thread nD τ).loc main_arg0) := keepA m c main_arg0 (by decide)
theorem E_arg1 : E m c (Proc.devRef .tc main_arg1) = m ((c.tc : Thread nD τ).loc main_arg1) := keepA m c main_arg1 (by decide)
theorem Z_arg1 : Z m c (Proc.devRef .tc main_arg1) = E m c (Proc.devRef .tc main_arg1) := Z_keep m c main_arg1 (by decide) (by decide)
theorem E_arg2 : E m c (Proc.devRef .tc main_arg2) = m ((c.tc : Thread nD τ).loc main_arg2) := keepA m c main_arg2 (by decide)
theorem E_arg3 : E m c (Proc.devRef .tc main_arg3) = m ((c.tc : Thread nD τ).loc main_arg3) := keepA m c main_arg3 (by decide)
theorem Z_arg3 : Z m c (Proc.devRef .tc main_arg3) = E m c (Proc.devRef .tc main_arg3) := Z_keep m c main_arg3 (by decide) (by decide)
theorem E_arg4 : E m c (Proc.devRef .tc main_arg4) = m ((c.tc : Thread nD τ).loc main_arg4) := keepA m c main_arg4 (by decide)
theorem Z_arg4 : Z m c (Proc.devRef .tc main_arg4) = E m c (Proc.devRef .tc main_arg4) := Z_keep m c main_arg4 (by decide) (by decide)
theorem E_arg5 : E m c (Proc.devRef .tc main_arg5) = m ((c.tc : Thread nD τ).loc main_arg5) := keepA m c main_arg5 (by decide)
theorem Z_arg5 : Z m c (Proc.devRef .tc main_arg5) = E m c (Proc.devRef .tc main_arg5) := Z_keep m c main_arg5 (by decide) (by decide)
theorem E_arg6 : E m c (Proc.devRef .tc main_arg6) = m ((c.tc : Thread nD τ).loc main_arg6) := keepA m c main_arg6 (by decide)
theorem Z_arg6 : Z m c (Proc.devRef .tc main_arg6) = E m c (Proc.devRef .tc main_arg6) := Z_keep m c main_arg6 (by decide) (by decide)
theorem E_arg7 : E m c (Proc.devRef .tc main_arg7) = m ((c.tc : Thread nD τ).loc main_arg7) := keepA m c main_arg7 (by decide)
theorem Z_arg7 : Z m c (Proc.devRef .tc main_arg7) = E m c (Proc.devRef .tc main_arg7) := Z_keep m c main_arg7 (by decide) (by decide)
theorem E_arg8 : E m c (Proc.devRef .tc main_arg8) = m ((c.tc : Thread nD τ).loc main_arg8) := keepA m c main_arg8 (by decide)
theorem Z_arg8 : Z m c (Proc.devRef .tc main_arg8) = E m c (Proc.devRef .tc main_arg8) := Z_keep m c main_arg8 (by decide) (by decide)
theorem E_arg9 : E m c (Proc.devRef .tc main_arg9) = m ((c.tc : Thread nD τ).loc main_arg9) := keepA m c main_arg9 (by decide)
theorem Z_arg9 : Z m c (Proc.devRef .tc main_arg9) = E m c (Proc.devRef .tc main_arg9) := Z_keep m c main_arg9 (by decide) (by decide)
theorem E_arg10 : E m c (Proc.devRef .tc main_arg10) = m ((c.tc : Thread nD τ).loc main_arg10) := keepA m c main_arg10 (by decide)
theorem Z_arg10 : Z m c (Proc.devRef .tc main_arg10) = E m c (Proc.devRef .tc main_arg10) := Z_keep m c main_arg10 (by decide) (by decide)
end Cert.Reference2Ideal.Ssd
-- ==== Proof.Ssd.RefF.lean ====
/- The reference's arrays as arrays. -/
module

public import proofs.«01_k».proof.Proof.Gen.Reference2Ideal.Run
public import proofs.«01_k».proof.Proof.Ssd.RefE

@[expose] public section

set_option maxRecDepth 16384

noncomputable section

namespace Cert.Reference2Ideal.Ssd

open Cert.Reference2Ideal Cert.Reference2Ideal.Gen Cert.Reference2Ideal.Facts Cert.Reference2Ideal.Value Idealize.ShloMosaic
  Idealize.ShloMosaic.StableHlo Idealize.SL.Sem

variable (m : (ℓ : Loc nD τ sig) → Buf (Elt Ideal) ℓ) (c : Dev nD)

/-- Argument 0. -/
def F_arg0 : Vec Ideal S8x4096x1024 .f32 := m ((c.tc : Thread nD τ).loc main_arg0)
/-- Argument 1. -/
def F_arg1 : Vec Ideal S4x1024 .f32 := m ((c.tc : Thread nD τ).loc main_arg1)
/-- Argument 2. -/
def F_arg2 : Vec Ideal S1024 .f32 := m ((c.tc : Thread nD τ).loc main_arg2)
/-- Argument 3. -/
def F_arg3 : Vec Ideal S2x1024x6176 .f32 := m ((c.tc : Thread nD τ).loc main_arg3)
/-- Argument 4. -/
def F_arg4 : Vec Ideal S2x4x4096 .f32 := m ((c.tc : Thread nD τ).loc main_arg4)
/-- Argument 5. -/
def F_arg5 : Vec Ideal S2x4096 .f32 := m ((c.tc : Thread nD τ).loc main_arg5)
/-- Argument 6. -/
def F_arg6 : Vec Ideal S2x32 .f32 := m ((c.tc : Thread nD τ).loc main_arg6)
/-- Argument 7. -/
def F_arg7 : Vec Ideal S2x32 .f32 := m ((c.tc : Thread nD τ).loc main_arg7)
/-- Argument 8. -/
def F_arg8 : Vec Ideal S2x32 .f32 := m ((c.tc : Thread nD τ).loc main_arg8)
/-- Argument 9. -/
def F_arg9 : Vec Ideal S2x2048 .f32 := m ((c.tc : Thread nD τ).loc main_arg9)
/-- Argument 10. -/
def F_arg10 : Vec Ideal S2x2048x1024 .f32 := m ((c.tc : Thread nD τ).loc main_arg10)
/-- `main_v14`. -/
def F_v14 : Vec Ideal S8x4096x1024 .f32 := E m c (Proc.devRef .tc main_v14)
/-- `main_v18`. -/
def F_v18 : Vec Ideal S4x4096 .f32 := E m c (Proc.devRef .tc main_v18)
/-- `main_v20`. -/
def F_v20 : Vec Ideal S4096 .f32 := E m c (Proc.devRef .tc main_v20)
/-- `main_v22`. -/
def F_v22 : Vec Ideal S32 .f32 := E m c (Proc.devRef .tc main_v22)
/-- `main_v24`. -/
def F_v24 : Vec Ideal S32 .f32 := E m c (Proc.devRef .tc main_v24)
/-- `main_v26`. -/
def F_v26 : Vec Ideal S32 .f32 := E m c (Proc.devRef .tc main_v26)
/-- `main_v28`. -/
def F_v28 : Vec Ideal S2048 .f32 := E m c (Proc.devRef .tc main_v28)
/-- `main_v30`. -/
def F_v30 : Vec Ideal S2048x1024 .f32 := E m c (Proc.devRef .tc main_v30)
/-- `main_v31`. -/
def F_v31 : Vec Ideal S8x4096x6176 .f32 := E m c (Proc.devRef .tc main_v31)
/-- `main_v32`. -/
def F_v32 : Vec Ideal S8x4096x2048 .f32 := E m c (Proc.devRef .tc main_v32)
/-- `main_v33`. -/
def F_v33 : Vec Ideal S8x4096x4096 .f32 := E m c (Proc.devRef .tc main_v33)
/-- `main_v34`. -/
def F_v34 : Vec Ideal S8x4096x32 .f32 := E m c (Proc.devRef .tc main_v34)
/-- `main_c`. -/
def F_c : Vec Ideal S_ .i32 := E m c (Proc.devRef .tc main_c)
/-- `main_v35`. -/
def F_v35 : Vec Ideal S8x4099x4096 .f32 := E m c (Proc.devRef .tc main_v35)
/-- `main_v67`. -/
def F_v67 : Vec Ideal S8x4096x4096 .f32 := E m c (Proc.devRef .tc main_v67)
/-- `main_v68`. -/
def F_v68 : Vec Ideal S8x4096x4096 .f32 := E m c (Proc.devRef .tc main_v68)
/-- `main_v70`. -/
def F_v70 : Vec Ideal S8x32x128x8x4x64 .f32 := E m c (Proc.devRef .tc main_v70)
/-- `main_v72`. -/
def F_v72 : Vec Ideal S8x32x128x8x128 .f32 := E m c (Proc.devRef .tc main_v72)
/-- `main_v74`. -/
def F_v74 : Vec Ideal S8x32x128x8x128 .f32 := E m c (Proc.devRef .tc main_v74)
/-- `main_v77`. -/
def F_v77 : Vec Ideal S8x4096x32 .f32 := E m c (Proc.devRef .tc main_v77)
/-- `main_v78`. -/
def F_v78 : Vec Ideal S8x4096x32 .f32 := E m c (Proc.devRef .tc main_v78)
/-- `main_v79`. -/
def F_v79 : Vec Ideal S8x32x128x8x4 .f32 := E m c (Proc.devRef .tc main_v79)
/-- `main_v85`. -/
def F_v85 : Vec Ideal S8x32x128x8x4 .f32 := E m c (Proc.devRef .tc main_v85)
/-- `main_v86`. -/
def F_v86 : Vec Ideal S8x32x128x8x4 .f32 := E m c (Proc.devRef .tc main_v86)
/-- `main_v91`. -/
def F_v91 : Vec Ideal S8x32x128x128x8x4 .f32 := E m c (Proc.devRef .tc main_v91)
/-- `main_v92`. -/
def F_v92 : Vec Ideal S128x128 .i1 := E m c (Proc.devRef .tc main_v92)
/-- `main_v93`. -/
def F_v93 : Vec Ideal S128x128 .i1 := E m c (Proc.devRef .tc main_v93)
/-- `main_v94`. -/
def F_v94 : Vec Ideal S128x128x1x1 .i1 := E m c (Proc.devRef .tc main_v94)
/-- `main_cst_4`. -/
def F_cst_4 : Vec Ideal S_ .f32 := E m c (Proc.devRef .tc main_cst_4)
/-- `main_v95`. -/
def F_v95 : Vec Ideal S8x32x128x128x8x4 .f32 := E m c (Proc.devRef .tc main_v95)
/-- `main_v96`. -/
def F_v96 : Vec Ideal S8x32x128x128x8x4 .f32 := E m c (Proc.devRef .tc main_v96)
/-- `main_v104`. -/
def F_v104 : Vec Ideal S8x32x128x128x8x4 .f32 := E m c (Proc.devRef .tc main_v104)
/-- `main_v105`. -/
def F_v105 : Vec Ideal S8x32x8x4x64x128 .f32 := E m c (Proc.devRef .tc main_v105)
/-- `main_v106`. -/
def F_v106 : Vec Ideal S8x32x128x8x4x64 .f32 := E m c (Proc.devRef .tc main_v106)
/-- `main_v114`. -/
def F_v114 : Vec Ideal S8x32x128x8x4x64 .f32 := E m c (Proc.devRef .tc main_v114)
/-- `main_v115`. -/
def F_v115 : Vec Ideal S8x32x8x4x64x128 .f32 := E m c (Proc.devRef .tc main_v115)
/-- `main_v118`. -/
def F_v118 : Vec Ideal S8x32x8x4 .f32 := E m c (Proc.devRef .tc main_v118)
/-- `main_v123_0`. -/
def F_v123_0 : Vec Ideal S32x8x8x4x64x128 .f32 := E m c (Proc.devRef .tc main_v123_0)
/-- `main_v123_1`. -/
def F_v123_1 : Vec Ideal S32x8x8x4 .f32 := E m c (Proc.devRef .tc main_v123_1)
/-- `main_v123_2`. -/
def F_v123_2 : Vec Ideal S_ .i32 := E m c (Proc.devRef .tc main_v123_2)
/-- `main_v123_3`. -/
def F_v123_3 : Vec Ideal S8x8x4x64x128 .f32 := E m c (Proc.devRef .tc main_v123_3)
/-- `main_v123_4`. -/
def F_v123_4 : Vec Ideal S32x8x8x4x64x128 .f32 := E m c (Proc.devRef .tc main_v123_4)
/-- The stacked states at the end. -/
def G_v123_4 : Vec Ideal S32x8x8x4x64x128 .f32 := Z m c (Proc.devRef .tc main_v123_4)
/-- `main_v126`. -/
def G_v126 : Vec Ideal S8x32x128x8x4x64 .f32 := Z m c (Proc.devRef .tc main_v126)
/-- `main_v137`. -/
def G_v137 : Vec Ideal S8x32x128x8x4x64 .f32 := Z m c (Proc.devRef .tc main_v137)
/-- `main_v138`. -/
def G_v138 : Vec Ideal S8x4096x2048 .f32 := Z m c (Proc.devRef .tc main_v138)
/-- `main_v139`. -/
def G_v139 : Vec Ideal S8x4096x2048 .f32 := Z m c (Proc.devRef .tc main_v139)
/-- `main_v140`. -/
def G_v140 : Vec Ideal S8x4096x2048 .f32 := Z m c (Proc.devRef .tc main_v140)
/-- `main_v155`. -/
def G_v155 : Vec Ideal S8x4096x8x256 .f32 := Z m c (Proc.devRef .tc main_v155)
/-- `main_v156`. -/
def G_v156 : Vec Ideal S8x4096x2048 .f32 := Z m c (Proc.devRef .tc main_v156)
/-- `main_v158`. -/
def G_v158 : Vec Ideal S8x4096x1024 .f32 := Z m c (Proc.devRef .tc main_v158)
/-- `main_v171`. -/
def G_v171 : Vec Ideal S8x4096x1024 .f32 := Z m c (Proc.devRef .tc main_v171)
theorem F_v14_eq : F_v14 m c = t_v14 (F := Ideal) (F_arg0 m c) (F_arg1 m c) := (E_v14 m c).trans (by rw [E_arg0, E_arg1]; rfl)
theorem F_v18_eq : F_v18 m c = t_v18 (F := Ideal) (F_arg4 m c) := (E_v18 m c).trans (by rw [E_arg4]; rfl)
theorem F_v20_eq : F_v20 m c = t_v20 (F := Ideal) (F_arg5 m c) := (E_v20 m c).trans (by rw [E_arg5]; rfl)
theorem F_v22_eq : F_v22 m c = t_v22 (F := Ideal) (F_arg6 m c) := (E_v22 m c).trans (by rw [E_arg6]; rfl)
theorem F_v24_eq : F_v24 m c = t_v24 (F := Ideal) (F_arg7 m c) := (E_v24 m c).trans (by rw [E_arg7]; rfl)
theorem F_v26_eq : F_v26 m c = t_v26 (F := Ideal) (F_arg8 m c) := (E_v26 m c).trans (by rw [E_arg8]; rfl)
theorem F_v28_eq : F_v28 m c = t_v28 (F := Ideal) (F_arg9 m c) := (E_v28 m c).trans (by rw [E_arg9]; rfl)
theorem F_v30_eq : F_v30 m c = t_v30 (F := Ideal) (F_arg10 m c) := (E_v30 m c).trans (by rw [E_arg10]; rfl)
theorem F_v31_eq : F_v31 m c = t_v31 (F := Ideal) (F_v14 m c) (F_arg3 m c) := (E_v31 m c).trans (by rw [E_arg3]; rfl)
theorem F_v32_eq : F_v32 m c = t_v32 (F := Ideal) (F_v31 m c) := E_v32 m c
theorem F_v33_eq : F_v33 m c = t_v33 (F := Ideal) (F_v31 m c) := E_v33 m c
theorem F_v34_eq : F_v34 m c = t_v34 (F := Ideal) (F_v31 m c) := E_v34 m c
theorem F_c_eq : F_c m c = t_c (F := Ideal) := E_c m c
theorem F_v35_eq : F_v35 m c = t_v35 (F := Ideal) (F_v33 m c) (F_c m c) := E_v35 m c
theorem F_v67_eq : F_v67 m c = t_v67 (F := Ideal) (F_v35 m c) (F_v18 m c) (F_v20 m c) := E_v67 m c
theorem F_v68_eq : F_v68 m c = t_v68 (F := Ideal) (F_v67 m c) := E_v68 m c
theorem F_v70_eq : F_v70 m c = t_v70 (F := Ideal) (F_v68 m c) := E_v70 m c
theorem F_v72_eq : F_v72 m c = t_v72 (F := Ideal) (F_v68 m c) := E_v72 m c
theorem F_v74_eq : F_v74 m c = t_v74 (F := Ideal) (F_v68 m c) := E_v74 m c
theorem F_v77_eq : F_v77 m c = t_v77 (F := Ideal) (F_v34 m c) (F_v22 m c) := E_v77 m c
theorem F_v78_eq : F_v78 m c = t_v78 (F := Ideal) (F_v77 m c) := E_v78 m c
theorem F_v79_eq : F_v79 m c = t_v79 (F := Ideal) (F_v78 m c) := E_v79 m c
theorem F_v85_eq : F_v85 m c = t_v85 (F := Ideal) (F_v79 m c) (F_v24 m c) := E_v85 m c
theorem F_v86_eq : F_v86 m c = t_v86 (F := Ideal) (F_v85 m c) := E_v86 m c
theorem F_v91_eq : F_v91 m c = t_v91 (F := Ideal) (F_v86 m c) := E_v91 m c
theorem F_v92_eq : F_v92 m c = t_v92 (F := Ideal) := E_v92 m c
theorem F_v93_eq : F_v93 m c = t_v93 (F := Ideal) (F_v92 m c) := E_v93 m c
theorem F_v94_eq : F_v94 m c = t_v94 (F := Ideal) (F_v93 m c) := E_v94 m c
theorem F_cst_4_eq : F_cst_4 m c = t_cst_4 (F := Ideal) := E_cst_4 m c
theorem F_v95_eq : F_v95 m c = t_v95 (F := Ideal) (F_v94 m c) (F_v91 m c) (F_cst_4 m c) := E_v95 m c
theorem F_v96_eq : F_v96 m c = t_v96 (F := Ideal) (F_v95 m c) := E_v96 m c
theorem F_v104_eq : F_v104 m c = t_v104 (F := Ideal) (F_v72 m c) (F_v74 m c) (F_v96 m c) (F_v79 m c) := E_v104 m c
theorem F_v105_eq : F_v105 m c = t_v105 (F := Ideal) (F_v70 m c) (F_v104 m c) := E_v105 m c
theorem F_v106_eq : F_v106 m c = t_v106 (F := Ideal) (F_v105 m c) := E_v106 m c
theorem F_v114_eq : F_v114 m c = t_v114 (F := Ideal) (F_v86 m c) (F_v79 m c) (F_v70 m c) := E_v114 m c
theorem F_v115_eq : F_v115 m c = t_v115 (F := Ideal) (F_v114 m c) (F_v72 m c) := E_v115 m c
theorem F_v118_eq : F_v118 m c = t_v118 (F := Ideal) (F_v86 m c) := E_v118 m c
theorem F_v123_0_eq : F_v123_0 m c = t_v123_0 (F := Ideal) (F_v115 m c) := E_v123_0 m c
theorem F_v123_1_eq : F_v123_1 m c = t_v123_1 (F := Ideal) (F_v118 m c) := E_v123_1 m c
theorem F_v123_2_eq : F_v123_2 m c = t_v123_2 (F := Ideal) := E_v123_2 m c
theorem F_v123_3_eq : F_v123_3 m c = t_v123_3 (F := Ideal) := E_v123_3 m c
theorem F_v123_4_eq : F_v123_4 m c = t_v123_4 (F := Ideal) := E_v123_4 m c
theorem G_v126_eq : G_v126 m c = t_v126 (F := Ideal) (G_v123_4 m c) (F_v74 m c) := (Z_v126 m c).trans (by rw [Z_v74]; rfl)
theorem G_v137_eq : G_v137 m c = t_v137 (F := Ideal) (F_v106 m c) (G_v126 m c) (F_v86 m c) (F_v70 m c) (F_v26 m c) := (Z_v137 m c).trans (by rw [Z_v106, Z_v86, Z_v70, Z_v26]; rfl)
theorem G_v138_eq : G_v138 m c = t_v138 (F := Ideal) (G_v137 m c) := Z_v138 m c
theorem G_v139_eq : G_v139 m c = t_v139 (F := Ideal) (F_v32 m c) := (Z_v139 m c).trans (by rw [Z_v32]; rfl)
theorem G_v140_eq : G_v140 m c = t_v140 (F := Ideal) (G_v138 m c) (G_v139 m c) := Z_v140 m c
theorem G_v155_eq : G_v155 m c = t_v155 (F := Ideal) (G_v140 m c) (F_v28 m c) := (Z_v155 m c).trans (by rw [Z_v28]; rfl)
theorem G_v156_eq : G_v156 m c = t_v156 (F := Ideal) (G_v155 m c) := Z_v156 m c
theorem G_v158_eq : G_v158 m c = t_v158 (F := Ideal) (F_arg0 m c) (G_v156 m c) (F_v30 m c) := (Z_v158 m c).trans (by rw [Z_arg0, E_arg0, Z_v30]; rfl)
theorem G_v171_eq : G_v171 m c = t_v171 (F := Ideal) (G_v158 m c) (F_arg2 m c) := (Z_v171 m c).trans (by rw [Z_arg2, E_arg2]; rfl)

end Cert.Reference2Ideal.Ssd
-- ==== Proof.Ssd.RefApply.lean ====
/- The reference's arrays at an index. -/
module

public import proofs.«01_k».proof.Proof.Ssd.RefDefs
public import proofs.«01_k».proof.Proof.Sgu.Ref
public import Idealize.ShloMosaic.Lib.ValueIdxRank6

@[expose] public section

set_option maxRecDepth 16384

noncomputable section

namespace Cert.Reference2Ideal.Ssd

open Cert.Ssd Cert.Sgu Cert.Reference2Ideal Cert.Reference2Ideal.Gen Cert.Reference2Ideal.Facts Idealize.ShloMosaic

/-- The normalised input. -/
theorem a_v14 (x : Vec Ideal S8x4096x1024 .f32) (g : Vec Ideal S4x1024 .f32) (b : Fin 8) (l : Fin 4096) (k : Fin 1024) :
    t_v14 (F := Ideal) x g (ix3 b l k) = rms (fun i => x (ix3 b l i)) (fun i => g (ix2 3 i)) k := by
  unfold rms
  pointwise [t_v14]
theorem a_v18 (x : Vec Ideal S2x4x4096 .f32) (k : Fin 4) (j : Fin 4096) : t_v18 (F := Ideal) x (ix2 k j) = x (ix3 1 k j) := by pointwise [t_v18]
theorem a_v20 (x : Vec Ideal S2x4096 .f32) (j : Fin 4096) : t_v20 (F := Ideal) x (ix1 j) = x (ix2 1 j) := by pointwise [t_v20]
theorem a_v22 (x : Vec Ideal S2x32 .f32) (j : Fin 32) : t_v22 (F := Ideal) x (ix1 j) = x (ix2 1 j) := by pointwise [t_v22]
theorem a_v24 (x : Vec Ideal S2x32 .f32) (j : Fin 32) : t_v24 (F := Ideal) x (ix1 j) = x (ix2 1 j) := by pointwise [t_v24]
theorem a_v26 (x : Vec Ideal S2x32 .f32) (j : Fin 32) : t_v26 (F := Ideal) x (ix1 j) = x (ix2 1 j) := by pointwise [t_v26]
theorem a_v28 (x : Vec Ideal S2x2048 .f32) (j : Fin 2048) : t_v28 (F := Ideal) x (ix1 j) = x (ix2 1 j) := by pointwise [t_v28]
theorem a_v30 (x : Vec Ideal S2x2048x1024 .f32) (j : Fin 2048) (k : Fin 1024) : t_v30 (F := Ideal) x (ix2 j k) = x (ix3 1 j k) := by pointwise [t_v30]
/-- The input projection. -/
theorem a_v31 (x : Vec Ideal S8x4096x1024 .f32) (w : Vec Ideal S2x1024x6176 .f32) (b : Fin 8) (l : Fin 4096) (j : Fin 6176) :
    t_v31 (F := Ideal) x w (ix3 b l j) = ∑ k : Fin 1024, x (ix3 b l k) * w (ix3 1 k j) := by
  pointwise [t_v31]
theorem a_v32 (x : Vec Ideal S8x4096x6176 .f32) (b : Fin 8) (l : Fin 4096) (j : Fin 2048) :
    t_v32 (F := Ideal) x (ix3 b l j) = x (ix3 b l ⟨j.val, by have := j.isLt; omega⟩) := by
  pointwise [t_v32]
theorem a_v33 (x : Vec Ideal S8x4096x6176 .f32) (b : Fin 8) (l : Fin 4096) (j : Fin 4096) :
    t_v33 (F := Ideal) x (ix3 b l j) = x (ix3 b l ⟨2048 + j.val, by have := j.isLt; omega⟩) := by
  pointwise [t_v33]
theorem a_v34 (x : Vec Ideal S8x4096x6176 .f32) (b : Fin 8) (l : Fin 4096) (j : Fin 32) :
    t_v34 (F := Ideal) x (ix3 b l j) = x (ix3 b l ⟨6144 + j.val, by have := j.isLt; omega⟩) := by
  pointwise [t_v34]
/-- The padded rows. -/
theorem a_v35 (x : Vec Ideal S8x4096x4096 .f32) (b : Fin 8) (l : Fin 4099) (j : Fin 4096) :
    t_v35 (F := Ideal) x (t_c (F := Ideal)) (ix3 b l j) = if h : l.val < 3 then 0 else x (ix3 b ⟨l.val - 3, by have := l.isLt; omega⟩ j) := by
  have hl := l.isLt
  pointwise [t_v35, t_c]
  by_cases h : l.val < 3
  · rw [dif_pos h, dif_neg (by omega)]
    exact (show (((0#32 : BitVec 32).toInt : ℝ) : EReal) = 0 by simp)
  · rw [dif_neg h, dif_pos (by omega)]
/-- The convolution. -/
theorem a_v67 (x : Vec Ideal S8x4099x4096 .f32) (w : Vec Ideal S4x4096 .f32) (v : Vec Ideal S4096 .f32) (b : Fin 8) (l : Fin 4096) (j : Fin 4096) :
    t_v67 (F := Ideal) x w v (ix3 b l j) = 0 + x (ix3 b ⟨l.val, by have := l.isLt; omega⟩ j) * w (ix2 0 j)
      + x (ix3 b ⟨1 + l.val, by have := l.isLt; omega⟩ j) * w (ix2 1 j) + x (ix3 b ⟨2 + l.val, by have := l.isLt; omega⟩ j) * w (ix2 2 j)
      + x (ix3 b ⟨3 + l.val, by have := l.isLt; omega⟩ j) * w (ix2 3 j) + v (ix1 j) := by
  pointwise [t_v67]
theorem a_v68 (x : Vec Ideal S8x4096x4096 .f32) (b : Fin 8) (l : Fin 4096) (j : Fin 4096) :
    t_v68 (F := Ideal) x (ix3 b l j) = x (ix3 b l j) * Ideal.div (Ideal.ofBits .f32 0x3F800000#32) (Ideal.ofBits .f32 0x3F800000#32 + Ideal.exp (-x (ix3 b l j))) := by
  pointwise [t_v68]
theorem a_v77 (x : Vec Ideal S8x4096x32 .f32) (v : Vec Ideal S32 .f32) (b : Fin 8) (l : Fin 4096) (j : Fin 32) :
    t_v77 (F := Ideal) x v (ix3 b l j) = x (ix3 b l j) + v (ix1 j) := by
  pointwise [t_v77]
theorem a_v78 (x : Vec Ideal S8x4096x32 .f32) (b : Fin 8) (l : Fin 4096) (j : Fin 32) :
    t_v78 (F := Ideal) x (ix3 b l j) = sp (x (ix3 b l j)) := by
  unfold sp
  pointwise [t_v78]
  rw [if_neg (fun h => h rfl)]
  rfl
/-- The decays' exponents. -/
theorem a_v91 (x : Vec Ideal S8x32x128x8x4 .f32) (b : Fin 8) (q : Fin 32) (t s : Fin 128) (g : Fin 8) (e : Fin 4) :
    t_v91 (F := Ideal) x (ix6 b q t s g e) = x (ix5 b q t g e) - x (ix5 b q s g e) := by
  pointwise [t_v91]
theorem a_v93 (t s : Fin 128) :
    t_v93 (F := Ideal) (t_v92 (F := Ideal)) (ix2 t s) = if s ≤ t then 1#1 else 0#1 := by
  pointwise [t_v93, t_v92]
  revert t s
  decide +kernel
theorem a_v95 (x : Vec Ideal S128x128 .i1) (y : Vec Ideal S8x32x128x128x8x4 .f32) (b : Fin 8) (q : Fin 32) (t s : Fin 128) (g : Fin 8) (e : Fin 4) :
    t_v95 (F := Ideal) (t_v94 (F := Ideal) x) y (t_cst_4 (F := Ideal)) (ix6 b q t s g e) = Scalar.select (x (ix2 t s)) (y (ix6 b q t s g e)) (Ideal.ofBits .f32 0xFF800000#32) := by
  pointwise [t_v95, t_v94, t_cst_4, id]
theorem a_v96 (y : Vec Ideal S8x32x128x128x8x4 .f32) (b : Fin 8) (q : Fin 32) (t s : Fin 128) (g : Fin 8) (e : Fin 4) :
    t_v96 (F := Ideal) y (ix6 b q t s g e) = Ideal.exp (y (ix6 b q t s g e)) := by
  pointwise [t_v96]
/-- The weights inside a chunk. -/
theorem a_v104 (B C : Vec Ideal S8x32x128x8x128 .f32) (d : Vec Ideal S8x32x128x128x8x4 .f32) (v : Vec Ideal S8x32x128x8x4 .f32)
    (b : Fin 8) (q : Fin 32) (t s : Fin 128) (g : Fin 8) (e : Fin 4) :
    t_v104 (F := Ideal) B C d v (ix6 b q t s g e) = (∑ n : Fin 128, B (ix5 b q s g n) * C (ix5 b q t g n)) * d (ix6 b q t s g e) * v (ix5 b q s g e) := by
  pointwise [t_v104]
theorem a_v105 (x : Vec Ideal S8x32x128x8x4x64 .f32) (d : Vec Ideal S8x32x128x128x8x4 .f32)
    (b : Fin 8) (q : Fin 32) (g : Fin 8) (e : Fin 4) (p : Fin 64) (t : Fin 128) :
    t_v105 (F := Ideal) x d (ix6 b q g e p t) = ∑ s : Fin 128, x (ix6 b q s g e p) * d (ix6 b q t s g e) := by
  pointwise [t_v105]
theorem a_v106 (x : Vec Ideal S8x32x8x4x64x128 .f32) (b : Fin 8) (q : Fin 32) (t : Fin 128) (g : Fin 8) (e : Fin 4) (p : Fin 64) :
    t_v106 (F := Ideal) x (ix6 b q t g e p) = x (ix6 b q g e p t) := by
  pointwise [t_v106]
theorem a_v114 (cs v : Vec Ideal S8x32x128x8x4 .f32) (x : Vec Ideal S8x32x128x8x4x64 .f32) (b : Fin 8) (q : Fin 32) (t : Fin 128) (g : Fin 8) (e : Fin 4) (p : Fin 64) :
    t_v114 (F := Ideal) cs v x (ix6 b q t g e p) = Ideal.exp (cs (ix5 b q 127 g e) - cs (ix5 b q t g e)) * v (ix5 b q t g e) * x (ix6 b q t g e p) := by
  pointwise [t_v114]
theorem a_v115 (x : Vec Ideal S8x32x128x8x4x64 .f32) (B : Vec Ideal S8x32x128x8x128 .f32)
    (b : Fin 8) (q : Fin 32) (g : Fin 8) (e : Fin 4) (p : Fin 64) (n : Fin 128) :
    t_v115 (F := Ideal) x B (ix6 b q g e p n) = ∑ s : Fin 128, x (ix6 b q s g e p) * B (ix5 b q s g n) := by
  pointwise [t_v115]
theorem a_v118 (cs : Vec Ideal S8x32x128x8x4 .f32) (b : Fin 8) (q : Fin 32) (g : Fin 8) (e : Fin 4) :
    t_v118 (F := Ideal) cs (ix4 b q g e) = Ideal.exp (cs (ix5 b q 127 g e)) := by
  pointwise [t_v118]
theorem a_v123_0 (x : Vec Ideal S8x32x8x4x64x128 .f32) (b : Fin 8) (q : Fin 32) (g : Fin 8) (e : Fin 4) (p : Fin 64) (n : Fin 128) :
    t_v123_0 (F := Ideal) x (ix6 q b g e p n) = x (ix6 b q g e p n) := by
  pointwise [t_v123_0, id]
theorem a_v123_1 (x : Vec Ideal S8x32x8x4 .f32) (b : Fin 8) (q : Fin 32) (g : Fin 8) (e : Fin 4) :
    t_v123_1 (F := Ideal) x (ix4 q b g e) = x (ix4 b q g e) := by
  pointwise [t_v123_1, id]
theorem a_v123_3 (b : Fin 8) (g : Fin 8) (e : Fin 4) (p : Fin 64) (n : Fin 128) : t_v123_3 (F := Ideal) (ix5 b g e p n) = 0 := by
  pointwise [t_v123_3, id]
theorem a_v126 (S : Vec Ideal S32x8x8x4x64x128 .f32) (C : Vec Ideal S8x32x128x8x128 .f32)
    (b : Fin 8) (q : Fin 32) (t : Fin 128) (g : Fin 8) (e : Fin 4) (p : Fin 64) :
    t_v126 (F := Ideal) S C (ix6 b q t g e p) = ∑ n : Fin 128, S (ix6 q b g e p n) * C (ix5 b q t g n) := by
  pointwise [t_v126]
theorem a_v139 (x : Vec Ideal S8x4096x2048 .f32) (b : Fin 8) (l : Fin 4096) (j : Fin 2048) :
    t_v139 (F := Ideal) x (ix3 b l j) = x (ix3 b l j) * Ideal.div (Ideal.ofBits .f32 0x3F800000#32) (Ideal.ofBits .f32 0x3F800000#32 + Ideal.exp (-x (ix3 b l j))) := by
  pointwise [t_v139]
theorem a_v140 (x y : Vec Ideal S8x4096x2048 .f32) (b : Fin 8) (l : Fin 4096) (j : Fin 2048) :
    t_v140 (F := Ideal) x y (ix3 b l j) = x (ix3 b l j) * y (ix3 b l j) := by
  pointwise [t_v140]
theorem a_v158 (x : Vec Ideal S8x4096x1024 .f32) (y : Vec Ideal S8x4096x2048 .f32) (w : Vec Ideal S2048x1024 .f32) (b : Fin 8) (l : Fin 4096) (k : Fin 1024) :
    t_v158 (F := Ideal) x y w (ix3 b l k) = x (ix3 b l k) + ∑ j : Fin 2048, y (ix3 b l j) * w (ix2 j k) := by
  pointwise [t_v158]
/-- The last norm. -/
theorem a_v171 (x : Vec Ideal S8x4096x1024 .f32) (w : Vec Ideal S1024 .f32) (b : Fin 8) (l : Fin 4096) (k : Fin 1024) :
    t_v171 (F := Ideal) x w (ix3 b l k) = rms (fun i => x (ix3 b l i)) (fun i => w (ix1 i)) k := by
  unfold rms
  pointwise [t_v171]

/-- Place `t` of chunk `q`, as a row of its sequence. -/
def rowF (q : Fin 32) (t : Fin 128) : Fin 4096 := ⟨128 * q.val + t.val, by have := q.isLt; have := t.isLt; omega⟩
/-- Place `p` of head `e` of group `g`, as a column. -/
def colF (g : Fin 8) (e : Fin 4) (p : Fin 64) : Fin 2048 := ⟨256 * g.val + 64 * e.val + p.val, by have := g.isLt; have := e.isLt; have := p.isLt; omega⟩
/-- Head `e` of group `g`. -/
def headF (g : Fin 8) (e : Fin 4) : Fin 32 := ⟨g.val * 4 + e.val, by have := g.isLt; have := e.isLt; omega⟩

theorem a_v70 (x : Vec Ideal S8x4096x4096 .f32) (b : Fin 8) (q : Fin 32) (t : Fin 128) (g : Fin 8) (e : Fin 4) (p : Fin 64) :
    t_v70 (F := Ideal) x (ix6 b q t g e p) = x (ix3 b (rowF q t) ⟨(colF g e p).val, by have := (colF g e p).isLt; omega⟩) := by
  unfold t_v70
  refine (shapeCast_apply _ _ _ (ix3 b (rowF q t) (colF g e p)) ?_).trans ?_
  · rw [Shape.rowMajor_val_three, Shape.rowMajor_val_six]
    show (b.val * 4096 + (128 * q.val + t.val)) * 2048 + (256 * g.val + 64 * e.val + p.val) = ((((b.val * 32 + q.val) * 128 + t.val) * 8 + g.val) * 4 + e.val) * 64 + p.val
    omega
  · pointwise
theorem a_v72 (x : Vec Ideal S8x4096x4096 .f32) (b : Fin 8) (q : Fin 32) (t : Fin 128) (g : Fin 8) (n : Fin 128) :
    t_v72 (F := Ideal) x (ix5 b q t g n) = x (ix3 b (rowF q t) ⟨2048 + (128 * g.val + n.val), by have := g.isLt; have := n.isLt; omega⟩) := by
  unfold t_v72
  refine (shapeCast_apply _ _ _ (ix3 b (rowF q t) (⟨128 * g.val + n.val, by have := g.isLt; have := n.isLt; omega⟩ : Fin 1024)) ?_).trans ?_
  · rw [Shape.rowMajor_val_three, Shape.rowMajor_val_five]
    show (b.val * 4096 + (128 * q.val + t.val)) * 1024 + (128 * g.val + n.val) = (((b.val * 32 + q.val) * 128 + t.val) * 8 + g.val) * 128 + n.val
    omega
  · pointwise
theorem a_v74 (x : Vec Ideal S8x4096x4096 .f32) (b : Fin 8) (q : Fin 32) (t : Fin 128) (g : Fin 8) (n : Fin 128) :
    t_v74 (F := Ideal) x (ix5 b q t g n) = x (ix3 b (rowF q t) ⟨3072 + (128 * g.val + n.val), by have := g.isLt; have := n.isLt; omega⟩) := by
  unfold t_v74
  refine (shapeCast_apply _ _ _ (ix3 b (rowF q t) (⟨128 * g.val + n.val, by have := g.isLt; have := n.isLt; omega⟩ : Fin 1024)) ?_).trans ?_
  · rw [Shape.rowMajor_val_three, Shape.rowMajor_val_five]
    show (b.val * 4096 + (128 * q.val + t.val)) * 1024 + (128 * g.val + n.val) = (((b.val * 32 + q.val) * 128 + t.val) * 8 + g.val) * 128 + n.val
    omega
  · pointwise
theorem a_v79 (x : Vec Ideal S8x4096x32 .f32) (b : Fin 8) (q : Fin 32) (t : Fin 128) (g : Fin 8) (e : Fin 4) :
    t_v79 (F := Ideal) x (ix5 b q t g e) = x (ix3 b (rowF q t) (headF g e)) := by
  unfold t_v79
  refine shapeCast_apply _ _ _ (ix3 b (rowF q t) (headF g e)) ?_
  rw [Shape.rowMajor_val_three, Shape.rowMajor_val_five]
  show (b.val * 4096 + (128 * q.val + t.val)) * 32 + (g.val * 4 + e.val) = (((b.val * 32 + q.val) * 128 + t.val) * 8 + g.val) * 4 + e.val
  omega
theorem a_v85 (x : Vec Ideal S8x32x128x8x4 .f32) (v : Vec Ideal S32 .f32) (b : Fin 8) (q : Fin 32) (t : Fin 128) (g : Fin 8) (e : Fin 4) :
    t_v85 (F := Ideal) x v (ix5 b q t g e) = x (ix5 b q t g e) * -(Ideal.exp (v (ix1 (headF g e)))) := by
  pointwise [t_v85]
  rfl
theorem a_v137 (yd yo : Vec Ideal S8x32x128x8x4x64 .f32) (cs : Vec Ideal S8x32x128x8x4 .f32) (x : Vec Ideal S8x32x128x8x4x64 .f32) (v : Vec Ideal S32 .f32)
    (b : Fin 8) (q : Fin 32) (t : Fin 128) (g : Fin 8) (e : Fin 4) (p : Fin 64) :
    t_v137 (F := Ideal) yd yo cs x v (ix6 b q t g e p) = yd (ix6 b q t g e p) + yo (ix6 b q t g e p) * Ideal.exp (cs (ix5 b q t g e))
      + x (ix6 b q t g e p) * v (ix1 (headF g e)) := by
  pointwise [t_v137]
  rfl
theorem a_v138 (x : Vec Ideal S8x32x128x8x4x64 .f32) (b : Fin 8) (q : Fin 32) (t : Fin 128) (g : Fin 8) (e : Fin 4) (p : Fin 64) :
    t_v138 (F := Ideal) x (ix3 b (rowF q t) (colF g e p)) = x (ix6 b q t g e p) := by
  unfold t_v138
  refine shapeCast_apply _ _ _ (ix6 b q t g e p) ?_
  rw [Shape.rowMajor_val_three, Shape.rowMajor_val_six]
  show ((((b.val * 32 + q.val) * 128 + t.val) * 8 + g.val) * 4 + e.val) * 64 + p.val = (b.val * 4096 + (128 * q.val + t.val)) * 2048 + (256 * g.val + 64 * e.val + p.val)
  omega
/-- The groups' norm. -/
theorem a_v155 (x : Vec Ideal S8x4096x2048 .f32) (w : Vec Ideal S2048 .f32) (b : Fin 8) (l : Fin 4096) (g : Fin 8) (f : Fin 256) :
    t_v155 (F := Ideal) x w (ix4 b l g f) = x (ix3 b l (col g f))
        * Ideal.rsqrt (Ideal.div (∑ e : Fin 256, x (ix3 b l (col g e)) * x (ix3 b l (col g e))) (Ideal.ofBits .f32 0x43800000#32) + Ideal.ofBits .f32 0x358637BD#32)
      * w (ix1 (col g f)) := by
  have hc : ∀ e : Fin 256, col g e = (⟨g.val * 256 + e.val, by have := g.isLt; have := e.isLt; omega⟩ : Fin 2048) := fun e => Fin.ext (by
    show 256 * g.val + e.val = g.val * 256 + e.val
    omega)
  simp only [hc]
  pointwise [t_v155]
theorem a_v156 (x : Vec Ideal S8x4096x8x256 .f32) (b : Fin 8) (l : Fin 4096) (g : Fin 8) (f : Fin 256) :
    t_v156 (F := Ideal) x (ix3 b l (col g f)) = x (ix4 b l g f) := by
  unfold t_v156
  refine shapeCast_apply _ _ _ (ix4 b l g f) ?_
  rw [Shape.rowMajor_val_three, Shape.rowMajor_val_four]
  show ((b.val * 4096 + l.val) * 8 + g.val) * 256 + f.val = (b.val * 4096 + l.val) * 2048 + (256 * g.val + f.val)
  omega

end Cert.Reference2Ideal.Ssd
-- ==== Proof.Ssd.RefScan.lean ====
/- The reference's running sums inside a chunk. -/
module

public import proofs.«01_k».proof.Proof.Ssd.RefDefs

@[expose] public section

set_option maxRecDepth 16384

noncomputable section

namespace Cert.Reference2Ideal.Ssd

open Cert.Reference2Ideal Cert.Reference2Ideal.Gen Cert.Reference2Ideal.Facts Idealize.ShloMosaic

/-- A fold of additions is the start and the sum. -/
theorem foldl_add (N : ℕ) (F : Fin N → EReal) (a : EReal) : (List.finRange N).foldl (fun r n => r + F n) a = a + ∑ n, F n := by
  rw [Fin.sum_univ_def]
  generalize List.finRange N = l
  induction l generalizing a with
  | nil => simp
  | cons n l ih => rw [List.foldl_cons, ih, List.map_cons, List.sum_cons, add_assoc]

/-- The window: 128 places of a chunk. -/
abbrev Win : Shape := ⟨5, ![1, 1, 128, 1, 1]⟩

/-- A place of the window is its third coordinate. -/
def winE : Fin 128 ≃ Win.Idx where
  toFun k := ix5 0 0 k 0 0
  invFun w := w 2
  left_inv _ := rfl
  right_inv w := by
    funext a
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _
    | ⟨4, _⟩ => exact Subsingleton.elim (α := Fin 1) _ _

/-- What place `w` of the window at an index adds: the operand's element there, zero before the chunk's start. -/
def place (x : Vec Ideal S8x32x128x8x4 .f32) (j : S8x32x128x8x4.Idx) (w : Win.Idx) : EReal :=
  if hin : ∀ a : Fin 5, (![0, 0, 127, 0, 0] : Fin 5 → ℕ) a ≤ (j a).val * (![1, 1, 1, 1, 1] : Fin 5 → ℕ) a + (w a).val
      ∧ (j a).val * (![1, 1, 1, 1, 1] : Fin 5 → ℕ) a + (w a).val - (![0, 0, 127, 0, 0] : Fin 5 → ℕ) a < S8x32x128x8x4.size a then
    x fun a => ⟨(j a).val * (![1, 1, 1, 1, 1] : Fin 5 → ℕ) a + (w a).val - (![0, 0, 127, 0, 0] : Fin 5 → ℕ) a, (hin a).2⟩
  else 0

theorem place_pos (x : Vec Ideal S8x32x128x8x4 .f32) (j : S8x32x128x8x4.Idx) (w : Win.Idx)
    (hin : (∀ a : Fin 5, (![0, 0, 127, 0, 0] : Fin 5 → ℕ) a ≤ (j a).val * (![1, 1, 1, 1, 1] : Fin 5 → ℕ) a + (w a).val
      ∧ (j a).val * (![1, 1, 1, 1, 1] : Fin 5 → ℕ) a + (w a).val - (![0, 0, 127, 0, 0] : Fin 5 → ℕ) a < S8x32x128x8x4.size a)) :
    place x j w = x fun a => ⟨(j a).val * (![1, 1, 1, 1, 1] : Fin 5 → ℕ) a + (w a).val - (![0, 0, 127, 0, 0] : Fin 5 → ℕ) a, (hin a).2⟩ := dif_pos hin
theorem place_neg (x : Vec Ideal S8x32x128x8x4 .f32) (j : S8x32x128x8x4.Idx) (w : Win.Idx)
    (hin : ¬ (∀ a : Fin 5, (![0, 0, 127, 0, 0] : Fin 5 → ℕ) a ≤ (j a).val * (![1, 1, 1, 1, 1] : Fin 5 → ℕ) a + (w a).val
      ∧ (j a).val * (![1, 1, 1, 1, 1] : Fin 5 → ℕ) a + (w a).val - (![0, 0, 127, 0, 0] : Fin 5 → ℕ) a < S8x32x128x8x4.size a)) : place x j w = 0 := dif_neg hin

/-- The running sums. -/
theorem a_v86 (x : Vec Ideal S8x32x128x8x4 .f32) (b : Fin 8) (q : Fin 32) (t : Fin 128) (g : Fin 8) (e : Fin 4) :
    t_v86 (F := Ideal) x (ix5 b q t g e) = ∑ s : Fin 128, if s ≤ t then x (ix5 b q s g e) else 0 := by
  have hb := b.isLt
  have hq := q.isLt
  have ht := t.isLt
  have hg := g.isLt
  have he := e.isLt
  unfold t_v86 Host.reduceWindowAdd
  have z : broadcastInDim S_ ![] bcast_S_S_ (constant (F := Ideal) S_ .f32 0x00000000#32) (Shape.Idx.first h_S_) = 0 := by pointwise
  rw [z, Ideal.hostReduceWindowAdd_def]
  unfold Ideal.hostReduceWindowAdd Host.reduceWindow
  refine (foldl_add _ _ _).trans ?_
  rw [zero_add]
  refine (Finset.sum_congr rfl fun n _ => ?_).trans ((Equiv.sum_comp (Win.rowMajor.symm) (place x (ix5 b q t g e))).trans ?_)
  · split
    · next hin => exact (place_pos x (ix5 b q t g e) (Win.rowMajor.symm n) hin).symm
    · next hin => exact (place_neg x (ix5 b q t g e) (Win.rowMajor.symm n) hin).symm
  rw [← Equiv.sum_comp winE, ← Equiv.sum_comp (Equiv.addRight (⟨127 - t.val, by omega⟩ : Fin 128))]
  refine Finset.sum_congr rfl fun s _ => ?_
  have hs := s.isLt
  have hk : ((Equiv.addRight (⟨127 - t.val, by omega⟩ : Fin 128)) s).val = (s.val + (127 - t.val)) % 128 := Fin.val_add _ _
  generalize (Equiv.addRight (⟨127 - t.val, by omega⟩ : Fin 128)) s = k at hk
  unfold place
  by_cases h : s ≤ t
  · have hst : s.val ≤ t.val := h
    have hk' : k.val = s.val + (127 - t.val) := by omega
    rw [if_pos h, dif_pos ?_]
    · refine congrArg x ?_
      funext a; apply Fin.ext
      match a with
      | ⟨0, _⟩ => show b.val * 1 + 0 - 0 = b.val; omega
      | ⟨1, _⟩ => show q.val * 1 + 0 - 0 = q.val; omega
      | ⟨2, _⟩ => show t.val * 1 + k.val - 127 = s.val; omega
      | ⟨3, _⟩ => show g.val * 1 + 0 - 0 = g.val; omega
      | ⟨4, _⟩ => show e.val * 1 + 0 - 0 = e.val; omega
    · intro a
      match a with
      | ⟨0, _⟩ => show 0 ≤ b.val * 1 + 0 ∧ b.val * 1 + 0 - 0 < 8; omega
      | ⟨1, _⟩ => show 0 ≤ q.val * 1 + 0 ∧ q.val * 1 + 0 - 0 < 32; omega
      | ⟨2, _⟩ => show 127 ≤ t.val * 1 + k.val ∧ t.val * 1 + k.val - 127 < 128; omega
      | ⟨3, _⟩ => show 0 ≤ g.val * 1 + 0 ∧ g.val * 1 + 0 - 0 < 8; omega
      | ⟨4, _⟩ => show 0 ≤ e.val * 1 + 0 ∧ e.val * 1 + 0 - 0 < 4; omega
  · have hst : ¬ s.val ≤ t.val := h
    rw [if_neg h, dif_neg ?_]
    intro hin
    have h2 : 127 ≤ t.val * 1 + k.val ∧ t.val * 1 + k.val - 127 < 128 := hin 2
    omega

end Cert.Reference2Ideal.Ssd
-- ==== Proof.Ssd.RefVal.lean ====
/- The reference's arrays before its loop are the layer's. -/
module

public import proofs.«01_k».proof.Proof.Ssd.RefF
public import proofs.«01_k».proof.Proof.Ssd.RefApply
public import proofs.«01_k».proof.Proof.Ssd.RefScan

@[expose] public section

set_option maxRecDepth 16384

noncomputable section

namespace Cert.Reference2Ideal.Ssd

open Cert.Ssd Cert.Sgu Cert.Reference2Ideal Cert.Reference2Ideal.Gen Cert.Reference2Ideal.Facts Idealize.ShloMosaic Idealize.SL.Sem

variable (m : (ℓ : Loc nD τ sig) → Buf (Elt Ideal) ℓ) (c : Dev nD)

/-- The layer's rows and weights, out of the reference's arguments. -/
def inR : In := inOf (F_arg0 m c) (F_arg1 m c) (F_arg2 m c) (F_arg3 m c) (F_arg4 m c) (F_arg5 m c) (F_arg6 m c) (F_arg7 m c) (F_arg8 m c)
  (F_arg9 m c) (F_arg10 m c)

/-- Chunk `q` of sequence `b`, among all chunks. -/
def Q (b : Fin 8) (q : Fin 32) : ℕ := 32 * b.val + q.val

theorem row_eq (b : Fin 8) (q : Fin 32) (t : Fin 128) : 4096 * b.val + (rowF q t).val = 128 * Q b q + t.val := by
  unfold Q rowF
  show 4096 * b.val + (128 * q.val + t.val) = _
  omega

theorem x_at (b : Fin 8) (l : Fin 4096) (k : Fin 1024) : (inR m c).x (4096 * b.val + l.val) k = F_arg0 m c (ix3 b l k) := by
  have hb := b.isLt
  have hl := l.isLt
  show xrow (F_arg0 m c) (4096 * b.val + l.val) k = _
  unfold xrow
  refine congrArg (F_arg0 m c) ?_
  congr 1 <;> apply Fin.ext
  · show (256 * min ((4096 * b.val + l.val) / 256) 127 + (4096 * b.val + l.val) % 256) / 4096 = b.val
    omega
  · show (256 * min ((4096 * b.val + l.val) / 256) 127 + (4096 * b.val + l.val) % 256) % 4096 = l.val
    omega

theorem f_v14 (b : Fin 8) (l : Fin 4096) (k : Fin 1024) : F_v14 m c (ix3 b l k) = (inR m c).hn (4096 * b.val + l.val) k := by
  rw [F_v14_eq, a_v14]
  unfold In.hn
  congr 1
  funext i
  exact (x_at m c b l i).symm
theorem f_v32 (b : Fin 8) (l : Fin 4096) (j : Fin 2048) : F_v32 m c (ix3 b l j) = (inR m c).pz (4096 * b.val + l.val) j := by
  rw [F_v32_eq, a_v32, F_v31_eq, a_v31]
  exact Finset.sum_congr rfl fun k _ => congrArg (· * _) (f_v14 m c b l k)
theorem f_v33 (b : Fin 8) (l : Fin 4096) (j : Fin 4096) : F_v33 m c (ix3 b l j) = (inR m c).px (4096 * b.val + l.val) j := by
  rw [F_v33_eq, a_v33, F_v31_eq, a_v31]
  exact Finset.sum_congr rfl fun k _ => congrArg (· * _) (f_v14 m c b l k)
theorem f_v34 (b : Fin 8) (l : Fin 4096) (j : Fin 32) : F_v34 m c (ix3 b l j) = (inR m c).pd (4096 * b.val + l.val) j := by
  rw [F_v34_eq, a_v34, F_v31_eq, a_v31]
  exact Finset.sum_congr rfl fun k _ => congrArg (· * _) (f_v14 m c b l k)
/-- The padded rows, `d` rows back. -/
theorem f_v35 (b : Fin 8) (l : Fin 4096) (d i : ℕ) (hd : i + d = 3) (h : i + l.val < 4099) (j : Fin 4096) :
    F_v35 m c (ix3 b ⟨i + l.val, h⟩ j) = (inR m c).tap d (4096 * b.val + l.val) j := by
  have hl := l.isLt
  rw [F_v35_eq, F_c_eq, a_v35]
  unfold In.tap
  by_cases h3 : i + l.val < 3
  · rw [dif_pos h3, if_pos (by omega)]
  · rw [dif_neg h3, if_neg (by omega), f_v33]
    congr 1
    show 4096 * b.val + (i + l.val - 3) = _
    omega
theorem conv_order (a b d e w0 w1 w2 w3 v : EReal) :
    0 + a * w0 + b * w1 + d * w2 + e * w3 + v = v + w0 * a + w1 * b + w2 * d + w3 * e := by
  rw [zero_add, mul_comm a, mul_comm b, mul_comm d, mul_comm e]
  ac_rfl
theorem f_v67 (b : Fin 8) (l : Fin 4096) (j : Fin 4096) : F_v67 m c (ix3 b l j) = (inR m c).pre (4096 * b.val + l.val) j := by
  have hl := l.isLt
  have h0 : (⟨l.val, by omega⟩ : Fin 4099) = ⟨0 + l.val, by omega⟩ := Fin.ext (Nat.zero_add _).symm
  rw [F_v67_eq, a_v67, h0, f_v35 m c b l 3 0 rfl, f_v35 m c b l 2 1 rfl, f_v35 m c b l 1 2 rfl, f_v35 m c b l 0 3 rfl, conv_order, F_v18_eq, F_v20_eq]
  simp only [a_v18, a_v20]
  rfl
theorem f_v68 (b : Fin 8) (l : Fin 4096) (j : Fin 4096) : F_v68 m c (ix3 b l j) = (inR m c).cv (4096 * b.val + l.val) j := by
  rw [F_v68_eq, a_v68, f_v67, Ideal.ofBits_one_f32]
  rfl
theorem f_v78 (b : Fin 8) (l : Fin 4096) (j : Fin 32) : F_v78 m c (ix3 b l j) = (inR m c).dt (4096 * b.val + l.val) j := by
  rw [F_v78_eq, a_v78, F_v77_eq, a_v77, f_v34, F_v22_eq, a_v22]
  rfl

variable (b : Fin 8) (q : Fin 32) (t : Fin 128) (g : Fin 8) (e : Fin 4)

theorem f_v70 (p : Fin 64) : F_v70 m c (ix6 b q t g e p) = (inR m c).xc (128 * Q b q + t.val) (colF g e p) := by
  rw [F_v70_eq, a_v70, f_v68, row_eq]
  rfl
theorem f_v72 (n : Fin 128) : F_v72 m c (ix5 b q t g n) = (inR m c).bc (128 * Q b q + t.val) g n := by
  rw [F_v72_eq, a_v72, f_v68, row_eq]
  unfold In.bc
  congr 1
  exact Fin.ext (Nat.add_assoc _ _ _).symm
theorem f_v74 (n : Fin 128) : F_v74 m c (ix5 b q t g n) = (inR m c).cc (128 * Q b q + t.val) g n := by
  rw [F_v74_eq, a_v74, f_v68, row_eq]
  unfold In.cc
  congr 1
  exact Fin.ext (Nat.add_assoc _ _ _).symm
theorem f_v79 : F_v79 m c (ix5 b q t g e) = (inR m c).dt (128 * Q b q + t.val) (headF g e) := by
  rw [F_v79_eq, a_v79, f_v78, row_eq]
theorem f_v85 : F_v85 m c (ix5 b q t g e) = (inR m c).da (128 * Q b q + t.val) (headF g e) := by
  rw [F_v85_eq, a_v85, f_v79, F_v24_eq, a_v24]
  rfl
theorem f_v86 : F_v86 m c (ix5 b q t g e) = (inR m c).cs (Q b q) t (headF g e) := by
  rw [F_v86_eq, a_v86]
  unfold In.cs
  refine Finset.sum_congr rfl fun s _ => ?_
  rw [f_v85]

theorem ofBits_neg_top : Ideal.ofBits .f32 0xFF800000#32 = ⊥ := by simp [Ideal.ofBits, Ideal.ieee]

/-- The masked decays. -/
theorem f_v96 (s : Fin 128) : F_v96 m c (ix6 b q t s g e)
    = if s ≤ t then Ideal.exp ((inR m c).cs (Q b q) t (headF g e) - (inR m c).cs (Q b q) s (headF g e)) else 0 := by
  rw [F_v96_eq, a_v96, F_v95_eq, F_v94_eq, F_cst_4_eq, a_v95, F_v93_eq, F_v92_eq, a_v93, F_v91_eq, a_v91, f_v86, f_v86, ofBits_neg_top]
  by_cases h : s ≤ t <;> simp [h, Scalar.select]
theorem f_v104 (s : Fin 128) : F_v104 m c (ix6 b q t s g e)
    = (∑ n : Fin 128, (inR m c).cc (128 * Q b q + t.val) g n * (inR m c).bc (128 * Q b q + s.val) g n) * (inR m c).wgt (Q b q) t s (headF g e) := by
  rw [F_v104_eq, a_v104, f_v96, f_v79, mul_assoc]
  refine congrArg (· * _) (Finset.sum_congr rfl fun n _ => ?_)
  rw [f_v72, f_v74, mul_comm]
/-- The output inside a chunk. -/
theorem f_v106 (p : Fin 64) : F_v106 m c (ix6 b q t g e p)
    = ∑ s : Fin 128, (∑ n : Fin 128, (inR m c).cc (128 * Q b q + t.val) g n * (inR m c).bc (128 * Q b q + s.val) g n)
        * (inR m c).wgt (Q b q) t s (headF g e) * (inR m c).xc (128 * Q b q + s.val) (colF g e p) := by
  rw [F_v106_eq, a_v106, F_v105_eq, a_v105]
  refine Finset.sum_congr rfl fun s _ => ?_
  rw [f_v70, f_v104, mul_comm]
/-- What a chunk adds to the state. -/
theorem f_v115 (p : Fin 64) (n : Fin 128) : F_v115 m c (ix6 b q g e p n)
    = ∑ l : Fin 128, (inR m c).bc (128 * Q b q + l.val) g n * ((inR m c).xc (128 * Q b q + l.val) (colF g e p)
        * (Ideal.exp ((inR m c).cs (Q b q) 127 (headF g e) - (inR m c).cs (Q b q) l (headF g e)) * (inR m c).dt (128 * Q b q + l.val) (headF g e))) := by
  rw [F_v115_eq, a_v115]
  refine Finset.sum_congr rfl fun s _ => ?_
  rw [F_v114_eq, a_v114, f_v86, f_v86, f_v79, f_v70, f_v72, mul_comm, mul_comm _ ((inR m c).xc _ _)]
theorem f_v118 : F_v118 m c (ix4 b q g e) = Ideal.exp ((inR m c).cs (Q b q) 127 (headF g e)) := by
  rw [F_v118_eq, a_v118, f_v86]

end Cert.Reference2Ideal.Ssd
-- ==== Proof.Ssd.RefLoop.lean ====
/- The reference's loop over the chunks stacks the states the chunks start from. -/
module

public import proofs.«01_k».proof.Proof.Ssd.RefVal
public import Idealize.ShloMosaic.Lib.DynamicIndex

@[expose] public section

set_option maxRecDepth 16384

noncomputable section

namespace Cert.Reference2Ideal.Ssd

open Cert.Ssd Cert.Sgu Cert.Reference2Ideal Cert.Reference2Ideal.Gen Cert.Reference2Ideal.Facts Cert.Reference2Ideal.Value Idealize.ShloMosaic Idealize.SL.Sem

/-- The starts of a trip's window of four axes. -/
def at4 (i : Vec Ideal S_ .i32) : Fin 4 → Int := fun k =>
  (((![i, constantI S_ 32 0#32, constantI S_ 32 0#32, constantI S_ 32 0#32] : Fin 4 → (⟨S_, .i32⟩ : BufTy).Contents (Elt Ideal))) k (Shape.Idx.first h_S_)).toInt

/-- The starts of a trip's window of six axes. -/
def at6 (i : Vec Ideal S_ .i32) : Fin 6 → Int := fun k =>
  (((![i, constantI S_ 32 0#32, constantI S_ 32 0#32, constantI S_ 32 0#32, constantI S_ 32 0#32, constantI S_ 32 0#32] : Fin 6 → (⟨S_, .i32⟩ : BufTy).Contents (Elt Ideal))) k (Shape.Idx.first h_S_)).toInt

theorem at4_eq (k : Fin 32) (a : Fin 4) : at4 (fun _ => BitVec.ofNat 32 k.val) a = ((![k.val, 0, 0, 0] : Fin 4 → ℕ) a : Int) := by
  have hk := k.isLt
  fin_cases a
  · exact toInt_ofNat_of_lt (by omega)
  all_goals rfl
theorem at6_eq (k : Fin 32) (a : Fin 6) : at6 (fun _ => BitVec.ofNat 32 k.val) a = ((![k.val, 0, 0, 0, 0, 0] : Fin 6 → ℕ) a : Int) := by
  have hk := k.isLt
  fin_cases a
  · exact toInt_ofNat_of_lt (by omega)
  all_goals rfl

theorem slices4 (k : Fin 32) : S32x8x8x4.Slices (![k.val, 0, 0, 0] : Fin 4 → ℕ) S1x8x8x4 := by revert k; decide
theorem slices6 (k : Fin 32) : S32x8x8x4x64x128.Slices (![k.val, 0, 0, 0, 0, 0] : Fin 6 → ℕ) S1x8x8x4x64x128 := by revert k; decide

/-- A chunk's window of the decays. -/
theorem window4 (X : Vec Ideal S32x8x8x4 .f32) (k : Fin 32) (b g : Fin 8) (e : Fin 4) :
    Host.dynamicSlice S1x8x8x4 X (at4 (fun _ => BitVec.ofNat 32 k.val)) sliceFits_S32x8x8x4_S1x8x8x4 (ix4 0 b g e) = X (ix4 k b g e) := by
  rw [Host.dynamicSlice_eq_extractStridedSlice S1x8x8x4 X _ ![k.val, 0, 0, 0] _ (slices4 k) (at4_eq k)]
  refine extractStridedSlice_apply _ _ _ _ (ix4 k b g e) fun a => ?_
  match a with
  | ⟨0, _⟩ => rfl
  | ⟨1, _⟩ => exact (Nat.zero_add _).symm
  | ⟨2, _⟩ => exact (Nat.zero_add _).symm
  | ⟨3, _⟩ => exact (Nat.zero_add _).symm
/-- A chunk's window of what it adds. -/
theorem window6 (X : Vec Ideal S32x8x8x4x64x128 .f32) (k : Fin 32) (b g : Fin 8) (e : Fin 4) (p : Fin 64) (n : Fin 128) :
    Host.dynamicSlice S1x8x8x4x64x128 X (at6 (fun _ => BitVec.ofNat 32 k.val)) sliceFits_S32x8x8x4x64x128_S1x8x8x4x64x128 (ix6 0 b g e p n) = X (ix6 k b g e p n) := by
  rw [Host.dynamicSlice_eq_extractStridedSlice S1x8x8x4x64x128 X _ ![k.val, 0, 0, 0, 0, 0] _ (slices6 k) (at6_eq k)]
  refine extractStridedSlice_apply _ _ _ _ (ix6 k b g e p n) fun a => ?_
  match a with
  | ⟨0, _⟩ => rfl
  | ⟨1, _⟩ => exact (Nat.zero_add _).symm
  | ⟨2, _⟩ => exact (Nat.zero_add _).symm
  | ⟨3, _⟩ => exact (Nat.zero_add _).symm
  | ⟨4, _⟩ => exact (Nat.zero_add _).symm
  | ⟨5, _⟩ => exact (Nat.zero_add _).symm

theorem start6 (k : Fin 32) (a : Fin 6) : Host.clampedStart S32x8x8x4x64x128 S1x8x8x4x64x128 updateFits_S32x8x8x4x64x128_S1x8x8x4x64x128.1
    (at6 (fun _ => BitVec.ofNat 32 k.val)) a = (![k.val, 0, 0, 0, 0, 0] : Fin 6 → ℕ) a :=
  Host.clampedStart_of_le _ _ _ _ (at6_eq k a) (by revert k a; decide)

/-- A chunk's state is put in its place. -/
theorem put6 (X : Vec Ideal S32x8x8x4x64x128 .f32) (U : Vec Ideal S1x8x8x4x64x128 .f32) (k k' : Fin 32) (b g : Fin 8) (e : Fin 4) (p : Fin 64) (n : Fin 128) :
    Host.dynamicUpdateSlice X U (at6 (fun _ => BitVec.ofNat 32 k.val)) updateFits_S32x8x8x4x64x128_S1x8x8x4x64x128 (ix6 k' b g e p n)
      = if k' = k then U (ix6 0 b g e p n) else X (ix6 k' b g e p n) := by
  rw [Host.dynamicUpdateSlice_apply]
  by_cases h : k' = k
  · subst h
    rw [if_pos rfl, dif_pos]
    · refine congrArg U (funext fun a => Fin.ext ?_)
      match a with
      | ⟨0, _⟩ => exact (congrArg (k'.val - ·) (start6 k' 0)).trans (Nat.sub_self _)
      | ⟨1, _⟩ => exact (congrArg (b.val - ·) (start6 k' 1))
      | ⟨2, _⟩ => exact (congrArg (g.val - ·) (start6 k' 2))
      | ⟨3, _⟩ => exact (congrArg (e.val - ·) (start6 k' 3))
      | ⟨4, _⟩ => exact (congrArg (p.val - ·) (start6 k' 4))
      | ⟨5, _⟩ => exact (congrArg (n.val - ·) (start6 k' 5))
    · intro a
      rw [start6]
      match a with
      | ⟨0, _⟩ => exact ⟨le_refl _, Nat.lt_succ_self _⟩
      | ⟨1, _⟩ => exact ⟨Nat.zero_le _, by show b.val < 0 + 8; omega⟩
      | ⟨2, _⟩ => exact ⟨Nat.zero_le _, by show g.val < 0 + 8; omega⟩
      | ⟨3, _⟩ => exact ⟨Nat.zero_le _, by show e.val < 0 + 4; omega⟩
      | ⟨4, _⟩ => exact ⟨Nat.zero_le _, by show p.val < 0 + 64; omega⟩
      | ⟨5, _⟩ => exact ⟨Nat.zero_le _, by show n.val < 0 + 128; omega⟩
  · rw [if_neg h, dif_neg]
    intro hin
    have h0 := hin 0
    rw [start6] at h0
    have h1 : k.val ≤ k'.val ∧ k'.val < k.val + 1 := h0
    exact h (Fin.ext (by omega))

/-- The state after a trip, of the trip's windows. -/
def carry {F : FTy → Type} [FloatOps F] (s : (⟨S8x8x4x64x128, .f32⟩ : BufTy).Contents (Elt F)) (A : (⟨S1x8x8x4, .f32⟩ : BufTy).Contents (Elt F)) (B : (⟨S1x8x8x4x64x128, .f32⟩ : BufTy).Contents (Elt F)) : (⟨S8x8x4x64x128, .f32⟩ : BufTy).Contents (Elt F) :=
  addf (mulf s (broadcastInDim S8x8x4x64x128 ![0, 1, 2, 3, 4] bcast_S8x8x4x1x1_S8x8x4x64x128_0_1_2_3_4 (broadcastInDim S8x8x4x1x1 ![0, 1, 2] bcast_S8x8x4_S8x8x4x1x1_0_1_2 (shapeCast S8x8x4 A shapeCasts_S1x8x8x4_S8x8x4)))) (shapeCast S8x8x4x64x128 B shapeCasts_S1x8x8x4x64x128_S8x8x4x64x128)

theorem carry_at (s : Vec Ideal S8x8x4x64x128 .f32) (A : Vec Ideal S1x8x8x4 .f32) (B : Vec Ideal S1x8x8x4x64x128 .f32)
    (b g : Fin 8) (e : Fin 4) (p : Fin 64) (n : Fin 128) :
    carry (F := Ideal) s A B (ix5 b g e p n) = s (ix5 b g e p n) * A (ix4 0 b g e) + B (ix6 0 b g e p n) := by
  pointwise [carry]

theorem spread_at (s : Vec Ideal S8x8x4x64x128 .f32) (b g : Fin 8) (e : Fin 4) (p : Fin 64) (n : Fin 128) :
    broadcastInDim S1x8x8x4x64x128 ![1, 2, 3, 4, 5] bcast_S8x8x4x64x128_S1x8x8x4x64x128_1_2_3_4_5 s (ix6 0 b g e p n) = s (ix5 b g e p n) := by
  pointwise

variable (m : (ℓ : Loc nD τ sig) → Buf (Elt Ideal) ℓ) (c : Dev nD)

/-- The contents after `k` trips. -/
def S (k : ℕ) : Valuation τ sig (Elt Ideal) := STEP^[k] (E m c)
theorem S_succ (k : ℕ) : S m c (k + 1) = STEP (S m c k) := Function.iterate_succ_apply' _ _ _

/-- The trips' count. -/
def L2 (k : ℕ) : Vec Ideal S_ .i32 := S m c k (Proc.devRef .tc main_v123_2)
/-- The state after `k` trips. -/
def L3 (k : ℕ) : Vec Ideal S8x8x4x64x128 .f32 := S m c k (Proc.devRef .tc main_v123_3)
/-- The stacked states after `k` trips. -/
def L4 (k : ℕ) : Vec Ideal S32x8x8x4x64x128 .f32 := S m c k (Proc.devRef .tc main_v123_4)

theorem S_0 (k : ℕ) : S m c k (Proc.devRef .tc main_v123_0) = F_v123_0 m c := by
  induction k with
  | zero => rfl
  | succ k ih => rw [S_succ, STEP_main_v123_0, ih]
theorem S_1 (k : ℕ) : S m c k (Proc.devRef .tc main_v123_1) = F_v123_1 m c := by
  induction k with
  | zero => rfl
  | succ k ih => rw [S_succ, STEP_main_v123_1, ih]
theorem L2_eq (k : ℕ) : L2 m c k = fun _ => BitVec.ofNat 32 k := by
  induction k with
  | zero => exact F_v123_2_eq m c
  | succ k ih =>
    unfold L2
    rw [S_succ, STEP_main_v123_2]
    refine (congrArg (fun i : Vec Ideal S_ .i32 => id (addi i (constantI S_ 32 1#32))) ih).trans ?_
    funext y
    exact (BitVec.ofNat_add k 1).symm
theorem L3_succ (k : ℕ) : L3 m c (k + 1) = carry (F := Ideal) (L3 m c k)
    (Host.dynamicSlice S1x8x8x4 (F_v123_1 m c) (at4 (L2 m c k)) sliceFits_S32x8x8x4_S1x8x8x4)
    (Host.dynamicSlice S1x8x8x4x64x128 (F_v123_0 m c) (at6 (L2 m c k)) sliceFits_S32x8x8x4x64x128_S1x8x8x4x64x128) := by
  unfold L3
  rw [S_succ, STEP_main_v123_3]
  unfold step_main_v123_3
  rw [S_0, S_1]
  rfl
theorem L4_succ (k : ℕ) : L4 m c (k + 1) = Host.dynamicUpdateSlice (L4 m c k)
    (broadcastInDim S1x8x8x4x64x128 ![1, 2, 3, 4, 5] bcast_S8x8x4x64x128_S1x8x8x4x64x128_1_2_3_4_5 (L3 m c k)) (at6 (L2 m c k))
    updateFits_S32x8x8x4x64x128_S1x8x8x4x64x128 := by
  unfold L4
  rw [S_succ, STEP_main_v123_4]
  rfl

theorem grp_col (g : Fin 8) (e : Fin 4) (p : Fin 64) : Cert.Ssd.grp (colF g e p) = g := by
  apply Fin.ext
  show (256 * g.val + 64 * e.val + p.val) / 256 = g.val
  omega
theorem head_col (g : Fin 8) (e : Fin 4) (p : Fin 64) : head (colF g e p) = headF g e := by
  apply Fin.ext
  show (256 * g.val + 64 * e.val + p.val) / 64 = g.val * 4 + e.val
  omega

/-- Before trip `k` the state is the layer's before chunk `k`. -/
theorem L3_at (k : ℕ) (hk : k < 32) (b g : Fin 8) (e : Fin 4) (p : Fin 64) (n : Fin 128) :
    L3 m c k (ix5 b g e p n) = (inR m c).st (32 * b.val + k) (colF g e p) n := by
  induction k with
  | zero =>
    refine (congrFun (F_v123_3_eq m c) _).trans ((a_v123_3 b g e p n).trans ?_)
    by_cases hb : b.val = 0
    · rw [hb]; rfl
    · obtain ⟨a, ha⟩ : ∃ a, 32 * b.val + 0 = a + 1 := ⟨32 * b.val - 1, by omega⟩
      rw [ha]
      show _ = (if (a + 1) % 32 = 0 then (fun _ _ => 0) else _ : Fin 2048 → Fin 128 → EReal) _ _
      rw [if_pos (by omega)]
  | succ k ih =>
    rw [L3_succ, carry_at, L2_eq, window4 _ (⟨k, by omega⟩ : Fin 32), window6 _ (⟨k, by omega⟩ : Fin 32), ih (by omega), F_v123_0_eq, F_v123_1_eq, a_v123_0, a_v123_1,
      f_v115, f_v118]
    show _ = (if (32 * b.val + k + 1) % 32 = 0 then (fun _ _ => 0) else _ : Fin 2048 → Fin 128 → EReal) _ _
    rw [if_neg (by omega)]
    unfold In.upd
    rw [grp_col, head_col]
    rfl

/-- The stacked states after the loop. -/
theorem L4_at (k : ℕ) (hk : k ≤ 32) (q : Fin 32) (hq : q.val < k) (b g : Fin 8) (e : Fin 4) (p : Fin 64) (n : Fin 128) :
    L4 m c k (ix6 q b g e p n) = (inR m c).st (Q b q) (colF g e p) n := by
  induction k with
  | zero => omega
  | succ k ih =>
    rw [L4_succ, L2_eq, put6 _ _ (⟨k, by omega⟩ : Fin 32)]
    by_cases h : q = ⟨k, by omega⟩
    · rw [if_pos h, spread_at, L3_at m c k (by omega), h]
      rfl
    · rw [if_neg h]
      refine ih (by omega) ?_
      have : q.val ≠ k := fun h' => h (Fin.ext h')
      omega

theorem g_v123_4 (q : Fin 32) (b g : Fin 8) (e : Fin 4) (p : Fin 64) (n : Fin 128) :
    G_v123_4 m c (ix6 q b g e p n) = (inR m c).st (Q b q) (colF g e p) n :=
  (congrFun (Z_carry m c) _).trans (L4_at m c 32 le_rfl q q.isLt b g e p n)

end Cert.Reference2Ideal.Ssd
-- ==== Proof.Ssd.RefOut.lean ====
/- The reference's result is the layer's. -/
module

public import proofs.«01_k».proof.Proof.Ssd.RefLoop

@[expose] public section

set_option maxRecDepth 16384

noncomputable section

namespace Cert.Reference2Ideal.Ssd

open Cert.Ssd Cert.Sgu Cert.Reference2Ideal Cert.Reference2Ideal.Gen Cert.Reference2Ideal.Facts Idealize.ShloMosaic Idealize.SL.Sem

variable (m : (ℓ : Loc nD τ sig) → Buf (Elt Ideal) ℓ) (c : Dev nD)

section
variable (b : Fin 8) (q : Fin 32) (t : Fin 128) (g : Fin 8) (e : Fin 4) (p : Fin 64)

theorem g_v126 : G_v126 m c (ix6 b q t g e p)
    = ∑ n : Fin 128, (inR m c).cc (128 * Q b q + t.val) g n * (inR m c).st (Q b q) (colF g e p) n := by
  rw [G_v126_eq, a_v126]
  refine Finset.sum_congr rfl fun n _ => ?_
  rw [g_v123_4, f_v74, mul_comm]
theorem g_v139 (l : Fin 4096) (j : Fin 2048) : G_v139 m c (ix3 b l j) = sil ((inR m c).pz (4096 * b.val + l.val) j) := by
  rw [G_v139_eq, a_v139, f_v32, Ideal.ofBits_one_f32]
  rfl
theorem g_v140 : G_v140 m c (ix3 b (rowF q t) (colF g e p)) = (inR m c).y (Q b q) ((inR m c).st (Q b q)) t (colF g e p) := by
  rw [G_v140_eq, a_v140, g_v139, G_v138_eq, a_v138, G_v137_eq, a_v137, f_v106, g_v126, f_v86, f_v70, F_v26_eq, a_v26, row_eq]
  unfold In.y
  rw [grp_col, head_col]
  rfl
end

theorem colF_of (j : Fin 2048) : ∃ g e p, j = colF g e p := by
  have hj := j.isLt
  refine ⟨⟨j.val / 256, by omega⟩, ⟨j.val % 256 / 64, by omega⟩, ⟨j.val % 64, by omega⟩, Fin.ext ?_⟩
  show j.val = 256 * (j.val / 256) + 64 * (j.val % 256 / 64) + j.val % 64
  omega
theorem rowF_of (l : Fin 4096) : ∃ q t, l = rowF q t := by
  have hl := l.isLt
  refine ⟨⟨l.val / 128, by omega⟩, ⟨l.val % 128, by omega⟩, Fin.ext ?_⟩
  show l.val = 128 * (l.val / 128) + l.val % 128
  omega

theorem g_v140' (b : Fin 8) (q : Fin 32) (t : Fin 128) (j : Fin 2048) :
    G_v140 m c (ix3 b (rowF q t) j) = (inR m c).y (Q b q) ((inR m c).st (Q b q)) t j := by
  obtain ⟨g, e, p, rfl⟩ := colF_of j
  exact g_v140 m c b q t g e p

theorem col_grp (g : Fin 8) (f : Fin 256) : Cert.Ssd.grp (col g f) = g := by
  have hf := f.isLt
  apply Fin.ext
  show (256 * g.val + f.val) / 256 = g.val
  omega
theorem col_of (j : Fin 2048) : ∃ g f, j = col g f := by
  have hj := j.isLt
  refine ⟨⟨j.val / 256, by omega⟩, ⟨j.val % 256, by omega⟩, Fin.ext ?_⟩
  show j.val = 256 * (j.val / 256) + j.val % 256
  omega

/-- The normalised output. -/
theorem g_v156 (b : Fin 8) (q : Fin 32) (t : Fin 128) (j : Fin 2048) :
    G_v156 m c (ix3 b (rowF q t) j) = (inR m c).yn (Q b q) ((inR m c).st (Q b q)) t j := by
  obtain ⟨g, f, rfl⟩ := col_of j
  rw [G_v156_eq, a_v156, G_v155_eq, a_v155, F_v28_eq, a_v28]
  unfold In.yn
  simp only [g_v140', col_grp]
  rfl
theorem g_v156' (b : Fin 8) (l : Fin 4096) (j : Fin 2048) : G_v156 m c (ix3 b l j) = (inR m c).yr (4096 * b.val + l.val) j := by
  obtain ⟨q, t, rfl⟩ := rowF_of l
  have ht := t.isLt
  rw [g_v156, row_eq]
  have h1 : (128 * Q b q + t.val) / 128 = Q b q := by omega
  have h2 : (⟨(128 * Q b q + t.val) % 128, Nat.mod_lt _ (by decide)⟩ : Fin 128) = t := Fin.ext (by show (128 * Q b q + t.val) % 128 = t.val; omega)
  show _ = (inR m c).yn ((128 * Q b q + t.val) / 128) ((inR m c).st ((128 * Q b q + t.val) / 128)) ⟨(128 * Q b q + t.val) % 128, _⟩ j
  rw [h1, h2]
theorem g_v158 (b : Fin 8) (l : Fin 4096) (k : Fin 1024) : G_v158 m c (ix3 b l k) = (inR m c).u (4096 * b.val + l.val) k := by
  rw [G_v158_eq, a_v158, F_v30_eq, add_comm]
  unfold In.u
  simp only [g_v156', x_at, a_v30]
  rfl
theorem g_v171 (b : Fin 8) (l : Fin 4096) (k : Fin 1024) : G_v171 m c (ix3 b l k) = (inR m c).out (4096 * b.val + l.val) k := by
  rw [G_v171_eq, a_v171]
  simp only [g_v158]
  rfl
/-- The reference's result is the layer's output. -/
theorem final : G_v171 m c = res (inR m c) := by
  funext y
  have hy : y = ix3 (y 0) (y 1) (y 2) := by
    funext a
    match a with
    | ⟨0, _⟩ => rfl
    | ⟨1, _⟩ => rfl
    | ⟨2, _⟩ => rfl
  rw [hy]
  exact g_v171 m c (y 0) (y 1) (y 2)

end Cert.Reference2Ideal.Ssd
-- ==== Proof.Ssd.Claims.lean ====
/- The claims about the state-space layer: the frames, and the equality of the two results where the norm's scale, the
   gate's and the convolution's part of the projection and the convolution's weights are finite. -/
module

public import proofs.«01_k».proof.Defs
public import proofs.«01_k».proof.Proof.Gen.Kernel2.Frame
public import proofs.«01_k».proof.Proof.Sgu.Claims
public import proofs.«01_k».proof.Proof.Ssd.Chain
public import proofs.«01_k».proof.Proof.Ssd.RefOut

@[expose] public section

set_option maxRecDepth 16384

noncomputable section

namespace Cert.Pre_finite2

open Idealize.ShloMosaic

/-- The side conditions of the precondition's own operations. -/
instance sides : Facts where
  slices_S4x1024_S1x1024_3_0 := by decide
  shapeCasts_S1x1024_S1024 := by decide
  bcast_S_S1024 := by decide
  slices_S2x1024x6176_S1x1024x6144_1_0_0 := by decide
  shapeCasts_S1x1024x6144_S1024x6144 := by decide
  bcast_S_S1024x6144 := by decide
  slices_S2x4x4096_S1x4x4096_1_0_0 := by decide
  shapeCasts_S1x4x4096_S4x4096 := by decide
  bcast_S_S4x4096 := by decide
  slices_S2x4096_S1x4096_1_0 := by decide
  shapeCasts_S1x4096_S4096 := by decide
  bcast_S_S4096 := by decide

/-- What the precondition says of the norm's scale. -/
theorem nw_real (x0 : Vec Ideal S8x4096x1024 .f32) (x1 : Vec Ideal S4x1024 .f32) (x2 : Vec Ideal S1024 .f32) (x3 : Vec Ideal S2x1024x6176 .f32)
    (x4 : Vec Ideal S2x4x4096 .f32) (x5 : Vec Ideal S2x4096 .f32) (x6 x7 x8 : Vec Ideal S2x32 .f32) (x9 : Vec Ideal S2x2048 .f32)
    (x10 : Vec Ideal S2x2048x1024 .f32)
    (h : (fn (F := Ideal) x0 x1 x2 x3 x4 x5 x6 x7 x8 x9 x10).1 = fun _ => 1#1) (i : Fin 1024) : Cert.Sgu.IsReal (x1 (ix2 3 i)) := by
  refine Cert.Pre_finite.real_of_lt _ ((congrFun h (ix1 i)).symm.trans ?_).symm
  unfold fn
  pointwise
  rfl

/-- What the precondition says of the gate's and the convolution's part of the input projection. -/
theorem win_real (x0 : Vec Ideal S8x4096x1024 .f32) (x1 : Vec Ideal S4x1024 .f32) (x2 : Vec Ideal S1024 .f32) (x3 : Vec Ideal S2x1024x6176 .f32)
    (x4 : Vec Ideal S2x4x4096 .f32) (x5 : Vec Ideal S2x4096 .f32) (x6 x7 x8 : Vec Ideal S2x32 .f32) (x9 : Vec Ideal S2x2048 .f32)
    (x10 : Vec Ideal S2x2048x1024 .f32)
    (h : (fn (F := Ideal) x0 x1 x2 x3 x4 x5 x6 x7 x8 x9 x10).2.1 = fun _ => 1#1) (i : Fin 1024) (j : Fin 6144) : Cert.Sgu.IsReal (x3 (ix3 1 i (⟨j.val, j.isLt.trans (by decide)⟩ : Fin 6176))) := by
  refine Cert.Pre_finite.real_of_lt _ ((congrFun h (ix2 i j)).symm.trans ?_).symm
  unfold fn
  pointwise
  rfl

/-- What the precondition says of the convolution's taps. -/
theorem cw_real (x0 : Vec Ideal S8x4096x1024 .f32) (x1 : Vec Ideal S4x1024 .f32) (x2 : Vec Ideal S1024 .f32) (x3 : Vec Ideal S2x1024x6176 .f32)
    (x4 : Vec Ideal S2x4x4096 .f32) (x5 : Vec Ideal S2x4096 .f32) (x6 x7 x8 : Vec Ideal S2x32 .f32) (x9 : Vec Ideal S2x2048 .f32)
    (x10 : Vec Ideal S2x2048x1024 .f32)
    (h : (fn (F := Ideal) x0 x1 x2 x3 x4 x5 x6 x7 x8 x9 x10).2.2.1 = fun _ => 1#1) (i : Fin 4) (j : Fin 4096) : Cert.Sgu.IsReal (x4 (ix3 1 i j)) := by
  refine Cert.Pre_finite.real_of_lt _ ((congrFun h (ix2 i j)).symm.trans ?_).symm
  unfold fn
  pointwise
  rfl

/-- What the precondition says of the convolution's bias. -/
theorem cb_real (x0 : Vec Ideal S8x4096x1024 .f32) (x1 : Vec Ideal S4x1024 .f32) (x2 : Vec Ideal S1024 .f32) (x3 : Vec Ideal S2x1024x6176 .f32)
    (x4 : Vec Ideal S2x4x4096 .f32) (x5 : Vec Ideal S2x4096 .f32) (x6 x7 x8 : Vec Ideal S2x32 .f32) (x9 : Vec Ideal S2x2048 .f32)
    (x10 : Vec Ideal S2x2048x1024 .f32)
    (h : (fn (F := Ideal) x0 x1 x2 x3 x4 x5 x6 x7 x8 x9 x10).2.2.2 = fun _ => 1#1) (j : Fin 4096) : Cert.Sgu.IsReal (x5 (ix2 1 j)) := by
  refine Cert.Pre_finite.real_of_lt _ ((congrFun h (ix1 j)).symm.trans ?_).symm
  unfold fn
  pointwise
  rfl

end Cert.Pre_finite2

namespace Cert.Reference2Ideal.Ssd

open Cert.Ssd Cert.Reference2Ideal Cert.Reference2Ideal.Gen Idealize.ShloMosaic Idealize.SL.Sem

variable (m : (ℓ : Loc nD τ sig) → Buf (Elt Ideal) ℓ) (ρ : Dev nD → PrngReg)

/-- The reference runs to the layer's output and leaves its arguments unchanged. -/
theorem run : θ_run (defs (F := Ideal)) (onTc (τ := τ) (main (F := Ideal))) ⟨m, fun _ => 0, ρ⟩ (fun r => ∀ c : Dev nD,
    r.2.mem ((c.tc : Thread nD τ).loc main_v171) = res (inR m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run _ _ _).mono (fun _ h c => ⟨(h c main_v171 rfl).trans (final m c),
    (h c main_arg0 rfl).trans ((Z_arg0 m c).trans (E_arg0 m c)),
    (h c main_arg1 rfl).trans ((Z_arg1 m c).trans (E_arg1 m c)),
    (h c main_arg2 rfl).trans ((Z_arg2 m c).trans (E_arg2 m c)),
    (h c main_arg3 rfl).trans ((Z_arg3 m c).trans (E_arg3 m c)),
    (h c main_arg4 rfl).trans ((Z_arg4 m c).trans (E_arg4 m c)),
    (h c main_arg5 rfl).trans ((Z_arg5 m c).trans (E_arg5 m c)),
    (h c main_arg6 rfl).trans ((Z_arg6 m c).trans (E_arg6 m c)),
    (h c main_arg7 rfl).trans ((Z_arg7 m c).trans (E_arg7 m c)),
    (h c main_arg8 rfl).trans ((Z_arg8 m c).trans (E_arg8 m c)),
    (h c main_arg9 rfl).trans ((Z_arg9 m c).trans (E_arg9 m c)),
    (h c main_arg10 rfl).trans ((Z_arg10 m c).trans (E_arg10 m c))⟩)
    (Value.run_fold m ρ)

end Cert.Reference2Ideal.Ssd

namespace Cert.Proof.Ssd

open Idealize.ShloMosaic Idealize.ShloMosaic.TcCoe Idealize.SL.Sem

theorem frame_p : Cert.quiescent_Kernel2 := fun m ρ _ => Cert.Kernel2.Gen.frame m ρ
theorem frame_pi : Cert.quiescent_Kernel2Ideal := fun m ρ _ => Cert.Kernel2Ideal.Gen.frame m ρ
theorem frame_pi_finite : Cert.quiescent_Kernel2Ideal_pre_finite2 := fun m ρ _ => Cert.Kernel2Ideal.Gen.frame m ρ
theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Ssd.run m ρ)
theorem frame_ri_finite : Cert.quiescent_Reference2Ideal_pre_finite2 := fun m ρ _ => frame_ri m ρ trivial

/-- The named constant is the reciprocal of the logarithm of 2. -/
theorem preserves : Cert.preserves_Kernel2_Kernel2Ideal :=
  IdealRules.named_const.statement Cert.Kernel2Ideal.κ "log2e" .f32 0x3FB8AA3B#32 (((Real.log 2)⁻¹ : ℝ) : EReal) rfl

/-- The precondition makes the layer's weights finite where that is needed. -/
theorem fin_of_pre (m : (ℓ : Loc Cert.Kernel2Ideal.nD Cert.Kernel2Ideal.τ Cert.Kernel2Ideal.sig) → Buf (Elt Ideal) ℓ)
    (h : Cert.Pre_Kernel2Ideal_finite2 m) (c : Dev Cert.Kernel2Ideal.nD) : (Cert.Kernel2Ideal.Ssd.inK m c).Fin where
  nw k := Cert.Pre_finite2.nw_real _ _ _ _ _ _ _ _ _ _ _ (h c).1 k
  wz k j := Cert.Pre_finite2.win_real _ _ _ _ _ _ _ _ _ _ _ (h c).2.1 k ⟨j.val, by have := j.isLt; omega⟩
  wx k j := Cert.Pre_finite2.win_real _ _ _ _ _ _ _ _ _ _ _ (h c).2.1 k ⟨2048 + j.val, by have := j.isLt; omega⟩
  cw k j := Cert.Pre_finite2.cw_real _ _ _ _ _ _ _ _ _ _ _ (h c).2.2.1 k j
  cb j := Cert.Pre_finite2.cb_real _ _ _ _ _ _ _ _ _ _ _ (h c).2.2.2 j

/-- The two results are equal: both are the layer's output for the arguments. -/
theorem algebraic : Cert.algebraic_Kernel2Ideal_Reference2Ideal_pre_finite2 := by
  intro m ρ m' ρ' hpre hagree
  refine ⟨fun c => Cert.Kernel2Ideal.Ssd.G m c, (θ_run Cert.Kernel2Ideal.defs _ _).mono
    (fun r h c => ⟨(h c).1.trans (Cert.Kernel2Ideal.Ssd.final m c (fin_of_pre m hpre c)), (h c).2⟩) (Cert.Kernel2Ideal.Value.run_blocks m ρ), ?_⟩
  refine (θ_run Cert.Reference2Ideal.defs _ _).mono (fun _ h c => ⟨(h c).1.trans ?_, (h c).2⟩)
    (Cert.Reference2Ideal.Ssd.run m' ρ')
  obtain ⟨a0, a1, a2, a3, a4, a5, a6, a7, a8, a9, a10⟩ := hagree c
  refine congrArg Cert.Ssd.res ?_
  unfold Cert.Reference2Ideal.Ssd.inR
  unfold Cert.Reference2Ideal.Ssd.F_arg0 Cert.Reference2Ideal.Ssd.F_arg1 Cert.Reference2Ideal.Ssd.F_arg2 Cert.Reference2Ideal.Ssd.F_arg3 Cert.Reference2Ideal.Ssd.F_arg4 Cert.Reference2Ideal.Ssd.F_arg5 Cert.Reference2Ideal.Ssd.F_arg6 Cert.Reference2Ideal.Ssd.F_arg7 Cert.Reference2Ideal.Ssd.F_arg8 Cert.Reference2Ideal.Ssd.F_arg9 Cert.Reference2Ideal.Ssd.F_arg10
  rw [a0, a1, a2, a3, a4, a5, a6, a7, a8, a9, a10]

end Cert.Proof.Ssd

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Sgu.Claims
public import proofs.«01_k».proof.Proof.Ssd.Claims
public import Idealize.ShloMosaic.Adequacy
public import Idealize.ShloMosaic.Init

@[expose] public section

noncomputable section

namespace Cert.Proof

open Idealize.ShloMosaic Idealize.SL.Sem Cert.Kernel

/-- The frames of the two calls' kernels and of their references, and the equality of their results. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Pre_finite.sides, Cert.Pre_finite2.sides,
    Sgu.frame_p, Sgu.frame_pi, Sgu.frame_pi_finite, Sgu.frame_ri, Sgu.frame_ri_finite,
    Ssd.frame_p, Ssd.frame_pi, Ssd.frame_pi_finite, Ssd.frame_ri, Ssd.frame_ri_finite, trivial, Sgu.algebraic, Ssd.preserves, Ssd.algebraic⟩

end Cert.Proof

end
